-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelCe (m : (ℓ : Loc Cert.KernelCe.nD Cert.KernelCe.τ Cert.KernelCe.sig) → Buf (Elt Bits) ℓ) : Prop :=
  True

def Pre_KernelCeIdeal (m : (ℓ : Loc Cert.KernelCeIdeal.nD Cert.KernelCeIdeal.τ Cert.KernelCeIdeal.sig) → Buf (Elt Ideal) ℓ) : Prop :=
  True

def Pre_KernelCeIdeal_labels_in_range [hPre_labels_in_range : Cert.Pre_labels_in_range.Facts] (m : (ℓ : Loc Cert.KernelCeIdeal.nD Cert.KernelCeIdeal.τ Cert.KernelCeIdeal.sig) → Buf (Elt Ideal) ℓ) : Prop :=
  ∀ c : Dev Cert.KernelCeIdeal.nD,
    (Cert.Pre_labels_in_range.fn (F := Ideal) (m ((c.tc : Thread Cert.KernelCeIdeal.nD Cert.KernelCeIdeal.τ).loc Cert.KernelCeIdeal.main_arg0)) (m ((c.tc : Thread Cert.KernelCeIdeal.nD Cert.KernelCeIdeal.τ).loc Cert.KernelCeIdeal.main_arg1)) (m ((c.tc : Thread Cert.KernelCeIdeal.nD Cert.KernelCeIdeal.τ).loc Cert.KernelCeIdeal.main_arg2)) (m ((c.tc : Thread Cert.KernelCeIdeal.nD Cert.KernelCeIdeal.τ).loc Cert.KernelCeIdeal.main_arg3)) (m ((c.tc : Thread Cert.KernelCeIdeal.nD Cert.KernelCeIdeal.τ).loc Cert.KernelCeIdeal.main_arg4)) (m ((c.tc : Thread Cert.KernelCeIdeal.nD Cert.KernelCeIdeal.τ).loc Cert.KernelCeIdeal.main_arg5))) = (fun _ => 1#1)

def Pre_ReferenceCeIdeal (m : (ℓ : Loc Cert.ReferenceCeIdeal.nD Cert.ReferenceCeIdeal.τ Cert.ReferenceCeIdeal.sig) → Buf (Elt Ideal) ℓ) : Prop :=
  True

def Pre_ReferenceCeIdeal_labels_in_range [hPre_labels_in_range : Cert.Pre_labels_in_range.Facts] (m : (ℓ : Loc Cert.ReferenceCeIdeal.nD Cert.ReferenceCeIdeal.τ Cert.ReferenceCeIdeal.sig) → Buf (Elt Ideal) ℓ) : Prop :=
  ∀ c : Dev Cert.ReferenceCeIdeal.nD,
    (Cert.Pre_labels_in_range.fn (F := Ideal) (m ((c.tc : Thread Cert.ReferenceCeIdeal.nD Cert.ReferenceCeIdeal.τ).loc Cert.ReferenceCeIdeal.main_arg0)) (m ((c.tc : Thread Cert.ReferenceCeIdeal.nD Cert.ReferenceCeIdeal.τ).loc Cert.ReferenceCeIdeal.main_arg1)) (m ((c.tc : Thread Cert.ReferenceCeIdeal.nD Cert.ReferenceCeIdeal.τ).loc Cert.ReferenceCeIdeal.main_arg2)) (m ((c.tc : Thread Cert.ReferenceCeIdeal.nD Cert.ReferenceCeIdeal.τ).loc Cert.ReferenceCeIdeal.main_arg3)) (m ((c.tc : Thread Cert.ReferenceCeIdeal.nD Cert.ReferenceCeIdeal.τ).loc Cert.ReferenceCeIdeal.main_arg4)) (m ((c.tc : Thread Cert.ReferenceCeIdeal.nD Cert.ReferenceCeIdeal.τ).loc Cert.ReferenceCeIdeal.main_arg5))) = (fun _ => 1#1)

def Pre_KernelMined (m : (ℓ : Loc Cert.KernelMined.nD Cert.KernelMined.τ Cert.KernelMined.sig) → Buf (Elt Bits) ℓ) : Prop :=
  True

def Pre_KernelMinedIdeal (m : (ℓ : Loc Cert.KernelMinedIdeal.nD Cert.KernelMinedIdeal.τ Cert.KernelMinedIdeal.sig) → Buf (Elt Ideal) ℓ) : Prop :=
  True

def Pre_KernelMinedIdeal_clear_cutoff [hPre_clear_cutoff : Cert.Pre_clear_cutoff.Facts] (m : (ℓ : Loc Cert.KernelMinedIdeal.nD Cert.KernelMinedIdeal.τ Cert.KernelMinedIdeal.sig) → Buf (Elt Ideal) ℓ) : Prop :=
  ∀ c : Dev Cert.KernelMinedIdeal.nD,
    (Cert.Pre_clear_cutoff.fn (F := Ideal) (m ((c.tc : Thread Cert.KernelMinedIdeal.nD Cert.KernelMinedIdeal.τ).loc Cert.KernelMinedIdeal.main_arg0)) (m ((c.tc : Thread Cert.KernelMinedIdeal.nD Cert.KernelMinedIdeal.τ).loc Cert.KernelMinedIdeal.main_arg1)) (m ((c.tc : Thread Cert.KernelMinedIdeal.nD Cert.KernelMinedIdeal.τ).loc Cert.KernelMinedIdeal.main_arg2)) (m ((c.tc : Thread Cert.KernelMinedIdeal.nD Cert.KernelMinedIdeal.τ).loc Cert.KernelMinedIdeal.main_arg3)) (m ((c.tc : Thread Cert.KernelMinedIdeal.nD Cert.KernelMinedIdeal.τ).loc Cert.KernelMinedIdeal.main_arg4)) (m ((c.tc : Thread Cert.KernelMinedIdeal.nD Cert.KernelMinedIdeal.τ).loc Cert.KernelMinedIdeal.main_arg5))) = (fun _ => 1#1)

def Pre_ReferenceMinedIdeal (m : (ℓ : Loc Cert.ReferenceMinedIdeal.nD Cert.ReferenceMinedIdeal.τ Cert.ReferenceMinedIdeal.sig) → Buf (Elt Ideal) ℓ) : Prop :=
  True

def Pre_ReferenceMinedIdeal_clear_cutoff [hPre_clear_cutoff : Cert.Pre_clear_cutoff.Facts] (m : (ℓ : Loc Cert.ReferenceMinedIdeal.nD Cert.ReferenceMinedIdeal.τ Cert.ReferenceMinedIdeal.sig) → Buf (Elt Ideal) ℓ) : Prop :=
  ∀ c : Dev Cert.ReferenceMinedIdeal.nD,
    (Cert.Pre_clear_cutoff.fn (F := Ideal) (m ((c.tc : Thread Cert.ReferenceMinedIdeal.nD Cert.ReferenceMinedIdeal.τ).loc Cert.ReferenceMinedIdeal.main_arg0)) (m ((c.tc : Thread Cert.ReferenceMinedIdeal.nD Cert.ReferenceMinedIdeal.τ).loc Cert.ReferenceMinedIdeal.main_arg1)) (m ((c.tc : Thread Cert.ReferenceMinedIdeal.nD Cert.ReferenceMinedIdeal.τ).loc Cert.ReferenceMinedIdeal.main_arg2)) (m ((c.tc : Thread Cert.ReferenceMinedIdeal.nD Cert.ReferenceMinedIdeal.τ).loc Cert.ReferenceMinedIdeal.main_arg3)) (m ((c.tc : Thread Cert.ReferenceMinedIdeal.nD Cert.ReferenceMinedIdeal.τ).loc Cert.ReferenceMinedIdeal.main_arg4)) (m ((c.tc : Thread Cert.ReferenceMinedIdeal.nD Cert.ReferenceMinedIdeal.τ).loc Cert.ReferenceMinedIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_KernelCe [hKernelCe : Cert.KernelCe.Facts] : Prop :=
  ∀ (m : (ℓ : Loc Cert.KernelCe.nD Cert.KernelCe.τ Cert.KernelCe.sig) → Buf (Elt Bits) ℓ) (g : Dev Cert.KernelCe.nD → PrngReg), Pre_KernelCe m →
    θ_run (Cert.KernelCe.defs (F := Bits)) (onTc (τ := Cert.KernelCe.τ) (Cert.KernelCe.main (F := Bits))) ⟨m, fun _ => 0, g⟩ (fun r => (∀ c : Dev Cert.KernelCe.nD,
      r.2.mem ((c.tc : Thread Cert.KernelCe.nD Cert.KernelCe.τ).loc Cert.KernelCe.main_arg0) = m ((c.tc : Thread Cert.KernelCe.nD Cert.KernelCe.τ).loc Cert.KernelCe.main_arg0)
      ∧ r.2.mem ((c.tc : Thread Cert.KernelCe.nD Cert.KernelCe.τ).loc Cert.KernelCe.main_arg1) = m ((c.tc : Thread Cert.KernelCe.nD Cert.KernelCe.τ).loc Cert.KernelCe.main_arg1)
      ∧ r.2.mem ((c.tc : Thread Cert.KernelCe.nD Cert.KernelCe.τ).loc Cert.KernelCe.main_arg2) = m ((c.tc : Thread Cert.KernelCe.nD Cert.KernelCe.τ).loc Cert.KernelCe.main_arg2)
      ∧ r.2.mem ((c.tc : Thread Cert.KernelCe.nD Cert.KernelCe.τ).loc Cert.KernelCe.main_arg3) = m ((c.tc : Thread Cert.KernelCe.nD Cert.KernelCe.τ).loc Cert.KernelCe.main_arg3)
      ∧ r.2.mem ((c.tc : Thread Cert.KernelCe.nD Cert.KernelCe.τ).loc Cert.KernelCe.main_arg4) = m ((c.tc : Thread Cert.KernelCe.nD Cert.KernelCe.τ).loc Cert.KernelCe.main_arg4)
      ∧ r.2.mem ((c.tc : Thread Cert.KernelCe.nD Cert.KernelCe.τ).loc Cert.KernelCe.main_arg5) = m ((c.tc : Thread Cert.KernelCe.nD Cert.KernelCe.τ).loc Cert.KernelCe.main_arg5))
      ∧ r.2.sem = fun _ => 0)

def quiescent_KernelCeIdeal [hKernelCeIdeal : Cert.KernelCeIdeal.Facts] : Prop :=
  ∀ (m : (ℓ : Loc Cert.KernelCeIdeal.nD Cert.KernelCeIdeal.τ Cert.KernelCeIdeal.sig) → Buf (Elt Ideal) ℓ) (g : Dev Cert.KernelCeIdeal.nD → PrngReg), Pre_KernelCeIdeal m →
    θ_run (Cert.KernelCeIdeal.defs (F := Ideal)) (onTc (τ := Cert.KernelCeIdeal.τ) (Cert.KernelCeIdeal.main (F := Ideal))) ⟨m, fun _ => 0, g⟩ (fun r => (∀ c : Dev Cert.KernelCeIdeal.nD,
      r.2.mem ((c.tc : Thread Cert.KernelCeIdeal.nD Cert.KernelCeIdeal.τ).loc Cert.KernelCeIdeal.main_arg0) = m ((c.tc : Thread Cert.KernelCeIdeal.nD Cert.KernelCeIdeal.τ).loc Cert.KernelCeIdeal.main_arg0)
      ∧ r.2.mem ((c.tc : Thread Cert.KernelCeIdeal.nD Cert.KernelCeIdeal.τ).loc Cert.KernelCeIdeal.main_arg1) = m ((c.tc : Thread Cert.KernelCeIdeal.nD Cert.KernelCeIdeal.τ).loc Cert.KernelCeIdeal.main_arg1)
      ∧ r.2.mem ((c.tc : Thread Cert.KernelCeIdeal.nD Cert.KernelCeIdeal.τ).loc Cert.KernelCeIdeal.main_arg2) = m ((c.tc : Thread Cert.KernelCeIdeal.nD Cert.KernelCeIdeal.τ).loc Cert.KernelCeIdeal.main_arg2)
      ∧ r.2.mem ((c.tc : Thread Cert.KernelCeIdeal.nD Cert.KernelCeIdeal.τ).loc Cert.KernelCeIdeal.main_arg3) = m ((c.tc : Thread Cert.KernelCeIdeal.nD Cert.KernelCeIdeal.τ).loc Cert.KernelCeIdeal.main_arg3)
      ∧ r.2.mem ((c.tc : Thread Cert.KernelCeIdeal.nD Cert.KernelCeIdeal.τ).loc Cert.KernelCeIdeal.main_arg4) = m ((c.tc : Thread Cert.KernelCeIdeal.nD Cert.KernelCeIdeal.τ).loc Cert.KernelCeIdeal.main_arg4)
      ∧ r.2.mem ((c.tc : Thread Cert.KernelCeIdeal.nD Cert.KernelCeIdeal.τ).loc Cert.KernelCeIdeal.main_arg5) = m ((c.tc : Thread Cert.KernelCeIdeal.nD Cert.KernelCeIdeal.τ).loc Cert.KernelCeIdeal.main_arg5))
      ∧ r.2.sem = fun _ => 0)

def quiescent_KernelCeIdeal_pre_labels_in_range [hKernelCeIdeal : Cert.KernelCeIdeal.Facts] [hPre_labels_in_range : Cert.Pre_labels_in_range.Facts] : Prop :=
  ∀ (m : (ℓ : Loc Cert.KernelCeIdeal.nD Cert.KernelCeIdeal.τ Cert.KernelCeIdeal.sig) → Buf (Elt Ideal) ℓ) (g : Dev Cert.KernelCeIdeal.nD → PrngReg), Pre_KernelCeIdeal_labels_in_range m →
    θ_run (Cert.KernelCeIdeal.defs (F := Ideal)) (onTc (τ := Cert.KernelCeIdeal.τ) (Cert.KernelCeIdeal.main (F := Ideal))) ⟨m, fun _ => 0, g⟩ (fun r => (∀ c : Dev Cert.KernelCeIdeal.nD,
      r.2.mem ((c.tc : Thread Cert.KernelCeIdeal.nD Cert.KernelCeIdeal.τ).loc Cert.KernelCeIdeal.main_arg0) = m ((c.tc : Thread Cert.KernelCeIdeal.nD Cert.KernelCeIdeal.τ).loc Cert.KernelCeIdeal.main_arg0)
      ∧ r.2.mem ((c.tc : Thread Cert.KernelCeIdeal.nD Cert.KernelCeIdeal.τ).loc Cert.KernelCeIdeal.main_arg1) = m ((c.tc : Thread Cert.KernelCeIdeal.nD Cert.KernelCeIdeal.τ).loc Cert.KernelCeIdeal.main_arg1)
      ∧ r.2.mem ((c.tc : Thread Cert.KernelCeIdeal.nD Cert.KernelCeIdeal.τ).loc Cert.KernelCeIdeal.main_arg2) = m ((c.tc : Thread Cert.KernelCeIdeal.nD Cert.KernelCeIdeal.τ).loc Cert.KernelCeIdeal.main_arg2)
      ∧ r.2.mem ((c.tc : Thread Cert.KernelCeIdeal.nD Cert.KernelCeIdeal.τ).loc Cert.KernelCeIdeal.main_arg3) = m ((c.tc : Thread Cert.KernelCeIdeal.nD Cert.KernelCeIdeal.τ).loc Cert.KernelCeIdeal.main_arg3)
      ∧ r.2.mem ((c.tc : Thread Cert.KernelCeIdeal.nD Cert.KernelCeIdeal.τ).loc Cert.KernelCeIdeal.main_arg4) = m ((c.tc : Thread Cert.KernelCeIdeal.nD Cert.KernelCeIdeal.τ).loc Cert.KernelCeIdeal.main_arg4)
      ∧ r.2.mem ((c.tc : Thread Cert.KernelCeIdeal.nD Cert.KernelCeIdeal.τ).loc Cert.KernelCeIdeal.main_arg5) = m ((c.tc : Thread Cert.KernelCeIdeal.nD Cert.KernelCeIdeal.τ).loc Cert.KernelCeIdeal.main_arg5))
      ∧ r.2.sem = fun _ => 0)

def quiescent_ReferenceCeIdeal [hReferenceCeIdeal : Cert.ReferenceCeIdeal.Facts] : Prop :=
  ∀ (m : (ℓ : Loc Cert.ReferenceCeIdeal.nD Cert.ReferenceCeIdeal.τ Cert.ReferenceCeIdeal.sig) → Buf (Elt Ideal) ℓ) (g : Dev Cert.ReferenceCeIdeal.nD → PrngReg), Pre_ReferenceCeIdeal m →
    θ_run (Cert.ReferenceCeIdeal.defs (F := Ideal)) (onTc (τ := Cert.ReferenceCeIdeal.τ) (Cert.ReferenceCeIdeal.main (F := Ideal))) ⟨m, fun _ => 0, g⟩ (fun r => (∀ c : Dev Cert.ReferenceCeIdeal.nD,
      r.2.mem ((c.tc : Thread Cert.ReferenceCeIdeal.nD Cert.ReferenceCeIdeal.τ).loc Cert.ReferenceCeIdeal.main_arg0) = m ((c.tc : Thread Cert.ReferenceCeIdeal.nD Cert.ReferenceCeIdeal.τ).loc Cert.ReferenceCeIdeal.main_arg0)
      ∧ r.2.mem ((c.tc : Thread Cert.ReferenceCeIdeal.nD Cert.ReferenceCeIdeal.τ).loc Cert.ReferenceCeIdeal.main_arg1) = m ((c.tc : Thread Cert.ReferenceCeIdeal.nD Cert.ReferenceCeIdeal.τ).loc Cert.ReferenceCeIdeal.main_arg1)
      ∧ r.2.mem ((c.tc : Thread Cert.ReferenceCeIdeal.nD Cert.ReferenceCeIdeal.τ).loc Cert.ReferenceCeIdeal.main_arg2) = m ((c.tc : Thread Cert.ReferenceCeIdeal.nD Cert.ReferenceCeIdeal.τ).loc Cert.ReferenceCeIdeal.main_arg2)
      ∧ r.2.mem ((c.tc : Thread Cert.ReferenceCeIdeal.nD Cert.ReferenceCeIdeal.τ).loc Cert.ReferenceCeIdeal.main_arg3) = m ((c.tc : Thread Cert.ReferenceCeIdeal.nD Cert.ReferenceCeIdeal.τ).loc Cert.ReferenceCeIdeal.main_arg3)
      ∧ r.2.mem ((c.tc : Thread Cert.ReferenceCeIdeal.nD Cert.ReferenceCeIdeal.τ).loc Cert.ReferenceCeIdeal.main_arg4) = m ((c.tc : Thread Cert.ReferenceCeIdeal.nD Cert.ReferenceCeIdeal.τ).loc Cert.ReferenceCeIdeal.main_arg4)
      ∧ r.2.mem ((c.tc : Thread Cert.ReferenceCeIdeal.nD Cert.ReferenceCeIdeal.τ).loc Cert.ReferenceCeIdeal.main_arg5) = m ((c.tc : Thread Cert.ReferenceCeIdeal.nD Cert.ReferenceCeIdeal.τ).loc Cert.ReferenceCeIdeal.main_arg5))
      ∧ r.2.sem = fun _ => 0)

def quiescent_ReferenceCeIdeal_pre_labels_in_range [hReferenceCeIdeal : Cert.ReferenceCeIdeal.Facts] [hPre_labels_in_range : Cert.Pre_labels_in_range.Facts] : Prop :=
  ∀ (m : (ℓ : Loc Cert.ReferenceCeIdeal.nD Cert.ReferenceCeIdeal.τ Cert.ReferenceCeIdeal.sig) → Buf (Elt Ideal) ℓ) (g : Dev Cert.ReferenceCeIdeal.nD → PrngReg), Pre_ReferenceCeIdeal_labels_in_range m →
    θ_run (Cert.ReferenceCeIdeal.defs (F := Ideal)) (onTc (τ := Cert.ReferenceCeIdeal.τ) (Cert.ReferenceCeIdeal.main (F := Ideal))) ⟨m, fun _ => 0, g⟩ (fun r => (∀ c : Dev Cert.ReferenceCeIdeal.nD,
      r.2.mem ((c.tc : Thread Cert.ReferenceCeIdeal.nD Cert.ReferenceCeIdeal.τ).loc Cert.ReferenceCeIdeal.main_arg0) = m ((c.tc : Thread Cert.ReferenceCeIdeal.nD Cert.ReferenceCeIdeal.τ).loc Cert.ReferenceCeIdeal.main_arg0)
      ∧ r.2.mem ((c.tc : Thread Cert.ReferenceCeIdeal.nD Cert.ReferenceCeIdeal.τ).loc Cert.ReferenceCeIdeal.main_arg1) = m ((c.tc : Thread Cert.ReferenceCeIdeal.nD Cert.ReferenceCeIdeal.τ).loc Cert.ReferenceCeIdeal.main_arg1)
      ∧ r.2.mem ((c.tc : Thread Cert.ReferenceCeIdeal.nD Cert.ReferenceCeIdeal.τ).loc Cert.ReferenceCeIdeal.main_arg2) = m ((c.tc : Thread Cert.ReferenceCeIdeal.nD Cert.ReferenceCeIdeal.τ).loc Cert.ReferenceCeIdeal.main_arg2)
      ∧ r.2.mem ((c.tc : Thread Cert.ReferenceCeIdeal.nD Cert.ReferenceCeIdeal.τ).loc Cert.ReferenceCeIdeal.main_arg3) = m ((c.tc : Thread Cert.ReferenceCeIdeal.nD Cert.ReferenceCeIdeal.τ).loc Cert.ReferenceCeIdeal.main_arg3)
      ∧ r.2.mem ((c.tc : Thread Cert.ReferenceCeIdeal.nD Cert.ReferenceCeIdeal.τ).loc Cert.ReferenceCeIdeal.main_arg4) = m ((c.tc : Thread Cert.ReferenceCeIdeal.nD Cert.ReferenceCeIdeal.τ).loc Cert.ReferenceCeIdeal.main_arg4)
      ∧ r.2.mem ((c.tc : Thread Cert.ReferenceCeIdeal.nD Cert.ReferenceCeIdeal.τ).loc Cert.ReferenceCeIdeal.main_arg5) = m ((c.tc : Thread Cert.ReferenceCeIdeal.nD Cert.ReferenceCeIdeal.τ).loc Cert.ReferenceCeIdeal.main_arg5))
      ∧ r.2.sem = fun _ => 0)

def quiescent_KernelMined [hKernelMined : Cert.KernelMined.Facts] : Prop :=
  ∀ (m : (ℓ : Loc Cert.KernelMined.nD Cert.KernelMined.τ Cert.KernelMined.sig) → Buf (Elt Bits) ℓ) (g : Dev Cert.KernelMined.nD → PrngReg), Pre_KernelMined m →
    θ_run (Cert.KernelMined.defs (F := Bits)) (onTc (τ := Cert.KernelMined.τ) (Cert.KernelMined.main (F := Bits))) ⟨m, fun _ => 0, g⟩ (fun r => (∀ c : Dev Cert.KernelMined.nD,
      r.2.mem ((c.tc : Thread Cert.KernelMined.nD Cert.KernelMined.τ).loc Cert.KernelMined.main_arg0) = m ((c.tc : Thread Cert.KernelMined.nD Cert.KernelMined.τ).loc Cert.KernelMined.main_arg0)
      ∧ r.2.mem ((c.tc : Thread Cert.KernelMined.nD Cert.KernelMined.τ).loc Cert.KernelMined.main_arg1) = m ((c.tc : Thread Cert.KernelMined.nD Cert.KernelMined.τ).loc Cert.KernelMined.main_arg1)
      ∧ r.2.mem ((c.tc : Thread Cert.KernelMined.nD Cert.KernelMined.τ).loc Cert.KernelMined.main_arg2) = m ((c.tc : Thread Cert.KernelMined.nD Cert.KernelMined.τ).loc Cert.KernelMined.main_arg2)
      ∧ r.2.mem ((c.tc : Thread Cert.KernelMined.nD Cert.KernelMined.τ).loc Cert.KernelMined.main_arg3) = m ((c.tc : Thread Cert.KernelMined.nD Cert.KernelMined.τ).loc Cert.KernelMined.main_arg3)
      ∧ r.2.mem ((c.tc : Thread Cert.KernelMined.nD Cert.KernelMined.τ).loc Cert.KernelMined.main_arg4) = m ((c.tc : Thread Cert.KernelMined.nD Cert.KernelMined.τ).loc Cert.KernelMined.main_arg4)
      ∧ r.2.mem ((c.tc : Thread Cert.KernelMined.nD Cert.KernelMined.τ).loc Cert.KernelMined.main_arg5) = m ((c.tc : Thread Cert.KernelMined.nD Cert.KernelMined.τ).loc Cert.KernelMined.main_arg5))
      ∧ r.2.sem = fun _ => 0)

def quiescent_KernelMinedIdeal [hKernelMinedIdeal : Cert.KernelMinedIdeal.Facts] : Prop :=
  ∀ (m : (ℓ : Loc Cert.KernelMinedIdeal.nD Cert.KernelMinedIdeal.τ Cert.KernelMinedIdeal.sig) → Buf (Elt Ideal) ℓ) (g : Dev Cert.KernelMinedIdeal.nD → PrngReg), Pre_KernelMinedIdeal m →
    θ_run (Cert.KernelMinedIdeal.defs (F := Ideal)) (onTc (τ := Cert.KernelMinedIdeal.τ) (Cert.KernelMinedIdeal.main (F := Ideal))) ⟨m, fun _ => 0, g⟩ (fun r => (∀ c : Dev Cert.KernelMinedIdeal.nD,
      r.2.mem ((c.tc : Thread Cert.KernelMinedIdeal.nD Cert.KernelMinedIdeal.τ).loc Cert.KernelMinedIdeal.main_arg0) = m ((c.tc : Thread Cert.KernelMinedIdeal.nD Cert.KernelMinedIdeal.τ).loc Cert.KernelMinedIdeal.main_arg0)
      ∧ r.2.mem ((c.tc : Thread Cert.KernelMinedIdeal.nD Cert.KernelMinedIdeal.τ).loc Cert.KernelMinedIdeal.main_arg1) = m ((c.tc : Thread Cert.KernelMinedIdeal.nD Cert.KernelMinedIdeal.τ).loc Cert.KernelMinedIdeal.main_arg1)
      ∧ r.2.mem ((c.tc : Thread Cert.KernelMinedIdeal.nD Cert.KernelMinedIdeal.τ).loc Cert.KernelMinedIdeal.main_arg2) = m ((c.tc : Thread Cert.KernelMinedIdeal.nD Cert.KernelMinedIdeal.τ).loc Cert.KernelMinedIdeal.main_arg2)
      ∧ r.2.mem ((c.tc : Thread Cert.KernelMinedIdeal.nD Cert.KernelMinedIdeal.τ).loc Cert.KernelMinedIdeal.main_arg3) = m ((c.tc : Thread Cert.KernelMinedIdeal.nD Cert.KernelMinedIdeal.τ).loc Cert.KernelMinedIdeal.main_arg3)
      ∧ r.2.mem ((c.tc : Thread Cert.KernelMinedIdeal.nD Cert.KernelMinedIdeal.τ).loc Cert.KernelMinedIdeal.main_arg4) = m ((c.tc : Thread Cert.KernelMinedIdeal.nD Cert.KernelMinedIdeal.τ).loc Cert.KernelMinedIdeal.main_arg4)
      ∧ r.2.mem ((c.tc : Thread Cert.KernelMinedIdeal.nD Cert.KernelMinedIdeal.τ).loc Cert.KernelMinedIdeal.main_arg5) = m ((c.tc : Thread Cert.KernelMinedIdeal.nD Cert.KernelMinedIdeal.τ).loc Cert.KernelMinedIdeal.main_arg5))
      ∧ r.2.sem = fun _ => 0)

def quiescent_KernelMinedIdeal_pre_clear_cutoff [hKernelMinedIdeal : Cert.KernelMinedIdeal.Facts] [hPre_clear_cutoff : Cert.Pre_clear_cutoff.Facts] : Prop :=
  ∀ (m : (ℓ : Loc Cert.KernelMinedIdeal.nD Cert.KernelMinedIdeal.τ Cert.KernelMinedIdeal.sig) → Buf (Elt Ideal) ℓ) (g : Dev Cert.KernelMinedIdeal.nD → PrngReg), Pre_KernelMinedIdeal_clear_cutoff m →
    θ_run (Cert.KernelMinedIdeal.defs (F := Ideal)) (onTc (τ := Cert.KernelMinedIdeal.τ) (Cert.KernelMinedIdeal.main (F := Ideal))) ⟨m, fun _ => 0, g⟩ (fun r => (∀ c : Dev Cert.KernelMinedIdeal.nD,
      r.2.mem ((c.tc : Thread Cert.KernelMinedIdeal.nD Cert.KernelMinedIdeal.τ).loc Cert.KernelMinedIdeal.main_arg0) = m ((c.tc : Thread Cert.KernelMinedIdeal.nD Cert.KernelMinedIdeal.τ).loc Cert.KernelMinedIdeal.main_arg0)
      ∧ r.2.mem ((c.tc : Thread Cert.KernelMinedIdeal.nD Cert.KernelMinedIdeal.τ).loc Cert.KernelMinedIdeal.main_arg1) = m ((c.tc : Thread Cert.KernelMinedIdeal.nD Cert.KernelMinedIdeal.τ).loc Cert.KernelMinedIdeal.main_arg1)
      ∧ r.2.mem ((c.tc : Thread Cert.KernelMinedIdeal.nD Cert.KernelMinedIdeal.τ).loc Cert.KernelMinedIdeal.main_arg2) = m ((c.tc : Thread Cert.KernelMinedIdeal.nD Cert.KernelMinedIdeal.τ).loc Cert.KernelMinedIdeal.main_arg2)
      ∧ r.2.mem ((c.tc : Thread Cert.KernelMinedIdeal.nD Cert.KernelMinedIdeal.τ).loc Cert.KernelMinedIdeal.main_arg3) = m ((c.tc : Thread Cert.KernelMinedIdeal.nD Cert.KernelMinedIdeal.τ).loc Cert.KernelMinedIdeal.main_arg3)
      ∧ r.2.mem ((c.tc : Thread Cert.KernelMinedIdeal.nD Cert.KernelMinedIdeal.τ).loc Cert.KernelMinedIdeal.main_arg4) = m ((c.tc : Thread Cert.KernelMinedIdeal.nD Cert.KernelMinedIdeal.τ).loc Cert.KernelMinedIdeal.main_arg4)
      ∧ r.2.mem ((c.tc : Thread Cert.KernelMinedIdeal.nD Cert.KernelMinedIdeal.τ).loc Cert.KernelMinedIdeal.main_arg5) = m ((c.tc : Thread Cert.KernelMinedIdeal.nD Cert.KernelMinedIdeal.τ).loc Cert.KernelMinedIdeal.main_arg5))
      ∧ r.2.sem = fun _ => 0)

def quiescent_ReferenceMinedIdeal [hReferenceMinedIdeal : Cert.ReferenceMinedIdeal.Facts] : Prop :=
  ∀ (m : (ℓ : Loc Cert.ReferenceMinedIdeal.nD Cert.ReferenceMinedIdeal.τ Cert.ReferenceMinedIdeal.sig) → Buf (Elt Ideal) ℓ) (g : Dev Cert.ReferenceMinedIdeal.nD → PrngReg), Pre_ReferenceMinedIdeal m →
    θ_run (Cert.ReferenceMinedIdeal.defs (F := Ideal)) (onTc (τ := Cert.ReferenceMinedIdeal.τ) (Cert.ReferenceMinedIdeal.main (F := Ideal))) ⟨m, fun _ => 0, g⟩ (fun r => (∀ c : Dev Cert.ReferenceMinedIdeal.nD,
      r.2.mem ((c.tc : Thread Cert.ReferenceMinedIdeal.nD Cert.ReferenceMinedIdeal.τ).loc Cert.ReferenceMinedIdeal.main_arg0) = m ((c.tc : Thread Cert.ReferenceMinedIdeal.nD Cert.ReferenceMinedIdeal.τ).loc Cert.ReferenceMinedIdeal.main_arg0)
      ∧ r.2.mem ((c.tc : Thread Cert.ReferenceMinedIdeal.nD Cert.ReferenceMinedIdeal.τ).loc Cert.ReferenceMinedIdeal.main_arg1) = m ((c.tc : Thread Cert.ReferenceMinedIdeal.nD Cert.ReferenceMinedIdeal.τ).loc Cert.ReferenceMinedIdeal.main_arg1)
      ∧ r.2.mem ((c.tc : Thread Cert.ReferenceMinedIdeal.nD Cert.ReferenceMinedIdeal.τ).loc Cert.ReferenceMinedIdeal.main_arg2) = m ((c.tc : Thread Cert.ReferenceMinedIdeal.nD Cert.ReferenceMinedIdeal.τ).loc Cert.ReferenceMinedIdeal.main_arg2)
      ∧ r.2.mem ((c.tc : Thread Cert.ReferenceMinedIdeal.nD Cert.ReferenceMinedIdeal.τ).loc Cert.ReferenceMinedIdeal.main_arg3) = m ((c.tc : Thread Cert.ReferenceMinedIdeal.nD Cert.ReferenceMinedIdeal.τ).loc Cert.ReferenceMinedIdeal.main_arg3)
      ∧ r.2.mem ((c.tc : Thread Cert.ReferenceMinedIdeal.nD Cert.ReferenceMinedIdeal.τ).loc Cert.ReferenceMinedIdeal.main_arg4) = m ((c.tc : Thread Cert.ReferenceMinedIdeal.nD Cert.ReferenceMinedIdeal.τ).loc Cert.ReferenceMinedIdeal.main_arg4)
      ∧ r.2.mem ((c.tc : Thread Cert.ReferenceMinedIdeal.nD Cert.ReferenceMinedIdeal.τ).loc Cert.ReferenceMinedIdeal.main_arg5) = m ((c.tc : Thread Cert.ReferenceMinedIdeal.nD Cert.ReferenceMinedIdeal.τ).loc Cert.ReferenceMinedIdeal.main_arg5))
      ∧ r.2.sem = fun _ => 0)

def quiescent_ReferenceMinedIdeal_pre_clear_cutoff [hReferenceMinedIdeal : Cert.ReferenceMinedIdeal.Facts] [hPre_clear_cutoff : Cert.Pre_clear_cutoff.Facts] : Prop :=
  ∀ (m : (ℓ : Loc Cert.ReferenceMinedIdeal.nD Cert.ReferenceMinedIdeal.τ Cert.ReferenceMinedIdeal.sig) → Buf (Elt Ideal) ℓ) (g : Dev Cert.ReferenceMinedIdeal.nD → PrngReg), Pre_ReferenceMinedIdeal_clear_cutoff m →
    θ_run (Cert.ReferenceMinedIdeal.defs (F := Ideal)) (onTc (τ := Cert.ReferenceMinedIdeal.τ) (Cert.ReferenceMinedIdeal.main (F := Ideal))) ⟨m, fun _ => 0, g⟩ (fun r => (∀ c : Dev Cert.ReferenceMinedIdeal.nD,
      r.2.mem ((c.tc : Thread Cert.ReferenceMinedIdeal.nD Cert.ReferenceMinedIdeal.τ).loc Cert.ReferenceMinedIdeal.main_arg0) = m ((c.tc : Thread Cert.ReferenceMinedIdeal.nD Cert.ReferenceMinedIdeal.τ).loc Cert.ReferenceMinedIdeal.main_arg0)
      ∧ r.2.mem ((c.tc : Thread Cert.ReferenceMinedIdeal.nD Cert.ReferenceMinedIdeal.τ).loc Cert.ReferenceMinedIdeal.main_arg1) = m ((c.tc : Thread Cert.ReferenceMinedIdeal.nD Cert.ReferenceMinedIdeal.τ).loc Cert.ReferenceMinedIdeal.main_arg1)
      ∧ r.2.mem ((c.tc : Thread Cert.ReferenceMinedIdeal.nD Cert.ReferenceMinedIdeal.τ).loc Cert.ReferenceMinedIdeal.main_arg2) = m ((c.tc : Thread Cert.ReferenceMinedIdeal.nD Cert.ReferenceMinedIdeal.τ).loc Cert.ReferenceMinedIdeal.main_arg2)
      ∧ r.2.mem ((c.tc : Thread Cert.ReferenceMinedIdeal.nD Cert.ReferenceMinedIdeal.τ).loc Cert.ReferenceMinedIdeal.main_arg3) = m ((c.tc : Thread Cert.ReferenceMinedIdeal.nD Cert.ReferenceMinedIdeal.τ).loc Cert.ReferenceMinedIdeal.main_arg3)
      ∧ r.2.mem ((c.tc : Thread Cert.ReferenceMinedIdeal.nD Cert.ReferenceMinedIdeal.τ).loc Cert.ReferenceMinedIdeal.main_arg4) = m ((c.tc : Thread Cert.ReferenceMinedIdeal.nD Cert.ReferenceMinedIdeal.τ).loc Cert.ReferenceMinedIdeal.main_arg4)
      ∧ r.2.mem ((c.tc : Thread Cert.ReferenceMinedIdeal.nD Cert.ReferenceMinedIdeal.τ).loc Cert.ReferenceMinedIdeal.main_arg5) = m ((c.tc : Thread Cert.ReferenceMinedIdeal.nD Cert.ReferenceMinedIdeal.τ).loc Cert.ReferenceMinedIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v222) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_KernelCe_KernelCeIdeal : Prop :=
  True

def algebraic_KernelCeIdeal_ReferenceCeIdeal_pre_labels_in_range [hKernelCeIdeal : Cert.KernelCeIdeal.Facts] [hReferenceCeIdeal : Cert.ReferenceCeIdeal.Facts] [hPre_labels_in_range : Cert.Pre_labels_in_range.Facts] : Prop :=
  ∀ (m : (ℓ : Loc Cert.KernelCeIdeal.nD Cert.KernelCeIdeal.τ Cert.KernelCeIdeal.sig) → Buf (Elt Ideal) ℓ) (g : Dev Cert.KernelCeIdeal.nD → PrngReg)
    (m' : (ℓ : Loc Cert.ReferenceCeIdeal.nD Cert.ReferenceCeIdeal.τ Cert.ReferenceCeIdeal.sig) → Buf (Elt Ideal) ℓ) (g' : Dev Cert.ReferenceCeIdeal.nD → PrngReg), Pre_KernelCeIdeal_labels_in_range m →
    (∀ c : Dev Cert.KernelCeIdeal.nD,
      m' ((c.tc : Thread Cert.ReferenceCeIdeal.nD Cert.ReferenceCeIdeal.τ).loc Cert.ReferenceCeIdeal.main_arg0) = m ((c.tc : Thread Cert.KernelCeIdeal.nD Cert.KernelCeIdeal.τ).loc Cert.KernelCeIdeal.main_arg0)
      ∧ m' ((c.tc : Thread Cert.ReferenceCeIdeal.nD Cert.ReferenceCeIdeal.τ).loc Cert.ReferenceCeIdeal.main_arg1) = m ((c.tc : Thread Cert.KernelCeIdeal.nD Cert.KernelCeIdeal.τ).loc Cert.KernelCeIdeal.main_arg1)
      ∧ m' ((c.tc : Thread Cert.ReferenceCeIdeal.nD Cert.ReferenceCeIdeal.τ).loc Cert.ReferenceCeIdeal.main_arg2) = m ((c.tc : Thread Cert.KernelCeIdeal.nD Cert.KernelCeIdeal.τ).loc Cert.KernelCeIdeal.main_arg2)
      ∧ m' ((c.tc : Thread Cert.ReferenceCeIdeal.nD Cert.ReferenceCeIdeal.τ).loc Cert.ReferenceCeIdeal.main_arg3) = m ((c.tc : Thread Cert.KernelCeIdeal.nD Cert.KernelCeIdeal.τ).loc Cert.KernelCeIdeal.main_arg3)
      ∧ m' ((c.tc : Thread Cert.ReferenceCeIdeal.nD Cert.ReferenceCeIdeal.τ).loc Cert.ReferenceCeIdeal.main_arg4) = m ((c.tc : Thread Cert.KernelCeIdeal.nD Cert.KernelCeIdeal.τ).loc Cert.KernelCeIdeal.main_arg4)
      ∧ m' ((c.tc : Thread Cert.ReferenceCeIdeal.nD Cert.ReferenceCeIdeal.τ).loc Cert.ReferenceCeIdeal.main_arg5) = m ((c.tc : Thread Cert.KernelCeIdeal.nD Cert.KernelCeIdeal.τ).loc Cert.KernelCeIdeal.main_arg5)) →
    ∃ (v0 : (c : Dev Cert.KernelCeIdeal.nD) → Buf (Elt Ideal) ((c.tc : Thread Cert.KernelCeIdeal.nD Cert.KernelCeIdeal.τ).loc Cert.KernelCeIdeal.main_v18)) (v1 : (c : Dev Cert.KernelCeIdeal.nD) → Buf (Elt Ideal) ((c.tc : Thread Cert.KernelCeIdeal.nD Cert.KernelCeIdeal.τ).loc Cert.KernelCeIdeal.main_v20)),
      θ_run (Cert.KernelCeIdeal.defs (F := Ideal)) (onTc (τ := Cert.KernelCeIdeal.τ) (Cert.KernelCeIdeal.main (F := Ideal))) ⟨m, fun _ => 0, g⟩ (fun r => ∀ c : Dev Cert.KernelCeIdeal.nD,
          r.2.mem ((c.tc : Thread Cert.KernelCeIdeal.nD Cert.KernelCeIdeal.τ).loc Cert.KernelCeIdeal.main_v18) = v0 c
          ∧ r.2.mem ((c.tc : Thread Cert.KernelCeIdeal.nD Cert.KernelCeIdeal.τ).loc Cert.KernelCeIdeal.main_v20) = v1 c
          ∧ r.2.mem ((c.tc : Thread Cert.KernelCeIdeal.nD Cert.KernelCeIdeal.τ).loc Cert.KernelCeIdeal.main_arg0) = m ((c.tc : Thread Cert.KernelCeIdeal.nD Cert.KernelCeIdeal.τ).loc Cert.KernelCeIdeal.main_arg0)
          ∧ r.2.mem ((c.tc : Thread Cert.KernelCeIdeal.nD Cert.KernelCeIdeal.τ).loc Cert.KernelCeIdeal.main_arg1) = m ((c.tc : Thread Cert.KernelCeIdeal.nD Cert.KernelCeIdeal.τ).loc Cert.KernelCeIdeal.main_arg1)
          ∧ r.2.mem ((c.tc : Thread Cert.KernelCeIdeal.nD Cert.KernelCeIdeal.τ).loc Cert.KernelCeIdeal.main_arg2) = m ((c.tc : Thread Cert.KernelCeIdeal.nD Cert.KernelCeIdeal.τ).loc Cert.KernelCeIdeal.main_arg2)
          ∧ r.2.mem ((c.tc : Thread Cert.KernelCeIdeal.nD Cert.KernelCeIdeal.τ).loc Cert.KernelCeIdeal.main_arg3) = m ((c.tc : Thread Cert.KernelCeIdeal.nD Cert.KernelCeIdeal.τ).loc Cert.KernelCeIdeal.main_arg3)
          ∧ r.2.mem ((c.tc : Thread Cert.KernelCeIdeal.nD Cert.KernelCeIdeal.τ).loc Cert.KernelCeIdeal.main_arg4) = m ((c.tc : Thread Cert.KernelCeIdeal.nD Cert.KernelCeIdeal.τ).loc Cert.KernelCeIdeal.main_arg4)
          ∧ r.2.mem ((c.tc : Thread Cert.KernelCeIdeal.nD Cert.KernelCeIdeal.τ).loc Cert.KernelCeIdeal.main_arg5) = m ((c.tc : Thread Cert.KernelCeIdeal.nD Cert.KernelCeIdeal.τ).loc Cert.KernelCeIdeal.main_arg5))
      ∧ θ_run (Cert.ReferenceCeIdeal.defs (F := Ideal)) (onTc (τ := Cert.ReferenceCeIdeal.τ) (Cert.ReferenceCeIdeal.main (F := Ideal))) ⟨m', fun _ => 0, g'⟩ (fun r => ∀ c : Dev Cert.ReferenceCeIdeal.nD,
          r.2.mem ((c.tc : Thread Cert.ReferenceCeIdeal.nD Cert.ReferenceCeIdeal.τ).loc Cert.ReferenceCeIdeal.main_v227) = v0 c
          ∧ r.2.mem ((c.tc : Thread Cert.ReferenceCeIdeal.nD Cert.ReferenceCeIdeal.τ).loc Cert.ReferenceCeIdeal.main_v229) = v1 c
          ∧ r.2.mem ((c.tc : Thread Cert.ReferenceCeIdeal.nD Cert.ReferenceCeIdeal.τ).loc Cert.ReferenceCeIdeal.main_arg0) = m' ((c.tc : Thread Cert.ReferenceCeIdeal.nD Cert.ReferenceCeIdeal.τ).loc Cert.ReferenceCeIdeal.main_arg0)
          ∧ r.2.mem ((c.tc : Thread Cert.ReferenceCeIdeal.nD Cert.ReferenceCeIdeal.τ).loc Cert.ReferenceCeIdeal.main_arg1) = m' ((c.tc : Thread Cert.ReferenceCeIdeal.nD Cert.ReferenceCeIdeal.τ).loc Cert.ReferenceCeIdeal.main_arg1)
          ∧ r.2.mem ((c.tc : Thread Cert.ReferenceCeIdeal.nD Cert.ReferenceCeIdeal.τ).loc Cert.ReferenceCeIdeal.main_arg2) = m' ((c.tc : Thread Cert.ReferenceCeIdeal.nD Cert.ReferenceCeIdeal.τ).loc Cert.ReferenceCeIdeal.main_arg2)
          ∧ r.2.mem ((c.tc : Thread Cert.ReferenceCeIdeal.nD Cert.ReferenceCeIdeal.τ).loc Cert.ReferenceCeIdeal.main_arg3) = m' ((c.tc : Thread Cert.ReferenceCeIdeal.nD Cert.ReferenceCeIdeal.τ).loc Cert.ReferenceCeIdeal.main_arg3)
          ∧ r.2.mem ((c.tc : Thread Cert.ReferenceCeIdeal.nD Cert.ReferenceCeIdeal.τ).loc Cert.ReferenceCeIdeal.main_arg4) = m' ((c.tc : Thread Cert.ReferenceCeIdeal.nD Cert.ReferenceCeIdeal.τ).loc Cert.ReferenceCeIdeal.main_arg4)
          ∧ r.2.mem ((c.tc : Thread Cert.ReferenceCeIdeal.nD Cert.ReferenceCeIdeal.τ).loc Cert.ReferenceCeIdeal.main_arg5) = m' ((c.tc : Thread Cert.ReferenceCeIdeal.nD Cert.ReferenceCeIdeal.τ).loc Cert.ReferenceCeIdeal.main_arg5))

def preserves_KernelMined_KernelMinedIdeal : Prop :=
  True

def algebraic_KernelMinedIdeal_ReferenceMinedIdeal_pre_clear_cutoff [hKernelMinedIdeal : Cert.KernelMinedIdeal.Facts] [hReferenceMinedIdeal : Cert.ReferenceMinedIdeal.Facts] [hPre_clear_cutoff : Cert.Pre_clear_cutoff.Facts] : Prop :=
  ∀ (m : (ℓ : Loc Cert.KernelMinedIdeal.nD Cert.KernelMinedIdeal.τ Cert.KernelMinedIdeal.sig) → Buf (Elt Ideal) ℓ) (g : Dev Cert.KernelMinedIdeal.nD → PrngReg)
    (m' : (ℓ : Loc Cert.ReferenceMinedIdeal.nD Cert.ReferenceMinedIdeal.τ Cert.ReferenceMinedIdeal.sig) → Buf (Elt Ideal) ℓ) (g' : Dev Cert.ReferenceMinedIdeal.nD → PrngReg), Pre_KernelMinedIdeal_clear_cutoff m →
    (∀ c : Dev Cert.KernelMinedIdeal.nD,
      m' ((c.tc : Thread Cert.ReferenceMinedIdeal.nD Cert.ReferenceMinedIdeal.τ).loc Cert.ReferenceMinedIdeal.main_arg0) = m ((c.tc : Thread Cert.KernelMinedIdeal.nD Cert.KernelMinedIdeal.τ).loc Cert.KernelMinedIdeal.main_arg0)
      ∧ m' ((c.tc : Thread Cert.ReferenceMinedIdeal.nD Cert.ReferenceMinedIdeal.τ).loc Cert.ReferenceMinedIdeal.main_arg1) = m ((c.tc : Thread Cert.KernelMinedIdeal.nD Cert.KernelMinedIdeal.τ).loc Cert.KernelMinedIdeal.main_arg1)
      ∧ m' ((c.tc : Thread Cert.ReferenceMinedIdeal.nD Cert.ReferenceMinedIdeal.τ).loc Cert.ReferenceMinedIdeal.main_arg2) = m ((c.tc : Thread Cert.KernelMinedIdeal.nD Cert.KernelMinedIdeal.τ).loc Cert.KernelMinedIdeal.main_arg2)
      ∧ m' ((c.tc : Thread Cert.ReferenceMinedIdeal.nD Cert.ReferenceMinedIdeal.τ).loc Cert.ReferenceMinedIdeal.main_arg3) = m ((c.tc : Thread Cert.KernelMinedIdeal.nD Cert.KernelMinedIdeal.τ).loc Cert.KernelMinedIdeal.main_arg3)
      ∧ m' ((c.tc : Thread Cert.ReferenceMinedIdeal.nD Cert.ReferenceMinedIdeal.τ).loc Cert.ReferenceMinedIdeal.main_arg4) = m ((c.tc : Thread Cert.KernelMinedIdeal.nD Cert.KernelMinedIdeal.τ).loc Cert.KernelMinedIdeal.main_arg4)
      ∧ m' ((c.tc : Thread Cert.ReferenceMinedIdeal.nD Cert.ReferenceMinedIdeal.τ).loc Cert.ReferenceMinedIdeal.main_arg5) = m ((c.tc : Thread Cert.KernelMinedIdeal.nD Cert.KernelMinedIdeal.τ).loc Cert.KernelMinedIdeal.main_arg5)) →
    ∃ (v0 : (c : Dev Cert.KernelMinedIdeal.nD) → Buf (Elt Ideal) ((c.tc : Thread Cert.KernelMinedIdeal.nD Cert.KernelMinedIdeal.τ).loc Cert.KernelMinedIdeal.main_v32)),
      θ_run (Cert.KernelMinedIdeal.defs (F := Ideal)) (onTc (τ := Cert.KernelMinedIdeal.τ) (Cert.KernelMinedIdeal.main (F := Ideal))) ⟨m, fun _ => 0, g⟩ (fun r => ∀ c : Dev Cert.KernelMinedIdeal.nD,
          r.2.mem ((c.tc : Thread Cert.KernelMinedIdeal.nD Cert.KernelMinedIdeal.τ).loc Cert.KernelMinedIdeal.main_v32) = v0 c
          ∧ r.2.mem ((c.tc : Thread Cert.KernelMinedIdeal.nD Cert.KernelMinedIdeal.τ).loc Cert.KernelMinedIdeal.main_arg0) = m ((c.tc : Thread Cert.KernelMinedIdeal.nD Cert.KernelMinedIdeal.τ).loc Cert.KernelMinedIdeal.main_arg0)
          ∧ r.2.mem ((c.tc : Thread Cert.KernelMinedIdeal.nD Cert.KernelMinedIdeal.τ).loc Cert.KernelMinedIdeal.main_arg1) = m ((c.tc : Thread Cert.KernelMinedIdeal.nD Cert.KernelMinedIdeal.τ).loc Cert.KernelMinedIdeal.main_arg1)
          ∧ r.2.mem ((c.tc : Thread Cert.KernelMinedIdeal.nD Cert.KernelMinedIdeal.τ).loc Cert.KernelMinedIdeal.main_arg2) = m ((c.tc : Thread Cert.KernelMinedIdeal.nD Cert.KernelMinedIdeal.τ).loc Cert.KernelMinedIdeal.main_arg2)
          ∧ r.2.mem ((c.tc : Thread Cert.KernelMinedIdeal.nD Cert.KernelMinedIdeal.τ).loc Cert.KernelMinedIdeal.main_arg3) = m ((c.tc : Thread Cert.KernelMinedIdeal.nD Cert.KernelMinedIdeal.τ).loc Cert.KernelMinedIdeal.main_arg3)
          ∧ r.2.mem ((c.tc : Thread Cert.KernelMinedIdeal.nD Cert.KernelMinedIdeal.τ).loc Cert.KernelMinedIdeal.main_arg4) = m ((c.tc : Thread Cert.KernelMinedIdeal.nD Cert.KernelMinedIdeal.τ).loc Cert.KernelMinedIdeal.main_arg4)
          ∧ r.2.mem ((c.tc : Thread Cert.KernelMinedIdeal.nD Cert.KernelMinedIdeal.τ).loc Cert.KernelMinedIdeal.main_arg5) = m ((c.tc : Thread Cert.KernelMinedIdeal.nD Cert.KernelMinedIdeal.τ).loc Cert.KernelMinedIdeal.main_arg5))
      ∧ θ_run (Cert.ReferenceMinedIdeal.defs (F := Ideal)) (onTc (τ := Cert.ReferenceMinedIdeal.τ) (Cert.ReferenceMinedIdeal.main (F := Ideal))) ⟨m', fun _ => 0, g'⟩ (fun r => ∀ c : Dev Cert.ReferenceMinedIdeal.nD,
          r.2.mem ((c.tc : Thread Cert.ReferenceMinedIdeal.nD Cert.ReferenceMinedIdeal.τ).loc Cert.ReferenceMinedIdeal.main_v253) = v0 c
          ∧ r.2.mem ((c.tc : Thread Cert.ReferenceMinedIdeal.nD Cert.ReferenceMinedIdeal.τ).loc Cert.ReferenceMinedIdeal.main_arg0) = m' ((c.tc : Thread Cert.ReferenceMinedIdeal.nD Cert.ReferenceMinedIdeal.τ).loc Cert.ReferenceMinedIdeal.main_arg0)
          ∧ r.2.mem ((c.tc : Thread Cert.ReferenceMinedIdeal.nD Cert.ReferenceMinedIdeal.τ).loc Cert.ReferenceMinedIdeal.main_arg1) = m' ((c.tc : Thread Cert.ReferenceMinedIdeal.nD Cert.ReferenceMinedIdeal.τ).loc Cert.ReferenceMinedIdeal.main_arg1)
          ∧ r.2.mem ((c.tc : Thread Cert.ReferenceMinedIdeal.nD Cert.ReferenceMinedIdeal.τ).loc Cert.ReferenceMinedIdeal.main_arg2) = m' ((c.tc : Thread Cert.ReferenceMinedIdeal.nD Cert.ReferenceMinedIdeal.τ).loc Cert.ReferenceMinedIdeal.main_arg2)
          ∧ r.2.mem ((c.tc : Thread Cert.ReferenceMinedIdeal.nD Cert.ReferenceMinedIdeal.τ).loc Cert.ReferenceMinedIdeal.main_arg3) = m' ((c.tc : Thread Cert.ReferenceMinedIdeal.nD Cert.ReferenceMinedIdeal.τ).loc Cert.ReferenceMinedIdeal.main_arg3)
          ∧ r.2.mem ((c.tc : Thread Cert.ReferenceMinedIdeal.nD Cert.ReferenceMinedIdeal.τ).loc Cert.ReferenceMinedIdeal.main_arg4) = m' ((c.tc : Thread Cert.ReferenceMinedIdeal.nD Cert.ReferenceMinedIdeal.τ).loc Cert.ReferenceMinedIdeal.main_arg4)
          ∧ r.2.mem ((c.tc : Thread Cert.ReferenceMinedIdeal.nD Cert.ReferenceMinedIdeal.τ).loc Cert.ReferenceMinedIdeal.main_arg5) = m' ((c.tc : Thread Cert.ReferenceMinedIdeal.nD Cert.ReferenceMinedIdeal.τ).loc Cert.ReferenceMinedIdeal.main_arg5))

def Claim : Prop :=
  ∃ (hKernel : Cert.Kernel.Facts) (hKernelIdeal : Cert.KernelIdeal.Facts) (hReferenceIdeal : Cert.ReferenceIdeal.Facts) (hKernelCe : Cert.KernelCe.Facts) (hKernelCeIdeal : Cert.KernelCeIdeal.Facts) (hReferenceCeIdeal : Cert.ReferenceCeIdeal.Facts) (hKernelMined : Cert.KernelMined.Facts) (hKernelMinedIdeal : Cert.KernelMinedIdeal.Facts) (hReferenceMinedIdeal : Cert.ReferenceMinedIdeal.Facts) (hPre_labels_in_range : Cert.Pre_labels_in_range.Facts) (hPre_clear_cutoff : Cert.Pre_clear_cutoff.Facts),
    quiescent_Kernel (hKernel := hKernel)
    ∧ quiescent_KernelIdeal (hKernelIdeal := hKernelIdeal)
    ∧ quiescent_ReferenceIdeal (hReferenceIdeal := hReferenceIdeal)
    ∧ quiescent_KernelCe (hKernelCe := hKernelCe)
    ∧ quiescent_KernelCeIdeal (hKernelCeIdeal := hKernelCeIdeal)
    ∧ quiescent_KernelCeIdeal_pre_labels_in_range (hKernelCeIdeal := hKernelCeIdeal) (hPre_labels_in_range := hPre_labels_in_range)
    ∧ quiescent_ReferenceCeIdeal (hReferenceCeIdeal := hReferenceCeIdeal)
    ∧ quiescent_ReferenceCeIdeal_pre_labels_in_range (hReferenceCeIdeal := hReferenceCeIdeal) (hPre_labels_in_range := hPre_labels_in_range)
    ∧ quiescent_KernelMined (hKernelMined := hKernelMined)
    ∧ quiescent_KernelMinedIdeal (hKernelMinedIdeal := hKernelMinedIdeal)
    ∧ quiescent_KernelMinedIdeal_pre_clear_cutoff (hKernelMinedIdeal := hKernelMinedIdeal) (hPre_clear_cutoff := hPre_clear_cutoff)
    ∧ quiescent_ReferenceMinedIdeal (hReferenceMinedIdeal := hReferenceMinedIdeal)
    ∧ quiescent_ReferenceMinedIdeal_pre_clear_cutoff (hReferenceMinedIdeal := hReferenceMinedIdeal) (hPre_clear_cutoff := hPre_clear_cutoff)
    ∧ preserves_Kernel_KernelIdeal
    ∧ algebraic_KernelIdeal_ReferenceIdeal (hKernelIdeal := hKernelIdeal) (hReferenceIdeal := hReferenceIdeal)
    ∧ preserves_KernelCe_KernelCeIdeal
    ∧ algebraic_KernelCeIdeal_ReferenceCeIdeal_pre_labels_in_range (hKernelCeIdeal := hKernelCeIdeal) (hReferenceCeIdeal := hReferenceCeIdeal) (hPre_labels_in_range := hPre_labels_in_range)
    ∧ preserves_KernelMined_KernelMinedIdeal
    ∧ algebraic_KernelMinedIdeal_ReferenceMinedIdeal_pre_clear_cutoff (hKernelMinedIdeal := hKernelMinedIdeal) (hReferenceMinedIdeal := hReferenceMinedIdeal) (hPre_clear_cutoff := hPre_clear_cutoff)
-- ==== Pre_clear_cutoff.lean ====
abbrev S32x16320x4 : Shape := ⟨3, ![32, 16320, 4]⟩
abbrev S32x16320x2 : Shape := ⟨3, ![32, 16320, 2]⟩
abbrev S32x16320x81 : Shape := ⟨3, ![32, 16320, 81]⟩
abbrev S16320x4 : Shape := ⟨2, ![16320, 4]⟩
abbrev S32x16x5 : Shape := ⟨3, ![32, 16, 5]⟩
abbrev S32x16x1 : Shape := ⟨3, ![32, 16, 1]⟩
abbrev S32x16 : Shape := ⟨2, ![32, 16]⟩
abbrev S32x16x4 : Shape := ⟨3, ![32, 16, 4]⟩
abbrev S16320x2 : Shape := ⟨2, ![16320, 2]⟩
abbrev S_ : Shape := ⟨0, ![]⟩
abbrev S1x16320x2 : Shape := ⟨3, ![1, 16320, 2]⟩
abbrev S32x16x2 : Shape := ⟨3, ![32, 16, 2]⟩
abbrev S32x16x1x2 : Shape := ⟨4, ![32, 16, 1, 2]⟩
abbrev S32x1x16320x2 : Shape := ⟨4, ![32, 1, 16320, 2]⟩
abbrev S32x16x16320x2 : Shape := ⟨4, ![32, 16, 16320, 2]⟩
abbrev S32x16x16320x1 : Shape := ⟨4, ![32, 16, 16320, 1]⟩
abbrev S32x16x16320 : Shape := ⟨3, ![32, 16, 16320]⟩
abbrev S32x16320x1 : Shape := ⟨3, ![32, 16320, 1]⟩
abbrev S32x16320 : Shape := ⟨2, ![32, 16320]⟩
abbrev S32x1x16320 : Shape := ⟨3, ![32, 1, 16320]⟩
abbrev S32 : Shape := ⟨1, ![32]⟩
abbrev S32x1 : Shape := ⟨2, ![32, 1]⟩
abbrev S16 : Shape := ⟨1, ![16]⟩
abbrev S1x16 : Shape := ⟨2, ![1, 16]⟩
abbrev S522240x81 : Shape := ⟨2, ![522240, 81]⟩
abbrev S522240x1 : Shape := ⟨2, ![522240, 1]⟩
abbrev S522240x1x1 : Shape := ⟨3, ![522240, 1, 1]⟩
abbrev S1 : Shape := ⟨1, ![1]⟩
abbrev S1x1x1 : Shape := ⟨3, ![1, 1, 1]⟩
abbrev S522240 : Shape := ⟨1, ![522240]⟩

class Facts : Prop where
  slices_S32x16x5_S32x16x1_0_0_4 : S32x16x5.Slices ![0, 0, 4] S32x16x1
  shapeCasts_S32x16x1_S32x16 : S32x16x1.ShapeCasts S32x16
  slices_S32x16x5_S32x16x4_0_0_0 : S32x16x5.Slices ![0, 0, 0] S32x16x4
  slices_S16320x4_S16320x2_0_0 : S16320x4.Slices ![0, 0] S16320x2
  slices_S32x16320x4_S32x16320x2_0_0_0 : S32x16320x4.Slices ![0, 0, 0] S32x16320x2
  bcast_S_S32x16320x2 : S_.BroadcastsInDim S32x16320x2 (![] : Fin 0 → Fin S32x16320x2.rank)
  slices_S16320x4_S16320x2_0_2 : S16320x4.Slices ![0, 2] S16320x2
  bcast_S16320x2_S1x16320x2_1_2 : S16320x2.BroadcastsInDim S1x16320x2 (![1, 2] : Fin 2 → Fin S1x16320x2.rank)
  bcast_S1x16320x2_S32x16320x2_0_1_2 : S1x16320x2.BroadcastsInDim S32x16320x2 (![0, 1, 2] : Fin 3 → Fin S32x16320x2.rank)
  slices_S32x16320x4_S32x16320x2_0_0_2 : S32x16320x4.Slices ![0, 0, 2] S32x16320x2
  concatenates_S32x16320x2_S32x16320x2_S32x16320x4_d2 : Shape.Concatenates [S32x16320x2, S32x16320x2] S32x16320x4 2
  slices_S32x16x4_S32x16x2_0_0_2 : S32x16x4.Slices ![0, 0, 2] S32x16x2
  bcast_S32x16x2_S32x16x1x2_0_1_3 : S32x16x2.BroadcastsInDim S32x16x1x2 (![0, 1, 3] : Fin 3 → Fin S32x16x1x2.rank)
  bcast_S32x16320x2_S32x1x16320x2_0_2_3 : S32x16320x2.BroadcastsInDim S32x1x16320x2 (![0, 2, 3] : Fin 3 → Fin S32x1x16320x2.rank)
  bcast_S32x16x1x2_S32x16x16320x2_0_1_2_3 : S32x16x1x2.BroadcastsInDim S32x16x16320x2 (![0, 1, 2, 3] : Fin 4 → Fin S32x16x16320x2.rank)
  bcast_S32x1x16320x2_S32x16x16320x2_0_1_2_3 : S32x1x16320x2.BroadcastsInDim S32x16x16320x2 (![0, 1, 2, 3] : Fin 4 → Fin S32x16x16320x2.rank)
  slices_S32x16x4_S32x16x2_0_0_0 : S32x16x4.Slices ![0, 0, 0] S32x16x2
  bcast_S_S32x16x16320x2 : S_.BroadcastsInDim S32x16x16320x2 (![] : Fin 0 → Fin S32x16x16320x2.rank)
  slices_S32x16x16320x2_S32x16x16320x1_0_0_0_0 : S32x16x16320x2.Slices ![0, 0, 0, 0] S32x16x16320x1
  shapeCasts_S32x16x16320x1_S32x16x16320 : S32x16x16320x1.ShapeCasts S32x16x16320
  slices_S32x16x16320x2_S32x16x16320x1_0_0_0_1 : S32x16x16320x2.Slices ![0, 0, 0, 1] S32x16x16320x1
  slices_S32x16x4_S32x16x1_0_0_2 : S32x16x4.Slices ![0, 0, 2] S32x16x1
  slices_S32x16x4_S32x16x1_0_0_0 : S32x16x4.Slices ![0, 0, 0] S32x16x1
  slices_S32x16x4_S32x16x1_0_0_3 : S32x16x4.Slices ![0, 0, 3] S32x16x1
  slices_S32x16x4_S32x16x1_0_0_1 : S32x16x4.Slices ![0, 0, 1] S32x16x1
  bcast_S32x16_S32x16x1_0_1 : S32x16.BroadcastsInDim S32x16x1 (![0, 1] : Fin 2 → Fin S32x16x1.rank)
  slices_S32x16320x4_S32x16320x1_0_0_2 : S32x16320x4.Slices ![0, 0, 2] S32x16320x1
  shapeCasts_S32x16320x1_S32x16320 : S32x16320x1.ShapeCasts S32x16320
  slices_S32x16320x4_S32x16320x1_0_0_0 : S32x16320x4.Slices ![0, 0, 0] S32x16320x1
  slices_S32x16320x4_S32x16320x1_0_0_3 : S32x16320x4.Slices ![0, 0, 3] S32x16320x1
  slices_S32x16320x4_S32x16320x1_0_0_1 : S32x16320x4.Slices ![0, 0, 1] S32x16320x1
  bcast_S32x16320_S32x1x16320_0_2 : S32x16320.BroadcastsInDim S32x1x16320 (![0, 2] : Fin 2 → Fin S32x1x16320.rank)
  bcast_S32x16x1_S32x16x16320_0_1_2 : S32x16x1.BroadcastsInDim S32x16x16320 (![0, 1, 2] : Fin 3 → Fin S32x16x16320.rank)
  bcast_S32x1x16320_S32x16x16320_0_1_2 : S32x1x16320.BroadcastsInDim S32x16x16320 (![0, 1, 2] : Fin 3 → Fin S32x16x16320.rank)
  reducesTo_S32x16x16320_S32x16_d2 : S32x16x16320.ReducesTo [2] S32x16
  h_S_ : 0 < S_.numel
  reducesTo_S32x16x16320_S32x16320_d1 : S32x16x16320.ReducesTo [1] S32x16320
  bcast_S32_S32x1_0 : S32.BroadcastsInDim S32x1 (![0] : Fin 1 → Fin S32x1.rank)
  bcast_S_S32x1 : S_.BroadcastsInDim S32x1 (![] : Fin 0 → Fin S32x1.rank)
  bcast_S_S32x16 : S_.BroadcastsInDim S32x16 (![] : Fin 0 → Fin S32x16.rank)
  bcast_S32x1_S32x16_0_1 : S32x1.BroadcastsInDim S32x16 (![0, 1] : Fin 2 → Fin S32x16.rank)
  concatenates_S32x16x1_S32x16x1_S32x16x2_d2 : Shape.Concatenates [S32x16x1, S32x16x1] S32x16x2 2
  bcast_S16_S1x16_1 : S16.BroadcastsInDim S1x16 (![1] : Fin 1 → Fin S1x16.rank)
  bcast_S1x16_S32x16_0_1 : S1x16.BroadcastsInDim S32x16 (![0, 1] : Fin 2 → Fin S32x16.rank)
  bcast_S_S32x16320 : S_.BroadcastsInDim S32x16320 (![] : Fin 0 → Fin S32x16320.rank)
  bcast_S32x1_S32x16320_0_1 : S32x1.BroadcastsInDim S32x16320 (![0, 1] : Fin 2 → Fin S32x16320.rank)
  bcast_S32x16320_S32x16320x1_0_1 : S32x16320.BroadcastsInDim S32x16320x1 (![0, 1] : Fin 2 → Fin S32x16320x1.rank)
  concatenates_S32x16320x1_S32x16320x1_S32x16320x2_d2 : Shape.Concatenates [S32x16320x1, S32x16320x1] S32x16320x2 2
  reducesTo_S32x16320x2_S32x16320_d2 : S32x16320x2.ReducesTo [2] S32x16320
  bcast_S32x16320x1_S32x16320x2_0_1_2 : S32x16320x1.BroadcastsInDim S32x16320x2 (![0, 1, 2] : Fin 3 → Fin S32x16320x2.rank)
  slices_S32x16320x2_S32x16320x1_0_0_1 : S32x16320x2.Slices ![0, 0, 1] S32x16320x1
  natLt_1_32 : 1 < 32
  reducesTo_S32x16320_S32_d1 : S32x16320.ReducesTo [1] S32
  shapeCasts_S32x16320x81_S522240x81 : S32x16320x81.ShapeCasts S522240x81
  shapeCasts_S32x16320_S522240x1 : S32x16320.ShapeCasts S522240x1
  bcast_S_S522240x1 : S_.BroadcastsInDim S522240x1 (![] : Fin 0 → Fin S522240x1.rank)
  shapeCasts_S522240x1_S522240x1x1 : S522240x1.ShapeCasts S522240x1x1
  bcast_S_S522240x1x1 : S_.BroadcastsInDim S522240x1x1 (![] : Fin 0 → Fin S522240x1x1.rank)
  bcast_S1_S1x1x1_2 : S1.BroadcastsInDim S1x1x1 (![2] : Fin 1 → Fin S1x1x1.rank)
  bcast_S1x1x1_S522240x1x1_0_1_2 : S1x1x1.BroadcastsInDim S522240x1x1 (![0, 1, 2] : Fin 3 → Fin S522240x1x1.rank)
  reducesTo_S522240x1x1_S522240x1_d2 : S522240x1x1.ReducesTo [2] S522240x1
  shapeCasts_S522240x1_S522240 : S522240x1.ShapeCasts S522240
  reducesTo_S522240x81_S_d0_1 : S522240x81.ReducesTo [0, 1] S_
  bcast_S_S522240x81 : S_.BroadcastsInDim S522240x81 (![] : Fin 0 → Fin S522240x81.rank)
  reducesTo_S522240x81_S522240_d1 : S522240x81.ReducesTo [1] S522240
  bcast_S_S522240 : S_.BroadcastsInDim S522240 (![] : Fin 0 → Fin S522240.rank)
  shapeCasts_S32x16320_S522240 : S32x16320.ShapeCasts S522240
  shapeCasts_S522240_S32x16320 : S522240.ShapeCasts S32x16320
  reducesTo_S32x16_S_d0_1 : S32x16.ReducesTo [0, 1] S_
  bcast_S_S32x16320x81 : S_.BroadcastsInDim S32x16320x81 (![] : Fin 0 → Fin S32x16320x81.rank)
  reducesTo_S32x16320x81_S_d0_1_2 : S32x16320x81.ReducesTo [0, 1, 2] S_
  reducesTo_S32x16320_S_d0_1 : S32x16320.ReducesTo [0, 1] S_
  scatter_S32x16320_S32x16x2_S32x16_n_01_01_2_wf : ScatterDims.WF S32x16320 S32x16x2 S32x16 [] [0, 1] [0, 1] 2
  gather_S32x16x4_S32x16320x2_S32x16320x4_2_01_n_n_01_2_114_wf : GatherDims.WF S32x16x4 S32x16320x2 S32x16320x4 [2] [0, 1] [] [0, 1] [] 2 ![1, 1, 4]
  gather_S32x16_S32x16320x2_S32x16320_n_01_n_n_01_2_11_wf : GatherDims.WF S32x16 S32x16320x2 S32x16320 [] [0, 1] [] [0, 1] [] 2 ![1, 1]
  gather_S522240x81_S522240x1x1_S522240x1_n_1_0_0_1_2_11_wf : GatherDims.WF S522240x81 S522240x1x1 S522240x1 [] [1] [0] [1] [0] 2 ![1, 1]

variable [Facts]

variable {F : FTy → Type} [FloatOps F]
def reducer_argmax_f32_i32 : F .f32 × BitVec 32 → F .f32 × BitVec 32 → F .f32 × BitVec 32 :=
  fun a b =>
    let v2 := FloatOps.cmpf .ogt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def scatter_S32x16320_S32x16x2_S32x16_n_01_01_2 : ScatterDims S32x16320 S32x16x2 S32x16 where
  updateWindowDims := []
  insertedWindowDims := [0, 1]
  scatterDimsToOperandDims := [0, 1]
  indexVectorDim := 2
  wf := scatter_S32x16320_S32x16x2_S32x16_n_01_01_2_wf
def gather_S32x16x4_S32x16320x2_S32x16320x4_2_01_n_n_01_2_114 : GatherDims S32x16x4 S32x16320x2 S32x16320x4 where
  offsetDims := [2]
  collapsedSliceDims := [0, 1]
  operandBatchingDims := []
  startIndicesBatchingDims := []
  startIndexMap := [0, 1]
  indexVectorDim := 2
  sliceSizes := ![1, 1, 4]
  wf := gather_S32x16x4_S32x16320x2_S32x16320x4_2_01_n_n_01_2_114_wf
def gather_S32x16_S32x16320x2_S32x16320_n_01_n_n_01_2_11 : GatherDims S32x16 S32x16320x2 S32x16320 where
  offsetDims := []
  collapsedSliceDims := [0, 1]
  operandBatchingDims := []
  startIndicesBatchingDims := []
  startIndexMap := [0, 1]
  indexVectorDim := 2
  sliceSizes := ![1, 1]
  wf := gather_S32x16_S32x16320x2_S32x16320_n_01_n_n_01_2_11_wf
def gather_S522240x81_S522240x1x1_S522240x1_n_1_0_0_1_2_11 : GatherDims S522240x81 S522240x1x1 S522240x1 where
  offsetDims := []
  collapsedSliceDims := [1]
  operandBatchingDims := [0]
  startIndicesBatchingDims := [0]
  startIndexMap := [1]
  indexVectorDim := 2
  sliceSizes := ![1, 1]
  wf := gather_S522240x81_S522240x1x1_S522240x1_n_1_0_0_1_2_11_wf
def comparator_f32_i32_d1 : F .f32 × BitVec 32 → F .f32 × BitVec 32 → BitVec 1 :=
  fun l r =>
    let cst := FloatOps.ofBits .f32 0x00000000#32
    let v2 := FloatOps.cmpf .oeq l.1 cst
    let cst_0 := FloatOps.ofBits .f32 0x00000000#32
    let v3 := Scalar.select v2 cst_0 l.1
    let v4 := FloatOps.cmpf .une l.1 l.1
    let cst_1 := FloatOps.ofBits .f32 0x7FC00000#32
    let v5 := Scalar.select v4 cst_1 v3
    let cst_2 := FloatOps.ofBits .f32 0x00000000#32
    let v6 := FloatOps.cmpf .oeq r.1 cst_2
    let cst_3 := FloatOps.ofBits .f32 0x00000000#32
    let v7 := Scalar.select v6 cst_3 r.1
    let v8 := FloatOps.cmpf .une r.1 r.1
    let cst_4 := FloatOps.ofBits .f32 0x7FC00000#32
    let v9 := Scalar.select v8 cst_4 v7
    let v10 := FloatOps.cmpfTotal .lt v5 v9
    v10
def comparator_i32_i32_d1 : BitVec 32 × BitVec 32 → BitVec 32 × BitVec 32 → BitVec 1 :=
  fun l r =>
    let v2 := IntOp.cmpi .slt l.1 r.1
    v2

def fn_argmax {F : FTy → Type} [FloatOps F] (arg0 : FVec F S32x16x16320 .f32) : IVec S32x16 32 :=
  let v0 : IVec S32x16x16320 32 := iotaInDim S32x16x16320 32 2
  let cst : FVec F S_ .f32 := constant S_ .f32 0xFF800000#32
  let c : IVec S_ 32 := constantI S_ 32 0#32
  let v1_0 : FVec F S32x16 .f32 := (fun x y u v j => (Host.argReduce reducer_argmax_f32_i32 x y u v reducesTo_S32x16x16320_S32x16_d2 h_S_ j).1) arg0 v0 cst c
  let v1_1 : IVec S32x16 32 := (fun x y u v j => (Host.argReduce reducer_argmax_f32_i32 x y u v reducesTo_S32x16x16320_S32x16_d2 h_S_ j).2) arg0 v0 cst c
  v1_1

def fn_argmax_0 {F : FTy → Type} [FloatOps F] (arg0 : FVec F S32x16x16320 .f32) : IVec S32x16320 32 :=
  let v0 : IVec S32x16x16320 32 := iotaInDim S32x16x16320 32 1
  let cst : FVec F S_ .f32 := constant S_ .f32 0xFF800000#32
  let c : IVec S_ 32 := constantI S_ 32 0#32
  let v1_0 : FVec F S32x16320 .f32 := (fun x y u v j => (Host.argReduce reducer_argmax_f32_i32 x y u v reducesTo_S32x16x16320_S32x16320_d1 h_S_ j).1) arg0 v0 cst c
  let v1_1 : IVec S32x16320 32 := (fun x y u v j => (Host.argReduce reducer_argmax_f32_i32 x y u v reducesTo_S32x16x16320_S32x16320_d1 h_S_ j).2) arg0 v0 cst c
  v1_1

def fn_where {F : FTy → Type} [FloatOps F] (arg0 : IVec S32x16320 1) (arg1 : IVec S_ 32) (arg2 : IVec S32x16320 32) : IVec S32x16320 32 :=
  let v0 : IVec S_ 32 := id arg1
  let v1 : IVec S32x16320 32 := broadcastInDim S32x16320 ![] bcast_S_S32x16320 v0
  let v2 : IVec S32x16320 32 := select arg0 v1 arg2
  v2

def fn_take_along_axis {F : FTy → Type} [FloatOps F] (arg0 : FVec F S522240x81 .f32) (arg1 : IVec S522240x1 32) : FVec F S522240x1 .f32 :=
  let c : IVec S_ 32 := constantI S_ 32 0#32
  let v0 : IVec S522240x1 32 := broadcastInDim S522240x1 ![] bcast_S_S522240x1 c
  let v1 : IVec S522240x1 1 := cmpi .slt arg1 v0
  let c_0 : IVec S_ 32 := constantI S_ 32 81#32
  let v2 : IVec S522240x1 32 := broadcastInDim S522240x1 ![] bcast_S_S522240x1 c_0
  let v3 : IVec S522240x1 32 := addi arg1 v2
  let v4 : IVec S522240x1 32 := select v1 v3 arg1
  let v5 : IVec S522240x1x1 32 := shapeCast S522240x1x1 v4 shapeCasts_S522240x1_S522240x1x1
  let c_1 : IVec S1 32 := constantI S1 32 80#32
  let c_2 : IVec S_ 32 := constantI S_ 32 0#32
  let v6 : IVec S522240x1x1 32 := broadcastInDim S522240x1x1 ![] bcast_S_S522240x1x1 c_2
  let v7 : IVec S522240x1x1 1 := cmpi .sge v5 v6
  let v8 : IVec S1x1x1 32 := broadcastInDim S1x1x1 ![2] bcast_S1_S1x1x1_2 c_1
  let v9 : IVec S522240x1x1 32 := broadcastInDim S522240x1x1 ![0, 1, 2] bcast_S1x1x1_S522240x1x1_0_1_2 v8
  let v10 : IVec S522240x1x1 1 := cmpi .sle v5 v9
  let v11 : IVec S522240x1x1 1 := andi v7 v10
  let c_3 : IVec S_ 1 := constantI S_ 1 1#1
  let v12 : IVec S522240x1 1 := (fun x v => Host.reduce IntOp.andi x v reducesTo_S522240x1x1_S522240x1_d2 h_S_) v11 c_3
  let v13 : FVec F S522240x1 .f32 := (fun x i => Host.gather gather_S522240x81_S522240x1x1_S522240x1_n_1_0_0_1_2_11 x i) arg0 v5
  let cst : FVec F S_ .f32 := constant S_ .f32 0x7FC00000#32
  let v14 : FVec F S522240x1 .f32 := broadcastInDim S522240x1 ![] bcast_S_S522240x1 cst
  let v15 : FVec F S522240x1 .f32 := select v12 v13 v14
  v15

def fn_where_1 {F : FTy → Type} [FloatOps F] (arg0 : IVec S522240 1) (arg1 : FVec F S_ .f32) (arg2 : FVec F S522240 .f32) : FVec F S522240 .f32 :=
  let v0 : FVec F S_ .f32 := id arg1
  let v1 : FVec F S522240 .f32 := broadcastInDim S522240 ![] bcast_S_S522240 v0
  let v2 : FVec F S522240 .f32 := select arg0 v1 arg2
  v2

def fn_argsort {F : FTy → Type} [FloatOps F] (arg0 : FVec F S32x16320 .f32) : IVec S32x16320 32 :=
  let v0 : IVec S32x16320 32 := iotaInDim S32x16320 32 1
  let v1_0 : FVec F S32x16320 .f32 := (fun x y => (Host.sort2 S32x16320 1 comparator_f32_i32_d1 x y).1) arg0 v0
  let v1_1 : IVec S32x16320 32 := (fun x y => (Host.sort2 S32x16320 1 comparator_f32_i32_d1 x y).2) arg0 v0
  v1_1

def fn_argsort_2 {F : FTy → Type} [FloatOps F] (arg0 : IVec S32x16320 32) : IVec S32x16320 32 :=
  let v0 : IVec S32x16320 32 := iotaInDim S32x16320 32 1
  let v1_0 : IVec S32x16320 32 := (fun x y => (Host.sort2 S32x16320 1 comparator_i32_i32_d1 x y).1) arg0 v0
  let v1_1 : IVec S32x16320 32 := (fun x y => (Host.sort2 S32x16320 1 comparator_i32_i32_d1 x y).2) arg0 v0
  v1_1

def fn_where_3 {F : FTy → Type} [FloatOps F] (arg0 : IVec S32x16320 1) (arg1 : FVec F S32x16320 .f32) (arg2 : FVec F S_ .f32) : FVec F S32x16320 .f32 :=
  let v0 : FVec F S_ .f32 := id arg2
  let v1 : FVec F S32x16320 .f32 := broadcastInDim S32x16320 ![] bcast_S_S32x16320 v0
  let v2 : FVec F S32x16320 .f32 := select arg0 arg1 v1
  v2

def fn_part13 {F : FTy → Type} [FloatOps F] (main_v255 : IVec S_ 1) (main_v261 : IVec S32x16320 1) : IVec S_ 1 :=
  let main_c_48 : IVec S_ 1 := constantI S_ 1 1#1
  let main_v262 : IVec S_ 1 := (fun x v => Host.reduce IntOp.andi x v reducesTo_S32x16320_S_d0_1 h_S_) main_v261 main_c_48
  let main_v263 : IVec S_ 1 := andi main_v255 main_v262
  main_v263

def fn_part12 {F : FTy → Type} [FloatOps F] (main_arg3 : FVec F S32x16320x81 .f32) (main_v2 : IVec S32x16 32) (main_v202 : IVec S32x16320 1) (main_v221 : FVec F S32x16320 .f32) (main_v230 : IVec S32x16320 1) (main_v235 : IVec S32x16320 1) (main_v243 : IVec S32x16320 1) : IVec S_ 1 :=
  let main_v244 : IVec S32x16320 1 := ori main_v235 main_v243
  let main_c_42 : IVec S_ 32 := constantI S_ 32 0#32
  let main_v245 : IVec S32x16 32 := broadcastInDim S32x16 ![] bcast_S_S32x16 main_c_42
  let main_v246 : IVec S32x16 1 := cmpi .sge main_v2 main_v245
  let main_c_43 : IVec S_ 32 := constantI S_ 32 81#32
  let main_v247 : IVec S32x16 32 := broadcastInDim S32x16 ![] bcast_S_S32x16 main_c_43
  let main_v248 : IVec S32x16 1 := cmpi .slt main_v2 main_v247
  let main_v249 : IVec S32x16 1 := andi main_v246 main_v248
  let main_c_44 : IVec S_ 1 := constantI S_ 1 1#1
  let main_v250 : IVec S_ 1 := (fun x v => Host.reduce IntOp.andi x v reducesTo_S32x16_S_d0_1 h_S_) main_v249 main_c_44
  let main_v251 : FVec F S32x16320x81 .f32 := Host.absf main_arg3
  let main_cst_45 : FVec F S_ .f32 := constant S_ .f32 0x7F800000#32
  let main_v252 : FVec F S32x16320x81 .f32 := broadcastInDim S32x16320x81 ![] bcast_S_S32x16320x81 main_cst_45
  let main_v253 : IVec S32x16320x81 1 := cmpf .olt main_v251 main_v252
  let main_c_46 : IVec S_ 1 := constantI S_ 1 1#1
  let main_v254 : IVec S_ 1 := (fun x v => Host.reduce IntOp.andi x v reducesTo_S32x16320x81_S_d0_1_2 h_S_) main_v253 main_c_46
  let main_v255 : IVec S_ 1 := andi main_v250 main_v254
  let main_cst_47 : FVec F S_ .f32 := constant S_ .f32 0x7149F2CA#32
  let main_v256 : FVec F S32x16320 .f32 := broadcastInDim S32x16320 ![] bcast_S_S32x16320 main_cst_47
  let main_v257 : IVec S32x16320 1 := cmpf .olt main_v221 main_v256
  let main_v258 : IVec S32x16320 1 := andi main_v202 main_v230
  let main_v259 : IVec S32x16320 1 := noti main_v258
  let main_v260 : IVec S32x16320 1 := andi main_v257 main_v259
  let main_v261 : IVec S32x16320 1 := andi main_v260 main_v244
  fn_part13 (F := F) main_v255 main_v261

def fn_part11 {F : FTy → Type} [FloatOps F] (main_arg3 : FVec F S32x16320x81 .f32) (main_v2 : IVec S32x16 32) (main_v202 : IVec S32x16320 1) (main_v205 : IVec S32x1 32) (main_v221 : FVec F S32x16320 .f32) (main_v224 : IVec S32x16320 32) (main_c_36 : IVec S_ 32) : IVec S_ 1 :=
  let main_v225 : IVec S32x1 32 := broadcastInDim S32x1 ![] bcast_S_S32x1 main_c_36
  let main_v226 : IVec S32x1 32 := muli main_v225 main_v205
  let main_c_37 : IVec S_ 32 := constantI S_ 32 16319#32
  let main_v227 : IVec S32x1 32 := broadcastInDim S32x1 ![] bcast_S_S32x1 main_c_37
  let main_v228 : IVec S32x1 32 := minsi main_v226 main_v227
  let main_v229 : IVec S32x16320 32 := broadcastInDim S32x16320 ![0, 1] bcast_S32x1_S32x16320_0_1 main_v228
  let main_v230 : IVec S32x16320 1 := cmpi .slt main_v224 main_v229
  let main_cst_38 : FVec F S_ .f32 := constant S_ .f32 0x7F800000#32
  let main_v231 : FVec F S32x16320 .f32 := fn_where_3 (F := F) main_v230 main_v221 main_cst_38
  let main_cst_39 : FVec F S_ .f32 := constant S_ .f32 0x7F800000#32
  let main_v232 : FVec F S32 .f32 := (fun x v => Host.reduce FloatOps.minimumf x v reducesTo_S32x16320_S32_d1 h_S_) main_v231 main_cst_39
  let main_v233 : FVec F S32x1 .f32 := broadcastInDim S32x1 ![0] bcast_S32_S32x1_0 main_v232
  let main_v234 : FVec F S32x16320 .f32 := broadcastInDim S32x16320 ![0, 1] bcast_S32x1_S32x16320_0_1 main_v233
  let main_v235 : IVec S32x16320 1 := cmpf .oeq main_v221 main_v234
  let main_v236 : FVec F S32x16320 .f32 := broadcastInDim S32x16320 ![0, 1] bcast_S32x1_S32x16320_0_1 main_v233
  let main_v237 : FVec F S32x16320 .f32 := subf main_v221 main_v236
  let main_v238 : FVec F S32x16320 .f32 := Host.absf main_v237
  let main_cst_40 : FVec F S_ .f32 := constant S_ .f32 0x358637BD#32
  let main_v239 : FVec F S32x16320 .f32 := broadcastInDim S32x16320 ![] bcast_S_S32x16320 main_cst_40
  let main_v240 : FVec F S32x16320 .f32 := mulf main_v239 main_v221
  let main_cst_41 : FVec F S_ .f32 := constant S_ .f32 0x0DA24260#32
  let main_v241 : FVec F S32x16320 .f32 := broadcastInDim S32x16320 ![] bcast_S_S32x16320 main_cst_41
  let main_v242 : FVec F S32x16320 .f32 := addf main_v241 main_v240
  let main_v243 : IVec S32x16320 1 := cmpf .ogt main_v238 main_v242
  fn_part12 (F := F) main_arg3 main_v2 main_v202 main_v221 main_v230 main_v235 main_v243

def fn_part10 {F : FTy → Type} [FloatOps F] (main_arg3 : FVec F S32x16320x81 .f32) (main_v2 : IVec S32x16 32) (main_v155 : IVec S32x16320 32) (main_v202 : IVec S32x16320 1) (main_v204 : IVec S32 32) : IVec S_ 1 :=
  let main_v205 : IVec S32x1 32 := broadcastInDim S32x1 ![0] bcast_S32_S32x1_0 main_v204
  let main_v206 : FVec F S522240x81 .f32 := shapeCast S522240x81 main_arg3 shapeCasts_S32x16320x81_S522240x81
  let main_v207 : IVec S522240x1 32 := shapeCast S522240x1 main_v155 shapeCasts_S32x16320_S522240x1
  let main_v208 : FVec F S522240x1 .f32 := fn_take_along_axis (F := F) main_v206 main_v207
  let main_v209 : FVec F S522240 .f32 := shapeCast S522240 main_v208 shapeCasts_S522240x1_S522240
  let main_cst_33 : FVec F S_ .f32 := constant S_ .f32 0xFF800000#32
  let main_v210 : FVec F S_ .f32 := (fun x v => Host.reduce FloatOps.maximumf x v reducesTo_S522240x81_S_d0_1 h_S_) main_v206 main_cst_33
  let main_v211 : FVec F S522240x81 .f32 := broadcastInDim S522240x81 ![] bcast_S_S522240x81 main_v210
  let main_v212 : FVec F S522240x81 .f32 := subf main_v206 main_v211
  let main_v213 : FVec F S522240x81 .f32 := Host.exp main_v212
  let main_cst_34 : FVec F S_ .f32 := constant S_ .f32 0x00000000#32
  let main_v214 : FVec F S522240 .f32 := (fun x v => Host.reduceAdd x v reducesTo_S522240x81_S522240_d1 h_S_) main_v213 main_cst_34
  let main_v215 : FVec F S522240 .f32 := Host.log main_v214
  let main_v216 : FVec F S522240 .f32 := broadcastInDim S522240 ![] bcast_S_S522240 main_v210
  let main_v217 : FVec F S522240 .f32 := addf main_v215 main_v216
  let main_v218 : FVec F S522240 .f32 := subf main_v217 main_v209
  let main_v219 : IVec S522240 1 := shapeCast S522240 main_v202 shapeCasts_S32x16320_S522240
  let main_cst_35 : FVec F S_ .f32 := constant S_ .f32 0x00000000#32
  let main_v220 : FVec F S522240 .f32 := fn_where_1 (F := F) main_v219 main_cst_35 main_v218
  let main_v221 : FVec F S32x16320 .f32 := shapeCast S32x16320 main_v220 shapeCasts_S522240_S32x16320
  let main_v222 : FVec F S32x16320 .f32 := Host.negf main_v221
  let main_v223 : IVec S32x16320 32 := fn_argsort (F := F) main_v222
  let main_v224 : IVec S32x16320 32 := fn_argsort_2 (F := F) main_v223
  let main_c_36 : IVec S_ 32 := constantI S_ 32 3#32
  fn_part11 (F := F) main_arg3 main_v2 main_v202 main_v205 main_v221 main_v224 main_c_36

def fn_part9 {F : FTy → Type} [FloatOps F] (main_arg1 : FVec F S32x16320x2 .f32) (main_arg3 : FVec F S32x16320x81 .f32) (main_v2 : IVec S32x16 32) (main_v155 : IVec S32x16320 32) (main_v185 : FVec F S32x16320 .f32) : IVec S_ 1 :=
  let main_cst_28 : FVec F S_ .f32 := constant S_ .f32 0xFF800000#32
  let main_v186 : FVec F S32x16320 .f32 := broadcastInDim S32x16320 ![] bcast_S_S32x16320 main_cst_28
  let main_v187 : FVec F S32x16320 .f32 := maximumf main_v186 main_v185
  let main_v188 : FVec F S32x16320x1 .f32 := broadcastInDim S32x16320x1 ![0, 1] bcast_S32x16320_S32x16320x1_0_1 main_v187
  let main_v189 : FVec F S32x16320x2 .f32 := broadcastInDim S32x16320x2 ![0, 1, 2] bcast_S32x16320x1_S32x16320x2_0_1_2 main_v188
  let main_v190 : FVec F S32x16320x2 .f32 := subf main_arg1 main_v189
  let main_v191 : FVec F S32x16320x2 .f32 := Host.exp main_v190
  let main_cst_29 : FVec F S_ .f32 := constant S_ .f32 0x00000000#32
  let main_v192 : FVec F S32x16320 .f32 := (fun x v => Host.reduceAdd x v reducesTo_S32x16320x2_S32x16320_d2 h_S_) main_v191 main_cst_29
  let main_v193 : FVec F S32x16320x1 .f32 := broadcastInDim S32x16320x1 ![0, 1] bcast_S32x16320_S32x16320x1_0_1 main_v192
  let main_v194 : FVec F S32x16320x2 .f32 := broadcastInDim S32x16320x2 ![0, 1, 2] bcast_S32x16320x1_S32x16320x2_0_1_2 main_v193
  let main_v195 : FVec F S32x16320x2 .f32 := Host.divf main_v191 main_v194
  let main_v196 : FVec F S32x16320x1 .f32 := (extractStridedSlice S32x16320x1 ![0, 0, 1] · slices_S32x16320x2_S32x16320x1_0_0_1) main_v195
  let main_v197 : FVec F S32x16320 .f32 := shapeCast S32x16320 main_v196 shapeCasts_S32x16320x1_S32x16320
  let main_c_30 : IVec S_ 32 := constantI S_ 32 0#32
  let main_v198 : IVec S32x16320 32 := broadcastInDim S32x16320 ![] bcast_S_S32x16320 main_c_30
  let main_v199 : IVec S32x16320 1 := cmpi .sgt main_v155 main_v198
  let main_cst_31 : FVec F S_ .f32 := constant S_ .f32 0x3C23D70A#32
  let main_v200 : FVec F S32x16320 .f32 := broadcastInDim S32x16320 ![] bcast_S_S32x16320 main_cst_31
  let main_v201 : IVec S32x16320 1 := cmpf .ogt main_v197 main_v200
  let main_v202 : IVec S32x16320 1 := andi main_v199 main_v201
  let main_v203 : IVec S32x16320 32 := (extui 32 · natLt_1_32) main_v202
  let main_c_32 : IVec S_ 32 := constantI S_ 32 0#32
  let main_v204 : IVec S32 32 := (fun x v => Host.reduce IntOp.addi x v reducesTo_S32x16320_S32_d1 h_S_) main_v203 main_c_32
  fn_part10 (F := F) main_arg3 main_v2 main_v155 main_v202 main_v204

def fn_part8 {F : FTy → Type} [FloatOps F] (main_arg1 : FVec F S32x16320x2 .f32) (main_arg3 : FVec F S32x16320x81 .f32) (main_v2 : IVec S32x16 32) (main_v137 : FVec F S32x16320x4 .f32) (main_v155 : IVec S32x16320 32) (main_v164 : FVec F S32x16320x4 .f32) (main_v165 : FVec F S32x16320x2 .f32) : IVec S_ 1 :=
  let main_v166 : FVec F S32x16320x2 .f32 := (extractStridedSlice S32x16320x2 ![0, 0, 2] · slices_S32x16320x4_S32x16320x2_0_0_2) main_v137
  let main_v167 : FVec F S32x16320x2 .f32 := addf main_v165 main_v166
  let main_cst_24 : FVec F S_ .f32 := constant S_ .f32 0x40000000#32
  let main_v168 : FVec F S32x16320x2 .f32 := broadcastInDim S32x16320x2 ![] bcast_S_S32x16320x2 main_cst_24
  let main_v169 : FVec F S32x16320x2 .f32 := Host.divf main_v167 main_v168
  let main_v170 : FVec F S32x16320x2 .f32 := (extractStridedSlice S32x16320x2 ![0, 0, 0] · slices_S32x16320x4_S32x16320x2_0_0_0) main_v164
  let main_v171 : FVec F S32x16320x2 .f32 := subf main_v169 main_v170
  let main_v172 : FVec F S32x16320x2 .f32 := (extractStridedSlice S32x16320x2 ![0, 0, 2] · slices_S32x16320x4_S32x16320x2_0_0_2) main_v164
  let main_cst_25 : FVec F S_ .f32 := constant S_ .f32 0x3DCCCCCD#32
  let main_v173 : FVec F S32x16320x2 .f32 := broadcastInDim S32x16320x2 ![] bcast_S_S32x16320x2 main_cst_25
  let main_v174 : FVec F S32x16320x2 .f32 := mulf main_v173 main_v172
  let main_v175 : FVec F S32x16320x2 .f32 := Host.divf main_v171 main_v174
  let main_v176 : FVec F S32x16320x2 .f32 := (extractStridedSlice S32x16320x2 ![0, 0, 2] · slices_S32x16320x4_S32x16320x2_0_0_2) main_v137
  let main_v177 : FVec F S32x16320x2 .f32 := (extractStridedSlice S32x16320x2 ![0, 0, 0] · slices_S32x16320x4_S32x16320x2_0_0_0) main_v137
  let main_v178 : FVec F S32x16320x2 .f32 := subf main_v176 main_v177
  let main_v179 : FVec F S32x16320x2 .f32 := (extractStridedSlice S32x16320x2 ![0, 0, 2] · slices_S32x16320x4_S32x16320x2_0_0_2) main_v164
  let main_v180 : FVec F S32x16320x2 .f32 := Host.divf main_v178 main_v179
  let main_v181 : FVec F S32x16320x2 .f32 := Host.log main_v180
  let main_cst_26 : FVec F S_ .f32 := constant S_ .f32 0x3E4CCCCD#32
  let main_v182 : FVec F S32x16320x2 .f32 := broadcastInDim S32x16320x2 ![] bcast_S_S32x16320x2 main_cst_26
  let main_v183 : FVec F S32x16320x2 .f32 := Host.divf main_v181 main_v182
  let main_v184 : FVec F S32x16320x4 .f32 := (fun a b => concatenate S32x16320x4 2 [⟨S32x16320x2, a⟩, ⟨S32x16320x2, b⟩] concatenates_S32x16320x2_S32x16320x2_S32x16320x4_d2) main_v175 main_v183
  let main_cst_27 : FVec F S_ .f32 := constant S_ .f32 0xFF800000#32
  let main_v185 : FVec F S32x16320 .f32 := (fun x v => Host.reduce FloatOps.maximumf x v reducesTo_S32x16320x2_S32x16320_d2 h_S_) main_arg1 main_cst_27
  fn_part9 (F := F) main_arg1 main_arg3 main_v2 main_v155 main_v185

def fn_part7 {F : FTy → Type} [FloatOps F] (main_arg1 : FVec F S32x16320x2 .f32) (main_arg3 : FVec F S32x16320x81 .f32) (main_v2 : IVec S32x16 32) (main_v6 : IVec S32x16 32) (main_v32 : FVec F S32x16320x4 .f32) (main_v104 : FVec F S32x16320 .f32) (main_v122 : IVec S32x16320 32) (main_v137 : FVec F S32x16320x4 .f32) (main_v142 : IVec S32x1 32) (main_v144 : IVec S32x16320 1) (main_c_20 : IVec S_ 32) : IVec S_ 1 :=
  let main_v145 : IVec S32x16320 32 := broadcastInDim S32x16320 ![] bcast_S_S32x16320 main_c_20
  let main_v146 : IVec S32x16320 32 := addi main_v122 main_v145
  let main_v147 : IVec S32x16320 32 := select main_v144 main_v146 main_v122
  let main_v148 : IVec S32x16320 32 := broadcastInDim S32x16320 ![0, 1] bcast_S32x1_S32x16320_0_1 main_v142
  let main_v149 : IVec S32x16320x1 32 := broadcastInDim S32x16320x1 ![0, 1] bcast_S32x16320_S32x16320x1_0_1 main_v148
  let main_v150 : IVec S32x16320x1 32 := broadcastInDim S32x16320x1 ![0, 1] bcast_S32x16320_S32x16320x1_0_1 main_v147
  let main_v151 : IVec S32x16320x2 32 := (fun a b => concatenate S32x16320x2 2 [⟨S32x16320x1, a⟩, ⟨S32x16320x1, b⟩] concatenates_S32x16320x1_S32x16320x1_S32x16320x2_d2) main_v149 main_v150
  let main_v152 : IVec S32x16320 32 := (fun x i => Host.gather gather_S32x16_S32x16320x2_S32x16320_n_01_n_n_01_2_11 x i) main_v6 main_v151
  let main_cst_21 : FVec F S_ .f32 := constant S_ .f32 0x3F000000#32
  let main_v153 : FVec F S32x16320 .f32 := broadcastInDim S32x16320 ![] bcast_S_S32x16320 main_cst_21
  let main_v154 : IVec S32x16320 1 := cmpf .olt main_v104 main_v153
  let main_c_22 : IVec S_ 32 := constantI S_ 32 0#32
  let main_v155 : IVec S32x16320 32 := fn_where (F := F) main_v154 main_c_22 main_v152
  let main_v156 : FVec F S32x16320x2 .f32 := (extractStridedSlice S32x16320x2 ![0, 0, 2] · slices_S32x16320x4_S32x16320x2_0_0_2) main_v32
  let main_v157 : FVec F S32x16320x2 .f32 := (extractStridedSlice S32x16320x2 ![0, 0, 0] · slices_S32x16320x4_S32x16320x2_0_0_0) main_v32
  let main_v158 : FVec F S32x16320x2 .f32 := addf main_v156 main_v157
  let main_cst_23 : FVec F S_ .f32 := constant S_ .f32 0x40000000#32
  let main_v159 : FVec F S32x16320x2 .f32 := broadcastInDim S32x16320x2 ![] bcast_S_S32x16320x2 main_cst_23
  let main_v160 : FVec F S32x16320x2 .f32 := Host.divf main_v158 main_v159
  let main_v161 : FVec F S32x16320x2 .f32 := (extractStridedSlice S32x16320x2 ![0, 0, 2] · slices_S32x16320x4_S32x16320x2_0_0_2) main_v32
  let main_v162 : FVec F S32x16320x2 .f32 := (extractStridedSlice S32x16320x2 ![0, 0, 0] · slices_S32x16320x4_S32x16320x2_0_0_0) main_v32
  let main_v163 : FVec F S32x16320x2 .f32 := subf main_v161 main_v162
  let main_v164 : FVec F S32x16320x4 .f32 := (fun a b => concatenate S32x16320x4 2 [⟨S32x16320x2, a⟩, ⟨S32x16320x2, b⟩] concatenates_S32x16320x2_S32x16320x2_S32x16320x4_d2) main_v160 main_v163
  let main_v165 : FVec F S32x16320x2 .f32 := (extractStridedSlice S32x16320x2 ![0, 0, 0] · slices_S32x16320x4_S32x16320x2_0_0_0) main_v137
  fn_part8 (F := F) main_arg1 main_arg3 main_v2 main_v137 main_v155 main_v164 main_v165

def fn_part6 {F : FTy → Type} [FloatOps F] (main_arg1 : FVec F S32x16320x2 .f32) (main_arg3 : FVec F S32x16320x81 .f32) (main_v2 : IVec S32x16 32) (main_v3 : FVec F S32x16x4 .f32) (main_v6 : IVec S32x16 32) (main_v32 : FVec F S32x16320x4 .f32) (main_v88 : IVec S32x1 32) (main_v104 : FVec F S32x16320 .f32) (main_v122 : IVec S32x16320 32) (main_v124 : IVec S32x1 1) (main_v126 : IVec S32x1 32) : IVec S_ 1 :=
  let main_v127 : IVec S32x1 32 := select main_v124 main_v126 main_v88
  let main_c_15 : IVec S_ 32 := constantI S_ 32 0#32
  let main_v128 : IVec S32x16320 32 := broadcastInDim S32x16320 ![] bcast_S_S32x16320 main_c_15
  let main_v129 : IVec S32x16320 1 := cmpi .slt main_v122 main_v128
  let main_c_16 : IVec S_ 32 := constantI S_ 32 16#32
  let main_v130 : IVec S32x16320 32 := broadcastInDim S32x16320 ![] bcast_S_S32x16320 main_c_16
  let main_v131 : IVec S32x16320 32 := addi main_v122 main_v130
  let main_v132 : IVec S32x16320 32 := select main_v129 main_v131 main_v122
  let main_v133 : IVec S32x16320 32 := broadcastInDim S32x16320 ![0, 1] bcast_S32x1_S32x16320_0_1 main_v127
  let main_v134 : IVec S32x16320x1 32 := broadcastInDim S32x16320x1 ![0, 1] bcast_S32x16320_S32x16320x1_0_1 main_v133
  let main_v135 : IVec S32x16320x1 32 := broadcastInDim S32x16320x1 ![0, 1] bcast_S32x16320_S32x16320x1_0_1 main_v132
  let main_v136 : IVec S32x16320x2 32 := (fun a b => concatenate S32x16320x2 2 [⟨S32x16320x1, a⟩, ⟨S32x16320x1, b⟩] concatenates_S32x16320x1_S32x16320x1_S32x16320x2_d2) main_v134 main_v135
  let main_v137 : FVec F S32x16320x4 .f32 := (fun x i => Host.gather gather_S32x16x4_S32x16320x2_S32x16320x4_2_01_n_n_01_2_114 x i) main_v3 main_v136
  let main_c_17 : IVec S_ 32 := constantI S_ 32 0#32
  let main_v138 : IVec S32x1 32 := broadcastInDim S32x1 ![] bcast_S_S32x1 main_c_17
  let main_v139 : IVec S32x1 1 := cmpi .slt main_v88 main_v138
  let main_c_18 : IVec S_ 32 := constantI S_ 32 32#32
  let main_v140 : IVec S32x1 32 := broadcastInDim S32x1 ![] bcast_S_S32x1 main_c_18
  let main_v141 : IVec S32x1 32 := addi main_v88 main_v140
  let main_v142 : IVec S32x1 32 := select main_v139 main_v141 main_v88
  let main_c_19 : IVec S_ 32 := constantI S_ 32 0#32
  let main_v143 : IVec S32x16320 32 := broadcastInDim S32x16320 ![] bcast_S_S32x16320 main_c_19
  let main_v144 : IVec S32x16320 1 := cmpi .slt main_v122 main_v143
  let main_c_20 : IVec S_ 32 := constantI S_ 32 16#32
  fn_part7 (F := F) main_arg1 main_arg3 main_v2 main_v6 main_v32 main_v104 main_v122 main_v137 main_v142 main_v144 main_c_20

def fn_part5 {F : FTy → Type} [FloatOps F] (main_arg1 : FVec F S32x16320x2 .f32) (main_arg3 : FVec F S32x16320x81 .f32) (main_v2 : IVec S32x16 32) (main_v3 : FVec F S32x16x4 .f32) (main_v6 : IVec S32x16 32) (main_v32 : FVec F S32x16320x4 .f32) (main_v84 : IVec S32x16 32) (main_v86 : IVec S32x16320 32) (main_v88 : IVec S32x1 32) (main_v104 : FVec F S32x16320 .f32) (main_v106 : IVec S1x16 32) (main_v107 : IVec S32x1 32) : IVec S_ 1 :=
  let main_v108 : IVec S32x1 1 := cmpi .slt main_v88 main_v107
  let main_c_10 : IVec S_ 32 := constantI S_ 32 32#32
  let main_v109 : IVec S32x1 32 := broadcastInDim S32x1 ![] bcast_S_S32x1 main_c_10
  let main_v110 : IVec S32x1 32 := addi main_v88 main_v109
  let main_v111 : IVec S32x1 32 := select main_v108 main_v110 main_v88
  let main_c_11 : IVec S_ 32 := constantI S_ 32 0#32
  let main_v112 : IVec S32x16 32 := broadcastInDim S32x16 ![] bcast_S_S32x16 main_c_11
  let main_v113 : IVec S32x16 1 := cmpi .slt main_v84 main_v112
  let main_c_12 : IVec S_ 32 := constantI S_ 32 16320#32
  let main_v114 : IVec S32x16 32 := broadcastInDim S32x16 ![] bcast_S_S32x16 main_c_12
  let main_v115 : IVec S32x16 32 := addi main_v84 main_v114
  let main_v116 : IVec S32x16 32 := select main_v113 main_v115 main_v84
  let main_v117 : IVec S32x16 32 := broadcastInDim S32x16 ![0, 1] bcast_S32x1_S32x16_0_1 main_v111
  let main_v118 : IVec S32x16x1 32 := broadcastInDim S32x16x1 ![0, 1] bcast_S32x16_S32x16x1_0_1 main_v117
  let main_v119 : IVec S32x16x1 32 := broadcastInDim S32x16x1 ![0, 1] bcast_S32x16_S32x16x1_0_1 main_v116
  let main_v120 : IVec S32x16x2 32 := (fun a b => concatenate S32x16x2 2 [⟨S32x16x1, a⟩, ⟨S32x16x1, b⟩] concatenates_S32x16x1_S32x16x1_S32x16x2_d2) main_v118 main_v119
  let main_v121 : IVec S32x16 32 := broadcastInDim S32x16 ![0, 1] bcast_S1x16_S32x16_0_1 main_v106
  let main_v122 : IVec S32x16320 32 := (fun x i u => Host.scatter scatter_S32x16320_S32x16x2_S32x16_n_01_01_2 (fun _ b => b) x i u) main_v86 main_v120 main_v121
  let main_c_13 : IVec S_ 32 := constantI S_ 32 0#32
  let main_v123 : IVec S32x1 32 := broadcastInDim S32x1 ![] bcast_S_S32x1 main_c_13
  let main_v124 : IVec S32x1 1 := cmpi .slt main_v88 main_v123
  let main_c_14 : IVec S_ 32 := constantI S_ 32 32#32
  let main_v125 : IVec S32x1 32 := broadcastInDim S32x1 ![] bcast_S_S32x1 main_c_14
  let main_v126 : IVec S32x1 32 := addi main_v88 main_v125
  fn_part6 (F := F) main_arg1 main_arg3 main_v2 main_v3 main_v6 main_v32 main_v88 main_v104 main_v122 main_v124 main_v126

def fn_part4 {F : FTy → Type} [FloatOps F] (main_arg1 : FVec F S32x16320x2 .f32) (main_arg3 : FVec F S32x16320x81 .f32) (main_v2 : IVec S32x16 32) (main_v3 : FVec F S32x16x4 .f32) (main_v6 : IVec S32x16 32) (main_v32 : FVec F S32x16320x4 .f32) (main_v84 : IVec S32x16 32) (main_v85 : FVec F S32x16320 .f32) (main_v86 : IVec S32x16320 32) (main_v88 : IVec S32x1 32) (main_c : IVec S_ 32) : IVec S_ 1 :=
  let main_v89 : IVec S32x1 32 := broadcastInDim S32x1 ![] bcast_S_S32x1 main_c
  let main_v90 : IVec S32x1 1 := cmpi .slt main_v88 main_v89
  let main_c_5 : IVec S_ 32 := constantI S_ 32 32#32
  let main_v91 : IVec S32x1 32 := broadcastInDim S32x1 ![] bcast_S_S32x1 main_c_5
  let main_v92 : IVec S32x1 32 := addi main_v88 main_v91
  let main_v93 : IVec S32x1 32 := select main_v90 main_v92 main_v88
  let main_c_6 : IVec S_ 32 := constantI S_ 32 0#32
  let main_v94 : IVec S32x16 32 := broadcastInDim S32x16 ![] bcast_S_S32x16 main_c_6
  let main_v95 : IVec S32x16 1 := cmpi .slt main_v84 main_v94
  let main_c_7 : IVec S_ 32 := constantI S_ 32 16320#32
  let main_v96 : IVec S32x16 32 := broadcastInDim S32x16 ![] bcast_S_S32x16 main_c_7
  let main_v97 : IVec S32x16 32 := addi main_v84 main_v96
  let main_v98 : IVec S32x16 32 := select main_v95 main_v97 main_v84
  let main_v99 : IVec S32x16 32 := broadcastInDim S32x16 ![0, 1] bcast_S32x1_S32x16_0_1 main_v93
  let main_v100 : IVec S32x16x1 32 := broadcastInDim S32x16x1 ![0, 1] bcast_S32x16_S32x16x1_0_1 main_v99
  let main_v101 : IVec S32x16x1 32 := broadcastInDim S32x16x1 ![0, 1] bcast_S32x16_S32x16x1_0_1 main_v98
  let main_v102 : IVec S32x16x2 32 := (fun a b => concatenate S32x16x2 2 [⟨S32x16x1, a⟩, ⟨S32x16x1, b⟩] concatenates_S32x16x1_S32x16x1_S32x16x2_d2) main_v100 main_v101
  let main_cst_8 : FVec F S_ .f32 := constant S_ .f32 0x40000000#32
  let main_v103 : FVec F S32x16 .f32 := broadcastInDim S32x16 ![] bcast_S_S32x16 main_cst_8
  let main_v104 : FVec F S32x16320 .f32 := (fun x i u => Host.scatter scatter_S32x16320_S32x16x2_S32x16_n_01_01_2 (fun _ b => b) x i u) main_v85 main_v102 main_v103
  let main_v105 : IVec S16 32 := iotaInDim S16 32 0
  let main_v106 : IVec S1x16 32 := broadcastInDim S1x16 ![1] bcast_S16_S1x16_1 main_v105
  let main_c_9 : IVec S_ 32 := constantI S_ 32 0#32
  let main_v107 : IVec S32x1 32 := broadcastInDim S32x1 ![] bcast_S_S32x1 main_c_9
  fn_part5 (F := F) main_arg1 main_arg3 main_v2 main_v3 main_v6 main_v32 main_v84 main_v86 main_v88 main_v104 main_v106 main_v107

def fn_part3 {F : FTy → Type} [FloatOps F] (main_arg1 : FVec F S32x16320x2 .f32) (main_arg3 : FVec F S32x16320x81 .f32) (main_v2 : IVec S32x16 32) (main_v3 : FVec F S32x16x4 .f32) (main_v6 : IVec S32x16 32) (main_v32 : FVec F S32x16320x4 .f32) (main_v54 : FVec F S32x16x16320 .f32) (main_v66 : FVec F S32x16x1 .f32) : IVec S_ 1 :=
  let main_v67 : FVec F S32x16320x1 .f32 := (extractStridedSlice S32x16320x1 ![0, 0, 2] · slices_S32x16320x4_S32x16320x1_0_0_2) main_v32
  let main_v68 : FVec F S32x16320 .f32 := shapeCast S32x16320 main_v67 shapeCasts_S32x16320x1_S32x16320
  let main_v69 : FVec F S32x16320x1 .f32 := (extractStridedSlice S32x16320x1 ![0, 0, 0] · slices_S32x16320x4_S32x16320x1_0_0_0) main_v32
  let main_v70 : FVec F S32x16320 .f32 := shapeCast S32x16320 main_v69 shapeCasts_S32x16320x1_S32x16320
  let main_v71 : FVec F S32x16320 .f32 := subf main_v68 main_v70
  let main_v72 : FVec F S32x16320x1 .f32 := (extractStridedSlice S32x16320x1 ![0, 0, 3] · slices_S32x16320x4_S32x16320x1_0_0_3) main_v32
  let main_v73 : FVec F S32x16320 .f32 := shapeCast S32x16320 main_v72 shapeCasts_S32x16320x1_S32x16320
  let main_v74 : FVec F S32x16320x1 .f32 := (extractStridedSlice S32x16320x1 ![0, 0, 1] · slices_S32x16320x4_S32x16320x1_0_0_1) main_v32
  let main_v75 : FVec F S32x16320 .f32 := shapeCast S32x16320 main_v74 shapeCasts_S32x16320x1_S32x16320
  let main_v76 : FVec F S32x16320 .f32 := subf main_v73 main_v75
  let main_v77 : FVec F S32x16320 .f32 := mulf main_v71 main_v76
  let main_v78 : FVec F S32x1x16320 .f32 := broadcastInDim S32x1x16320 ![0, 2] bcast_S32x16320_S32x1x16320_0_2 main_v77
  let main_v79 : FVec F S32x16x16320 .f32 := broadcastInDim S32x16x16320 ![0, 1, 2] bcast_S32x16x1_S32x16x16320_0_1_2 main_v66
  let main_v80 : FVec F S32x16x16320 .f32 := broadcastInDim S32x16x16320 ![0, 1, 2] bcast_S32x1x16320_S32x16x16320_0_1_2 main_v78
  let main_v81 : FVec F S32x16x16320 .f32 := addf main_v79 main_v80
  let main_v82 : FVec F S32x16x16320 .f32 := subf main_v81 main_v54
  let main_v83 : FVec F S32x16x16320 .f32 := Host.divf main_v54 main_v82
  let main_v84 : IVec S32x16 32 := fn_argmax (F := F) main_v83
  let main_cst_4 : FVec F S_ .f32 := constant S_ .f32 0xFF800000#32
  let main_v85 : FVec F S32x16320 .f32 := (fun x v => Host.reduce FloatOps.maximumf x v reducesTo_S32x16x16320_S32x16320_d1 h_S_) main_v83 main_cst_4
  let main_v86 : IVec S32x16320 32 := fn_argmax_0 (F := F) main_v83
  let main_v87 : IVec S32 32 := iotaInDim S32 32 0
  let main_v88 : IVec S32x1 32 := broadcastInDim S32x1 ![0] bcast_S32_S32x1_0 main_v87
  let main_c : IVec S_ 32 := constantI S_ 32 0#32
  fn_part4 (F := F) main_arg1 main_arg3 main_v2 main_v3 main_v6 main_v32 main_v84 main_v85 main_v86 main_v88 main_c

def fn_part2 {F : FTy → Type} [FloatOps F] (main_arg1 : FVec F S32x16320x2 .f32) (main_arg3 : FVec F S32x16320x81 .f32) (main_v2 : IVec S32x16 32) (main_v3 : FVec F S32x16x4 .f32) (main_v6 : IVec S32x16 32) (main_v32 : FVec F S32x16320x4 .f32) (main_v39 : FVec F S32x16x16320x2 .f32) (main_v41 : FVec F S32x16x1x2 .f32) (main_v43 : FVec F S32x1x16320x2 .f32) : IVec S_ 1 :=
  let main_v44 : FVec F S32x16x16320x2 .f32 := broadcastInDim S32x16x16320x2 ![0, 1, 2, 3] bcast_S32x16x1x2_S32x16x16320x2_0_1_2_3 main_v41
  let main_v45 : FVec F S32x16x16320x2 .f32 := broadcastInDim S32x16x16320x2 ![0, 1, 2, 3] bcast_S32x1x16320x2_S32x16x16320x2_0_1_2_3 main_v43
  let main_v46 : FVec F S32x16x16320x2 .f32 := maximumf main_v44 main_v45
  let main_v47 : FVec F S32x16x16320x2 .f32 := subf main_v39 main_v46
  let main_cst_3 : FVec F S_ .f32 := constant S_ .f32 0x00000000#32
  let main_v48 : FVec F S32x16x16320x2 .f32 := broadcastInDim S32x16x16320x2 ![] bcast_S_S32x16x16320x2 main_cst_3
  let main_v49 : FVec F S32x16x16320x2 .f32 := maximumf main_v47 main_v48
  let main_v50 : FVec F S32x16x16320x1 .f32 := (extractStridedSlice S32x16x16320x1 ![0, 0, 0, 0] · slices_S32x16x16320x2_S32x16x16320x1_0_0_0_0) main_v49
  let main_v51 : FVec F S32x16x16320 .f32 := shapeCast S32x16x16320 main_v50 shapeCasts_S32x16x16320x1_S32x16x16320
  let main_v52 : FVec F S32x16x16320x1 .f32 := (extractStridedSlice S32x16x16320x1 ![0, 0, 0, 1] · slices_S32x16x16320x2_S32x16x16320x1_0_0_0_1) main_v49
  let main_v53 : FVec F S32x16x16320 .f32 := shapeCast S32x16x16320 main_v52 shapeCasts_S32x16x16320x1_S32x16x16320
  let main_v54 : FVec F S32x16x16320 .f32 := mulf main_v51 main_v53
  let main_v55 : FVec F S32x16x1 .f32 := (extractStridedSlice S32x16x1 ![0, 0, 2] · slices_S32x16x4_S32x16x1_0_0_2) main_v3
  let main_v56 : FVec F S32x16 .f32 := shapeCast S32x16 main_v55 shapeCasts_S32x16x1_S32x16
  let main_v57 : FVec F S32x16x1 .f32 := (extractStridedSlice S32x16x1 ![0, 0, 0] · slices_S32x16x4_S32x16x1_0_0_0) main_v3
  let main_v58 : FVec F S32x16 .f32 := shapeCast S32x16 main_v57 shapeCasts_S32x16x1_S32x16
  let main_v59 : FVec F S32x16 .f32 := subf main_v56 main_v58
  let main_v60 : FVec F S32x16x1 .f32 := (extractStridedSlice S32x16x1 ![0, 0, 3] · slices_S32x16x4_S32x16x1_0_0_3) main_v3
  let main_v61 : FVec F S32x16 .f32 := shapeCast S32x16 main_v60 shapeCasts_S32x16x1_S32x16
  let main_v62 : FVec F S32x16x1 .f32 := (extractStridedSlice S32x16x1 ![0, 0, 1] · slices_S32x16x4_S32x16x1_0_0_1) main_v3
  let main_v63 : FVec F S32x16 .f32 := shapeCast S32x16 main_v62 shapeCasts_S32x16x1_S32x16
  let main_v64 : FVec F S32x16 .f32 := subf main_v61 main_v63
  let main_v65 : FVec F S32x16 .f32 := mulf main_v59 main_v64
  let main_v66 : FVec F S32x16x1 .f32 := broadcastInDim S32x16x1 ![0, 1] bcast_S32x16_S32x16x1_0_1 main_v65
  fn_part3 (F := F) main_arg1 main_arg3 main_v2 main_v3 main_v6 main_v32 main_v54 main_v66

def fn_part1 {F : FTy → Type} [FloatOps F] (main_arg1 : FVec F S32x16320x2 .f32) (main_arg3 : FVec F S32x16320x81 .f32) (main_v2 : IVec S32x16 32) (main_v3 : FVec F S32x16x4 .f32) (main_v6 : IVec S32x16 32) (main_v17 : FVec F S32x16320x2 .f32) (main_v18 : FVec F S16320x2 .f32) (main_v21 : FVec F S32x16320x2 .f32) : IVec S_ 1 :=
  let main_v22 : FVec F S32x16320x2 .f32 := Host.exp main_v21
  let main_v23 : FVec F S1x16320x2 .f32 := broadcastInDim S1x16320x2 ![1, 2] bcast_S16320x2_S1x16320x2_1_2 main_v18
  let main_v24 : FVec F S32x16320x2 .f32 := broadcastInDim S32x16320x2 ![0, 1, 2] bcast_S1x16320x2_S32x16320x2_0_1_2 main_v23
  let main_v25 : FVec F S32x16320x2 .f32 := mulf main_v24 main_v22
  let main_cst_1 : FVec F S_ .f32 := constant S_ .f32 0x40000000#32
  let main_v26 : FVec F S32x16320x2 .f32 := broadcastInDim S32x16320x2 ![] bcast_S_S32x16320x2 main_cst_1
  let main_v27 : FVec F S32x16320x2 .f32 := Host.divf main_v25 main_v26
  let main_v28 : FVec F S32x16320x2 .f32 := subf main_v17 main_v27
  let main_cst_2 : FVec F S_ .f32 := constant S_ .f32 0x40000000#32
  let main_v29 : FVec F S32x16320x2 .f32 := broadcastInDim S32x16320x2 ![] bcast_S_S32x16320x2 main_cst_2
  let main_v30 : FVec F S32x16320x2 .f32 := Host.divf main_v25 main_v29
  let main_v31 : FVec F S32x16320x2 .f32 := addf main_v17 main_v30
  let main_v32 : FVec F S32x16320x4 .f32 := (fun a b => concatenate S32x16320x4 2 [⟨S32x16320x2, a⟩, ⟨S32x16320x2, b⟩] concatenates_S32x16320x2_S32x16320x2_S32x16320x4_d2) main_v28 main_v31
  let main_v33 : FVec F S32x16x2 .f32 := (extractStridedSlice S32x16x2 ![0, 0, 2] · slices_S32x16x4_S32x16x2_0_0_2) main_v3
  let main_v34 : FVec F S32x16x1x2 .f32 := broadcastInDim S32x16x1x2 ![0, 1, 3] bcast_S32x16x2_S32x16x1x2_0_1_3 main_v33
  let main_v35 : FVec F S32x16320x2 .f32 := (extractStridedSlice S32x16320x2 ![0, 0, 2] · slices_S32x16320x4_S32x16320x2_0_0_2) main_v32
  let main_v36 : FVec F S32x1x16320x2 .f32 := broadcastInDim S32x1x16320x2 ![0, 2, 3] bcast_S32x16320x2_S32x1x16320x2_0_2_3 main_v35
  let main_v37 : FVec F S32x16x16320x2 .f32 := broadcastInDim S32x16x16320x2 ![0, 1, 2, 3] bcast_S32x16x1x2_S32x16x16320x2_0_1_2_3 main_v34
  let main_v38 : FVec F S32x16x16320x2 .f32 := broadcastInDim S32x16x16320x2 ![0, 1, 2, 3] bcast_S32x1x16320x2_S32x16x16320x2_0_1_2_3 main_v36
  let main_v39 : FVec F S32x16x16320x2 .f32 := minimumf main_v37 main_v38
  let main_v40 : FVec F S32x16x2 .f32 := (extractStridedSlice S32x16x2 ![0, 0, 0] · slices_S32x16x4_S32x16x2_0_0_0) main_v3
  let main_v41 : FVec F S32x16x1x2 .f32 := broadcastInDim S32x16x1x2 ![0, 1, 3] bcast_S32x16x2_S32x16x1x2_0_1_3 main_v40
  let main_v42 : FVec F S32x16320x2 .f32 := (extractStridedSlice S32x16320x2 ![0, 0, 0] · slices_S32x16320x4_S32x16320x2_0_0_0) main_v32
  let main_v43 : FVec F S32x1x16320x2 .f32 := broadcastInDim S32x1x16320x2 ![0, 2, 3] bcast_S32x16320x2_S32x1x16320x2_0_2_3 main_v42
  fn_part2 (F := F) main_arg1 main_arg3 main_v2 main_v3 main_v6 main_v32 main_v39 main_v41 main_v43

def fn {F : FTy → Type} [FloatOps F] (main_arg0 : FVec F S32x16320x4 .f32) (main_arg1 : FVec F S32x16320x2 .f32) (main_arg2 : FVec F S32x16320x4 .f32) (main_arg3 : FVec F S32x16320x81 .f32) (main_arg4 : FVec F S16320x4 .f32) (main_arg5 : FVec F S32x16x5 .f32) : IVec S_ 1 :=
  let main_v0 : FVec F S32x16x1 .f32 := (extractStridedSlice S32x16x1 ![0, 0, 4] · slices_S32x16x5_S32x16x1_0_0_4) main_arg5
  let main_v1 : FVec F S32x16 .f32 := shapeCast S32x16 main_v0 shapeCasts_S32x16x1_S32x16
  let main_v2 : IVec S32x16 32 := fptosi 32 main_v1
  let main_v3 : FVec F S32x16x4 .f32 := (extractStridedSlice S32x16x4 ![0, 0, 0] · slices_S32x16x5_S32x16x4_0_0_0) main_arg5
  let main_v4 : FVec F S32x16x1 .f32 := (extractStridedSlice S32x16x1 ![0, 0, 4] · slices_S32x16x5_S32x16x1_0_0_4) main_arg5
  let main_v5 : FVec F S32x16 .f32 := shapeCast S32x16 main_v4 shapeCasts_S32x16x1_S32x16
  let main_v6 : IVec S32x16 32 := fptosi 32 main_v5
  let main_v7 : FVec F S16320x2 .f32 := (extractStridedSlice S16320x2 ![0, 0] · slices_S16320x4_S16320x2_0_0) main_arg4
  let main_v8 : FVec F S32x16320x2 .f32 := (extractStridedSlice S32x16320x2 ![0, 0, 0] · slices_S32x16320x4_S32x16320x2_0_0_0) main_arg0
  let main_cst : FVec F S_ .f32 := constant S_ .f32 0x3DCCCCCD#32
  let main_v9 : FVec F S32x16320x2 .f32 := broadcastInDim S32x16320x2 ![] bcast_S_S32x16320x2 main_cst
  let main_v10 : FVec F S32x16320x2 .f32 := mulf main_v8 main_v9
  let main_v11 : FVec F S16320x2 .f32 := (extractStridedSlice S16320x2 ![0, 2] · slices_S16320x4_S16320x2_0_2) main_arg4
  let main_v12 : FVec F S1x16320x2 .f32 := broadcastInDim S1x16320x2 ![1, 2] bcast_S16320x2_S1x16320x2_1_2 main_v11
  let main_v13 : FVec F S32x16320x2 .f32 := broadcastInDim S32x16320x2 ![0, 1, 2] bcast_S1x16320x2_S32x16320x2_0_1_2 main_v12
  let main_v14 : FVec F S32x16320x2 .f32 := mulf main_v10 main_v13
  let main_v15 : FVec F S1x16320x2 .f32 := broadcastInDim S1x16320x2 ![1, 2] bcast_S16320x2_S1x16320x2_1_2 main_v7
  let main_v16 : FVec F S32x16320x2 .f32 := broadcastInDim S32x16320x2 ![0, 1, 2] bcast_S1x16320x2_S32x16320x2_0_1_2 main_v15
  let main_v17 : FVec F S32x16320x2 .f32 := addf main_v16 main_v14
  let main_v18 : FVec F S16320x2 .f32 := (extractStridedSlice S16320x2 ![0, 2] · slices_S16320x4_S16320x2_0_2) main_arg4
  let main_v19 : FVec F S32x16320x2 .f32 := (extractStridedSlice S32x16320x2 ![0, 0, 2] · slices_S32x16320x4_S32x16320x2_0_0_2) main_arg0
  let main_cst_0 : FVec F S_ .f32 := constant S_ .f32 0x3E4CCCCD#32
  let main_v20 : FVec F S32x16320x2 .f32 := broadcastInDim S32x16320x2 ![] bcast_S_S32x16320x2 main_cst_0
  let main_v21 : FVec F S32x16320x2 .f32 := mulf main_v19 main_v20
  fn_part1 (F := F) main_arg1 main_arg3 main_v2 main_v3 main_v6 main_v17 main_v18 main_v21
-- ==== Pre_labels_in_range.lean ====
abbrev S32x16320x4 : Shape := ⟨3, ![32, 16320, 4]⟩
abbrev S32x16320x2 : Shape := ⟨3, ![32, 16320, 2]⟩
abbrev S32x16320x81 : Shape := ⟨3, ![32, 16320, 81]⟩
abbrev S16320x4 : Shape := ⟨2, ![16320, 4]⟩
abbrev S32x16x5 : Shape := ⟨3, ![32, 16, 5]⟩
abbrev S32x16x1 : Shape := ⟨3, ![32, 16, 1]⟩
abbrev S32x16 : Shape := ⟨2, ![32, 16]⟩
abbrev S_ : Shape := ⟨0, ![]⟩

class Facts : Prop where
  slices_S32x16x5_S32x16x1_0_0_4 : S32x16x5.Slices ![0, 0, 4] S32x16x1
  shapeCasts_S32x16x1_S32x16 : S32x16x1.ShapeCasts S32x16
  bcast_S_S32x16 : S_.BroadcastsInDim S32x16 (![] : Fin 0 → Fin S32x16.rank)
  reducesTo_S32x16_S_d0_1 : S32x16.ReducesTo [0, 1] S_
  h_S_ : 0 < S_.numel

variable [Facts]

def fn {F : FTy → Type} [FloatOps F] (main_arg0 : FVec F S32x16320x4 .f32) (main_arg1 : FVec F S32x16320x2 .f32) (main_arg2 : FVec F S32x16320x4 .f32) (main_arg3 : FVec F S32x16320x81 .f32) (main_arg4 : FVec F S16320x4 .f32) (main_arg5 : FVec F S32x16x5 .f32) : IVec S_ 1 :=
  let main_v0 : FVec F S32x16x1 .f32 := (extractStridedSlice S32x16x1 ![0, 0, 4] · slices_S32x16x5_S32x16x1_0_0_4) main_arg5
  let main_v1 : FVec F S32x16 .f32 := shapeCast S32x16 main_v0 shapeCasts_S32x16x1_S32x16
  let main_v2 : IVec S32x16 32 := fptosi 32 main_v1
  let main_c : IVec S_ 32 := constantI S_ 32 81#32
  let main_v3 : IVec S32x16 32 := broadcastInDim S32x16 ![] bcast_S_S32x16 main_c
  let main_v4 : IVec S32x16 1 := cmpi .slt main_v2 main_v3
  let main_c_0 : IVec S_ 1 := constantI S_ 1 1#1
  let main_v5 : IVec S_ 1 := (fun x v => Host.reduce IntOp.andi x v reducesTo_S32x16_S_d0_1 h_S_) main_v4 main_c_0
  main_v5
-- ==== Kernel.lean ====
abbrev S32x16320x4 : Shape := ⟨3, ![32, 16320, 4]⟩
abbrev S32x16320x2 : Shape := ⟨3, ![32, 16320, 2]⟩
abbrev S32x16320x81 : Shape := ⟨3, ![32, 16320, 81]⟩
abbrev S16320x4 : Shape := ⟨2, ![16320, 4]⟩
abbrev S32x16x5 : Shape := ⟨3, ![32, 16, 5]⟩
abbrev S32x4x16320 : Shape := ⟨3, ![32, 4, 16320]⟩
abbrev S32x4x8x2040 : Shape := ⟨4, ![32, 4, 8, 2040]⟩
abbrev S32x2x16320 : Shape := ⟨3, ![32, 2, 16320]⟩
abbrev S32x2x8x2040 : Shape := ⟨4, ![32, 2, 8, 2040]⟩
abbrev S32x81x16320 : Shape := ⟨3, ![32, 81, 16320]⟩
abbrev S32x81x8x2040 : Shape := ⟨4, ![32, 81, 8, 2040]⟩
abbrev S4x16320 : Shape := ⟨2, ![4, 16320]⟩
abbrev S4x8x2040 : Shape := ⟨3, ![4, 8, 2040]⟩
abbrev S32x16x4 : Shape := ⟨3, ![32, 16, 4]⟩
abbrev S32x16x1 : Shape := ⟨3, ![32, 16, 1]⟩
abbrev S32x16 : Shape := ⟨2, ![32, 16]⟩
abbrev S32x1x16 : Shape := ⟨3, ![32, 1, 16]⟩
abbrev S32x1x128 : Shape := ⟨3, ![32, 1, 128]⟩
abbrev S1x16x4 : Shape := ⟨3, ![1, 16, 4]⟩
abbrev S1x1x16 : Shape := ⟨3, ![1, 1, 16]⟩
abbrev S1x81x8x2040 : Shape := ⟨4, ![1, 81, 8, 2040]⟩
abbrev S1x4x8x2040 : Shape := ⟨4, ![1, 4, 8, 2040]⟩
abbrev S1x2x8x2040 : Shape := ⟨4, ![1, 2, 8, 2040]⟩
abbrev S1x1x128 : Shape := ⟨3, ![1, 1, 128]⟩
abbrev S1x8x2040 : Shape := ⟨3, ![1, 8, 2040]⟩
abbrev S8x2040 : Shape := ⟨2, ![8, 2040]⟩
abbrev S1x1x1 : Shape := ⟨3, ![1, 1, 1]⟩
abbrev S1 : Shape := ⟨1, ![1]⟩
abbrev S2x8x2040 : Shape := ⟨3, ![2, 8, 2040]⟩
abbrev S1x1x8x2040 : Shape := ⟨4, ![1, 1, 8, 2040]⟩
abbrev S1x128 : Shape := ⟨2, ![1, 128]⟩
abbrev S32x128 : Shape := ⟨2, ![32, 128]⟩
abbrev S32x1 : Shape := ⟨2, ![32, 1]⟩
abbrev S32 : Shape := ⟨1, ![32]⟩
abbrev S_ : Shape := ⟨0, ![]⟩

abbrev nBuf : Space → Nat
  | .hbm => 35
  | .vmem => 15
  | .smem => 0
  | _ => 0

abbrev bufTy : (tb : Table) → Fin (tcTables nBuf tb) → BufTy
  | .hbm, ⟨0, _⟩ => ⟨S32x16320x4, .f32⟩
  | .hbm, ⟨1, _⟩ => ⟨S32x16320x2, .f32⟩
  | .hbm, ⟨2, _⟩ => ⟨S32x16320x4, .f32⟩
  | .hbm, ⟨3, _⟩ => ⟨S32x16320x81, .f32⟩
  | .hbm, ⟨4, _⟩ => ⟨S16320x4, .f32⟩
  | .hbm, ⟨5, _⟩ => ⟨S32x16x5, .f32⟩
  | .hbm, ⟨6, _⟩ => ⟨S32x4x16320, .f32⟩
  | .hbm, ⟨7, _⟩ => ⟨S32x4x8x2040, .f32⟩
  | .hbm, ⟨8, _⟩ => ⟨S32x4x16320, .f32⟩
  | .hbm, ⟨9, _⟩ => ⟨S32x4x8x2040, .f32⟩
  | .hbm, ⟨10, _⟩ => ⟨S32x2x16320, .f32⟩
  | .hbm, ⟨11, _⟩ => ⟨S32x2x8x2040, .f32⟩
  | .hbm, ⟨12, _⟩ => ⟨S32x81x16320, .f32⟩
  | .hbm, ⟨13, _⟩ => ⟨S32x81x8x2040, .f32⟩
  | .hbm, ⟨14, _⟩ => ⟨S4x16320, .f32⟩
  | .hbm, ⟨15, _⟩ => ⟨S4x8x2040, .f32⟩
  | .hbm, ⟨16, _⟩ => ⟨S32x16x4, .f32⟩
  | .hbm, ⟨17, _⟩ => ⟨S32x16x1, .f32⟩
  | .hbm, ⟨18, _⟩ => ⟨S32x16, .f32⟩
  | .hbm, ⟨19, _⟩ => ⟨S32x16, .i32⟩
  | .hbm, ⟨20, _⟩ => ⟨S32x1x16, .i32⟩
  | .hbm, ⟨21, _⟩ => ⟨S32x1x128, .f32⟩
  | .hbm, ⟨22, _⟩ => ⟨S32x128, .f32⟩
  | .hbm, ⟨23, _⟩ => ⟨S32x1, .f32⟩
  | .hbm, ⟨24, _⟩ => ⟨S32, .f32⟩
  | .hbm, ⟨25, _⟩ => ⟨S_, .f32⟩
  | .hbm, ⟨26, _⟩ => ⟨S_, .f32⟩
  | .hbm, ⟨27, _⟩ => ⟨S32x1, .f32⟩
  | .hbm, ⟨28, _⟩ => ⟨S32, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .local _ .vmem, ⟨0, _⟩ => ⟨S1x16x4, .f32⟩
  | .local _ .vmem, ⟨1, _⟩ => ⟨S1x16x4, .f32⟩
  | .local _ .vmem, ⟨2, _⟩ => ⟨S1x1x16, .i32⟩
  | .local _ .vmem, ⟨3, _⟩ => ⟨S1x1x16, .i32⟩
  | .local _ .vmem, ⟨4, _⟩ => ⟨S1x81x8x2040, .f32⟩
  | .local _ .vmem, ⟨5, _⟩ => ⟨S1x81x8x2040, .f32⟩
  | .local _ .vmem, ⟨6, _⟩ => ⟨S1x4x8x2040, .f32⟩
  | .local _ .vmem, ⟨7, _⟩ => ⟨S1x4x8x2040, .f32⟩
  | .local _ .vmem, ⟨8, _⟩ => ⟨S1x4x8x2040, .f32⟩
  | .local _ .vmem, ⟨9, _⟩ => ⟨S1x4x8x2040, .f32⟩
  | .local _ .vmem, ⟨10, _⟩ => ⟨S1x2x8x2040, .f32⟩
  | .local _ .vmem, ⟨11, _⟩ => ⟨S1x2x8x2040, .f32⟩
  | .local _ .vmem, ⟨12, _⟩ => ⟨S4x8x2040, .f32⟩
  | .local _ .vmem, ⟨13, _⟩ => ⟨S1x1x128, .f32⟩
  | .local _ .vmem, ⟨14, _⟩ => ⟨S1x1x128, .f32⟩
  | _, _ => ⟨S32x16320x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_0 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_1091 : BitVec 32 := 0#32
  let c31_i32_1092 : BitVec 32 := 31#32
  let v2218 : BitVec 32 := Scalar.addi c0_i32_1091 c31_i32_1092
  let c1_i32_1093 : BitVec 32 := 1#32
  ⟨c0_i32_1091, v2218, c1_i32_1093⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x16 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x81x8x2040 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x8x2040 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x8x2040 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2x8x2040 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x8x2040 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S32x16320x4 : Shape := ⟨3, ![32, 16320, 4]⟩
abbrev S32x16320x2 : Shape := ⟨3, ![32, 16320, 2]⟩
abbrev S32x16320x81 : Shape := ⟨3, ![32, 16320, 81]⟩
abbrev S16320x4 : Shape := ⟨2, ![16320, 4]⟩
abbrev S32x16x5 : Shape := ⟨3, ![32, 16, 5]⟩
abbrev S32x16x4 : Shape := ⟨3, ![32, 16, 4]⟩
abbrev S32x16x1 : Shape := ⟨3, ![32, 16, 1]⟩
abbrev S32x16 : Shape := ⟨2, ![32, 16]⟩
abbrev S16320x2 : Shape := ⟨2, ![16320, 2]⟩
abbrev S_ : Shape := ⟨0, ![]⟩
abbrev S1x16320x2 : Shape := ⟨3, ![1, 16320, 2]⟩
abbrev S32x16x2 : Shape := ⟨3, ![32, 16, 2]⟩
abbrev S32x16x1x2 : Shape := ⟨4, ![32, 16, 1, 2]⟩
abbrev S32x1x16320x2 : Shape := ⟨4, ![32, 1, 16320, 2]⟩
abbrev S32x16x16320x2 : Shape := ⟨4, ![32, 16, 16320, 2]⟩
abbrev S32x16x16320x1 : Shape := ⟨4, ![32, 16, 16320, 1]⟩
abbrev S32x16x16320 : Shape := ⟨3, ![32, 16, 16320]⟩
abbrev S32x16320x1 : Shape := ⟨3, ![32, 16320, 1]⟩
abbrev S32x16320 : Shape := ⟨2, ![32, 16320]⟩
abbrev S32x1x16320 : Shape := ⟨3, ![32, 1, 16320]⟩
abbrev S32 : Shape := ⟨1, ![32]⟩
abbrev S32x1 : Shape := ⟨2, ![32, 1]⟩
abbrev S16 : Shape := ⟨1, ![16]⟩
abbrev S1x16 : Shape := ⟨2, ![1, 16]⟩

abbrev nBuf : Space → Nat
  | .hbm => 280
  | .vmem => 0
  | .smem => 0
  | _ => 0

abbrev hbmTy0_0 (i : Nat) : BufTy := match i % 128 with
  | 0 => ⟨S32x16320x4, .f32⟩
  | 1 => ⟨S32x16320x2, .f32⟩
  | 2 => ⟨S32x16320x4, .f32⟩
  | 3 => ⟨S32x16320x81, .f32⟩
  | 4 => ⟨S16320x4, .f32⟩
  | 5 => ⟨S32x16x5, .f32⟩
  | 6 => ⟨S32x16x4, .f32⟩
  | 7 => ⟨S32x16x1, .f32⟩
  | 8 => ⟨S32x16, .f32⟩
  | 9 => ⟨S32x16, .i32⟩
  | 10 => ⟨S16320x2, .f32⟩
  | 11 => ⟨S32x16320x2, .f32⟩
  | 12 => ⟨S_, .f32⟩
  | 13 => ⟨S32x16320x2, .f32⟩
  | 14 => ⟨S32x16320x2, .f32⟩
  | 15 => ⟨S16320x2, .f32⟩
  | 16 => ⟨S1x16320x2, .f32⟩
  | 17 => ⟨S32x16320x2, .f32⟩
  | 18 => ⟨S32x16320x2, .f32⟩
  | 19 => ⟨S1x16320x2, .f32⟩
  | 20 => ⟨S32x16320x2, .f32⟩
  | 21 => ⟨S32x16320x2, .f32⟩
  | 22 => ⟨S16320x2, .f32⟩
  | 23 => ⟨S32x16320x2, .f32⟩
  | 24 => ⟨S_, .f32⟩
  | 25 => ⟨S32x16320x2, .f32⟩
  | 26 => ⟨S32x16320x2, .f32⟩
  | 27 => ⟨S32x16320x2, .f32⟩
  | 28 => ⟨S1x16320x2, .f32⟩
  | 29 => ⟨S32x16320x2, .f32⟩
  | 30 => ⟨S32x16320x2, .f32⟩
  | 31 => ⟨S_, .f32⟩
  | 32 => ⟨S32x16320x2, .f32⟩
  | 33 => ⟨S32x16320x2, .f32⟩
  | 34 => ⟨S32x16320x2, .f32⟩
  | 35 => ⟨S_, .f32⟩
  | 36 => ⟨S32x16320x2, .f32⟩
  | 37 => ⟨S32x16320x2, .f32⟩
  | 38 => ⟨S32x16320x2, .f32⟩
  | 39 => ⟨S32x16320x4, .f32⟩
  | 40 => ⟨S32x16x2, .f32⟩
  | 41 => ⟨S32x16x1x2, .f32⟩
  | 42 => ⟨S32x16320x2, .f32⟩
  | 43 => ⟨S32x1x16320x2, .f32⟩
  | 44 => ⟨S32x16x16320x2, .f32⟩
  | 45 => ⟨S32x16x16320x2, .f32⟩
  | 46 => ⟨S32x16x16320x2, .f32⟩
  | 47 => ⟨S32x16x2, .f32⟩
  | 48 => ⟨S32x16x1x2, .f32⟩
  | 49 => ⟨S32x16320x2, .f32⟩
  | 50 => ⟨S32x1x16320x2, .f32⟩
  | 51 => ⟨S32x16x16320x2, .f32⟩
  | 52 => ⟨S32x16x16320x2, .f32⟩
  | 53 => ⟨S32x16x16320x2, .f32⟩
  | 54 => ⟨S32x16x16320x2, .f32⟩
  | 55 => ⟨S_, .f32⟩
  | 56 => ⟨S32x16x16320x2, .f32⟩
  | 57 => ⟨S32x16x16320x2, .f32⟩
  | 58 => ⟨S32x16x16320x1, .f32⟩
  | 59 => ⟨S32x16x16320, .f32⟩
  | 60 => ⟨S32x16x16320x1, .f32⟩
  | 61 => ⟨S32x16x16320, .f32⟩
  | 62 => ⟨S32x16x16320, .f32⟩
  | 63 => ⟨S32x16x1, .f32⟩
  | 64 => ⟨S32x16, .f32⟩
  | 65 => ⟨S32x16x1, .f32⟩
  | 66 => ⟨S32x16, .f32⟩
  | 67 => ⟨S32x16, .f32⟩
  | 68 => ⟨S32x16x1, .f32⟩
  | 69 => ⟨S32x16, .f32⟩
  | 70 => ⟨S32x16x1, .f32⟩
  | 71 => ⟨S32x16, .f32⟩
  | 72 => ⟨S32x16, .f32⟩
  | 73 => ⟨S32x16, .f32⟩
  | 74 => ⟨S32x16x1, .f32⟩
  | 75 => ⟨S32x16320x1, .f32⟩
  | 76 => ⟨S32x16320, .f32⟩
  | 77 => ⟨S32x16320x1, .f32⟩
  | 78 => ⟨S32x16320, .f32⟩
  | 79 => ⟨S32x16320, .f32⟩
  | 80 => ⟨S32x16320x1, .f32⟩
  | 81 => ⟨S32x16320, .f32⟩
  | 82 => ⟨S32x16320x1, .f32⟩
  | 83 => ⟨S32x16320, .f32⟩
  | 84 => ⟨S32x16320, .f32⟩
  | 85 => ⟨S32x16320, .f32⟩
  | 86 => ⟨S32x1x16320, .f32⟩
  | 87 => ⟨S32x16x16320, .f32⟩
  | 88 => ⟨S32x16x16320, .f32⟩
  | 89 => ⟨S32x16x16320, .f32⟩
  | 90 => ⟨S32x16x16320, .f32⟩
  | 91 => ⟨S32x16x16320, .f32⟩
  | 92 => ⟨S32x16x16320, .i32⟩
  | 93 => ⟨S_, .f32⟩
  | 94 => ⟨S_, .i32⟩
  | 95 => ⟨S32x16, .f32⟩
  | 96 => ⟨S32x16, .i32⟩
  | 97 => ⟨S_, .f32⟩
  | 98 => ⟨S32x16320, .f32⟩
  | 99 => ⟨S32x16x16320, .i32⟩
  | 100 => ⟨S_, .f32⟩
  | 101 => ⟨S_, .i32⟩
  | 102 => ⟨S32x16320, .f32⟩
  | 103 => ⟨S32x16320, .i32⟩
  | 104 => ⟨S32, .i32⟩
  | 105 => ⟨S32x1, .i32⟩
  | 106 => ⟨S_, .i32⟩
  | 107 => ⟨S32x1, .i32⟩
  | 108 => ⟨S32x1, .i1⟩
  | 109 => ⟨S_, .i32⟩
  | 110 => ⟨S32x1, .i32⟩
  | 111 => ⟨S32x1, .i32⟩
  | 112 => ⟨S32x1, .i32⟩
  | 113 => ⟨S_, .i32⟩
  | 114 => ⟨S32x16, .i32⟩
  | 115 => ⟨S32x16, .i1⟩
  | 116 => ⟨S_, .i32⟩
  | 117 => ⟨S32x16, .i32⟩
  | 118 => ⟨S32x16, .i32⟩
  | 119 => ⟨S32x16, .i32⟩
  | 120 => ⟨S32x16, .i32⟩
  | 121 => ⟨S32x16x1, .i32⟩
  | 122 => ⟨S32x16x1, .i32⟩
  | 123 => ⟨S32x16x2, .i32⟩
  | 124 => ⟨S_, .f32⟩
  | 125 => ⟨S32x16, .f32⟩
  | 126 => ⟨S32x16320, .f32⟩
  | 127 => ⟨S16, .i32⟩
  | _ => ⟨S32x16320x4, .f32⟩

abbrev hbmTy0_1 (i : Nat) : BufTy := match i % 128 with
  | 0 => ⟨S1x16, .i32⟩
  | 1 => ⟨S_, .i32⟩
  | 2 => ⟨S32x1, .i32⟩
  | 3 => ⟨S32x1, .i1⟩
  | 4 => ⟨S_, .i32⟩
  | 5 => ⟨S32x1, .i32⟩
  | 6 => ⟨S32x1, .i32⟩
  | 7 => ⟨S32x1, .i32⟩
  | 8 => ⟨S_, .i32⟩
  | 9 => ⟨S32x16, .i32⟩
  | 10 => ⟨S32x16, .i1⟩
  | 11 => ⟨S_, .i32⟩
  | 12 => ⟨S32x16, .i32⟩
  | 13 => ⟨S32x16, .i32⟩
  | 14 => ⟨S32x16, .i32⟩
  | 15 => ⟨S32x16, .i32⟩
  | 16 => ⟨S32x16x1, .i32⟩
  | 17 => ⟨S32x16x1, .i32⟩
  | 18 => ⟨S32x16x2, .i32⟩
  | 19 => ⟨S32x16, .i32⟩
  | 20 => ⟨S32x16320, .i32⟩
  | 21 => ⟨S_, .i32⟩
  | 22 => ⟨S32x1, .i32⟩
  | 23 => ⟨S32x1, .i1⟩
  | 24 => ⟨S_, .i32⟩
  | 25 => ⟨S32x1, .i32⟩
  | 26 => ⟨S32x1, .i32⟩
  | 27 => ⟨S32x1, .i32⟩
  | 28 => ⟨S_, .i32⟩
  | 29 => ⟨S32x16320, .i32⟩
  | 30 => ⟨S32x16320, .i1⟩
  | 31 => ⟨S_, .i32⟩
  | 32 => ⟨S32x16320, .i32⟩
  | 33 => ⟨S32x16320, .i32⟩
  | 34 => ⟨S32x16320, .i32⟩
  | 35 => ⟨S32x16320, .i32⟩
  | 36 => ⟨S32x16320x1, .i32⟩
  | 37 => ⟨S32x16320x1, .i32⟩
  | 38 => ⟨S32x16320x2, .i32⟩
  | 39 => ⟨S32x16320x4, .f32⟩
  | 40 => ⟨S_, .i32⟩
  | 41 => ⟨S32x1, .i32⟩
  | 42 => ⟨S32x1, .i1⟩
  | 43 => ⟨S_, .i32⟩
  | 44 => ⟨S32x1, .i32⟩
  | 45 => ⟨S32x1, .i32⟩
  | 46 => ⟨S32x1, .i32⟩
  | 47 => ⟨S_, .i32⟩
  | 48 => ⟨S32x16320, .i32⟩
  | 49 => ⟨S32x16320, .i1⟩
  | 50 => ⟨S_, .i32⟩
  | 51 => ⟨S32x16320, .i32⟩
  | 52 => ⟨S32x16320, .i32⟩
  | 53 => ⟨S32x16320, .i32⟩
  | 54 => ⟨S32x16320, .i32⟩
  | 55 => ⟨S32x16320x1, .i32⟩
  | 56 => ⟨S32x16320x1, .i32⟩
  | 57 => ⟨S32x16320x2, .i32⟩
  | 58 => ⟨S32x16320, .i32⟩
  | 59 => ⟨S_, .f32⟩
  | 60 => ⟨S32x16320, .f32⟩
  | 61 => ⟨S32x16320, .i1⟩
  | 62 => ⟨S_, .i32⟩
  | 63 => ⟨S_, .i32⟩
  | 64 => ⟨S32x16320, .i32⟩
  | 65 => ⟨S32x16320, .i32⟩
  | 66 => ⟨S32x16320x2, .f32⟩
  | 67 => ⟨S32x16320x2, .f32⟩
  | 68 => ⟨S32x16320x2, .f32⟩
  | 69 => ⟨S_, .f32⟩
  | 70 => ⟨S32x16320x2, .f32⟩
  | 71 => ⟨S32x16320x2, .f32⟩
  | 72 => ⟨S32x16320x2, .f32⟩
  | 73 => ⟨S32x16320x2, .f32⟩
  | 74 => ⟨S32x16320x2, .f32⟩
  | 75 => ⟨S32x16320x4, .f32⟩
  | 76 => ⟨S32x16320x2, .f32⟩
  | 77 => ⟨S32x16320x2, .f32⟩
  | 78 => ⟨S32x16320x2, .f32⟩
  | 79 => ⟨S_, .f32⟩
  | 80 => ⟨S32x16320x2, .f32⟩
  | 81 => ⟨S32x16320x2, .f32⟩
  | 82 => ⟨S32x16320x2, .f32⟩
  | 83 => ⟨S32x16320x2, .f32⟩
  | 84 => ⟨S32x16320x2, .f32⟩
  | 85 => ⟨S_, .f32⟩
  | 86 => ⟨S32x16320x2, .f32⟩
  | 87 => ⟨S32x16320x2, .f32⟩
  | 88 => ⟨S32x16320x2, .f32⟩
  | 89 => ⟨S32x16320x2, .f32⟩
  | 90 => ⟨S32x16320x2, .f32⟩
  | 91 => ⟨S32x16320x2, .f32⟩
  | 92 => ⟨S32x16320x2, .f32⟩
  | 93 => ⟨S32x16320x2, .f32⟩
  | 94 => ⟨S32x16320x2, .f32⟩
  | 95 => ⟨S_, .f32⟩
  | 96 => ⟨S32x16320x2, .f32⟩
  | 97 => ⟨S32x16320x2, .f32⟩
  | 98 => ⟨S32x16320x4, .f32⟩
  | 99 => ⟨S_, .f32⟩
  | 100 => ⟨S32x16320, .f32⟩
  | 101 => ⟨S_, .f32⟩
  | 102 => ⟨S32x16320, .f32⟩
  | 103 => ⟨S32x16320, .f32⟩
  | 104 => ⟨S32x16320x1, .f32⟩
  | 105 => ⟨S32x16320x2, .f32⟩
  | 106 => ⟨S32x16320x2, .f32⟩
  | 107 => ⟨S32x16320x2, .f32⟩
  | 108 => ⟨S_, .f32⟩
  | 109 => ⟨S32x16320, .f32⟩
  | 110 => ⟨S32x16320x1, .f32⟩
  | 111 => ⟨S32x16320x2, .f32⟩
  | 112 => ⟨S32x16320x2, .f32⟩
  | 113 => ⟨S32x16320x1, .f32⟩
  | 114 => ⟨S32x16320, .f32⟩
  | 115 => ⟨S_, .i32⟩
  | 116 => ⟨S32x16320, .i32⟩
  | 117 => ⟨S32x16320, .i1⟩
  | 118 => ⟨S_, .f32⟩
  | 119 => ⟨S32x16320, .f32⟩
  | 120 => ⟨S32x16320, .i1⟩
  | 121 => ⟨S32x16320, .i1⟩
  | 122 => ⟨S32x16320, .i32⟩
  | 123 => ⟨S_, .i32⟩
  | 124 => ⟨S32, .i32⟩
  | 125 => ⟨S32x1, .i32⟩
  | 126 => ⟨S_, .i32⟩
  | 127 => ⟨S_, .i32⟩
  | _ => ⟨S32x16320x4, .f32⟩

abbrev hbmTy0_2 (i : Nat) : BufTy := match i % 128 with
  | 0 => ⟨S_, .f32⟩
  | 1 => ⟨S32x16320, .f32⟩
  | 2 => ⟨S32x16320x4, .f32⟩
  | 3 => ⟨S32x16320x4, .f32⟩
  | 4 => ⟨S_, .f32⟩
  | 5 => ⟨S32x16320x4, .f32⟩
  | 6 => ⟨S32x16320x4, .i1⟩
  | 7 => ⟨S_, .f32⟩
  | 8 => ⟨S32x16320x4, .f32⟩
  | 9 => ⟨S32x16320x4, .f32⟩
  | 10 => ⟨S32x16320x4, .f32⟩
  | 11 => ⟨S_, .f32⟩
  | 12 => ⟨S32x16320x4, .f32⟩
  | 13 => ⟨S32x16320x4, .f32⟩
  | 14 => ⟨S32x16320x4, .f32⟩
  | 15 => ⟨S32x16320x1, .f32⟩
  | 16 => ⟨S32x16320x4, .f32⟩
  | 17 => ⟨S32x16320x4, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | _ => ⟨S32x16320x4, .f32⟩

abbrev hbmTy (i : Nat) : BufTy := match i / 128 with
  | 0 => hbmTy0_0 i
  | 1 => hbmTy0_1 i
  | 2 => hbmTy0_2 i
  | _ => ⟨S32x16320x4, .f32⟩

abbrev bufTy : (tb : Table) → Fin (tcTables nBuf tb) → BufTy
  | .hbm, ⟨i, _⟩ => hbmTy i
  | _, _ => ⟨S32x16320x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_3 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_call0_v0 : Ref sig .tc := ⟨.hbm, 92, rfl⟩
abbrev main_call0_cst : Ref sig .tc := ⟨.hbm, 93, rfl⟩
abbrev main_call0_c : Ref sig .tc := ⟨.hbm, 94, rfl⟩
abbrev main_call0_v1_0 : Ref sig .tc := ⟨.hbm, 95, rfl⟩
abbrev main_v81 : Ref sig .tc := ⟨.hbm, 96, rfl⟩
abbrev main_cst_4 : Ref sig .tc := ⟨.hbm, 97, rfl⟩
abbrev main_v82 : Ref sig .tc := ⟨.hbm, 98, rfl⟩
abbrev main_call1_v0 : Ref sig .tc := ⟨.hbm, 99, rfl⟩
abbrev main_call1_cst : Ref sig .tc := ⟨.hbm, 100, rfl⟩
abbrev main_call1_c : Ref sig .tc := ⟨.hbm, 101, rfl⟩
abbrev main_call1_v1_0 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_c : Ref sig .tc := ⟨.hbm, 106, rfl⟩
abbrev main_v86 : Ref sig .tc := ⟨.hbm, 107, rfl⟩
abbrev main_v87 : Ref sig .tc := ⟨.hbm, 108, rfl⟩
abbrev main_c_5 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_c_6 : Ref sig .tc := ⟨.hbm, 113, rfl⟩
abbrev main_v91 : Ref sig .tc := ⟨.hbm, 114, rfl⟩
abbrev main_v92 : Ref sig .tc := ⟨.hbm, 115, rfl⟩
abbrev main_c_7 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_cst_8 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_c_9 : Ref sig .tc := ⟨.hbm, 129, rfl⟩
abbrev main_v104 : Ref sig .tc := ⟨.hbm, 130, rfl⟩
abbrev main_v105 : Ref sig .tc := ⟨.hbm, 131, rfl⟩
abbrev main_c_10 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_c_11 : Ref sig .tc := ⟨.hbm, 136, rfl⟩
abbrev main_v109 : Ref sig .tc := ⟨.hbm, 137, rfl⟩
abbrev main_v110 : Ref sig .tc := ⟨.hbm, 138, rfl⟩
abbrev main_c_12 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_c_13 : Ref sig .tc := ⟨.hbm, 149, rfl⟩
abbrev main_v120 : Ref sig .tc := ⟨.hbm, 150, rfl⟩
abbrev main_v121 : Ref sig .tc := ⟨.hbm, 151, rfl⟩
abbrev main_c_14 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_c_15 : Ref sig .tc := ⟨.hbm, 156, rfl⟩
abbrev main_v125 : Ref sig .tc := ⟨.hbm, 157, rfl⟩
abbrev main_v126 : Ref sig .tc := ⟨.hbm, 158, rfl⟩
abbrev main_c_16 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_c_17 : Ref sig .tc := ⟨.hbm, 168, rfl⟩
abbrev main_v135 : Ref sig .tc := ⟨.hbm, 169, rfl⟩
abbrev main_v136 : Ref sig .tc := ⟨.hbm, 170, rfl⟩
abbrev main_c_18 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_c_19 : Ref sig .tc := ⟨.hbm, 175, rfl⟩
abbrev main_v140 : Ref sig .tc := ⟨.hbm, 176, rfl⟩
abbrev main_v141 : Ref sig .tc := ⟨.hbm, 177, rfl⟩
abbrev main_c_20 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_cst_21 : Ref sig .tc := ⟨.hbm, 187, rfl⟩
abbrev main_v150 : Ref sig .tc := ⟨.hbm, 188, rfl⟩
abbrev main_v151 : Ref sig .tc := ⟨.hbm, 189, rfl⟩
abbrev main_c_22 : Ref sig .tc := ⟨.hbm, 190, rfl⟩
abbrev main_call2_v0 : Ref sig .tc := ⟨.hbm, 191, rfl⟩
abbrev main_call2_v1 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_cst_23 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_cst_24 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_cst_25 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_cst_26 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_cst_27 : Ref sig .tc := ⟨.hbm, 227, rfl⟩
abbrev main_v182 : Ref sig .tc := ⟨.hbm, 228, rfl⟩
abbrev main_cst_28 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_cst_29 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_v193 : Ref sig .tc := ⟨.hbm, 241, rfl⟩
abbrev main_v194 : Ref sig .tc := ⟨.hbm, 242, rfl⟩
abbrev main_c_30 : Ref sig .tc := ⟨.hbm, 243, rfl⟩
abbrev main_v195 : Ref sig .tc := ⟨.hbm, 244, rfl⟩
abbrev main_v196 : Ref sig .tc := ⟨.hbm, 245, rfl⟩
abbrev main_cst_31 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_c_32 : Ref sig .tc := ⟨.hbm, 251, rfl⟩
abbrev main_v201 : Ref sig .tc := ⟨.hbm, 252, rfl⟩
abbrev main_v202 : Ref sig .tc := ⟨.hbm, 253, rfl⟩
abbrev main_c_33 : Ref sig .tc := ⟨.hbm, 254, rfl⟩
abbrev main_v203 : Ref sig .tc := ⟨.hbm, 255, rfl⟩
abbrev main_v204 : Ref sig .tc := ⟨.hbm, 256, rfl⟩
abbrev main_v205 : Ref sig .tc := ⟨.hbm, 257, rfl⟩
abbrev main_v206 : Ref sig .tc := ⟨.hbm, 258, rfl⟩
abbrev main_v207 : Ref sig .tc := ⟨.hbm, 259, rfl⟩
abbrev main_cst_34 : Ref sig .tc := ⟨.hbm, 260, rfl⟩
abbrev main_v208 : Ref sig .tc := ⟨.hbm, 261, rfl⟩
abbrev main_v209 : Ref sig .tc := ⟨.hbm, 262, rfl⟩
abbrev main_cst_35 : Ref sig .tc := ⟨.hbm, 263, rfl⟩
abbrev main_v210 : Ref sig .tc := ⟨.hbm, 264, rfl⟩
abbrev main_v211 : Ref sig .tc := ⟨.hbm, 265, rfl⟩
abbrev main_v212 : Ref sig .tc := ⟨.hbm, 266, rfl⟩
abbrev main_cst_36 : Ref sig .tc := ⟨.hbm, 267, rfl⟩
abbrev main_v213 : Ref sig .tc := ⟨.hbm, 268, rfl⟩
abbrev main_v214 : Ref sig .tc := ⟨.hbm, 269, rfl⟩
abbrev main_v215 : Ref sig .tc := ⟨.hbm, 270, rfl⟩
abbrev main_v216 : Ref sig .tc := ⟨.hbm, 271, rfl⟩
abbrev main_v217 : Ref sig .tc := ⟨.hbm, 272, rfl⟩
abbrev main_v218 : Ref sig .tc := ⟨.hbm, 273, rfl⟩
abbrev main_cst_37 : Ref sig .tc := ⟨.hbm, 274, rfl⟩
abbrev main_v219 : Ref sig .tc := ⟨.hbm, 275, rfl⟩
abbrev main_cst_38 : Ref sig .tc := ⟨.hbm, 276, rfl⟩
abbrev main_v220 : Ref sig .tc := ⟨.hbm, 277, rfl⟩
abbrev main_v221 : Ref sig .tc := ⟨.hbm, 278, rfl⟩
abbrev main_v222 : Ref sig .tc := ⟨.hbm, 279, rfl⟩

abbrev nD : Nat := 1
abbrev τ : Topo := Topo.v7x

variable {F : FTy → Type} [FloatOps F]
-- ==== KernelCe.lean ====
abbrev S32x16320x4 : Shape := ⟨3, ![32, 16320, 4]⟩
abbrev S32x16320x2 : Shape := ⟨3, ![32, 16320, 2]⟩
abbrev S32x16320x81 : Shape := ⟨3, ![32, 16320, 81]⟩
abbrev S16320x4 : Shape := ⟨2, ![16320, 4]⟩
abbrev S32x16x5 : Shape := ⟨3, ![32, 16, 5]⟩
abbrev S32x4x16320 : Shape := ⟨3, ![32, 4, 16320]⟩
abbrev S32x4x8x2040 : Shape := ⟨4, ![32, 4, 8, 2040]⟩
abbrev S32x2x16320 : Shape := ⟨3, ![32, 2, 16320]⟩
abbrev S32x2x8x2040 : Shape := ⟨4, ![32, 2, 8, 2040]⟩
abbrev S32x81x16320 : Shape := ⟨3, ![32, 81, 16320]⟩
abbrev S32x81x8x2040 : Shape := ⟨4, ![32, 81, 8, 2040]⟩
abbrev S4x16320 : Shape := ⟨2, ![4, 16320]⟩
abbrev S4x8x2040 : Shape := ⟨3, ![4, 8, 2040]⟩
abbrev S32x16x4 : Shape := ⟨3, ![32, 16, 4]⟩
abbrev S32x16x1 : Shape := ⟨3, ![32, 16, 1]⟩
abbrev S32x16 : Shape := ⟨2, ![32, 16]⟩
abbrev S32x1x16 : Shape := ⟨3, ![32, 1, 16]⟩
abbrev S32x1x128 : Shape := ⟨3, ![32, 1, 128]⟩
abbrev S1x16x4 : Shape := ⟨3, ![1, 16, 4]⟩
abbrev S1x1x16 : Shape := ⟨3, ![1, 1, 16]⟩
abbrev S1x81x8x2040 : Shape := ⟨4, ![1, 81, 8, 2040]⟩
abbrev S1x4x8x2040 : Shape := ⟨4, ![1, 4, 8, 2040]⟩
abbrev S1x2x8x2040 : Shape := ⟨4, ![1, 2, 8, 2040]⟩
abbrev S1x1x128 : Shape := ⟨3, ![1, 1, 128]⟩
abbrev S1x8x2040 : Shape := ⟨3, ![1, 8, 2040]⟩
abbrev S8x2040 : Shape := ⟨2, ![8, 2040]⟩
abbrev S1x1x1 : Shape := ⟨3, ![1, 1, 1]⟩
abbrev S1 : Shape := ⟨1, ![1]⟩
abbrev S2x8x2040 : Shape := ⟨3, ![2, 8, 2040]⟩
abbrev S1x1x8x2040 : Shape := ⟨4, ![1, 1, 8, 2040]⟩
abbrev S1x128 : Shape := ⟨2, ![1, 128]⟩
abbrev S32x128 : Shape := ⟨2, ![32, 128]⟩
abbrev S32x1 : Shape := ⟨2, ![32, 1]⟩
abbrev S32 : Shape := ⟨1, ![32]⟩

abbrev nBuf : Space → Nat
  | .hbm => 27
  | .vmem => 15
  | .smem => 0
  | _ => 0

abbrev bufTy : (tb : Table) → Fin (tcTables nBuf tb) → BufTy
  | .hbm, ⟨0, _⟩ => ⟨S32x16320x4, .f32⟩
  | .hbm, ⟨1, _⟩ => ⟨S32x16320x2, .f32⟩
  | .hbm, ⟨2, _⟩ => ⟨S32x16320x4, .f32⟩
  | .hbm, ⟨3, _⟩ => ⟨S32x16320x81, .f32⟩
  | .hbm, ⟨4, _⟩ => ⟨S16320x4, .f32⟩
  | .hbm, ⟨5, _⟩ => ⟨S32x16x5, .f32⟩
  | .hbm, ⟨6, _⟩ => ⟨S32x4x16320, .f32⟩
  | .hbm, ⟨7, _⟩ => ⟨S32x4x8x2040, .f32⟩
  | .hbm, ⟨8, _⟩ => ⟨S32x4x16320, .f32⟩
  | .hbm, ⟨9, _⟩ => ⟨S32x4x8x2040, .f32⟩
  | .hbm, ⟨10, _⟩ => ⟨S32x2x16320, .f32⟩
  | .hbm, ⟨11, _⟩ => ⟨S32x2x8x2040, .f32⟩
  | .hbm, ⟨12, _⟩ => ⟨S32x81x16320, .f32⟩
  | .hbm, ⟨13, _⟩ => ⟨S32x81x8x2040, .f32⟩
  | .hbm, ⟨14, _⟩ => ⟨S4x16320, .f32⟩
  | .hbm, ⟨15, _⟩ => ⟨S4x8x2040, .f32⟩
  | .hbm, ⟨16, _⟩ => ⟨S32x16x4, .f32⟩
  | .hbm, ⟨17, _⟩ => ⟨S32x16x1, .f32⟩
  | .hbm, ⟨18, _⟩ => ⟨S32x16, .f32⟩
  | .hbm, ⟨19, _⟩ => ⟨S32x16, .i32⟩
  | .hbm, ⟨20, _⟩ => ⟨S32x1x16, .i32⟩
  | .hbm, ⟨21, _⟩ => ⟨S32x1x128, .f32⟩
  | .hbm, ⟨22, _⟩ => ⟨S32x128, .f32⟩
  | .hbm, ⟨23, _⟩ => ⟨S32x1, .f32⟩
  | .hbm, ⟨24, _⟩ => ⟨S32, .f32⟩
  | .hbm, ⟨25, _⟩ => ⟨S32x1, .f32⟩
  | .hbm, ⟨26, _⟩ => ⟨S32, .f32⟩
  | .local _ .vmem, ⟨0, _⟩ => ⟨S1x16x4, .f32⟩
  | .local _ .vmem, ⟨1, _⟩ => ⟨S1x16x4, .f32⟩
  | .local _ .vmem, ⟨2, _⟩ => ⟨S1x1x16, .i32⟩
  | .local _ .vmem, ⟨3, _⟩ => ⟨S1x1x16, .i32⟩
  | .local _ .vmem, ⟨4, _⟩ => ⟨S1x81x8x2040, .f32⟩
  | .local _ .vmem, ⟨5, _⟩ => ⟨S1x81x8x2040, .f32⟩
  | .local _ .vmem, ⟨6, _⟩ => ⟨S1x4x8x2040, .f32⟩
  | .local _ .vmem, ⟨7, _⟩ => ⟨S1x4x8x2040, .f32⟩
  | .local _ .vmem, ⟨8, _⟩ => ⟨S1x4x8x2040, .f32⟩
  | .local _ .vmem, ⟨9, _⟩ => ⟨S1x4x8x2040, .f32⟩
  | .local _ .vmem, ⟨10, _⟩ => ⟨S1x2x8x2040, .f32⟩
  | .local _ .vmem, ⟨11, _⟩ => ⟨S1x2x8x2040, .f32⟩
  | .local _ .vmem, ⟨12, _⟩ => ⟨S4x8x2040, .f32⟩
  | .local _ .vmem, ⟨13, _⟩ => ⟨S1x1x128, .f32⟩
  | .local _ .vmem, ⟨14, _⟩ => ⟨S1x1x128, .f32⟩
  | _, _ => ⟨S32x16320x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_1091 : BitVec 32 := 0#32
  let c31_i32_1092 : BitVec 32 := 31#32
  let v2218 : BitVec 32 := Scalar.addi c0_i32_1091 c31_i32_1092
  let c1_i32_1093 : BitVec 32 := 1#32
  ⟨c0_i32_1091, v2218, c1_i32_1093⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x16 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x81x8x2040 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x8x2040 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x8x2040 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2x8x2040 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x8x2040 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceCeIdeal.lean ====
abbrev S32x16320x4 : Shape := ⟨3, ![32, 16320, 4]⟩
abbrev S32x16320x2 : Shape := ⟨3, ![32, 16320, 2]⟩
abbrev S32x16320x81 : Shape := ⟨3, ![32, 16320, 81]⟩
abbrev S16320x4 : Shape := ⟨2, ![16320, 4]⟩
abbrev S32x16x5 : Shape := ⟨3, ![32, 16, 5]⟩
abbrev S32x16x4 : Shape := ⟨3, ![32, 16, 4]⟩
abbrev S32x16x1 : Shape := ⟨3, ![32, 16, 1]⟩
abbrev S32x16 : Shape := ⟨2, ![32, 16]⟩
abbrev S16320x2 : Shape := ⟨2, ![16320, 2]⟩
abbrev S_ : Shape := ⟨0, ![]⟩
abbrev S1x16320x2 : Shape := ⟨3, ![1, 16320, 2]⟩
abbrev S32x16x2 : Shape := ⟨3, ![32, 16, 2]⟩
abbrev S32x16x1x2 : Shape := ⟨4, ![32, 16, 1, 2]⟩
abbrev S32x1x16320x2 : Shape := ⟨4, ![32, 1, 16320, 2]⟩
abbrev S32x16x16320x2 : Shape := ⟨4, ![32, 16, 16320, 2]⟩
abbrev S32x16x16320x1 : Shape := ⟨4, ![32, 16, 16320, 1]⟩
abbrev S32x16x16320 : Shape := ⟨3, ![32, 16, 16320]⟩
abbrev S32x16320x1 : Shape := ⟨3, ![32, 16320, 1]⟩
abbrev S32x16320 : Shape := ⟨2, ![32, 16320]⟩
abbrev S32x1x16320 : Shape := ⟨3, ![32, 1, 16320]⟩
abbrev S32 : Shape := ⟨1, ![32]⟩
abbrev S32x1 : Shape := ⟨2, ![32, 1]⟩
abbrev S16 : Shape := ⟨1, ![16]⟩
abbrev S1x16 : Shape := ⟨2, ![1, 16]⟩
abbrev S522240x81 : Shape := ⟨2, ![522240, 81]⟩
abbrev S522240x1 : Shape := ⟨2, ![522240, 1]⟩
abbrev S522240x1x1 : Shape := ⟨3, ![522240, 1, 1]⟩
abbrev S1 : Shape := ⟨1, ![1]⟩
abbrev S1x1x1 : Shape := ⟨3, ![1, 1, 1]⟩
abbrev S522240 : Shape := ⟨1, ![522240]⟩

abbrev nBuf : Space → Nat
  | .hbm => 311
  | .vmem => 0
  | .smem => 0
  | _ => 0

abbrev hbmTy0_0 (i : Nat) : BufTy := match i % 128 with
  | 0 => ⟨S32x16320x4, .f32⟩
  | 1 => ⟨S32x16320x2, .f32⟩
  | 2 => ⟨S32x16320x4, .f32⟩
  | 3 => ⟨S32x16320x81, .f32⟩
  | 4 => ⟨S16320x4, .f32⟩
  | 5 => ⟨S32x16x5, .f32⟩
  | 6 => ⟨S32x16x4, .f32⟩
  | 7 => ⟨S32x16x1, .f32⟩
  | 8 => ⟨S32x16, .f32⟩
  | 9 => ⟨S32x16, .i32⟩
  | 10 => ⟨S16320x2, .f32⟩
  | 11 => ⟨S32x16320x2, .f32⟩
  | 12 => ⟨S_, .f32⟩
  | 13 => ⟨S32x16320x2, .f32⟩
  | 14 => ⟨S32x16320x2, .f32⟩
  | 15 => ⟨S16320x2, .f32⟩
  | 16 => ⟨S1x16320x2, .f32⟩
  | 17 => ⟨S32x16320x2, .f32⟩
  | 18 => ⟨S32x16320x2, .f32⟩
  | 19 => ⟨S1x16320x2, .f32⟩
  | 20 => ⟨S32x16320x2, .f32⟩
  | 21 => ⟨S32x16320x2, .f32⟩
  | 22 => ⟨S16320x2, .f32⟩
  | 23 => ⟨S32x16320x2, .f32⟩
  | 24 => ⟨S_, .f32⟩
  | 25 => ⟨S32x16320x2, .f32⟩
  | 26 => ⟨S32x16320x2, .f32⟩
  | 27 => ⟨S32x16320x2, .f32⟩
  | 28 => ⟨S1x16320x2, .f32⟩
  | 29 => ⟨S32x16320x2, .f32⟩
  | 30 => ⟨S32x16320x2, .f32⟩
  | 31 => ⟨S_, .f32⟩
  | 32 => ⟨S32x16320x2, .f32⟩
  | 33 => ⟨S32x16320x2, .f32⟩
  | 34 => ⟨S32x16320x2, .f32⟩
  | 35 => ⟨S_, .f32⟩
  | 36 => ⟨S32x16320x2, .f32⟩
  | 37 => ⟨S32x16320x2, .f32⟩
  | 38 => ⟨S32x16320x2, .f32⟩
  | 39 => ⟨S32x16320x4, .f32⟩
  | 40 => ⟨S32x16x2, .f32⟩
  | 41 => ⟨S32x16x1x2, .f32⟩
  | 42 => ⟨S32x16320x2, .f32⟩
  | 43 => ⟨S32x1x16320x2, .f32⟩
  | 44 => ⟨S32x16x16320x2, .f32⟩
  | 45 => ⟨S32x16x16320x2, .f32⟩
  | 46 => ⟨S32x16x16320x2, .f32⟩
  | 47 => ⟨S32x16x2, .f32⟩
  | 48 => ⟨S32x16x1x2, .f32⟩
  | 49 => ⟨S32x16320x2, .f32⟩
  | 50 => ⟨S32x1x16320x2, .f32⟩
  | 51 => ⟨S32x16x16320x2, .f32⟩
  | 52 => ⟨S32x16x16320x2, .f32⟩
  | 53 => ⟨S32x16x16320x2, .f32⟩
  | 54 => ⟨S32x16x16320x2, .f32⟩
  | 55 => ⟨S_, .f32⟩
  | 56 => ⟨S32x16x16320x2, .f32⟩
  | 57 => ⟨S32x16x16320x2, .f32⟩
  | 58 => ⟨S32x16x16320x1, .f32⟩
  | 59 => ⟨S32x16x16320, .f32⟩
  | 60 => ⟨S32x16x16320x1, .f32⟩
  | 61 => ⟨S32x16x16320, .f32⟩
  | 62 => ⟨S32x16x16320, .f32⟩
  | 63 => ⟨S32x16x1, .f32⟩
  | 64 => ⟨S32x16, .f32⟩
  | 65 => ⟨S32x16x1, .f32⟩
  | 66 => ⟨S32x16, .f32⟩
  | 67 => ⟨S32x16, .f32⟩
  | 68 => ⟨S32x16x1, .f32⟩
  | 69 => ⟨S32x16, .f32⟩
  | 70 => ⟨S32x16x1, .f32⟩
  | 71 => ⟨S32x16, .f32⟩
  | 72 => ⟨S32x16, .f32⟩
  | 73 => ⟨S32x16, .f32⟩
  | 74 => ⟨S32x16x1, .f32⟩
  | 75 => ⟨S32x16320x1, .f32⟩
  | 76 => ⟨S32x16320, .f32⟩
  | 77 => ⟨S32x16320x1, .f32⟩
  | 78 => ⟨S32x16320, .f32⟩
  | 79 => ⟨S32x16320, .f32⟩
  | 80 => ⟨S32x16320x1, .f32⟩
  | 81 => ⟨S32x16320, .f32⟩
  | 82 => ⟨S32x16320x1, .f32⟩
  | 83 => ⟨S32x16320, .f32⟩
  | 84 => ⟨S32x16320, .f32⟩
  | 85 => ⟨S32x16320, .f32⟩
  | 86 => ⟨S32x1x16320, .f32⟩
  | 87 => ⟨S32x16x16320, .f32⟩
  | 88 => ⟨S32x16x16320, .f32⟩
  | 89 => ⟨S32x16x16320, .f32⟩
  | 90 => ⟨S32x16x16320, .f32⟩
  | 91 => ⟨S32x16x16320, .f32⟩
  | 92 => ⟨S32x16x16320, .i32⟩
  | 93 => ⟨S_, .f32⟩
  | 94 => ⟨S_, .i32⟩
  | 95 => ⟨S32x16, .f32⟩
  | 96 => ⟨S32x16, .i32⟩
  | 97 => ⟨S_, .f32⟩
  | 98 => ⟨S32x16320, .f32⟩
  | 99 => ⟨S32x16x16320, .i32⟩
  | 100 => ⟨S_, .f32⟩
  | 101 => ⟨S_, .i32⟩
  | 102 => ⟨S32x16320, .f32⟩
  | 103 => ⟨S32x16320, .i32⟩
  | 104 => ⟨S32, .i32⟩
  | 105 => ⟨S32x1, .i32⟩
  | 106 => ⟨S_, .i32⟩
  | 107 => ⟨S32x1, .i32⟩
  | 108 => ⟨S32x1, .i1⟩
  | 109 => ⟨S_, .i32⟩
  | 110 => ⟨S32x1, .i32⟩
  | 111 => ⟨S32x1, .i32⟩
  | 112 => ⟨S32x1, .i32⟩
  | 113 => ⟨S_, .i32⟩
  | 114 => ⟨S32x16, .i32⟩
  | 115 => ⟨S32x16, .i1⟩
  | 116 => ⟨S_, .i32⟩
  | 117 => ⟨S32x16, .i32⟩
  | 118 => ⟨S32x16, .i32⟩
  | 119 => ⟨S32x16, .i32⟩
  | 120 => ⟨S32x16, .i32⟩
  | 121 => ⟨S32x16x1, .i32⟩
  | 122 => ⟨S32x16x1, .i32⟩
  | 123 => ⟨S32x16x2, .i32⟩
  | 124 => ⟨S_, .f32⟩
  | 125 => ⟨S32x16, .f32⟩
  | 126 => ⟨S32x16320, .f32⟩
  | 127 => ⟨S16, .i32⟩
  | _ => ⟨S32x16320x4, .f32⟩

abbrev hbmTy0_1 (i : Nat) : BufTy := match i % 128 with
  | 0 => ⟨S1x16, .i32⟩
  | 1 => ⟨S_, .i32⟩
  | 2 => ⟨S32x1, .i32⟩
  | 3 => ⟨S32x1, .i1⟩
  | 4 => ⟨S_, .i32⟩
  | 5 => ⟨S32x1, .i32⟩
  | 6 => ⟨S32x1, .i32⟩
  | 7 => ⟨S32x1, .i32⟩
  | 8 => ⟨S_, .i32⟩
  | 9 => ⟨S32x16, .i32⟩
  | 10 => ⟨S32x16, .i1⟩
  | 11 => ⟨S_, .i32⟩
  | 12 => ⟨S32x16, .i32⟩
  | 13 => ⟨S32x16, .i32⟩
  | 14 => ⟨S32x16, .i32⟩
  | 15 => ⟨S32x16, .i32⟩
  | 16 => ⟨S32x16x1, .i32⟩
  | 17 => ⟨S32x16x1, .i32⟩
  | 18 => ⟨S32x16x2, .i32⟩
  | 19 => ⟨S32x16, .i32⟩
  | 20 => ⟨S32x16320, .i32⟩
  | 21 => ⟨S_, .i32⟩
  | 22 => ⟨S32x1, .i32⟩
  | 23 => ⟨S32x1, .i1⟩
  | 24 => ⟨S_, .i32⟩
  | 25 => ⟨S32x1, .i32⟩
  | 26 => ⟨S32x1, .i32⟩
  | 27 => ⟨S32x1, .i32⟩
  | 28 => ⟨S_, .i32⟩
  | 29 => ⟨S32x16320, .i32⟩
  | 30 => ⟨S32x16320, .i1⟩
  | 31 => ⟨S_, .i32⟩
  | 32 => ⟨S32x16320, .i32⟩
  | 33 => ⟨S32x16320, .i32⟩
  | 34 => ⟨S32x16320, .i32⟩
  | 35 => ⟨S32x16320, .i32⟩
  | 36 => ⟨S32x16320x1, .i32⟩
  | 37 => ⟨S32x16320x1, .i32⟩
  | 38 => ⟨S32x16320x2, .i32⟩
  | 39 => ⟨S32x16320x4, .f32⟩
  | 40 => ⟨S_, .i32⟩
  | 41 => ⟨S32x1, .i32⟩
  | 42 => ⟨S32x1, .i1⟩
  | 43 => ⟨S_, .i32⟩
  | 44 => ⟨S32x1, .i32⟩
  | 45 => ⟨S32x1, .i32⟩
  | 46 => ⟨S32x1, .i32⟩
  | 47 => ⟨S_, .i32⟩
  | 48 => ⟨S32x16320, .i32⟩
  | 49 => ⟨S32x16320, .i1⟩
  | 50 => ⟨S_, .i32⟩
  | 51 => ⟨S32x16320, .i32⟩
  | 52 => ⟨S32x16320, .i32⟩
  | 53 => ⟨S32x16320, .i32⟩
  | 54 => ⟨S32x16320, .i32⟩
  | 55 => ⟨S32x16320x1, .i32⟩
  | 56 => ⟨S32x16320x1, .i32⟩
  | 57 => ⟨S32x16320x2, .i32⟩
  | 58 => ⟨S32x16320, .i32⟩
  | 59 => ⟨S_, .f32⟩
  | 60 => ⟨S32x16320, .f32⟩
  | 61 => ⟨S32x16320, .i1⟩
  | 62 => ⟨S_, .i32⟩
  | 63 => ⟨S_, .i32⟩
  | 64 => ⟨S32x16320, .i32⟩
  | 65 => ⟨S32x16320, .i32⟩
  | 66 => ⟨S32x16320x2, .f32⟩
  | 67 => ⟨S32x16320x2, .f32⟩
  | 68 => ⟨S32x16320x2, .f32⟩
  | 69 => ⟨S_, .f32⟩
  | 70 => ⟨S32x16320x2, .f32⟩
  | 71 => ⟨S32x16320x2, .f32⟩
  | 72 => ⟨S32x16320x2, .f32⟩
  | 73 => ⟨S32x16320x2, .f32⟩
  | 74 => ⟨S32x16320x2, .f32⟩
  | 75 => ⟨S32x16320x4, .f32⟩
  | 76 => ⟨S32x16320x2, .f32⟩
  | 77 => ⟨S32x16320x2, .f32⟩
  | 78 => ⟨S32x16320x2, .f32⟩
  | 79 => ⟨S_, .f32⟩
  | 80 => ⟨S32x16320x2, .f32⟩
  | 81 => ⟨S32x16320x2, .f32⟩
  | 82 => ⟨S32x16320x2, .f32⟩
  | 83 => ⟨S32x16320x2, .f32⟩
  | 84 => ⟨S32x16320x2, .f32⟩
  | 85 => ⟨S_, .f32⟩
  | 86 => ⟨S32x16320x2, .f32⟩
  | 87 => ⟨S32x16320x2, .f32⟩
  | 88 => ⟨S32x16320x2, .f32⟩
  | 89 => ⟨S32x16320x2, .f32⟩
  | 90 => ⟨S32x16320x2, .f32⟩
  | 91 => ⟨S32x16320x2, .f32⟩
  | 92 => ⟨S32x16320x2, .f32⟩
  | 93 => ⟨S32x16320x2, .f32⟩
  | 94 => ⟨S32x16320x2, .f32⟩
  | 95 => ⟨S_, .f32⟩
  | 96 => ⟨S32x16320x2, .f32⟩
  | 97 => ⟨S32x16320x2, .f32⟩
  | 98 => ⟨S32x16320x4, .f32⟩
  | 99 => ⟨S_, .f32⟩
  | 100 => ⟨S32x16320, .f32⟩
  | 101 => ⟨S_, .f32⟩
  | 102 => ⟨S32x16320, .f32⟩
  | 103 => ⟨S32x16320, .f32⟩
  | 104 => ⟨S32x16320x1, .f32⟩
  | 105 => ⟨S32x16320x2, .f32⟩
  | 106 => ⟨S32x16320x2, .f32⟩
  | 107 => ⟨S32x16320x2, .f32⟩
  | 108 => ⟨S_, .f32⟩
  | 109 => ⟨S32x16320, .f32⟩
  | 110 => ⟨S32x16320x1, .f32⟩
  | 111 => ⟨S32x16320x2, .f32⟩
  | 112 => ⟨S32x16320x2, .f32⟩
  | 113 => ⟨S32x16320x1, .f32⟩
  | 114 => ⟨S32x16320, .f32⟩
  | 115 => ⟨S_, .i32⟩
  | 116 => ⟨S32x16320, .i32⟩
  | 117 => ⟨S32x16320, .i1⟩
  | 118 => ⟨S_, .f32⟩
  | 119 => ⟨S32x16320, .f32⟩
  | 120 => ⟨S32x16320, .i1⟩
  | 121 => ⟨S32x16320, .i1⟩
  | 122 => ⟨S32x16320, .i32⟩
  | 123 => ⟨S_, .i32⟩
  | 124 => ⟨S32, .i32⟩
  | 125 => ⟨S32x1, .i32⟩
  | 126 => ⟨S_, .i32⟩
  | 127 => ⟨S32x1, .i32⟩
  | _ => ⟨S32x16320x4, .f32⟩

abbrev hbmTy0_2 (i : Nat) : BufTy := match i % 128 with
  | 0 => ⟨S32x1, .i32⟩
  | 1 => ⟨S_, .i32⟩
  | 2 => ⟨S32x1, .i32⟩
  | 3 => ⟨S32x1, .i32⟩
  | 4 => ⟨S522240x81, .f32⟩
  | 5 => ⟨S522240x1, .i32⟩
  | 6 => ⟨S_, .i32⟩
  | 7 => ⟨S522240x1, .i32⟩
  | 8 => ⟨S522240x1, .i1⟩
  | 9 => ⟨S_, .i32⟩
  | 10 => ⟨S522240x1, .i32⟩
  | 11 => ⟨S522240x1, .i32⟩
  | 12 => ⟨S522240x1, .i32⟩
  | 13 => ⟨S522240x1x1, .i32⟩
  | 14 => ⟨S1, .i32⟩
  | 15 => ⟨S_, .i32⟩
  | 16 => ⟨S522240x1x1, .i32⟩
  | 17 => ⟨S522240x1x1, .i1⟩
  | 18 => ⟨S1x1x1, .i32⟩
  | 19 => ⟨S522240x1x1, .i32⟩
  | 20 => ⟨S522240x1x1, .i1⟩
  | 21 => ⟨S522240x1x1, .i1⟩
  | 22 => ⟨S_, .i1⟩
  | 23 => ⟨S522240x1, .i1⟩
  | 24 => ⟨S522240x1, .f32⟩
  | 25 => ⟨S_, .f32⟩
  | 26 => ⟨S522240x1, .f32⟩
  | 27 => ⟨S522240x1, .f32⟩
  | 28 => ⟨S522240, .f32⟩
  | 29 => ⟨S_, .f32⟩
  | 30 => ⟨S522240, .f32⟩
  | 31 => ⟨S522240, .f32⟩
  | 32 => ⟨S_, .f32⟩
  | 33 => ⟨S522240, .f32⟩
  | 34 => ⟨S522240, .i1⟩
  | 35 => ⟨S_, .f32⟩
  | 36 => ⟨S_, .f32⟩
  | 37 => ⟨S522240, .f32⟩
  | 38 => ⟨S522240, .f32⟩
  | 39 => ⟨S522240x1, .f32⟩
  | 40 => ⟨S522240x81, .f32⟩
  | 41 => ⟨S522240x81, .f32⟩
  | 42 => ⟨S522240x81, .f32⟩
  | 43 => ⟨S_, .f32⟩
  | 44 => ⟨S522240, .f32⟩
  | 45 => ⟨S522240, .f32⟩
  | 46 => ⟨S522240, .f32⟩
  | 47 => ⟨S522240, .f32⟩
  | 48 => ⟨S32x16320, .f32⟩
  | 49 => ⟨S32x16320, .f32⟩
  | 50 => ⟨S32x16320, .f32⟩
  | 51 => ⟨S_, .f32⟩
  | 52 => ⟨S32, .f32⟩
  | 53 => ⟨S32, .i32⟩
  | 54 => ⟨S32, .f32⟩
  | _ => ⟨S32x16320x4, .f32⟩

abbrev hbmTy (i : Nat) : BufTy := match i / 128 with
  | 0 => hbmTy0_0 i
  | 1 => hbmTy0_1 i
  | 2 => hbmTy0_2 i
  | _ => ⟨S32x16320x4, .f32⟩

abbrev bufTy : (tb : Table) → Fin (tcTables nBuf tb) → BufTy
  | .hbm, ⟨i, _⟩ => hbmTy i
  | _, _ => ⟨S32x16320x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_3 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_call0_v0 : Ref sig .tc := ⟨.hbm, 92, rfl⟩
abbrev main_call0_cst : Ref sig .tc := ⟨.hbm, 93, rfl⟩
abbrev main_call0_c : Ref sig .tc := ⟨.hbm, 94, rfl⟩
abbrev main_call0_v1_0 : Ref sig .tc := ⟨.hbm, 95, rfl⟩
abbrev main_v81 : Ref sig .tc := ⟨.hbm, 96, rfl⟩
abbrev main_cst_4 : Ref sig .tc := ⟨.hbm, 97, rfl⟩
abbrev main_v82 : Ref sig .tc := ⟨.hbm, 98, rfl⟩
abbrev main_call1_v0 : Ref sig .tc := ⟨.hbm, 99, rfl⟩
abbrev main_call1_cst : Ref sig .tc := ⟨.hbm, 100, rfl⟩
abbrev main_call1_c : Ref sig .tc := ⟨.hbm, 101, rfl⟩
abbrev main_call1_v1_0 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_c : Ref sig .tc := ⟨.hbm, 106, rfl⟩
abbrev main_v86 : Ref sig .tc := ⟨.hbm, 107, rfl⟩
abbrev main_v87 : Ref sig .tc := ⟨.hbm, 108, rfl⟩
abbrev main_c_5 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_c_6 : Ref sig .tc := ⟨.hbm, 113, rfl⟩
abbrev main_v91 : Ref sig .tc := ⟨.hbm, 114, rfl⟩
abbrev main_v92 : Ref sig .tc := ⟨.hbm, 115, rfl⟩
abbrev main_c_7 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_cst_8 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_c_9 : Ref sig .tc := ⟨.hbm, 129, rfl⟩
abbrev main_v104 : Ref sig .tc := ⟨.hbm, 130, rfl⟩
abbrev main_v105 : Ref sig .tc := ⟨.hbm, 131, rfl⟩
abbrev main_c_10 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_c_11 : Ref sig .tc := ⟨.hbm, 136, rfl⟩
abbrev main_v109 : Ref sig .tc := ⟨.hbm, 137, rfl⟩
abbrev main_v110 : Ref sig .tc := ⟨.hbm, 138, rfl⟩
abbrev main_c_12 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_c_13 : Ref sig .tc := ⟨.hbm, 149, rfl⟩
abbrev main_v120 : Ref sig .tc := ⟨.hbm, 150, rfl⟩
abbrev main_v121 : Ref sig .tc := ⟨.hbm, 151, rfl⟩
abbrev main_c_14 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_c_15 : Ref sig .tc := ⟨.hbm, 156, rfl⟩
abbrev main_v125 : Ref sig .tc := ⟨.hbm, 157, rfl⟩
abbrev main_v126 : Ref sig .tc := ⟨.hbm, 158, rfl⟩
abbrev main_c_16 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_c_17 : Ref sig .tc := ⟨.hbm, 168, rfl⟩
abbrev main_v135 : Ref sig .tc := ⟨.hbm, 169, rfl⟩
abbrev main_v136 : Ref sig .tc := ⟨.hbm, 170, rfl⟩
abbrev main_c_18 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_c_19 : Ref sig .tc := ⟨.hbm, 175, rfl⟩
abbrev main_v140 : Ref sig .tc := ⟨.hbm, 176, rfl⟩
abbrev main_v141 : Ref sig .tc := ⟨.hbm, 177, rfl⟩
abbrev main_c_20 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_cst_21 : Ref sig .tc := ⟨.hbm, 187, rfl⟩
abbrev main_v150 : Ref sig .tc := ⟨.hbm, 188, rfl⟩
abbrev main_v151 : Ref sig .tc := ⟨.hbm, 189, rfl⟩
abbrev main_c_22 : Ref sig .tc := ⟨.hbm, 190, rfl⟩
abbrev main_call2_v0 : Ref sig .tc := ⟨.hbm, 191, rfl⟩
abbrev main_call2_v1 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_cst_23 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_cst_24 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_cst_25 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_cst_26 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_cst_27 : Ref sig .tc := ⟨.hbm, 227, rfl⟩
abbrev main_v182 : Ref sig .tc := ⟨.hbm, 228, rfl⟩
abbrev main_cst_28 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_cst_29 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_v193 : Ref sig .tc := ⟨.hbm, 241, rfl⟩
abbrev main_v194 : Ref sig .tc := ⟨.hbm, 242, rfl⟩
abbrev main_c_30 : Ref sig .tc := ⟨.hbm, 243, rfl⟩
abbrev main_v195 : Ref sig .tc := ⟨.hbm, 244, rfl⟩
abbrev main_v196 : Ref sig .tc := ⟨.hbm, 245, rfl⟩
abbrev main_cst_31 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_c_32 : Ref sig .tc := ⟨.hbm, 251, rfl⟩
abbrev main_v201 : Ref sig .tc := ⟨.hbm, 252, rfl⟩
abbrev main_v202 : Ref sig .tc := ⟨.hbm, 253, rfl⟩
abbrev main_c_33 : Ref sig .tc := ⟨.hbm, 254, rfl⟩
abbrev main_v203 : Ref sig .tc := ⟨.hbm, 255, rfl⟩
abbrev main_v204 : Ref sig .tc := ⟨.hbm, 256, rfl⟩
abbrev main_c_34 : Ref sig .tc := ⟨.hbm, 257, rfl⟩
abbrev main_v205 : Ref sig .tc := ⟨.hbm, 258, rfl⟩
abbrev main_v206 : Ref sig .tc := ⟨.hbm, 259, rfl⟩
abbrev main_v207 : Ref sig .tc := ⟨.hbm, 260, rfl⟩
abbrev main_v208 : Ref sig .tc := ⟨.hbm, 261, rfl⟩
abbrev main_call3_c : Ref sig .tc := ⟨.hbm, 262, rfl⟩
abbrev main_call3_v0 : Ref sig .tc := ⟨.hbm, 263, rfl⟩
abbrev main_call3_v1 : Ref sig .tc := ⟨.hbm, 264, rfl⟩
abbrev main_call3_c_0 : Ref sig .tc := ⟨.hbm, 265, rfl⟩
abbrev main_call3_v2 : Ref sig .tc := ⟨.hbm, 266, rfl⟩
abbrev main_call3_v3 : Ref sig .tc := ⟨.hbm, 267, rfl⟩
abbrev main_call3_v4 : Ref sig .tc := ⟨.hbm, 268, rfl⟩
abbrev main_call3_v5 : Ref sig .tc := ⟨.hbm, 269, rfl⟩
abbrev main_call3_c_1 : Ref sig .tc := ⟨.hbm, 270, rfl⟩
abbrev main_call3_c_2 : Ref sig .tc := ⟨.hbm, 271, rfl⟩
abbrev main_call3_v6 : Ref sig .tc := ⟨.hbm, 272, rfl⟩
abbrev main_call3_v7 : Ref sig .tc := ⟨.hbm, 273, rfl⟩
abbrev main_call3_v8 : Ref sig .tc := ⟨.hbm, 274, rfl⟩
abbrev main_call3_v9 : Ref sig .tc := ⟨.hbm, 275, rfl⟩
abbrev main_call3_v10 : Ref sig .tc := ⟨.hbm, 276, rfl⟩
abbrev main_call3_v11 : Ref sig .tc := ⟨.hbm, 277, rfl⟩
abbrev main_call3_c_3 : Ref sig .tc := ⟨.hbm, 278, rfl⟩
abbrev main_call3_v12 : Ref sig .tc := ⟨.hbm, 279, rfl⟩
abbrev main_call3_v13 : Ref sig .tc := ⟨.hbm, 280, rfl⟩
abbrev main_call3_cst : Ref sig .tc := ⟨.hbm, 281, rfl⟩
abbrev main_call3_v14 : Ref sig .tc := ⟨.hbm, 282, rfl⟩
abbrev main_v209 : Ref sig .tc := ⟨.hbm, 283, rfl⟩
abbrev main_v210 : Ref sig .tc := ⟨.hbm, 284, rfl⟩
abbrev main_cst_35 : Ref sig .tc := ⟨.hbm, 285, rfl⟩
abbrev main_v211 : Ref sig .tc := ⟨.hbm, 286, rfl⟩
abbrev main_v212 : Ref sig .tc := ⟨.hbm, 287, rfl⟩
abbrev main_cst_36 : Ref sig .tc := ⟨.hbm, 288, rfl⟩
abbrev main_v213 : Ref sig .tc := ⟨.hbm, 289, rfl⟩
abbrev main_v214 : Ref sig .tc := ⟨.hbm, 290, rfl⟩
abbrev main_cst_37 : Ref sig .tc := ⟨.hbm, 291, rfl⟩
abbrev main_call4_v0 : Ref sig .tc := ⟨.hbm, 292, rfl⟩
abbrev main_call4_v1 : Ref sig .tc := ⟨.hbm, 293, rfl⟩
abbrev main_v215 : Ref sig .tc := ⟨.hbm, 294, rfl⟩
abbrev main_v216 : Ref sig .tc := ⟨.hbm, 295, rfl⟩
abbrev main_v217 : Ref sig .tc := ⟨.hbm, 296, rfl⟩
abbrev main_v218 : Ref sig .tc := ⟨.hbm, 297, rfl⟩
abbrev main_v219 : Ref sig .tc := ⟨.hbm, 298, rfl⟩
abbrev main_cst_38 : Ref sig .tc := ⟨.hbm, 299, rfl⟩
abbrev main_v220 : Ref sig .tc := ⟨.hbm, 300, rfl⟩
abbrev main_v221 : Ref sig .tc := ⟨.hbm, 301, rfl⟩
abbrev main_v222 : Ref sig .tc := ⟨.hbm, 302, rfl⟩
abbrev main_v223 : Ref sig .tc := ⟨.hbm, 303, rfl⟩
abbrev main_v224 : Ref sig .tc := ⟨.hbm, 304, rfl⟩
abbrev main_v225 : Ref sig .tc := ⟨.hbm, 305, rfl⟩
abbrev main_v226 : Ref sig .tc := ⟨.hbm, 306, rfl⟩
abbrev main_cst_39 : Ref sig .tc := ⟨.hbm, 307, rfl⟩
abbrev main_v227 : Ref sig .tc := ⟨.hbm, 308, rfl⟩
abbrev main_v228 : Ref sig .tc := ⟨.hbm, 309, rfl⟩
abbrev main_v229 : Ref sig .tc := ⟨.hbm, 310, rfl⟩

abbrev nD : Nat := 1
abbrev τ : Topo := Topo.v7x

variable {F : FTy → Type} [FloatOps F]
-- ==== KernelMined.lean ====
abbrev S32x16320x4 : Shape := ⟨3, ![32, 16320, 4]⟩
abbrev S32x16320x2 : Shape := ⟨3, ![32, 16320, 2]⟩
abbrev S32x16320x81 : Shape := ⟨3, ![32, 16320, 81]⟩
abbrev S16320x4 : Shape := ⟨2, ![16320, 4]⟩
abbrev S32x16x5 : Shape := ⟨3, ![32, 16, 5]⟩
abbrev S32x4x16320 : Shape := ⟨3, ![32, 4, 16320]⟩
abbrev S32x4x8x2040 : Shape := ⟨4, ![32, 4, 8, 2040]⟩
abbrev S32x2x16320 : Shape := ⟨3, ![32, 2, 16320]⟩
abbrev S32x2x8x2040 : Shape := ⟨4, ![32, 2, 8, 2040]⟩
abbrev S32x81x16320 : Shape := ⟨3, ![32, 81, 16320]⟩
abbrev S32x81x8x2040 : Shape := ⟨4, ![32, 81, 8, 2040]⟩
abbrev S4x16320 : Shape := ⟨2, ![4, 16320]⟩
abbrev S4x8x2040 : Shape := ⟨3, ![4, 8, 2040]⟩
abbrev S32x16x4 : Shape := ⟨3, ![32, 16, 4]⟩
abbrev S32x16x1 : Shape := ⟨3, ![32, 16, 1]⟩
abbrev S32x16 : Shape := ⟨2, ![32, 16]⟩
abbrev S32x1x16 : Shape := ⟨3, ![32, 1, 16]⟩
abbrev S32x1x128 : Shape := ⟨3, ![32, 1, 128]⟩
abbrev S1x16x4 : Shape := ⟨3, ![1, 16, 4]⟩
abbrev S1x1x16 : Shape := ⟨3, ![1, 1, 16]⟩
abbrev S1x81x8x2040 : Shape := ⟨4, ![1, 81, 8, 2040]⟩
abbrev S1x4x8x2040 : Shape := ⟨4, ![1, 4, 8, 2040]⟩
abbrev S1x2x8x2040 : Shape := ⟨4, ![1, 2, 8, 2040]⟩
abbrev S1x1x128 : Shape := ⟨3, ![1, 1, 128]⟩
abbrev S1x8x2040 : Shape := ⟨3, ![1, 8, 2040]⟩
abbrev S8x2040 : Shape := ⟨2, ![8, 2040]⟩
abbrev S1x1x1 : Shape := ⟨3, ![1, 1, 1]⟩
abbrev S1 : Shape := ⟨1, ![1]⟩
abbrev S2x8x2040 : Shape := ⟨3, ![2, 8, 2040]⟩
abbrev S1x1x8x2040 : Shape := ⟨4, ![1, 1, 8, 2040]⟩
abbrev S1x128 : Shape := ⟨2, ![1, 128]⟩
abbrev S32x128 : Shape := ⟨2, ![32, 128]⟩
abbrev S32x1 : Shape := ⟨2, ![32, 1]⟩
abbrev S32 : Shape := ⟨1, ![32]⟩
abbrev S_ : Shape := ⟨0, ![]⟩

abbrev nBuf : Space → Nat
  | .hbm => 43
  | .vmem => 15
  | .smem => 0
  | _ => 0

abbrev bufTy : (tb : Table) → Fin (tcTables nBuf tb) → BufTy
  | .hbm, ⟨0, _⟩ => ⟨S32x16320x4, .f32⟩
  | .hbm, ⟨1, _⟩ => ⟨S32x16320x2, .f32⟩
  | .hbm, ⟨2, _⟩ => ⟨S32x16320x4, .f32⟩
  | .hbm, ⟨3, _⟩ => ⟨S32x16320x81, .f32⟩
  | .hbm, ⟨4, _⟩ => ⟨S16320x4, .f32⟩
  | .hbm, ⟨5, _⟩ => ⟨S32x16x5, .f32⟩
  | .hbm, ⟨6, _⟩ => ⟨S32x4x16320, .f32⟩
  | .hbm, ⟨7, _⟩ => ⟨S32x4x8x2040, .f32⟩
  | .hbm, ⟨8, _⟩ => ⟨S32x4x16320, .f32⟩
  | .hbm, ⟨9, _⟩ => ⟨S32x4x8x2040, .f32⟩
  | .hbm, ⟨10, _⟩ => ⟨S32x2x16320, .f32⟩
  | .hbm, ⟨11, _⟩ => ⟨S32x2x8x2040, .f32⟩
  | .hbm, ⟨12, _⟩ => ⟨S32x81x16320, .f32⟩
  | .hbm, ⟨13, _⟩ => ⟨S32x81x8x2040, .f32⟩
  | .hbm, ⟨14, _⟩ => ⟨S4x16320, .f32⟩
  | .hbm, ⟨15, _⟩ => ⟨S4x8x2040, .f32⟩
  | .hbm, ⟨16, _⟩ => ⟨S32x16x4, .f32⟩
  | .hbm, ⟨17, _⟩ => ⟨S32x16x1, .f32⟩
  | .hbm, ⟨18, _⟩ => ⟨S32x16, .f32⟩
  | .hbm, ⟨19, _⟩ => ⟨S32x16, .i32⟩
  | .hbm, ⟨20, _⟩ => ⟨S32x1x16, .i32⟩
  | .hbm, ⟨21, _⟩ => ⟨S32x1x128, .f32⟩
  | .hbm, ⟨22, _⟩ => ⟨S32x128, .f32⟩
  | .hbm, ⟨23, _⟩ => ⟨S32x1, .f32⟩
  | .hbm, ⟨24, _⟩ => ⟨S32, .f32⟩
  | .hbm, ⟨25, _⟩ => ⟨S_, .f32⟩
  | .hbm, ⟨26, _⟩ => ⟨S_, .f32⟩
  | .hbm, ⟨27, _⟩ => ⟨S32x1, .f32⟩
  | .hbm, ⟨28, _⟩ => ⟨S32, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S32x1, .f32⟩
  | .hbm, ⟨33, _⟩ => ⟨S32, .f32⟩
  | .hbm, ⟨34, _⟩ => ⟨S_, .f32⟩
  | .hbm, ⟨35, _⟩ => ⟨S_, .f32⟩
  | .hbm, ⟨36, _⟩ => ⟨S32x1, .f32⟩
  | .hbm, ⟨37, _⟩ => ⟨S32, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .local _ .vmem, ⟨0, _⟩ => ⟨S1x16x4, .f32⟩
  | .local _ .vmem, ⟨1, _⟩ => ⟨S1x16x4, .f32⟩
  | .local _ .vmem, ⟨2, _⟩ => ⟨S1x1x16, .i32⟩
  | .local _ .vmem, ⟨3, _⟩ => ⟨S1x1x16, .i32⟩
  | .local _ .vmem, ⟨4, _⟩ => ⟨S1x81x8x2040, .f32⟩
  | .local _ .vmem, ⟨5, _⟩ => ⟨S1x81x8x2040, .f32⟩
  | .local _ .vmem, ⟨6, _⟩ => ⟨S1x4x8x2040, .f32⟩
  | .local _ .vmem, ⟨7, _⟩ => ⟨S1x4x8x2040, .f32⟩
  | .local _ .vmem, ⟨8, _⟩ => ⟨S1x4x8x2040, .f32⟩
  | .local _ .vmem, ⟨9, _⟩ => ⟨S1x4x8x2040, .f32⟩
  | .local _ .vmem, ⟨10, _⟩ => ⟨S1x2x8x2040, .f32⟩
  | .local _ .vmem, ⟨11, _⟩ => ⟨S1x2x8x2040, .f32⟩
  | .local _ .vmem, ⟨12, _⟩ => ⟨S4x8x2040, .f32⟩
  | .local _ .vmem, ⟨13, _⟩ => ⟨S1x1x128, .f32⟩
  | .local _ .vmem, ⟨14, _⟩ => ⟨S1x1x128, .f32⟩
  | _, _ => ⟨S32x16320x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_0 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_1091 : BitVec 32 := 0#32
  let c31_i32_1092 : BitVec 32 := 31#32
  let v2218 : BitVec 32 := Scalar.addi c0_i32_1091 c31_i32_1092
  let c1_i32_1093 : BitVec 32 := 1#32
  ⟨c0_i32_1091, v2218, c1_i32_1093⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x16 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x81x8x2040 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x8x2040 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x8x2040 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2x8x2040 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x8x2040 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceMinedIdeal.lean ====
abbrev S32x16320x4 : Shape := ⟨3, ![32, 16320, 4]⟩
abbrev S32x16320x2 : Shape := ⟨3, ![32, 16320, 2]⟩
abbrev S32x16320x81 : Shape := ⟨3, ![32, 16320, 81]⟩
abbrev S16320x4 : Shape := ⟨2, ![16320, 4]⟩
abbrev S32x16x5 : Shape := ⟨3, ![32, 16, 5]⟩
abbrev S32x16x4 : Shape := ⟨3, ![32, 16, 4]⟩
abbrev S32x16x1 : Shape := ⟨3, ![32, 16, 1]⟩
abbrev S32x16 : Shape := ⟨2, ![32, 16]⟩
abbrev S16320x2 : Shape := ⟨2, ![16320, 2]⟩
abbrev S_ : Shape := ⟨0, ![]⟩
abbrev S1x16320x2 : Shape := ⟨3, ![1, 16320, 2]⟩
abbrev S32x16x2 : Shape := ⟨3, ![32, 16, 2]⟩
abbrev S32x16x1x2 : Shape := ⟨4, ![32, 16, 1, 2]⟩
abbrev S32x1x16320x2 : Shape := ⟨4, ![32, 1, 16320, 2]⟩
abbrev S32x16x16320x2 : Shape := ⟨4, ![32, 16, 16320, 2]⟩
abbrev S32x16x16320x1 : Shape := ⟨4, ![32, 16, 16320, 1]⟩
abbrev S32x16x16320 : Shape := ⟨3, ![32, 16, 16320]⟩
abbrev S32x16320x1 : Shape := ⟨3, ![32, 16320, 1]⟩
abbrev S32x16320 : Shape := ⟨2, ![32, 16320]⟩
abbrev S32x1x16320 : Shape := ⟨3, ![32, 1, 16320]⟩
abbrev S32 : Shape := ⟨1, ![32]⟩
abbrev S32x1 : Shape := ⟨2, ![32, 1]⟩
abbrev S16 : Shape := ⟨1, ![16]⟩
abbrev S1x16 : Shape := ⟨2, ![1, 16]⟩
abbrev S522240x81 : Shape := ⟨2, ![522240, 81]⟩
abbrev S522240x1 : Shape := ⟨2, ![522240, 1]⟩
abbrev S522240x1x1 : Shape := ⟨3, ![522240, 1, 1]⟩
abbrev S1 : Shape := ⟨1, ![1]⟩
abbrev S1x1x1 : Shape := ⟨3, ![1, 1, 1]⟩
abbrev S522240 : Shape := ⟨1, ![522240]⟩

abbrev nBuf : Space → Nat
  | .hbm => 346
  | .vmem => 0
  | .smem => 0
  | _ => 0

abbrev hbmTy0_0 (i : Nat) : BufTy := match i % 128 with
  | 0 => ⟨S32x16320x4, .f32⟩
  | 1 => ⟨S32x16320x2, .f32⟩
  | 2 => ⟨S32x16320x4, .f32⟩
  | 3 => ⟨S32x16320x81, .f32⟩
  | 4 => ⟨S16320x4, .f32⟩
  | 5 => ⟨S32x16x5, .f32⟩
  | 6 => ⟨S32x16x4, .f32⟩
  | 7 => ⟨S32x16x1, .f32⟩
  | 8 => ⟨S32x16, .f32⟩
  | 9 => ⟨S32x16, .i32⟩
  | 10 => ⟨S16320x2, .f32⟩
  | 11 => ⟨S32x16320x2, .f32⟩
  | 12 => ⟨S_, .f32⟩
  | 13 => ⟨S32x16320x2, .f32⟩
  | 14 => ⟨S32x16320x2, .f32⟩
  | 15 => ⟨S16320x2, .f32⟩
  | 16 => ⟨S1x16320x2, .f32⟩
  | 17 => ⟨S32x16320x2, .f32⟩
  | 18 => ⟨S32x16320x2, .f32⟩
  | 19 => ⟨S1x16320x2, .f32⟩
  | 20 => ⟨S32x16320x2, .f32⟩
  | 21 => ⟨S32x16320x2, .f32⟩
  | 22 => ⟨S16320x2, .f32⟩
  | 23 => ⟨S32x16320x2, .f32⟩
  | 24 => ⟨S_, .f32⟩
  | 25 => ⟨S32x16320x2, .f32⟩
  | 26 => ⟨S32x16320x2, .f32⟩
  | 27 => ⟨S32x16320x2, .f32⟩
  | 28 => ⟨S1x16320x2, .f32⟩
  | 29 => ⟨S32x16320x2, .f32⟩
  | 30 => ⟨S32x16320x2, .f32⟩
  | 31 => ⟨S_, .f32⟩
  | 32 => ⟨S32x16320x2, .f32⟩
  | 33 => ⟨S32x16320x2, .f32⟩
  | 34 => ⟨S32x16320x2, .f32⟩
  | 35 => ⟨S_, .f32⟩
  | 36 => ⟨S32x16320x2, .f32⟩
  | 37 => ⟨S32x16320x2, .f32⟩
  | 38 => ⟨S32x16320x2, .f32⟩
  | 39 => ⟨S32x16320x4, .f32⟩
  | 40 => ⟨S32x16x2, .f32⟩
  | 41 => ⟨S32x16x1x2, .f32⟩
  | 42 => ⟨S32x16320x2, .f32⟩
  | 43 => ⟨S32x1x16320x2, .f32⟩
  | 44 => ⟨S32x16x16320x2, .f32⟩
  | 45 => ⟨S32x16x16320x2, .f32⟩
  | 46 => ⟨S32x16x16320x2, .f32⟩
  | 47 => ⟨S32x16x2, .f32⟩
  | 48 => ⟨S32x16x1x2, .f32⟩
  | 49 => ⟨S32x16320x2, .f32⟩
  | 50 => ⟨S32x1x16320x2, .f32⟩
  | 51 => ⟨S32x16x16320x2, .f32⟩
  | 52 => ⟨S32x16x16320x2, .f32⟩
  | 53 => ⟨S32x16x16320x2, .f32⟩
  | 54 => ⟨S32x16x16320x2, .f32⟩
  | 55 => ⟨S_, .f32⟩
  | 56 => ⟨S32x16x16320x2, .f32⟩
  | 57 => ⟨S32x16x16320x2, .f32⟩
  | 58 => ⟨S32x16x16320x1, .f32⟩
  | 59 => ⟨S32x16x16320, .f32⟩
  | 60 => ⟨S32x16x16320x1, .f32⟩
  | 61 => ⟨S32x16x16320, .f32⟩
  | 62 => ⟨S32x16x16320, .f32⟩
  | 63 => ⟨S32x16x1, .f32⟩
  | 64 => ⟨S32x16, .f32⟩
  | 65 => ⟨S32x16x1, .f32⟩
  | 66 => ⟨S32x16, .f32⟩
  | 67 => ⟨S32x16, .f32⟩
  | 68 => ⟨S32x16x1, .f32⟩
  | 69 => ⟨S32x16, .f32⟩
  | 70 => ⟨S32x16x1, .f32⟩
  | 71 => ⟨S32x16, .f32⟩
  | 72 => ⟨S32x16, .f32⟩
  | 73 => ⟨S32x16, .f32⟩
  | 74 => ⟨S32x16x1, .f32⟩
  | 75 => ⟨S32x16320x1, .f32⟩
  | 76 => ⟨S32x16320, .f32⟩
  | 77 => ⟨S32x16320x1, .f32⟩
  | 78 => ⟨S32x16320, .f32⟩
  | 79 => ⟨S32x16320, .f32⟩
  | 80 => ⟨S32x16320x1, .f32⟩
  | 81 => ⟨S32x16320, .f32⟩
  | 82 => ⟨S32x16320x1, .f32⟩
  | 83 => ⟨S32x16320, .f32⟩
  | 84 => ⟨S32x16320, .f32⟩
  | 85 => ⟨S32x16320, .f32⟩
  | 86 => ⟨S32x1x16320, .f32⟩
  | 87 => ⟨S32x16x16320, .f32⟩
  | 88 => ⟨S32x16x16320, .f32⟩
  | 89 => ⟨S32x16x16320, .f32⟩
  | 90 => ⟨S32x16x16320, .f32⟩
  | 91 => ⟨S32x16x16320, .f32⟩
  | 92 => ⟨S32x16x16320, .i32⟩
  | 93 => ⟨S_, .f32⟩
  | 94 => ⟨S_, .i32⟩
  | 95 => ⟨S32x16, .f32⟩
  | 96 => ⟨S32x16, .i32⟩
  | 97 => ⟨S_, .f32⟩
  | 98 => ⟨S32x16320, .f32⟩
  | 99 => ⟨S32x16x16320, .i32⟩
  | 100 => ⟨S_, .f32⟩
  | 101 => ⟨S_, .i32⟩
  | 102 => ⟨S32x16320, .f32⟩
  | 103 => ⟨S32x16320, .i32⟩
  | 104 => ⟨S32, .i32⟩
  | 105 => ⟨S32x1, .i32⟩
  | 106 => ⟨S_, .i32⟩
  | 107 => ⟨S32x1, .i32⟩
  | 108 => ⟨S32x1, .i1⟩
  | 109 => ⟨S_, .i32⟩
  | 110 => ⟨S32x1, .i32⟩
  | 111 => ⟨S32x1, .i32⟩
  | 112 => ⟨S32x1, .i32⟩
  | 113 => ⟨S_, .i32⟩
  | 114 => ⟨S32x16, .i32⟩
  | 115 => ⟨S32x16, .i1⟩
  | 116 => ⟨S_, .i32⟩
  | 117 => ⟨S32x16, .i32⟩
  | 118 => ⟨S32x16, .i32⟩
  | 119 => ⟨S32x16, .i32⟩
  | 120 => ⟨S32x16, .i32⟩
  | 121 => ⟨S32x16x1, .i32⟩
  | 122 => ⟨S32x16x1, .i32⟩
  | 123 => ⟨S32x16x2, .i32⟩
  | 124 => ⟨S_, .f32⟩
  | 125 => ⟨S32x16, .f32⟩
  | 126 => ⟨S32x16320, .f32⟩
  | 127 => ⟨S16, .i32⟩
  | _ => ⟨S32x16320x4, .f32⟩

abbrev hbmTy0_1 (i : Nat) : BufTy := match i % 128 with
  | 0 => ⟨S1x16, .i32⟩
  | 1 => ⟨S_, .i32⟩
  | 2 => ⟨S32x1, .i32⟩
  | 3 => ⟨S32x1, .i1⟩
  | 4 => ⟨S_, .i32⟩
  | 5 => ⟨S32x1, .i32⟩
  | 6 => ⟨S32x1, .i32⟩
  | 7 => ⟨S32x1, .i32⟩
  | 8 => ⟨S_, .i32⟩
  | 9 => ⟨S32x16, .i32⟩
  | 10 => ⟨S32x16, .i1⟩
  | 11 => ⟨S_, .i32⟩
  | 12 => ⟨S32x16, .i32⟩
  | 13 => ⟨S32x16, .i32⟩
  | 14 => ⟨S32x16, .i32⟩
  | 15 => ⟨S32x16, .i32⟩
  | 16 => ⟨S32x16x1, .i32⟩
  | 17 => ⟨S32x16x1, .i32⟩
  | 18 => ⟨S32x16x2, .i32⟩
  | 19 => ⟨S32x16, .i32⟩
  | 20 => ⟨S32x16320, .i32⟩
  | 21 => ⟨S_, .i32⟩
  | 22 => ⟨S32x1, .i32⟩
  | 23 => ⟨S32x1, .i1⟩
  | 24 => ⟨S_, .i32⟩
  | 25 => ⟨S32x1, .i32⟩
  | 26 => ⟨S32x1, .i32⟩
  | 27 => ⟨S32x1, .i32⟩
  | 28 => ⟨S_, .i32⟩
  | 29 => ⟨S32x16320, .i32⟩
  | 30 => ⟨S32x16320, .i1⟩
  | 31 => ⟨S_, .i32⟩
  | 32 => ⟨S32x16320, .i32⟩
  | 33 => ⟨S32x16320, .i32⟩
  | 34 => ⟨S32x16320, .i32⟩
  | 35 => ⟨S32x16320, .i32⟩
  | 36 => ⟨S32x16320x1, .i32⟩
  | 37 => ⟨S32x16320x1, .i32⟩
  | 38 => ⟨S32x16320x2, .i32⟩
  | 39 => ⟨S32x16320x4, .f32⟩
  | 40 => ⟨S_, .i32⟩
  | 41 => ⟨S32x1, .i32⟩
  | 42 => ⟨S32x1, .i1⟩
  | 43 => ⟨S_, .i32⟩
  | 44 => ⟨S32x1, .i32⟩
  | 45 => ⟨S32x1, .i32⟩
  | 46 => ⟨S32x1, .i32⟩
  | 47 => ⟨S_, .i32⟩
  | 48 => ⟨S32x16320, .i32⟩
  | 49 => ⟨S32x16320, .i1⟩
  | 50 => ⟨S_, .i32⟩
  | 51 => ⟨S32x16320, .i32⟩
  | 52 => ⟨S32x16320, .i32⟩
  | 53 => ⟨S32x16320, .i32⟩
  | 54 => ⟨S32x16320, .i32⟩
  | 55 => ⟨S32x16320x1, .i32⟩
  | 56 => ⟨S32x16320x1, .i32⟩
  | 57 => ⟨S32x16320x2, .i32⟩
  | 58 => ⟨S32x16320, .i32⟩
  | 59 => ⟨S_, .f32⟩
  | 60 => ⟨S32x16320, .f32⟩
  | 61 => ⟨S32x16320, .i1⟩
  | 62 => ⟨S_, .i32⟩
  | 63 => ⟨S_, .i32⟩
  | 64 => ⟨S32x16320, .i32⟩
  | 65 => ⟨S32x16320, .i32⟩
  | 66 => ⟨S32x16320x2, .f32⟩
  | 67 => ⟨S32x16320x2, .f32⟩
  | 68 => ⟨S32x16320x2, .f32⟩
  | 69 => ⟨S_, .f32⟩
  | 70 => ⟨S32x16320x2, .f32⟩
  | 71 => ⟨S32x16320x2, .f32⟩
  | 72 => ⟨S32x16320x2, .f32⟩
  | 73 => ⟨S32x16320x2, .f32⟩
  | 74 => ⟨S32x16320x2, .f32⟩
  | 75 => ⟨S32x16320x4, .f32⟩
  | 76 => ⟨S32x16320x2, .f32⟩
  | 77 => ⟨S32x16320x2, .f32⟩
  | 78 => ⟨S32x16320x2, .f32⟩
  | 79 => ⟨S_, .f32⟩
  | 80 => ⟨S32x16320x2, .f32⟩
  | 81 => ⟨S32x16320x2, .f32⟩
  | 82 => ⟨S32x16320x2, .f32⟩
  | 83 => ⟨S32x16320x2, .f32⟩
  | 84 => ⟨S32x16320x2, .f32⟩
  | 85 => ⟨S_, .f32⟩
  | 86 => ⟨S32x16320x2, .f32⟩
  | 87 => ⟨S32x16320x2, .f32⟩
  | 88 => ⟨S32x16320x2, .f32⟩
  | 89 => ⟨S32x16320x2, .f32⟩
  | 90 => ⟨S32x16320x2, .f32⟩
  | 91 => ⟨S32x16320x2, .f32⟩
  | 92 => ⟨S32x16320x2, .f32⟩
  | 93 => ⟨S32x16320x2, .f32⟩
  | 94 => ⟨S32x16320x2, .f32⟩
  | 95 => ⟨S_, .f32⟩
  | 96 => ⟨S32x16320x2, .f32⟩
  | 97 => ⟨S32x16320x2, .f32⟩
  | 98 => ⟨S32x16320x4, .f32⟩
  | 99 => ⟨S_, .f32⟩
  | 100 => ⟨S32x16320, .f32⟩
  | 101 => ⟨S_, .f32⟩
  | 102 => ⟨S32x16320, .f32⟩
  | 103 => ⟨S32x16320, .f32⟩
  | 104 => ⟨S32x16320x1, .f32⟩
  | 105 => ⟨S32x16320x2, .f32⟩
  | 106 => ⟨S32x16320x2, .f32⟩
  | 107 => ⟨S32x16320x2, .f32⟩
  | 108 => ⟨S_, .f32⟩
  | 109 => ⟨S32x16320, .f32⟩
  | 110 => ⟨S32x16320x1, .f32⟩
  | 111 => ⟨S32x16320x2, .f32⟩
  | 112 => ⟨S32x16320x2, .f32⟩
  | 113 => ⟨S32x16320x1, .f32⟩
  | 114 => ⟨S32x16320, .f32⟩
  | 115 => ⟨S_, .i32⟩
  | 116 => ⟨S32x16320, .i32⟩
  | 117 => ⟨S32x16320, .i1⟩
  | 118 => ⟨S_, .f32⟩
  | 119 => ⟨S32x16320, .f32⟩
  | 120 => ⟨S32x16320, .i1⟩
  | 121 => ⟨S32x16320, .i1⟩
  | 122 => ⟨S32x16320, .i32⟩
  | 123 => ⟨S_, .i32⟩
  | 124 => ⟨S32, .i32⟩
  | 125 => ⟨S32x1, .i32⟩
  | 126 => ⟨S522240x81, .f32⟩
  | 127 => ⟨S522240x1, .i32⟩
  | _ => ⟨S32x16320x4, .f32⟩

abbrev hbmTy0_2 (i : Nat) : BufTy := match i % 128 with
  | 0 => ⟨S_, .i32⟩
  | 1 => ⟨S522240x1, .i32⟩
  | 2 => ⟨S522240x1, .i1⟩
  | 3 => ⟨S_, .i32⟩
  | 4 => ⟨S522240x1, .i32⟩
  | 5 => ⟨S522240x1, .i32⟩
  | 6 => ⟨S522240x1, .i32⟩
  | 7 => ⟨S522240x1x1, .i32⟩
  | 8 => ⟨S1, .i32⟩
  | 9 => ⟨S_, .i32⟩
  | 10 => ⟨S522240x1x1, .i32⟩
  | 11 => ⟨S522240x1x1, .i1⟩
  | 12 => ⟨S1x1x1, .i32⟩
  | 13 => ⟨S522240x1x1, .i32⟩
  | 14 => ⟨S522240x1x1, .i1⟩
  | 15 => ⟨S522240x1x1, .i1⟩
  | 16 => ⟨S_, .i1⟩
  | 17 => ⟨S522240x1, .i1⟩
  | 18 => ⟨S522240x1, .f32⟩
  | 19 => ⟨S_, .f32⟩
  | 20 => ⟨S522240x1, .f32⟩
  | 21 => ⟨S522240x1, .f32⟩
  | 22 => ⟨S522240, .f32⟩
  | 23 => ⟨S_, .f32⟩
  | 24 => ⟨S_, .f32⟩
  | 25 => ⟨S522240x81, .f32⟩
  | 26 => ⟨S522240x81, .f32⟩
  | 27 => ⟨S522240x81, .f32⟩
  | 28 => ⟨S_, .f32⟩
  | 29 => ⟨S522240, .f32⟩
  | 30 => ⟨S522240, .f32⟩
  | 31 => ⟨S522240, .f32⟩
  | 32 => ⟨S522240, .f32⟩
  | 33 => ⟨S522240, .f32⟩
  | 34 => ⟨S522240, .i1⟩
  | 35 => ⟨S_, .f32⟩
  | 36 => ⟨S_, .f32⟩
  | 37 => ⟨S522240, .f32⟩
  | 38 => ⟨S522240, .f32⟩
  | 39 => ⟨S32x16320, .f32⟩
  | 40 => ⟨S32x16320, .f32⟩
  | 41 => ⟨S32x16320, .i32⟩
  | 42 => ⟨S32x16320, .f32⟩
  | 43 => ⟨S32x16320, .i32⟩
  | 44 => ⟨S32x16320, .i32⟩
  | 45 => ⟨S32x16320, .i32⟩
  | 46 => ⟨S32x16320, .i32⟩
  | 47 => ⟨S_, .i32⟩
  | 48 => ⟨S32x1, .i32⟩
  | 49 => ⟨S32x1, .i32⟩
  | 50 => ⟨S_, .i32⟩
  | 51 => ⟨S32x1, .i32⟩
  | 52 => ⟨S32x1, .i32⟩
  | 53 => ⟨S32x16320, .i32⟩
  | 54 => ⟨S32x16320, .i1⟩
  | 55 => ⟨S_, .i32⟩
  | 56 => ⟨S_, .i32⟩
  | 57 => ⟨S_, .f32⟩
  | 58 => ⟨S32x16320, .i1⟩
  | 59 => ⟨S522240x81, .f32⟩
  | 60 => ⟨S_, .f32⟩
  | 61 => ⟨S522240, .f32⟩
  | 62 => ⟨S522240, .f32⟩
  | 63 => ⟨S_, .f32⟩
  | 64 => ⟨S522240, .f32⟩
  | 65 => ⟨S522240, .i1⟩
  | 66 => ⟨S_, .f32⟩
  | 67 => ⟨S_, .f32⟩
  | 68 => ⟨S522240, .f32⟩
  | 69 => ⟨S522240, .f32⟩
  | 70 => ⟨S522240x1, .f32⟩
  | 71 => ⟨S522240x81, .f32⟩
  | 72 => ⟨S522240x81, .f32⟩
  | 73 => ⟨S522240x81, .f32⟩
  | 74 => ⟨S_, .f32⟩
  | 75 => ⟨S522240, .f32⟩
  | 76 => ⟨S522240, .f32⟩
  | 77 => ⟨S522240, .f32⟩
  | 78 => ⟨S522240, .f32⟩
  | 79 => ⟨S32x16320, .f32⟩
  | 80 => ⟨S32x16320, .i32⟩
  | 81 => ⟨S_, .i32⟩
  | 82 => ⟨S_, .i32⟩
  | 83 => ⟨S_, .f32⟩
  | 84 => ⟨S32x16320, .f32⟩
  | 85 => ⟨S32x16320, .f32⟩
  | 86 => ⟨S_, .f32⟩
  | 87 => ⟨S_, .f32⟩
  | 88 => ⟨S_, .f32⟩
  | 89 => ⟨S_, .f32⟩
  | _ => ⟨S32x16320x4, .f32⟩

abbrev hbmTy (i : Nat) : BufTy := match i / 128 with
  | 0 => hbmTy0_0 i
  | 1 => hbmTy0_1 i
  | 2 => hbmTy0_2 i
  | _ => ⟨S32x16320x4, .f32⟩

abbrev bufTy : (tb : Table) → Fin (tcTables nBuf tb) → BufTy
  | .hbm, ⟨i, _⟩ => hbmTy i
  | _, _ => ⟨S32x16320x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_3 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_call0_v0 : Ref sig .tc := ⟨.hbm, 92, rfl⟩
abbrev main_call0_cst : Ref sig .tc := ⟨.hbm, 93, rfl⟩
abbrev main_call0_c : Ref sig .tc := ⟨.hbm, 94, rfl⟩
abbrev main_call0_v1_0 : Ref sig .tc := ⟨.hbm, 95, rfl⟩
abbrev main_v81 : Ref sig .tc := ⟨.hbm, 96, rfl⟩
abbrev main_cst_4 : Ref sig .tc := ⟨.hbm, 97, rfl⟩
abbrev main_v82 : Ref sig .tc := ⟨.hbm, 98, rfl⟩
abbrev main_call1_v0 : Ref sig .tc := ⟨.hbm, 99, rfl⟩
abbrev main_call1_cst : Ref sig .tc := ⟨.hbm, 100, rfl⟩
abbrev main_call1_c : Ref sig .tc := ⟨.hbm, 101, rfl⟩
abbrev main_call1_v1_0 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_c : Ref sig .tc := ⟨.hbm, 106, rfl⟩
abbrev main_v86 : Ref sig .tc := ⟨.hbm, 107, rfl⟩
abbrev main_v87 : Ref sig .tc := ⟨.hbm, 108, rfl⟩
abbrev main_c_5 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_c_6 : Ref sig .tc := ⟨.hbm, 113, rfl⟩
abbrev main_v91 : Ref sig .tc := ⟨.hbm, 114, rfl⟩
abbrev main_v92 : Ref sig .tc := ⟨.hbm, 115, rfl⟩
abbrev main_c_7 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_cst_8 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_c_9 : Ref sig .tc := ⟨.hbm, 129, rfl⟩
abbrev main_v104 : Ref sig .tc := ⟨.hbm, 130, rfl⟩
abbrev main_v105 : Ref sig .tc := ⟨.hbm, 131, rfl⟩
abbrev main_c_10 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_c_11 : Ref sig .tc := ⟨.hbm, 136, rfl⟩
abbrev main_v109 : Ref sig .tc := ⟨.hbm, 137, rfl⟩
abbrev main_v110 : Ref sig .tc := ⟨.hbm, 138, rfl⟩
abbrev main_c_12 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_c_13 : Ref sig .tc := ⟨.hbm, 149, rfl⟩
abbrev main_v120 : Ref sig .tc := ⟨.hbm, 150, rfl⟩
abbrev main_v121 : Ref sig .tc := ⟨.hbm, 151, rfl⟩
abbrev main_c_14 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_c_15 : Ref sig .tc := ⟨.hbm, 156, rfl⟩
abbrev main_v125 : Ref sig .tc := ⟨.hbm, 157, rfl⟩
abbrev main_v126 : Ref sig .tc := ⟨.hbm, 158, rfl⟩
abbrev main_c_16 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_c_17 : Ref sig .tc := ⟨.hbm, 168, rfl⟩
abbrev main_v135 : Ref sig .tc := ⟨.hbm, 169, rfl⟩
abbrev main_v136 : Ref sig .tc := ⟨.hbm, 170, rfl⟩
abbrev main_c_18 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_c_19 : Ref sig .tc := ⟨.hbm, 175, rfl⟩
abbrev main_v140 : Ref sig .tc := ⟨.hbm, 176, rfl⟩
abbrev main_v141 : Ref sig .tc := ⟨.hbm, 177, rfl⟩
abbrev main_c_20 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_cst_21 : Ref sig .tc := ⟨.hbm, 187, rfl⟩
abbrev main_v150 : Ref sig .tc := ⟨.hbm, 188, rfl⟩
abbrev main_v151 : Ref sig .tc := ⟨.hbm, 189, rfl⟩
abbrev main_c_22 : Ref sig .tc := ⟨.hbm, 190, rfl⟩
abbrev main_call2_v0 : Ref sig .tc := ⟨.hbm, 191, rfl⟩
abbrev main_call2_v1 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_cst_23 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_cst_24 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_cst_25 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_cst_26 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_cst_27 : Ref sig .tc := ⟨.hbm, 227, rfl⟩
abbrev main_v182 : Ref sig .tc := ⟨.hbm, 228, rfl⟩
abbrev main_cst_28 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_cst_29 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_v193 : Ref sig .tc := ⟨.hbm, 241, rfl⟩
abbrev main_v194 : Ref sig .tc := ⟨.hbm, 242, rfl⟩
abbrev main_c_30 : Ref sig .tc := ⟨.hbm, 243, rfl⟩
abbrev main_v195 : Ref sig .tc := ⟨.hbm, 244, rfl⟩
abbrev main_v196 : Ref sig .tc := ⟨.hbm, 245, rfl⟩
abbrev main_cst_31 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_c_32 : Ref sig .tc := ⟨.hbm, 251, rfl⟩
abbrev main_v201 : Ref sig .tc := ⟨.hbm, 252, rfl⟩
abbrev main_v202 : Ref sig .tc := ⟨.hbm, 253, rfl⟩
abbrev main_v203 : Ref sig .tc := ⟨.hbm, 254, rfl⟩
abbrev main_v204 : Ref sig .tc := ⟨.hbm, 255, rfl⟩
abbrev main_call3_c : Ref sig .tc := ⟨.hbm, 256, rfl⟩
abbrev main_call3_v0 : Ref sig .tc := ⟨.hbm, 257, rfl⟩
abbrev main_call3_v1 : Ref sig .tc := ⟨.hbm, 258, rfl⟩
abbrev main_call3_c_0 : Ref sig .tc := ⟨.hbm, 259, rfl⟩
abbrev main_call3_v2 : Ref sig .tc := ⟨.hbm, 260, rfl⟩
abbrev main_call3_v3 : Ref sig .tc := ⟨.hbm, 261, rfl⟩
abbrev main_call3_v4 : Ref sig .tc := ⟨.hbm, 262, rfl⟩
abbrev main_call3_v5 : Ref sig .tc := ⟨.hbm, 263, rfl⟩
abbrev main_call3_c_1 : Ref sig .tc := ⟨.hbm, 264, rfl⟩
abbrev main_call3_c_2 : Ref sig .tc := ⟨.hbm, 265, rfl⟩
abbrev main_call3_v6 : Ref sig .tc := ⟨.hbm, 266, rfl⟩
abbrev main_call3_v7 : Ref sig .tc := ⟨.hbm, 267, rfl⟩
abbrev main_call3_v8 : Ref sig .tc := ⟨.hbm, 268, rfl⟩
abbrev main_call3_v9 : Ref sig .tc := ⟨.hbm, 269, rfl⟩
abbrev main_call3_v10 : Ref sig .tc := ⟨.hbm, 270, rfl⟩
abbrev main_call3_v11 : Ref sig .tc := ⟨.hbm, 271, rfl⟩
abbrev main_call3_c_3 : Ref sig .tc := ⟨.hbm, 272, rfl⟩
abbrev main_call3_v12 : Ref sig .tc := ⟨.hbm, 273, rfl⟩
abbrev main_call3_v13 : Ref sig .tc := ⟨.hbm, 274, rfl⟩
abbrev main_call3_cst : Ref sig .tc := ⟨.hbm, 275, rfl⟩
abbrev main_call3_v14 : Ref sig .tc := ⟨.hbm, 276, rfl⟩
abbrev main_v205 : Ref sig .tc := ⟨.hbm, 277, rfl⟩
abbrev main_v206 : Ref sig .tc := ⟨.hbm, 278, rfl⟩
abbrev main_cst_33 : Ref sig .tc := ⟨.hbm, 279, rfl⟩
abbrev main_v207 : Ref sig .tc := ⟨.hbm, 280, rfl⟩
abbrev main_v208 : Ref sig .tc := ⟨.hbm, 281, rfl⟩
abbrev main_v209 : Ref sig .tc := ⟨.hbm, 282, rfl⟩
abbrev main_v210 : Ref sig .tc := ⟨.hbm, 283, rfl⟩
abbrev main_cst_34 : Ref sig .tc := ⟨.hbm, 284, rfl⟩
abbrev main_v211 : Ref sig .tc := ⟨.hbm, 285, rfl⟩
abbrev main_v212 : Ref sig .tc := ⟨.hbm, 286, rfl⟩
abbrev main_v213 : Ref sig .tc := ⟨.hbm, 287, rfl⟩
abbrev main_v214 : Ref sig .tc := ⟨.hbm, 288, rfl⟩
abbrev main_v215 : Ref sig .tc := ⟨.hbm, 289, rfl⟩
abbrev main_v216 : Ref sig .tc := ⟨.hbm, 290, rfl⟩
abbrev main_cst_35 : Ref sig .tc := ⟨.hbm, 291, rfl⟩
abbrev main_call4_v0 : Ref sig .tc := ⟨.hbm, 292, rfl⟩
abbrev main_call4_v1 : Ref sig .tc := ⟨.hbm, 293, rfl⟩
abbrev main_v217 : Ref sig .tc := ⟨.hbm, 294, rfl⟩
abbrev main_v218 : Ref sig .tc := ⟨.hbm, 295, rfl⟩
abbrev main_v219 : Ref sig .tc := ⟨.hbm, 296, rfl⟩
abbrev main_call5_v0 : Ref sig .tc := ⟨.hbm, 297, rfl⟩
abbrev main_call5_v1_0 : Ref sig .tc := ⟨.hbm, 298, rfl⟩
abbrev main_v220 : Ref sig .tc := ⟨.hbm, 299, rfl⟩
abbrev main_call6_v0 : Ref sig .tc := ⟨.hbm, 300, rfl⟩
abbrev main_call6_v1_0 : Ref sig .tc := ⟨.hbm, 301, rfl⟩
abbrev main_v221 : Ref sig .tc := ⟨.hbm, 302, rfl⟩
abbrev main_c_36 : Ref sig .tc := ⟨.hbm, 303, rfl⟩
abbrev main_v222 : Ref sig .tc := ⟨.hbm, 304, rfl⟩
abbrev main_v223 : Ref sig .tc := ⟨.hbm, 305, rfl⟩
abbrev main_c_37 : Ref sig .tc := ⟨.hbm, 306, rfl⟩
abbrev main_v224 : Ref sig .tc := ⟨.hbm, 307, rfl⟩
abbrev main_v225 : Ref sig .tc := ⟨.hbm, 308, rfl⟩
abbrev main_v226 : Ref sig .tc := ⟨.hbm, 309, rfl⟩
abbrev main_v227 : Ref sig .tc := ⟨.hbm, 310, rfl⟩
abbrev main_c_38 : Ref sig .tc := ⟨.hbm, 311, rfl⟩
abbrev main_v228 : Ref sig .tc := ⟨.hbm, 312, rfl⟩
abbrev main_v229 : Ref sig .tc := ⟨.hbm, 313, rfl⟩
abbrev main_v230 : Ref sig .tc := ⟨.hbm, 314, rfl⟩
abbrev main_v231 : Ref sig .tc := ⟨.hbm, 315, rfl⟩
abbrev main_cst_39 : Ref sig .tc := ⟨.hbm, 316, rfl⟩
abbrev main_v232 : Ref sig .tc := ⟨.hbm, 317, rfl⟩
abbrev main_v233 : Ref sig .tc := ⟨.hbm, 318, rfl⟩
abbrev main_cst_40 : Ref sig .tc := ⟨.hbm, 319, rfl⟩
abbrev main_v234 : Ref sig .tc := ⟨.hbm, 320, rfl⟩
abbrev main_v235 : Ref sig .tc := ⟨.hbm, 321, rfl⟩
abbrev main_cst_41 : Ref sig .tc := ⟨.hbm, 322, rfl⟩
abbrev main_call7_v0 : Ref sig .tc := ⟨.hbm, 323, rfl⟩
abbrev main_call7_v1 : Ref sig .tc := ⟨.hbm, 324, rfl⟩
abbrev main_v236 : Ref sig .tc := ⟨.hbm, 325, rfl⟩
abbrev main_v237 : Ref sig .tc := ⟨.hbm, 326, rfl⟩
abbrev main_v238 : Ref sig .tc := ⟨.hbm, 327, rfl⟩
abbrev main_v239 : Ref sig .tc := ⟨.hbm, 328, rfl⟩
abbrev main_v240 : Ref sig .tc := ⟨.hbm, 329, rfl⟩
abbrev main_cst_42 : Ref sig .tc := ⟨.hbm, 330, rfl⟩
abbrev main_v241 : Ref sig .tc := ⟨.hbm, 331, rfl⟩
abbrev main_v242 : Ref sig .tc := ⟨.hbm, 332, rfl⟩
abbrev main_v243 : Ref sig .tc := ⟨.hbm, 333, rfl⟩
abbrev main_v244 : Ref sig .tc := ⟨.hbm, 334, rfl⟩
abbrev main_v245 : Ref sig .tc := ⟨.hbm, 335, rfl⟩
abbrev main_v246 : Ref sig .tc := ⟨.hbm, 336, rfl⟩
abbrev main_c_43 : Ref sig .tc := ⟨.hbm, 337, rfl⟩
abbrev main_v247 : Ref sig .tc := ⟨.hbm, 338, rfl⟩
abbrev main_v248 : Ref sig .tc := ⟨.hbm, 339, rfl⟩
abbrev main_v249 : Ref sig .tc := ⟨.hbm, 340, rfl⟩
abbrev main_v250 : Ref sig .tc := ⟨.hbm, 341, rfl⟩
abbrev main_cst_44 : Ref sig .tc := ⟨.hbm, 342, rfl⟩
abbrev main_v251 : Ref sig .tc := ⟨.hbm, 343, rfl⟩
abbrev main_v252 : Ref sig .tc := ⟨.hbm, 344, rfl⟩
abbrev main_v253 : Ref sig .tc := ⟨.hbm, 345, rfl⟩

abbrev nD : Nat := 1
abbrev τ : Topo := Topo.v7x

variable {F : FTy → Type} [FloatOps F]
-- ==== Proof.Model.lean ====
/-
  The kernel's block as arrays: named arrays for the decoded boxes, the overlap of each object with every prior, the
  best object of each prior, the best prior of each object, the labels and boxes each prior is matched with, the
  positive mask and the smooth L1 sum. Each definition follows the kernel's own lines, object by object.
-/
module

public import proofs.«01_k».proof.Proof.Gen.KernelIdeal.Skeleton
public import Idealize.ShloMosaic.PureOps.Ideal

@[expose] public section

noncomputable section

namespace Cert.Loss

open Idealize.ShloMosaic Cert.KernelIdeal Cert.KernelIdeal.Gen

/-- A tile of reals: the priors as 8 rows of 2040. -/
abbrev Tile := FVec Ideal S8x2040 .f32
/-- A tile of 32-bit integers. -/
abbrev ITile := IVec S8x2040 32

/-- The literal with the given bits, in every place of a tile. -/
def lit (b : BitVec 32) : Tile := broadcast S8x2040 (Scalar.ofBits (F := Ideal) .f32 b)

/-- One plane of a stack of four tiles. -/
def plane4 (off : Fin 3 → ℕ) (h : S4x8x2040.Slices off S1x8x2040) (x : FVec Ideal S4x8x2040 .f32) : Tile :=
  shapeCast S8x2040 (extractStridedSlice S1x8x2040 off x h) shapeCasts_S1x8x2040_S8x2040

/-- The first plane of four. -/
def pl0 (x : FVec Ideal S4x8x2040 .f32) : Tile := plane4 ![0, 0, 0] slices_S4x8x2040_o0_0_0_S1x8x2040 x
/-- The second plane of four. -/
def pl1 (x : FVec Ideal S4x8x2040 .f32) : Tile := plane4 ![1, 0, 0] slices_S4x8x2040_o1_0_0_S1x8x2040 x
/-- The third plane of four. -/
def pl2 (x : FVec Ideal S4x8x2040 .f32) : Tile := plane4 ![2, 0, 0] slices_S4x8x2040_o2_0_0_S1x8x2040 x
/-- The fourth plane of four. -/
def pl3 (x : FVec Ideal S4x8x2040 .f32) : Tile := plane4 ![3, 0, 0] slices_S4x8x2040_o3_0_0_S1x8x2040 x

/-- A block of four tiles without its leading unit axis. -/
def drop4 (x : Vec Ideal S1x4x8x2040 .f32) : FVec Ideal S4x8x2040 .f32 :=
  shapeCast S4x8x2040 x shapeCasts_S1x4x8x2040_S4x8x2040

/-- The prior block read at its own shape. -/
def same4 (x : Vec Ideal S4x8x2040 .f32) : FVec Ideal S4x8x2040 .f32 :=
  shapeCast S4x8x2040 x shapeCasts_S4x8x2040_S4x8x2040

section boxes
variable (p a : FVec Ideal S4x8x2040 .f32)

/-- The decoded box's centre, across. -/
def cxT : Tile := addf (pl0 p) (mulf (mulf (pl0 a) (lit 0x3DCCCCCD#32)) (pl2 p))
/-- The decoded box's centre, down. -/
def cyT : Tile := addf (pl1 p) (mulf (mulf (pl1 a) (lit 0x3DCCCCCD#32)) (pl3 p))
/-- The decoded box's width. -/
def wT : Tile := mulf (pl2 p) (exp (mulf (pl2 a) (lit 0x3E4CCCCD#32)))
/-- The decoded box's height. -/
def hT : Tile := mulf (pl3 p) (exp (mulf (pl3 a) (lit 0x3E4CCCCD#32)))
/-- The decoded box's left side. -/
def x1T : Tile := subf (cxT p a) (mulf (wT p a) (lit 0x3F000000#32))
/-- The decoded box's upper side. -/
def y1T : Tile := subf (cyT p a) (mulf (hT p a) (lit 0x3F000000#32))
/-- The decoded box's right side. -/
def x2T : Tile := addf (cxT p a) (mulf (wT p a) (lit 0x3F000000#32))
/-- The decoded box's lower side. -/
def y2T : Tile := addf (cyT p a) (mulf (hT p a) (lit 0x3F000000#32))

end boxes

/-- Each prior's position in the row-major order of the tile. -/
def flatT : ITile :=
  addi (muli (iota .tc S8x2040 32 [0] iota_S8x2040_d0_w32) (broadcast S8x2040 2040#32))
    (iota .tc S8x2040 32 [1] iota_S8x2040_d1_w32)

/-- The largest entry of a tile. -/
def topT (x : Tile) : Ideal .f32 :=
  extractAt ![0, 0, 0] (shapeCast S1x1x1 (multiReduction .maximumf [1, 2] S1
    (shapeCast S1x8x2040 x shapeCasts_S8x2040_S1x8x2040) 0xFF800000#32 reduces_S1x8x2040_S1 (.inl rfl) rfl)
    shapeCasts_S1_S1x1x1 : FVec Ideal S1x1x1 .f32) inpos_S1x1x1_p0_0_0

/-- The sum of a tile. -/
def sumT (x : Tile) : Ideal .f32 :=
  extractAt ![0, 0, 0] (shapeCast S1x1x1 (multiReduction .add [1, 2] S1
    (shapeCast S1x8x2040 x shapeCasts_S8x2040_S1x8x2040) 0x00000000#32 reduces_S1x8x2040_S1 (.inl rfl) rfl)
    shapeCasts_S1_S1x1x1 : FVec Ideal S1x1x1 .f32) inpos_S1x1x1_p0_0_0

/-- The smallest entry of an integer tile. -/
def leastT (x : ITile) : BitVec 32 :=
  extractAt ![0, 0, 0] (shapeCast S1x1x1 (multiReductionI .minsi [1, 2] S1
    (shapeCast S1x8x2040 x shapeCasts_S8x2040_S1x8x2040) 2147483647#32 reduces_S1x8x2040_S1 rfl)
    shapeCasts_S1_S1x1x1 : IVec S1x1x1 32) inpos_S1x1x1_p0_0_0

/-- The sum of an integer tile. -/
def countT (x : ITile) : BitVec 32 :=
  extractAt ![0, 0, 0] (shapeCast S1x1x1 (multiReductionI .add [1, 2] S1
    (shapeCast S1x8x2040 x shapeCasts_S8x2040_S1x8x2040) 0#32 reduces_S1x8x2040_S1 rfl)
    shapeCasts_S1_S1x1x1 : IVec S1x1x1 32) inpos_S1x1x1_p0_0_0

section objects
variable (x1 y1 x2 y2 : Tile) (b : ℕ → ℕ → Ideal .f32) (lab : ℕ → BitVec 32)

/-- The overlap's area with object `t`. -/
def interT (t : ℕ) : Tile :=
  mulf (maximumf (subf (minimumf x2 (broadcast S8x2040 (b t 2))) (maximumf x1 (broadcast S8x2040 (b t 0)))) (lit 0x00000000#32))
    (maximumf (subf (minimumf y2 (broadcast S8x2040 (b t 3))) (maximumf y1 (broadcast S8x2040 (b t 1)))) (lit 0x00000000#32))

/-- The overlap ratio with object `t`: intersection over union. -/
def iouT (t : ℕ) : Tile :=
  divf (interT x1 y1 x2 y2 b t)
    (subf (addf (broadcast S8x2040 (Scalar.mulf (Scalar.subf (b t 2) (b t 0)) (Scalar.subf (b t 3) (b t 1))))
      (mulf (subf x2 x1) (subf y2 y1))) (interT x1 y1 x2 y2 b t))

/-- The best ratio over the first `n` objects, from −1. -/
def bestOvT : ℕ → Tile
  | 0 => lit 0xBF800000#32
  | n + 1 => maximumf (iouT x1 y1 x2 y2 b n) (bestOvT n)

/-- The first object with the best ratio, of the first `n`. -/
def bestIdxT : ℕ → ITile
  | 0 => broadcast S8x2040 0#32
  | n + 1 => select (cmpf .ogt (iouT x1 y1 x2 y2 b n) (bestOvT x1 y1 x2 y2 b n)) (broadcast S8x2040 (BitVec.ofNat 32 n)) (bestIdxT n)

/-- The best prior of object `t`: the first at which the ratio is the largest. -/
def bpT (t : ℕ) : BitVec 32 :=
  leastT (select (cmpf .oeq (iouT x1 y1 x2 y2 b t) (broadcast S8x2040 (topT (iouT x1 y1 x2 y2 b t)))) flatT
    (broadcast S8x2040 16320#32))

/-- The label of each prior's best object, among the first `n`. -/
def labAT (idx : ITile) : ℕ → ITile
  | 0 => broadcast S8x2040 0#32
  | n + 1 => select (cmpi .eq idx (broadcast S8x2040 (BitVec.ofNat 32 n))) (broadcast S8x2040 (lab n)) (labAT idx n)

/-- Coordinate `j` of each prior's best object, among the first `n`. -/
def boxAT (idx : ITile) (j : ℕ) : ℕ → Tile
  | 0 => lit 0x00000000#32
  | n + 1 => select (cmpi .eq idx (broadcast S8x2040 (BitVec.ofNat 32 n))) (broadcast S8x2040 (b n j)) (boxAT idx j n)

/-- The label after the first `n` objects have claimed their best priors. -/
def labBT (bp : ℕ → BitVec 32) (c0 : ITile) : ℕ → ITile
  | 0 => c0
  | n + 1 => select (cmpi .eq flatT (broadcast S8x2040 (bp n))) (broadcast S8x2040 (lab n)) (labBT bp c0 n)

/-- Coordinate `j` of the matched box after the first `n` objects have claimed their best priors. -/
def boxBT (bp : ℕ → BitVec 32) (m0 : Tile) (j : ℕ) : ℕ → Tile
  | 0 => m0
  | n + 1 => select (cmpi .eq flatT (broadcast S8x2040 (bp n))) (broadcast S8x2040 (b n j)) (boxBT bp m0 j n)

/-- The label each prior is matched with. -/
def confT : ITile :=
  labBT lab (bpT x1 y1 x2 y2 b)
    (select (cmpf .olt (bestOvT x1 y1 x2 y2 b 16) (lit 0x3F000000#32)) (broadcast S8x2040 0#32)
      (labAT lab (bestIdxT x1 y1 x2 y2 b 16) 16)) 16

/-- Coordinate `j` of the box each prior is matched with. -/
def boxT (j : ℕ) : Tile :=
  boxBT b (bpT x1 y1 x2 y2 b) (boxAT b (bestIdxT x1 y1 x2 y2 b 16) j 16) j 16

end objects

/-- A block of two tiles without its leading unit axis. -/
def drop2 (x : Vec Ideal S1x2x8x2040 .f32) : FVec Ideal S2x8x2040 .f32 :=
  shapeCast S2x8x2040 x shapeCasts_S1x2x8x2040_S2x8x2040
/-- The first plane of two. -/
def q0 (x : FVec Ideal S2x8x2040 .f32) : Tile :=
  shapeCast S8x2040 (extractStridedSlice S1x8x2040 ![0, 0, 0] x slices_S2x8x2040_o0_0_0_S1x8x2040) shapeCasts_S1x8x2040_S8x2040
/-- The second plane of two. -/
def q1 (x : FVec Ideal S2x8x2040 .f32) : Tile :=
  shapeCast S8x2040 (extractStridedSlice S1x8x2040 ![1, 0, 0] x slices_S2x8x2040_o1_0_0_S1x8x2040) shapeCasts_S1x8x2040_S8x2040

/-- The probability that a prior holds an object. -/
def probT (a : FVec Ideal S2x8x2040 .f32) : Tile :=
  divf (exp (subf (q1 a) (maximumf (q0 a) (q1 a))))
    (addf (exp (subf (q0 a) (maximumf (q0 a) (q1 a)))) (exp (subf (q1 a) (maximumf (q0 a) (q1 a)))))

/-- The positive mask. -/
def posT (conf : ITile) (a : FVec Ideal S2x8x2040 .f32) : IVec S8x2040 1 :=
  andi (cmpi .sgt conf (broadcast S8x2040 0#32)) (cmpf .ogt (probT a) (lit 0x3C23D70A#32))

/-- The positive mask as reals. -/
def posfT (pos : IVec S8x2040 1) : Tile := sitofp .f32 (extui 32 pos natLt_1_32)

/-- The encoded centre of a matched side pair `lo`, `hi` against the decoded sides `l`, `h`. -/
def gcT (lo hi l h : Tile) : Tile :=
  divf (subf (mulf (addf lo hi) (lit 0x3F000000#32)) (mulf (addf l h) (lit 0x3F000000#32)))
    (mulf (lit 0x3DCCCCCD#32) (subf h l))

/-- The encoded size of a matched side pair `lo`, `hi` against the decoded sides `l`, `h`. -/
def gwT (lo hi l h : Tile) : Tile :=
  divf (log (divf (subf hi lo) (subf h l))) (lit 0x3E4CCCCD#32)

/-- The smooth L1 terms of one coordinate, on the positive priors. -/
def slT (o g posf : Tile) : Tile :=
  mulf (select (cmpf .olt (absf (subf o g)) (lit 0x3F800000#32))
    (mulf (mulf (lit 0x3F000000#32) (subf o g)) (subf o g)) (subf (absf (subf o g)) (lit 0x3F000000#32))) posf

section whole
variable (p a o : FVec Ideal S4x8x2040 .f32) (c : FVec Ideal S2x8x2040 .f32) (b : ℕ → ℕ → Ideal .f32) (lab : ℕ → BitVec 32)

/-- The matched label of a block. -/
def confB : ITile := confT (x1T p a) (y1T p a) (x2T p a) (y2T p a) b lab
/-- The matched box of a block. -/
def boxB (j : ℕ) : Tile := boxT (x1T p a) (y1T p a) (x2T p a) (y2T p a) b j
/-- The positive mask of a block. -/
def posB : IVec S8x2040 1 := posT (confB p a b lab) c

/-- The number of positive priors of a block. -/
def nposB : BitVec 32 := countT (extui 32 (posB p a c b lab) natLt_1_32)

/-- The smooth L1 sum of a block. -/
def sl1B : Ideal .f32 :=
  Scalar.addf (Scalar.addf (Scalar.addf (Scalar.addf (Scalar.ofBits .f32 0x00000000#32)
    (sumT (slT (pl0 o) (gcT (boxB p a b 0) (boxB p a b 2) (x1T p a) (x2T p a)) (posfT (posB p a c b lab)))))
    (sumT (slT (pl1 o) (gcT (boxB p a b 1) (boxB p a b 3) (y1T p a) (y2T p a)) (posfT (posB p a c b lab)))))
    (sumT (slT (pl2 o) (gwT (boxB p a b 0) (boxB p a b 2) (x1T p a) (x2T p a)) (posfT (posB p a c b lab)))))
    (sumT (slT (pl3 o) (gwT (boxB p a b 1) (boxB p a b 3) (y1T p a) (y2T p a)) (posfT (posB p a c b lab))))

end whole

end Cert.Loss

end
-- ==== Proof.Block.lean ====
/-
  What one grid point leaves in its output block, read through the named arrays of Proof/Model.lean.
-/
module

public import proofs.«01_k».proof.Proof.Gen.KernelIdeal.Frame
public import proofs.«01_k».proof.Proof.Model

@[expose] public section

noncomputable section

namespace Cert.Loss

open Idealize.ShloMosaic Cert.KernelIdeal Cert.KernelIdeal.Gen Idealize.ShloMosaic.Tactic

/-- One coordinate of one object is inside the block of objects. -/
theorem inb_object {t j : ℕ} (h : t < 16 ∧ j < 4) :
    ∀ a, (![0, t, j] : Fin 3 → ℕ) a + S1x1x1.size a ≤ S1x16x4.size a := by
  intro a; obtain ⟨h1, h2⟩ := h
  match a with
  | 0 => show 0 + 1 ≤ 1; omega
  | 1 => show t + 1 ≤ 16; omega
  | 2 => show j + 1 ≤ 4; omega

/-- One label is inside the block of labels. -/
theorem inb_label {t : ℕ} (h : t < 16) :
    ∀ a, (![0, 0, t] : Fin 3 → ℕ) a + S1x1x1.size a ≤ S1x1x16.size a := by
  intro a
  match a with
  | 0 => show 0 + 1 ≤ 1; omega
  | 1 => show 0 + 1 ≤ 1; omega
  | 2 => show t + 1 ≤ 16; omega

/-- Coordinate `j` of object `t`, loaded from a block of objects. -/
def ldObj (X : Vec Ideal S1x16x4 .f32) (t j : ℕ) : Ideal .f32 :=
  if h : t < 16 ∧ j < 4 then
    extractAt ![0, 0, 0] (View.ld X (Rect.unit (s := S1x16x4) ![0, t, j] S1x1x1.size (inb_object h)) : Vec Ideal S1x1x1 .f32) inpos_S1x1x1_p0_0_0
  else 0

/-- Label `t`, loaded from a block of labels. -/
def ldLab (X : Vec Ideal S1x1x16 .i32) (t : ℕ) : BitVec 32 :=
  if h : t < 16 then
    extractAt ![0, 0, 0] (View.ld X (Rect.unit (s := S1x1x16) ![0, 0, t] S1x1x1.size (inb_label h)) : Vec Ideal S1x1x1 .i32) inpos_S1x1x1_p0_0_0
  else 0

/-- A whole block of four planes, loaded. -/
def ldFour (X : Vec Ideal S1x4x8x2040 .f32) : FVec Ideal S4x8x2040 .f32 :=
  drop4 (View.ld X (Rect.unit (s := S1x4x8x2040) ![0, 0, 0, 0] S1x4x8x2040.size inb_S1x4x8x2040_S1x4x8x2040_0_0_0_0))
/-- The whole prior block, loaded. -/
def ldPri (X : Vec Ideal S4x8x2040 .f32) : FVec Ideal S4x8x2040 .f32 :=
  same4 (View.ld X (Rect.unit (s := S4x8x2040) ![0, 0, 0] S4x8x2040.size inb_S4x8x2040_S4x8x2040_0_0_0))
/-- A whole block of two planes, loaded. -/
def ldTwo (X : Vec Ideal S1x2x8x2040 .f32) : FVec Ideal S2x8x2040 .f32 :=
  drop2 (View.ld X (Rect.unit (s := S1x2x8x2040) ![0, 0, 0, 0] S1x2x8x2040.size inb_S1x2x8x2040_S1x2x8x2040_0_0_0_0))

section run
variable (c : Dev nD) (arg1 : Memref sig .tc .vmem S1x16x4 .f32) (harg1 : arg1.IsWhole) (arg2 : Memref sig .tc .vmem S1x1x16 .i32) (harg2 : arg2.IsWhole) (arg4 : Memref sig .tc .vmem S1x4x8x2040 .f32) (harg4 : arg4.IsWhole) (arg5 : Memref sig .tc .vmem S1x4x8x2040 .f32) (harg5 : arg5.IsWhole) (arg6 : Memref sig .tc .vmem S1x2x8x2040 .f32) (harg6 : arg6.IsWhole) (arg7 : Memref sig .tc .vmem S4x8x2040 .f32) (harg7 : arg7.IsWhole)
  (x0 : Vec Ideal S1x16x4 .f32) (x1 : Vec Ideal S1x1x16 .i32) (x3 : Vec Ideal S1x4x8x2040 .f32) (x4 : Vec Ideal S1x4x8x2040 .f32) (x5 : Vec Ideal S1x2x8x2040 .f32) (x6 : Vec Ideal S4x8x2040 .f32)

/-- The count the run names is the number of positive priors. -/
theorem run_npos :
    kernelRun0_A.sl.v1531 c arg1 harg1 arg2 harg2 arg4 harg4 arg6 harg6 arg7 harg7 x0 x1 x3 x5 x6 =
      nposB (ldPri (arg7.view.read (Elt Ideal) (harg7.unread x6))) (ldFour (arg4.view.read (Elt Ideal) (harg4.unread x3)))
        (ldTwo (arg6.view.read (Elt Ideal) (harg6.unread x5)))
        (ldObj (arg1.view.read (Elt Ideal) (harg1.unread x0))) (ldLab (arg2.view.read (Elt Ideal) (harg2.unread x1))) := by
  sl_kernel_rfl

/-- The sum the run names is the smooth L1 sum. -/
theorem run_sl1 :
    kernelRun0_A.sl.r_112 c arg1 harg1 arg2 harg2 arg4 harg4 arg5 harg5 arg6 harg6 arg7 harg7 x0 x1 x3 x4 x5 x6 =
      sl1B (ldPri (arg7.view.read (Elt Ideal) (harg7.unread x6))) (ldFour (arg4.view.read (Elt Ideal) (harg4.unread x3)))
        (ldFour (arg5.view.read (Elt Ideal) (harg5.unread x4)))
        (ldTwo (arg6.view.read (Elt Ideal) (harg6.unread x5)))
        (ldObj (arg1.view.read (Elt Ideal) (harg1.unread x0))) (ldLab (arg2.view.read (Elt Ideal) (harg2.unread x1))) := by
  sl_kernel_rfl

end run

end Cert.Loss

end
-- ==== Proof.Out.lean ====
/-
  The kernel's output array: image `b`'s smooth L1 sum in column 0 and its number of positive priors in column 1, over
  the operands the host laid out.
-/
module

public import proofs.«01_k».proof.Proof.Block
public import Idealize.ShloMosaic.Lib.Pipeline.ValueKit
public import Idealize.ShloMosaic.Lib.Pointwise
public import Idealize.ShloMosaic.Lib.Claim

@[expose] public section

noncomputable section

namespace Cert.Loss

open Idealize.ShloMosaic Idealize.ShloMosaic.Pipeline Idealize.ShloMosaic.TcCoe Cert.KernelIdeal Cert.KernelIdeal.Gen Idealize.ShloMosaic.Tactic

/-- The stored row at its first column. -/
theorem row_zero (a b d s : Ideal .f32) (n : BitVec 32) :
    k0_pay1 a b d (iota .tc S1x128 32 [1] iota_S1x128_d1_w32) (k0_pay418 n s) (k0_pay420 (iota .tc S1x128 32 [1] iota_S1x128_d1_w32) k0_pay419)
      (ix3 (0 : Fin 1) (0 : Fin 1) (0 : Fin 128)) = s := by
  pointwise [k0_pay1, k0_pay418, k0_pay419, k0_pay420]
  rfl

/-- The stored row at its second column. -/
theorem row_one (a b d s : Ideal .f32) (n : BitVec 32) :
    k0_pay1 a b d (iota .tc S1x128 32 [1] iota_S1x128_d1_w32) (k0_pay418 n s) (k0_pay420 (iota .tc S1x128 32 [1] iota_S1x128_d1_w32) k0_pay419)
      (ix3 (0 : Fin 1) (0 : Fin 1) (1 : Fin 128)) = Scalar.sitofp .f32 n := by
  pointwise [k0_pay1, k0_pay418, k0_pay419, k0_pay420]
  rfl

variable (m : (ℓ : Loc nD τ sig) → Buf (Elt Ideal) ℓ) (c : Dev nD)

/-- The block an image leaves, at its first column. -/
theorem outs_zero (t : Fin cfg0.N) : outsAt0 m c t (ix3 (0 : Fin 1) (0 : Fin 1) (0 : Fin 128)) =
    sl1B (ldPri (iblk m c 6 t)) (ldFour (iblk m c 3 t)) (ldFour (iblk m c 4 t)) (ldTwo (iblk m c 5 t))
      (ldObj (iblk m c 0 t)) (ldLab (iblk m c 1 t)) := by
  unfold outsAt0 out0_A_7
  rw [View.read_writes_junk_eq_canon]
  unfold kernelRun0_A
  dsimp only
  rw [View.canon_unit_zero (by decide)]
  refine (row_zero _ _ _ _ _).trans ?_
  rw [run_sl1]
  simp only [Memref.IsWhole.read_unread]

/-- The block an image leaves, at its second column. -/
theorem outs_one (t : Fin cfg0.N) : outsAt0 m c t (ix3 (0 : Fin 1) (0 : Fin 1) (1 : Fin 128)) =
    Scalar.sitofp (F := Ideal) .f32 (nposB (ldPri (iblk m c 6 t)) (ldFour (iblk m c 3 t)) (ldTwo (iblk m c 5 t))
      (ldObj (iblk m c 0 t)) (ldLab (iblk m c 1 t))) := by
  unfold outsAt0 out0_A_7
  rw [View.read_writes_junk_eq_canon]
  unfold kernelRun0_A
  dsimp only
  rw [View.canon_unit_zero (by decide)]
  refine (row_one _ _ _ _ _).trans ?_
  rw [run_npos]
  simp only [Memref.IsWhole.read_unread]

/-- Every window's block index at a grid point: the image's number on the first axis (decided). -/
theorem idx : ∀ t : Fin cfg0.N, win0_0.index t = ![t.val, 0, 0] ∧ win0_1.index t = ![t.val, 0, 0] ∧ win0_3.index t = ![t.val, 0, 0, 0]
    ∧ win0_4.index t = ![t.val, 0, 0, 0] ∧ win0_5.index t = ![t.val, 0, 0, 0] ∧ win0_6.index t = ![0, 0, 0] ∧ win0_7.index t = ![t.val, 0, 0] :=
  (by decide +kernel : ∀ t : Fin grid0.N, _)

/-- The output array, block by block. -/
theorem out_array : (dats m 0 c).arrAt 7 cfg0.N = fun i : S32x1x128.Idx => outsAt0 m c (i 0) (ix3 (0 : Fin 1) (0 : Fin 1) (i 2)) := by
  refine (dats m 0 c).arrAt_eq_of_covers 7 _ (by decide +kernel) fun t hf y => ?_
  blk_simp
  rw [after0_7]
  idx_vars y
  have e0 : (((View.whole main_v15).slice (win0_7.rect t)).emb (ix3 y0 y1 y2) (0 : Fin 3)) = t := by
    apply Fin.ext
    refine (Window.rect_emb_val win0_7 t (ix3 y0 y1 y2) 0).trans ?_
    rw [(idx t).2.2.2.2.2.2]
    show t.val * 1 + y0.val = t.val
    omega
  have e2 : (((View.whole main_v15).slice (win0_7.rect t)).emb (ix3 y0 y1 y2) (2 : Fin 3)) = y2 := by
    apply Fin.ext
    refine (Window.rect_emb_val win0_7 t (ix3 y0 y1 y2) 2).trans ?_
    rw [(idx t).2.2.2.2.2.2]
    show 0 * 128 + y2.val = y2.val
    omega
  rw [e0, e2]
  obtain rfl : y0 = 0 := Subsingleton.elim _ _
  obtain rfl : y1 = 0 := Subsingleton.elim _ _
  rfl

/-- The host lines after the launch, over the launch's result. -/
def tailK (x : FVec Ideal S32x1x128 .f32) : FVec Ideal S_ .f32 :=
  Host.divf (Host.divf
    (Host.reduceAdd (shapeCast S32 (extractStridedSlice S32x1 ![0, 0] (shapeCast S32x128 x shapeCasts_S32x1x128_S32x128 : FVec Ideal S32x128 .f32) slices_S32x128_S32x1_0_0 : FVec Ideal S32x1 .f32) shapeCasts_S32x1_S32 : FVec Ideal S32 .f32)
      (constant S_ .f32 0x00000000#32) reducesTo_S32_S_d0 h_S_)
    (mulf (constant S_ .f32 0x40800000#32)
      (Host.reduceAdd (shapeCast S32 (extractStridedSlice S32x1 ![0, 1] (shapeCast S32x128 x shapeCasts_S32x1x128_S32x128 : FVec Ideal S32x128 .f32) slices_S32x128_S32x1_0_1 : FVec Ideal S32x1 .f32) shapeCasts_S32x1_S32 : FVec Ideal S32 .f32)
        (constant S_ .f32 0x00000000#32) reducesTo_S32_S_d0 h_S_)))
    (Host.reduceAdd (shapeCast S32 (extractStridedSlice S32x1 ![0, 1] (shapeCast S32x128 x shapeCasts_S32x1x128_S32x128 : FVec Ideal S32x128 .f32) slices_S32x128_S32x1_0_1 : FVec Ideal S32x1 .f32) shapeCasts_S32x1_S32 : FVec Ideal S32 .f32)
      (constant S_ .f32 0x00000000#32) reducesTo_S32_S_d0 h_S_)

/-- What the lines after the launch leave, from what the launch leaves. -/
theorem tail_eq (s : Valuation τ sig (Elt Ideal)) :
    StableHlo.after (hostOps1 (F := Ideal)) s (Proc.devRef .tc main_v25) = tailK (s (Proc.devRef .tc main_v15)) := by
  sl_kernel_rfl

/-- The run's loss, from the output array. -/
theorem after_tail : Pipeline.afterTail₀ cfgs (dats m) 0 (V0 m) [hostOps1] c main_v25 = tailK ((dats m 0 c).arrAt 7 cfg0.N) := by
  unfold Pipeline.afterTail₀
  rw [List.flatten_singleton]
  refine (tail_eq _).trans (congrArg tailK ?_)
  exact Pipeline.withArrays_arr spec0 (by decide) c (V0 m c) (fun w => (dats m 0 c).arrAt w cfg0.N) 7

/-- The tile of an image's boxes: coordinate, row, column. -/
def fourA (a : Vec Ideal S32x16320x4 .f32) (b : Fin 32) : FVec Ideal S4x8x2040 .f32 :=
  fun y => a (ix3 b (⟨(y 1).val * 2040 + (y 2).val, by have h1 : (y 1).val < 8 := (y 1).isLt; have h2 : (y 2).val < 2040 := (y 2).isLt; omega⟩ : Fin 16320) (y 0))

/-- The loaded block of arm boxes, over the argument. -/
theorem block_loc (t : Fin cfg0.N) : ldFour (iblk m c 3 t) = fourA (m ((c.tc : Thread nD τ).loc main_arg0)) t := by
  have hV : V m c main_v1 = shapeCast S32x4x8x2040 (transpose S32x4x16320 [0, 2, 1] (m ((c.tc : Thread nD τ).loc main_arg0)) transposes_S32x16320x4_S32x4x16320_0_2_1) shapeCasts_S32x4x16320_S32x4x8x2040 := by
    sl_kernel_rfl
  funext y
  idx_vars y
  unfold ldFour iblk drop4
  rw [View.ld_unit_zero (by decide)]
  pointwise [fourA]
  show V m c main_v1 (((View.whole main_v1).slice (win0_3.rect t)).emb (ix4 0 y0 y1 y2)) = _
  have e : (((View.whole main_v1).slice (win0_3.rect t)).emb (ix4 0 y0 y1 y2)) = ix4 t y0 y1 y2 := by
    funext a
    apply Fin.ext
    refine (Window.rect_emb_val win0_3 t (ix4 0 y0 y1 y2) a).trans ?_
    rw [(idx t).2.2.1]
    match a with
    | 0 => show t.val * 1 + 0 = t.val; omega
    | 1 => show 0 * 4 + y0.val = y0.val; omega
    | 2 => show 0 * 8 + y1.val = y1.val; omega
    | 3 => show 0 * 2040 + y2.val = y2.val; omega
  rw [e, hV]
  pointwise

/-- The loaded block of box predictions, over the argument. -/
theorem block_odm (t : Fin cfg0.N) : ldFour (iblk m c 4 t) = fourA (m ((c.tc : Thread nD τ).loc main_arg2)) t := by
  have hV : V m c main_v3 = shapeCast S32x4x8x2040 (transpose S32x4x16320 [0, 2, 1] (m ((c.tc : Thread nD τ).loc main_arg2)) transposes_S32x16320x4_S32x4x16320_0_2_1) shapeCasts_S32x4x16320_S32x4x8x2040 := by
    sl_kernel_rfl
  funext y
  idx_vars y
  unfold ldFour iblk drop4
  rw [View.ld_unit_zero (by decide)]
  pointwise [fourA]
  show V m c main_v3 (((View.whole main_v3).slice (win0_4.rect t)).emb (ix4 0 y0 y1 y2)) = _
  have e : (((View.whole main_v3).slice (win0_4.rect t)).emb (ix4 0 y0 y1 y2)) = ix4 t y0 y1 y2 := by
    funext a
    apply Fin.ext
    refine (Window.rect_emb_val win0_4 t (ix4 0 y0 y1 y2) a).trans ?_
    rw [(idx t).2.2.2.1]
    match a with
    | 0 => show t.val * 1 + 0 = t.val; omega
    | 1 => show 0 * 4 + y0.val = y0.val; omega
    | 2 => show 0 * 8 + y1.val = y1.val; omega
    | 3 => show 0 * 2040 + y2.val = y2.val; omega
  rw [e, hV]
  pointwise

/-- The tile of an image's scores: score, row, column. -/
def twoA (a : Vec Ideal S32x16320x2 .f32) (b : Fin 32) : FVec Ideal S2x8x2040 .f32 :=
  fun y => a (ix3 b (⟨(y 1).val * 2040 + (y 2).val, by have h1 : (y 1).val < 8 := (y 1).isLt; have h2 : (y 2).val < 2040 := (y 2).isLt; omega⟩ : Fin 16320) (y 0))

/-- The loaded block of scores, over the argument. -/
theorem block_arm (t : Fin cfg0.N) : ldTwo (iblk m c 5 t) = twoA (m ((c.tc : Thread nD τ).loc main_arg1)) t := by
  have hV : V m c main_v5 = shapeCast S32x2x8x2040 (transpose S32x2x16320 [0, 2, 1] (m ((c.tc : Thread nD τ).loc main_arg1)) transposes_S32x16320x2_S32x2x16320_0_2_1) shapeCasts_S32x2x16320_S32x2x8x2040 := by
    sl_kernel_rfl
  funext y
  idx_vars y
  unfold ldTwo iblk drop2
  rw [View.ld_unit_zero (by decide)]
  pointwise [twoA]
  show V m c main_v5 (((View.whole main_v5).slice (win0_5.rect t)).emb (ix4 0 y0 y1 y2)) = _
  have e : (((View.whole main_v5).slice (win0_5.rect t)).emb (ix4 0 y0 y1 y2)) = ix4 t y0 y1 y2 := by
    funext a
    apply Fin.ext
    refine (Window.rect_emb_val win0_5 t (ix4 0 y0 y1 y2) a).trans ?_
    rw [(idx t).2.2.2.2.1]
    match a with
    | 0 => show t.val * 1 + 0 = t.val; omega
    | 1 => show 0 * 2 + y0.val = y0.val; omega
    | 2 => show 0 * 8 + y1.val = y1.val; omega
    | 3 => show 0 * 2040 + y2.val = y2.val; omega
  rw [e, hV]
  pointwise

/-- The tile of the priors: coordinate, row, column. -/
def priA (a : Vec Ideal S16320x4 .f32) : FVec Ideal S4x8x2040 .f32 :=
  fun y => a (ix2 (⟨(y 1).val * 2040 + (y 2).val, by have h1 : (y 1).val < 8 := (y 1).isLt; have h2 : (y 2).val < 2040 := (y 2).isLt; omega⟩ : Fin 16320) (y 0))

/-- The loaded block of priors, over the argument. -/
theorem block_pri (t : Fin cfg0.N) : ldPri (iblk m c 6 t) = priA (m ((c.tc : Thread nD τ).loc main_arg4)) := by
  have hV : V m c main_v9 = shapeCast S4x8x2040 (transpose S4x16320 [1, 0] (m ((c.tc : Thread nD τ).loc main_arg4)) transposes_S16320x4_S4x16320_1_0) shapeCasts_S4x16320_S4x8x2040 := by
    sl_kernel_rfl
  funext y
  idx_vars y
  unfold ldPri iblk same4
  rw [View.ld_unit_zero (by decide)]
  pointwise [priA]
  show V m c main_v9 (((View.whole main_v9).slice (win0_6.rect t)).emb (ix3 y0 y1 y2)) = _
  have e : (((View.whole main_v9).slice (win0_6.rect t)).emb (ix3 y0 y1 y2)) = ix3 y0 y1 y2 := by
    funext a
    apply Fin.ext
    refine (Window.rect_emb_val win0_6 t (ix3 y0 y1 y2) a).trans ?_
    rw [(idx t).2.2.2.2.2.1]
    match a with
    | 0 => show 0 * 4 + y0.val = y0.val; omega
    | 1 => show 0 * 8 + y1.val = y1.val; omega
    | 2 => show 0 * 2040 + y2.val = y2.val; omega
  rw [e, hV]
  pointwise

/-- The objects' corners of an image. -/
def objA (a : Vec Ideal S32x16x5 .f32) (b : Fin 32) (n j : ℕ) : Ideal .f32 :=
  if h : n < 16 ∧ j < 4 then a (ix3 b (⟨n, h.1⟩ : Fin 16) (⟨j, Nat.lt_succ_of_lt h.2⟩ : Fin 5)) else 0
/-- The objects' labels of an image. -/
def labA (a : Vec Ideal S32x16x5 .f32) (b : Fin 32) (n : ℕ) : BitVec 32 :=
  if h : n < 16 then FloatOps.fptosi (F := Ideal) (φ := .f32) 32 (a (ix3 b (⟨n, h⟩ : Fin 16) (4 : Fin 5))) else 0

/-- A loaded corner is the block's. -/
theorem ldObj_at (X : Vec Ideal S1x16x4 .f32) (n j : ℕ) (h : n < 16 ∧ j < 4) :
    ldObj X n j = X (ix3 (0 : Fin 1) (⟨n, h.1⟩ : Fin 16) (⟨j, h.2⟩ : Fin 4)) := by
  unfold ldObj
  rw [dif_pos h]
  refine congrArg X (funext fun a => Fin.ext ?_)
  match a with
  | 0 => rfl
  | 1 => show n + 1 * 0 = n; omega
  | 2 => show j + 1 * 0 = j; omega

/-- A loaded label is the block's. -/
theorem ldLab_at (X : Vec Ideal S1x1x16 .i32) (n : ℕ) (h : n < 16) :
    ldLab X n = X (ix3 (0 : Fin 1) (0 : Fin 1) (⟨n, h⟩ : Fin 16)) := by
  unfold ldLab
  rw [dif_pos h]
  refine congrArg X (funext fun a => Fin.ext ?_)
  match a with
  | 0 => rfl
  | 1 => rfl
  | 2 => show n + 1 * 0 = n; omega

/-- The loaded corners, over the argument. -/
theorem block_obj (t : Fin cfg0.N) : ldObj (iblk m c 0 t) = objA (m ((c.tc : Thread nD τ).loc main_arg5)) t := by
  have hV : V m c main_v10 = extractStridedSlice S32x16x4 ![0, 0, 0] (m ((c.tc : Thread nD τ).loc main_arg5)) slices_S32x16x5_S32x16x4_0_0_0 := by
    sl_kernel_rfl
  funext n j
  by_cases h : n < 16 ∧ j < 4
  · rw [ldObj_at _ n j h]
    unfold objA iblk
    rw [dif_pos h]
    show V m c main_v10 (((View.whole main_v10).slice (win0_0.rect t)).emb (ix3 (0 : Fin 1) (⟨n, h.1⟩ : Fin 16) (⟨j, h.2⟩ : Fin 4))) = _
    have e : (((View.whole main_v10).slice (win0_0.rect t)).emb (ix3 (0 : Fin 1) (⟨n, h.1⟩ : Fin 16) (⟨j, h.2⟩ : Fin 4))) = ix3 t (⟨n, h.1⟩ : Fin 16) (⟨j, h.2⟩ : Fin 4) := by
      funext a
      apply Fin.ext
      refine (Window.rect_emb_val win0_0 t _ a).trans ?_
      rw [(idx t).1]
      match a with
      | 0 => show t.val * 1 + 0 = t.val; omega
      | 1 => show 0 * 16 + n = n; omega
      | 2 => show 0 * 4 + j = j; omega
    rw [e, hV]
    pointwise
  · unfold ldObj objA
    rw [dif_neg h, dif_neg h]

/-- The loaded labels, over the argument. -/
theorem block_lab (t : Fin cfg0.N) : ldLab (iblk m c 1 t) = labA (m ((c.tc : Thread nD τ).loc main_arg5)) t := by
  have hV : V m c main_v14 = shapeCast S32x1x16 (fptosi 32 (shapeCast S32x16 (extractStridedSlice S32x16x1 ![0, 0, 4] (m ((c.tc : Thread nD τ).loc main_arg5)) slices_S32x16x5_S32x16x1_0_0_4 : FVec Ideal S32x16x1 .f32) shapeCasts_S32x16x1_S32x16 : FVec Ideal S32x16 .f32) : IVec S32x16 32) shapeCasts_S32x16_S32x1x16 := by
    sl_kernel_rfl
  funext n
  by_cases h : n < 16
  · rw [ldLab_at _ n h]
    unfold labA iblk
    rw [dif_pos h]
    show V m c main_v14 (((View.whole main_v14).slice (win0_1.rect t)).emb (ix3 (0 : Fin 1) (0 : Fin 1) (⟨n, h⟩ : Fin 16))) = _
    have e : (((View.whole main_v14).slice (win0_1.rect t)).emb (ix3 (0 : Fin 1) (0 : Fin 1) (⟨n, h⟩ : Fin 16))) = ix3 t (0 : Fin 1) (⟨n, h⟩ : Fin 16) := by
      funext a
      apply Fin.ext
      refine (Window.rect_emb_val win0_1 t _ a).trans ?_
      rw [(idx t).2.1]
      match a with
      | 0 => show t.val * 1 + 0 = t.val; omega
      | 1 => show 0 * 1 + 0 = 0; omega
      | 2 => show 0 * 16 + n = n; omega
    rw [e, hV]
    pointwise
  · unfold ldLab labA
    rw [dif_neg h, dif_neg h]

/-- The array the launch leaves in the two columns read after it: an image's smooth L1 sum and its number of positive priors. -/
def sumsA (a0 : Vec Ideal S32x16320x4 .f32) (a1 : Vec Ideal S32x16320x2 .f32) (a2 : Vec Ideal S32x16320x4 .f32) (a4 : Vec Ideal S16320x4 .f32)
    (a5 : Vec Ideal S32x16x5 .f32) (b : Fin 32) : Ideal .f32 :=
  sl1B (priA a4) (fourA a0 b) (fourA a2 b) (twoA a1 b) (objA a5 b) (labA a5 b)
/-- The number of positive priors of an image. -/
def cntA (a0 : Vec Ideal S32x16320x4 .f32) (a1 : Vec Ideal S32x16320x2 .f32) (a4 : Vec Ideal S16320x4 .f32)
    (a5 : Vec Ideal S32x16x5 .f32) (b : Fin 32) : BitVec 32 :=
  nposB (priA a4) (fourA a0 b) (twoA a1 b) (objA a5 b) (labA a5 b)

/-- The first column at an image, over the arguments. -/
theorem outs_zero' (t : Fin cfg0.N) : outsAt0 m c t (ix3 (0 : Fin 1) (0 : Fin 1) (0 : Fin 128)) =
    sumsA (m ((c.tc : Thread nD τ).loc main_arg0)) (m ((c.tc : Thread nD τ).loc main_arg1))
      (m ((c.tc : Thread nD τ).loc main_arg2)) (m ((c.tc : Thread nD τ).loc main_arg4)) (m ((c.tc : Thread nD τ).loc main_arg5)) t := by
  rw [outs_zero, block_loc, block_odm, block_arm, block_pri, block_obj, block_lab]
  rfl

/-- The second column at an image, over the arguments. -/
theorem outs_one' (t : Fin cfg0.N) : outsAt0 m c t (ix3 (0 : Fin 1) (0 : Fin 1) (1 : Fin 128)) =
    Scalar.sitofp (F := Ideal) .f32 (cntA (m ((c.tc : Thread nD τ).loc main_arg0)) (m ((c.tc : Thread nD τ).loc main_arg1))
      (m ((c.tc : Thread nD τ).loc main_arg4)) (m ((c.tc : Thread nD τ).loc main_arg5)) t) := by
  rw [outs_one, block_loc, block_arm, block_pri, block_obj, block_lab]
  rfl

/-- The kernel's run: its result is the host lines over an array whose first two columns are the images' sums and counts. -/
theorem run (g : Dev nD → PrngReg) : θ_run (defs (F := Ideal)) (onTc (τ := τ) (main (F := Ideal))) ⟨m, fun _ => 0, g⟩ (fun r => ∀ c : Dev nD,
    ∃ x : FVec Ideal S32x1x128 .f32, r.2.mem ((c.tc : Thread nD τ).loc main_v25) = tailK x
      ∧ (∀ b : Fin 32, x (ix3 b (0 : Fin 1) (0 : Fin 128)) = sumsA (m ((c.tc : Thread nD τ).loc main_arg0)) (m ((c.tc : Thread nD τ).loc main_arg1))
          (m ((c.tc : Thread nD τ).loc main_arg2)) (m ((c.tc : Thread nD τ).loc main_arg4)) (m ((c.tc : Thread nD τ).loc main_arg5)) b)
      ∧ ∀ b : Fin 32, x (ix3 b (0 : Fin 1) (1 : Fin 128)) = Scalar.sitofp (F := Ideal) .f32 (cntA (m ((c.tc : Thread nD τ).loc main_arg0)) (m ((c.tc : Thread nD τ).loc main_arg1))
          (m ((c.tc : Thread nD τ).loc main_arg4)) (m ((c.tc : Thread nD τ).loc main_arg5)) b)) := by
  refine θ_run_mono (run_main m g) ?_
  intro r hr c
  refine ⟨(dats m 0 c).arrAt 7 cfg0.N, ((hr c).2 main_v25 (by decide)).trans (after_tail m c), fun b => ?_, fun b => ?_⟩
  · rw [out_array]
    exact outs_zero' m c b
  · rw [out_array]
    exact outs_one' m c b

end Cert.Loss

end
-- ==== Proof.Ref.lean ====
/-
  The reference's result as a composition of named arrays, one for each step of the problem: decoded boxes, overlap
  ratios, best priors and best objects, the forced matches, labels and boxes, the encoding, the objectness probability,
  the positive mask, the count and the loss. `run` says the reference leaves that composition in its result.
-/
module

public import proofs.«01_k».proof.Defs
public import proofs.«01_k».proof.Proof.Gen.ReferenceIdeal
public import Idealize.ShloMosaic.Lib.Claim

@[expose] public section

noncomputable section

namespace Cert.Loss.Ref

open Idealize.ShloMosaic Idealize.SL.Sem Cert.ReferenceIdeal Cert.ReferenceIdeal.Gen Idealize.ShloMosaic.Tactic

/-- A number, at every image, prior and side. -/
def num2 (b : BitVec 32) : FVec Ideal S32x16320x2 .f32 := broadcastInDim S32x16320x2 ![] bcast_S_S32x16320x2 (constant S_ .f32 b)
/-- The first two coordinates of every prior's box. -/
def fst2 (x : FVec Ideal S32x16320x4 .f32) : FVec Ideal S32x16320x2 .f32 :=
  extractStridedSlice S32x16320x2 ![0, 0, 0] x slices_S32x16320x4_S32x16320x2_0_0_0
/-- The last two coordinates of every prior's box. -/
def snd2 (x : FVec Ideal S32x16320x4 .f32) : FVec Ideal S32x16320x2 .f32 :=
  extractStridedSlice S32x16320x2 ![0, 0, 2] x slices_S32x16320x4_S32x16320x2_0_0_2
/-- Two pairs of coordinates, one behind the other. -/
def join2 (x y : FVec Ideal S32x16320x2 .f32) : FVec Ideal S32x16320x4 .f32 :=
  concatenate S32x16320x4 2 [⟨S32x16320x2, x⟩, ⟨S32x16320x2, y⟩] concatenates_S32x16320x2_S32x16320x2_S32x16320x4_d2
/-- The priors' centres, for every image. -/
def priXY (a4 : FVec Ideal S16320x4 .f32) : FVec Ideal S32x16320x2 .f32 :=
  broadcastInDim S32x16320x2 ![0, 1, 2] bcast_S1x16320x2_S32x16320x2_0_1_2
    (broadcastInDim S1x16320x2 ![1, 2] bcast_S16320x2_S1x16320x2_1_2 (extractStridedSlice S16320x2 ![0, 0] a4 slices_S16320x4_S16320x2_0_0))
/-- The priors' sizes, for every image. -/
def priWH (a4 : FVec Ideal S16320x4 .f32) : FVec Ideal S32x16320x2 .f32 :=
  broadcastInDim S32x16320x2 ![0, 1, 2] bcast_S1x16320x2_S32x16320x2_0_1_2
    (broadcastInDim S1x16320x2 ![1, 2] bcast_S16320x2_S1x16320x2_1_2 (extractStridedSlice S16320x2 ![0, 2] a4 slices_S16320x4_S16320x2_0_2))

/-- The decoded boxes' centres. -/
def xyR (a0 : FVec Ideal S32x16320x4 .f32) (a4 : FVec Ideal S16320x4 .f32) : FVec Ideal S32x16320x2 .f32 :=
  addf (priXY a4) (mulf (mulf (fst2 a0) (num2 0x3DCCCCCD#32)) (priWH a4))
/-- The decoded boxes' sizes. -/
def whR (a0 : FVec Ideal S32x16320x4 .f32) (a4 : FVec Ideal S16320x4 .f32) : FVec Ideal S32x16320x2 .f32 :=
  mulf (priWH a4) (Host.exp (mulf (snd2 a0) (num2 0x3E4CCCCD#32)))
/-- The decoded boxes, by their corners. -/
def decR (a0 : FVec Ideal S32x16320x4 .f32) (a4 : FVec Ideal S16320x4 .f32) : FVec Ideal S32x16320x4 .f32 :=
  join2 (subf (xyR a0 a4) (Host.divf (whR a0 a4) (num2 0x40000000#32))) (addf (xyR a0 a4) (Host.divf (whR a0 a4) (num2 0x40000000#32)))

/-- The objects' boxes. -/
def truR (a5 : FVec Ideal S32x16x5 .f32) : FVec Ideal S32x16x4 .f32 :=
  extractStridedSlice S32x16x4 ![0, 0, 0] a5 slices_S32x16x5_S32x16x4_0_0_0
/-- The objects' labels. -/
def labR (a5 : FVec Ideal S32x16x5 .f32) : IVec S32x16 32 :=
  fptosi 32 (shapeCast S32x16 (extractStridedSlice S32x16x1 ![0, 0, 4] a5 slices_S32x16x5_S32x16x1_0_0_4 : FVec Ideal S32x16x1 .f32) shapeCasts_S32x16x1_S32x16)

section iou
variable (tr : FVec Ideal S32x16x4 .f32) (de : FVec Ideal S32x16320x4 .f32)

/-- The overlap's lower right corner, of every object and prior. -/
def minR : FVec Ideal S32x16x16320x2 .f32 :=
  minimumf (broadcastInDim S32x16x16320x2 ![0, 1, 2, 3] bcast_S32x16x1x2_S32x16x16320x2_0_1_2_3
      (broadcastInDim S32x16x1x2 ![0, 1, 3] bcast_S32x16x2_S32x16x1x2_0_1_3 (extractStridedSlice S32x16x2 ![0, 0, 2] tr slices_S32x16x4_S32x16x2_0_0_2)))
    (broadcastInDim S32x16x16320x2 ![0, 1, 2, 3] bcast_S32x1x16320x2_S32x16x16320x2_0_1_2_3
      (broadcastInDim S32x1x16320x2 ![0, 2, 3] bcast_S32x16320x2_S32x1x16320x2_0_2_3 (snd2 de)))
/-- The overlap's upper left corner, of every object and prior. -/
def maxR : FVec Ideal S32x16x16320x2 .f32 :=
  maximumf (broadcastInDim S32x16x16320x2 ![0, 1, 2, 3] bcast_S32x16x1x2_S32x16x16320x2_0_1_2_3
      (broadcastInDim S32x16x1x2 ![0, 1, 3] bcast_S32x16x2_S32x16x1x2_0_1_3 (extractStridedSlice S32x16x2 ![0, 0, 0] tr slices_S32x16x4_S32x16x2_0_0_0)))
    (broadcastInDim S32x16x16320x2 ![0, 1, 2, 3] bcast_S32x1x16320x2_S32x16x16320x2_0_1_2_3
      (broadcastInDim S32x1x16320x2 ![0, 2, 3] bcast_S32x16320x2_S32x1x16320x2_0_2_3 (fst2 de)))
/-- The overlap's sides. -/
def sideR : FVec Ideal S32x16x16320x2 .f32 :=
  maximumf (subf (minR tr de) (maxR tr de)) (broadcastInDim S32x16x16320x2 ![] bcast_S_S32x16x16320x2 (constant S_ .f32 0x00000000#32))
/-- The overlap's area. -/
def interR : FVec Ideal S32x16x16320 .f32 :=
  mulf (shapeCast S32x16x16320 (extractStridedSlice S32x16x16320x1 ![0, 0, 0, 0] (sideR tr de) slices_S32x16x16320x2_S32x16x16320x1_0_0_0_0 : FVec Ideal S32x16x16320x1 .f32) shapeCasts_S32x16x16320x1_S32x16x16320)
    (shapeCast S32x16x16320 (extractStridedSlice S32x16x16320x1 ![0, 0, 0, 1] (sideR tr de) slices_S32x16x16320x2_S32x16x16320x1_0_0_0_1 : FVec Ideal S32x16x16320x1 .f32) shapeCasts_S32x16x16320x1_S32x16x16320)
/-- The objects' areas. -/
def areaA : FVec Ideal S32x16 .f32 :=
  mulf (subf (shapeCast S32x16 (extractStridedSlice S32x16x1 ![0, 0, 2] tr slices_S32x16x4_S32x16x1_0_0_2 : FVec Ideal S32x16x1 .f32) shapeCasts_S32x16x1_S32x16)
      (shapeCast S32x16 (extractStridedSlice S32x16x1 ![0, 0, 0] tr slices_S32x16x4_S32x16x1_0_0_0 : FVec Ideal S32x16x1 .f32) shapeCasts_S32x16x1_S32x16))
    (subf (shapeCast S32x16 (extractStridedSlice S32x16x1 ![0, 0, 3] tr slices_S32x16x4_S32x16x1_0_0_3 : FVec Ideal S32x16x1 .f32) shapeCasts_S32x16x1_S32x16)
      (shapeCast S32x16 (extractStridedSlice S32x16x1 ![0, 0, 1] tr slices_S32x16x4_S32x16x1_0_0_1 : FVec Ideal S32x16x1 .f32) shapeCasts_S32x16x1_S32x16))
/-- The decoded boxes' areas. -/
def areaB : FVec Ideal S32x16320 .f32 :=
  mulf (subf (shapeCast S32x16320 (extractStridedSlice S32x16320x1 ![0, 0, 2] de slices_S32x16320x4_S32x16320x1_0_0_2 : FVec Ideal S32x16320x1 .f32) shapeCasts_S32x16320x1_S32x16320)
      (shapeCast S32x16320 (extractStridedSlice S32x16320x1 ![0, 0, 0] de slices_S32x16320x4_S32x16320x1_0_0_0 : FVec Ideal S32x16320x1 .f32) shapeCasts_S32x16320x1_S32x16320))
    (subf (shapeCast S32x16320 (extractStridedSlice S32x16320x1 ![0, 0, 3] de slices_S32x16320x4_S32x16320x1_0_0_3 : FVec Ideal S32x16320x1 .f32) shapeCasts_S32x16320x1_S32x16320)
      (shapeCast S32x16320 (extractStridedSlice S32x16320x1 ![0, 0, 1] de slices_S32x16320x4_S32x16320x1_0_0_1 : FVec Ideal S32x16320x1 .f32) shapeCasts_S32x16320x1_S32x16320))
/-- The overlap ratio of every object and prior. -/
def iouR : FVec Ideal S32x16x16320 .f32 :=
  Host.divf (interR tr de) (subf (addf
    (broadcastInDim S32x16x16320 ![0, 1, 2] bcast_S32x16x1_S32x16x16320_0_1_2 (broadcastInDim S32x16x1 ![0, 1] bcast_S32x16_S32x16x1_0_1 (areaA tr)))
    (broadcastInDim S32x16x16320 ![0, 1, 2] bcast_S32x1x16320_S32x16x16320_0_1_2 (broadcastInDim S32x1x16320 ![0, 2] bcast_S32x16320_S32x1x16320_0_2 (areaB de))))
    (interR tr de))

end iou

section matching
variable (iou : FVec Ideal S32x16x16320 .f32)

/-- The best prior of every object. -/
def bpR : IVec S32x16 32 := fun j =>
  (Host.argReduce reducer_argmax_f32_i32 iou (iotaInDim S32x16x16320 32 2) (constant S_ .f32 0xFF800000#32) (constantI S_ 32 0#32)
    reducesTo_S32x16x16320_S32x16_d2 h_S_ j).2
/-- The best ratio of every prior. -/
def boR : FVec Ideal S32x16320 .f32 :=
  Host.reduce FloatOps.maximumf iou (constant S_ .f32 0xFF800000#32) reducesTo_S32x16x16320_S32x16320_d1 h_S_
/-- The best object of every prior. -/
def biR : IVec S32x16320 32 := fun j =>
  (Host.argReduce reducer_argmax_f32_i32 iou (iotaInDim S32x16x16320 32 1) (constant S_ .f32 0xFF800000#32) (constantI S_ 32 0#32)
    reducesTo_S32x16x16320_S32x16320_d1 h_S_ j).2

/-- The images' numbers. -/
def iotaR : IVec S32x1 32 := broadcastInDim S32x1 ![0] bcast_S32_S32x1_0 (iotaInDim S32 32 0)
/-- The image's number, as an index (a negative one counted from the end). -/
def imgOf (i : IVec S32x1 32) : IVec S32x1 32 :=
  select (cmpi .slt i (broadcastInDim S32x1 ![] bcast_S_S32x1 (constantI S_ 32 0#32)))
    (addi i (broadcastInDim S32x1 ![] bcast_S_S32x1 (constantI S_ 32 32#32))) i
/-- The places the objects claim: image and best prior. -/
def claimR (i : IVec S32x1 32) (bp : IVec S32x16 32) : IVec S32x16x2 32 :=
  concatenate S32x16x2 2 [⟨S32x16x1, broadcastInDim S32x16x1 ![0, 1] bcast_S32x16_S32x16x1_0_1 (broadcastInDim S32x16 ![0, 1] bcast_S32x1_S32x16_0_1 (imgOf i))⟩,
    ⟨S32x16x1, broadcastInDim S32x16x1 ![0, 1] bcast_S32x16_S32x16x1_0_1
      (select (cmpi .slt bp (broadcastInDim S32x16 ![] bcast_S_S32x16 (constantI S_ 32 0#32)))
        (addi bp (broadcastInDim S32x16 ![] bcast_S_S32x16 (constantI S_ 32 16320#32))) bp)⟩] concatenates_S32x16x1_S32x16x1_S32x16x2_d2
/-- A value put on the claimed places: twos. -/
def putTwo (x : FVec Ideal S32x16320 .f32) (w : IVec S32x16x2 32) : FVec Ideal S32x16320 .f32 :=
  Host.scatter scatter_S32x16320_S32x16x2_S32x16_n_01_01_2 (fun _ b => b) x w (broadcastInDim S32x16 ![] bcast_S_S32x16 (constant S_ .f32 0x40000000#32))
/-- A value put on the claimed places: the number of the object that claims it. -/
def putObj (x : IVec S32x16320 32) (w : IVec S32x16x2 32) : IVec S32x16320 32 :=
  Host.scatter scatter_S32x16320_S32x16x2_S32x16_n_01_01_2 (fun _ b => b) x w
    (broadcastInDim S32x16 ![0, 1] bcast_S1x16_S32x16_0_1 (broadcastInDim S1x16 ![1] bcast_S16_S1x16_1 (iotaInDim S16 32 0)))
/-- The best ratio, 2 where an object claims the prior. -/
def ovR : FVec Ideal S32x16320 .f32 := putTwo (boR iou) (claimR iotaR (bpR iou))
/-- The matched object: the best one, or the last that claims the prior. -/
def idR : IVec S32x16320 32 := putObj (biR iou) (claimR iotaR (bpR iou))

end matching

/-- The place of the matched object: image and object. -/
def pickR (i : IVec S32x1 32) (id : IVec S32x16320 32) : IVec S32x16320x2 32 :=
  concatenate S32x16320x2 2 [⟨S32x16320x1, broadcastInDim S32x16320x1 ![0, 1] bcast_S32x16320_S32x16320x1_0_1 (broadcastInDim S32x16320 ![0, 1] bcast_S32x1_S32x16320_0_1 (imgOf i))⟩,
    ⟨S32x16320x1, broadcastInDim S32x16320x1 ![0, 1] bcast_S32x16320_S32x16320x1_0_1
      (select (cmpi .slt id (broadcastInDim S32x16320 ![] bcast_S_S32x16320 (constantI S_ 32 0#32)))
        (addi id (broadcastInDim S32x16320 ![] bcast_S_S32x16320 (constantI S_ 32 16#32))) id)⟩] concatenates_S32x16320x1_S32x16320x1_S32x16320x2_d2
/-- The matched boxes. -/
def boxR (i : IVec S32x1 32) (tr : FVec Ideal S32x16x4 .f32) (id : IVec S32x16320 32) : FVec Ideal S32x16320x4 .f32 :=
  Host.gather gather_S32x16x4_S32x16320x2_S32x16320x4_2_01_n_n_01_2_114 tr (pickR i id)
/-- The matched labels, 0 where the ratio is below a half. -/
def confR (i : IVec S32x1 32) (la : IVec S32x16 32) (ov : FVec Ideal S32x16320 .f32) (id : IVec S32x16320 32) : IVec S32x16320 32 :=
  select (cmpf .olt ov (broadcastInDim S32x16320 ![] bcast_S_S32x16320 (constant S_ .f32 0x3F000000#32)))
    (broadcastInDim S32x16320 ![] bcast_S_S32x16320 (constantI S_ 32 0#32))
    (Host.gather gather_S32x16_S32x16320x2_S32x16320_n_01_n_n_01_2_11 la (pickR i id))

/-- The decoded boxes by centre and size. -/
def censR (de : FVec Ideal S32x16320x4 .f32) : FVec Ideal S32x16320x4 .f32 :=
  join2 (Host.divf (addf (snd2 de) (fst2 de)) (num2 0x40000000#32)) (subf (snd2 de) (fst2 de))
/-- The matched boxes encoded against the decoded ones. -/
def encR (mt cs : FVec Ideal S32x16320x4 .f32) : FVec Ideal S32x16320x4 .f32 :=
  join2 (Host.divf (subf (Host.divf (addf (fst2 mt) (snd2 mt)) (num2 0x40000000#32)) (fst2 cs)) (mulf (num2 0x3DCCCCCD#32) (snd2 cs)))
    (Host.divf (Host.log (Host.divf (subf (snd2 mt) (fst2 mt)) (snd2 cs))) (num2 0x3E4CCCCD#32))

/-- The larger of the two scores. -/
def rmaxR (a1 : FVec Ideal S32x16320x2 .f32) : FVec Ideal S32x16320 .f32 :=
  Host.reduce FloatOps.maximumf a1 (constant S_ .f32 0xFF800000#32) reducesTo_S32x16320x2_S32x16320_d2 h_S_
/-- The exponentials of the two scores less the larger. -/
def expR (a1 : FVec Ideal S32x16320x2 .f32) (mx : FVec Ideal S32x16320 .f32) : FVec Ideal S32x16320x2 .f32 :=
  Host.exp (subf a1 (broadcastInDim S32x16320x2 ![0, 1, 2] bcast_S32x16320x1_S32x16320x2_0_1_2 (broadcastInDim S32x16320x1 ![0, 1] bcast_S32x16320_S32x16320x1_0_1
    (maximumf (broadcastInDim S32x16320 ![] bcast_S_S32x16320 (constant S_ .f32 0xFF800000#32)) mx))))
/-- The sum of the two exponentials. -/
def esumR (e : FVec Ideal S32x16320x2 .f32) : FVec Ideal S32x16320 .f32 :=
  Host.reduceAdd e (constant S_ .f32 0x00000000#32) reducesTo_S32x16320x2_S32x16320_d2 h_S_
/-- The second exponential over the sum. -/
def fracR (e : FVec Ideal S32x16320x2 .f32) (t : FVec Ideal S32x16320 .f32) : FVec Ideal S32x16320 .f32 :=
  shapeCast S32x16320 (extractStridedSlice S32x16320x1 ![0, 0, 1]
    (Host.divf e (broadcastInDim S32x16320x2 ![0, 1, 2] bcast_S32x16320x1_S32x16320x2_0_1_2 (broadcastInDim S32x16320x1 ![0, 1] bcast_S32x16320_S32x16320x1_0_1 t)))
    slices_S32x16320x2_S32x16320x1_0_0_1 : FVec Ideal S32x16320x1 .f32) shapeCasts_S32x16320x1_S32x16320
/-- The probability that a prior holds an object. -/
def probR (a1 : FVec Ideal S32x16320x2 .f32) : FVec Ideal S32x16320 .f32 :=
  fracR (expR a1 (rmaxR a1)) (esumR (expR a1 (rmaxR a1)))
/-- The positive mask. -/
def posR (conf : IVec S32x16320 32) (prob : FVec Ideal S32x16320 .f32) : IVec S32x16320 1 :=
  andi (cmpi .sgt conf (broadcastInDim S32x16320 ![] bcast_S_S32x16320 (constantI S_ 32 0#32)))
    (cmpf .ogt prob (broadcastInDim S32x16320 ![] bcast_S_S32x16320 (constant S_ .f32 0x3C23D70A#32)))
/-- The number of positive priors of every image. -/
def cntI (pos : IVec S32x16320 1) : IVec S32 32 :=
  Host.reduce IntOp.addi (extui 32 pos natLt_1_32) (constantI S_ 32 0#32) reducesTo_S32x16320_S32_d1 h_S_
/-- The number of positive priors of the batch, from those of every image. -/
def cntB (n : IVec S32 32) : IVec S_ 32 :=
  Host.reduce IntOp.addi (broadcastInDim S32x1 ![0] bcast_S32_S32x1_0 n) (constantI S_ 32 0#32) reducesTo_S32x1_S_d0_1 h_S_
/-- The number of positive priors of the batch. -/
def cntR (pos : IVec S32x16320 1) : FVec Ideal S_ .f32 := sitofp .f32 (cntB (cntI pos))
/-- A number, at every image, prior and coordinate. -/
def num4 (b : BitVec 32) : FVec Ideal S32x16320x4 .f32 := broadcastInDim S32x16320x4 ![] bcast_S_S32x16320x4 (constant S_ .f32 b)
/-- The smooth L1 terms, zero off the positive priors. -/
def termR (d : FVec Ideal S32x16320x4 .f32) (pos : IVec S32x16320 1) : FVec Ideal S32x16320x4 .f32 :=
  mulf (select (cmpf .olt (Host.absf d) (num4 0x3F800000#32)) (mulf (mulf (num4 0x3F000000#32) d) d) (subf (Host.absf d) (num4 0x3F000000#32)))
    (broadcastInDim S32x16320x4 ![0, 1, 2] bcast_S32x16320x1_S32x16320x4_0_1_2 (broadcastInDim S32x16320x1 ![0, 1] bcast_S32x16320_S32x16320x1_0_1
      (uitofp .f32 pos : FVec Ideal S32x16320 .f32)))
/-- The sum of the terms. -/
def tsumR (x : FVec Ideal S32x16320x4 .f32) : FVec Ideal S_ .f32 :=
  Host.reduceAdd x (constant S_ .f32 0x00000000#32) reducesTo_S32x16320x4_S_d0_1_2 h_S_
/-- The loss from the smooth L1 sum and the number of positive priors. -/
def quotR (s n : FVec Ideal S_ .f32) : FVec Ideal S_ .f32 := Host.divf (Host.divf s (mulf (constant S_ .f32 0x40800000#32) n)) n

section whole
variable (a0 : FVec Ideal S32x16320x4 .f32) (a1 : FVec Ideal S32x16320x2 .f32) (a2 : FVec Ideal S32x16320x4 .f32)
  (a4 : FVec Ideal S16320x4 .f32) (a5 : FVec Ideal S32x16x5 .f32)

/-- The overlap ratios of the arguments. -/
def iouA : FVec Ideal S32x16x16320 .f32 := iouR (truR a5) (decR a0 a4)
/-- The positive mask of the arguments. -/
def posA : IVec S32x16320 1 :=
  posR (confR iotaR (labR a5) (ovR (iouA a0 a4 a5)) (idR (iouA a0 a4 a5))) (probR a1)
/-- The smooth L1 terms of the arguments. -/
def termA : FVec Ideal S32x16320x4 .f32 :=
  termR (subf a2 (encR (boxR iotaR (truR a5) (idR (iouA a0 a4 a5))) (censR (decR a0 a4)))) (posA a0 a1 a4 a5)
/-- The localisation loss of the arguments. -/
def lossA : FVec Ideal S_ .f32 :=
  quotR (tsumR (termA a0 a1 a2 a4 a5)) (cntR (posA a0 a1 a4 a5))

end whole

/-- The reference's operations, in order. -/
def opsOf : { l : List (HloOp τ sig (Elt Ideal)) // ∀ d, StableHlo.IsSeq (main (F := Ideal) d) l } := by
  apply Subtype.mk
  intro d
  hlo_seq

/-- The operations after the first `a`, up to `n` of them. -/
def part (a n : ℕ) : List (HloOp τ sig (Elt Ideal)) := (opsOf.1.drop a).take n

/-- The operations run in two parts. -/
theorem after_part (a n : ℕ) (s : Valuation τ sig (Elt Ideal)) :
    StableHlo.after (opsOf.1.drop a) s = StableHlo.after (opsOf.1.drop (a + n)) (StableHlo.after (part a n) s) := by
  rw [← List.drop_drop]
  unfold part
  generalize List.drop a opsOf.1 = ops
  induction n generalizing ops s with
  | zero => rfl
  | succ k ih =>
    cases ops with
    | nil => rfl
    | cons o l => exact ih (o.result s) l

section parts
variable (s : Valuation τ sig (Elt Ideal))

/-- Part 1 computes the objects' boxes. -/
theorem p1_t : StableHlo.after (part 0 34) s (Proc.devRef .tc main_v0) =
    truR (s (Proc.devRef .tc main_arg5)) := by sl_kernel_rfl
/-- Part 1 computes the objects' labels. -/
theorem p1_l : StableHlo.after (part 0 34) s (Proc.devRef .tc main_v3) =
    labR (s (Proc.devRef .tc main_arg5)) := by sl_kernel_rfl
/-- Part 1 computes the decoded boxes. -/
theorem p1_d : StableHlo.after (part 0 34) s (Proc.devRef .tc main_v29) =
    decR (s (Proc.devRef .tc main_arg0)) (s (Proc.devRef .tc main_arg4)) := by sl_kernel_rfl
/-- Part 1 leaves the scores alone. -/
theorem p1_a1 : StableHlo.after (part 0 34) s (Proc.devRef .tc main_arg1) =
    s (Proc.devRef .tc main_arg1) := by sl_kernel_rfl
/-- Part 1 leaves the predicted offsets alone. -/
theorem p1_a2 : StableHlo.after (part 0 34) s (Proc.devRef .tc main_arg2) =
    s (Proc.devRef .tc main_arg2) := by sl_kernel_rfl
/-- Part 2 leaves the objects' boxes alone. -/
theorem p2_t : StableHlo.after (part 34 52) s (Proc.devRef .tc main_v0) =
    s (Proc.devRef .tc main_v0) := by sl_kernel_rfl
/-- Part 2 leaves the objects' labels alone. -/
theorem p2_l : StableHlo.after (part 34 52) s (Proc.devRef .tc main_v3) =
    s (Proc.devRef .tc main_v3) := by sl_kernel_rfl
/-- Part 2 leaves the decoded boxes alone. -/
theorem p2_d : StableHlo.after (part 34 52) s (Proc.devRef .tc main_v29) =
    s (Proc.devRef .tc main_v29) := by sl_kernel_rfl
/-- Part 2 leaves the scores alone. -/
theorem p2_a1 : StableHlo.after (part 34 52) s (Proc.devRef .tc main_arg1) =
    s (Proc.devRef .tc main_arg1) := by sl_kernel_rfl
/-- Part 2 leaves the predicted offsets alone. -/
theorem p2_a2 : StableHlo.after (part 34 52) s (Proc.devRef .tc main_arg2) =
    s (Proc.devRef .tc main_arg2) := by sl_kernel_rfl
/-- Part 2 computes the overlap ratios. -/
theorem p2_o : StableHlo.after (part 34 52) s (Proc.devRef .tc main_v80) =
    iouR (s (Proc.devRef .tc main_v0)) (s (Proc.devRef .tc main_v29)) := by sl_kernel_rfl
/-- Part 3 leaves the objects' boxes alone. -/
theorem p3_t : StableHlo.after (part 86 12) s (Proc.devRef .tc main_v0) =
    s (Proc.devRef .tc main_v0) := by sl_kernel_rfl
/-- Part 3 leaves the objects' labels alone. -/
theorem p3_l : StableHlo.after (part 86 12) s (Proc.devRef .tc main_v3) =
    s (Proc.devRef .tc main_v3) := by sl_kernel_rfl
/-- Part 3 leaves the decoded boxes alone. -/
theorem p3_d : StableHlo.after (part 86 12) s (Proc.devRef .tc main_v29) =
    s (Proc.devRef .tc main_v29) := by sl_kernel_rfl
/-- Part 3 leaves the scores alone. -/
theorem p3_a1 : StableHlo.after (part 86 12) s (Proc.devRef .tc main_arg1) =
    s (Proc.devRef .tc main_arg1) := by sl_kernel_rfl
/-- Part 3 leaves the predicted offsets alone. -/
theorem p3_a2 : StableHlo.after (part 86 12) s (Proc.devRef .tc main_arg2) =
    s (Proc.devRef .tc main_arg2) := by sl_kernel_rfl
/-- Part 3 computes the best priors. -/
theorem p3_bp : StableHlo.after (part 86 12) s (Proc.devRef .tc main_v81) =
    bpR (s (Proc.devRef .tc main_v80)) := by sl_kernel_rfl
/-- Part 3 computes the best ratios. -/
theorem p3_bo : StableHlo.after (part 86 12) s (Proc.devRef .tc main_v82) =
    boR (s (Proc.devRef .tc main_v80)) := by sl_kernel_rfl
/-- Part 3 computes the best objects. -/
theorem p3_bi : StableHlo.after (part 86 12) s (Proc.devRef .tc main_v83) =
    biR (s (Proc.devRef .tc main_v80)) := by sl_kernel_rfl
/-- Part 4 leaves the objects' boxes alone. -/
theorem p4_t : StableHlo.after (part 98 23) s (Proc.devRef .tc main_v0) =
    s (Proc.devRef .tc main_v0) := by sl_kernel_rfl
/-- Part 4 leaves the objects' labels alone. -/
theorem p4_l : StableHlo.after (part 98 23) s (Proc.devRef .tc main_v3) =
    s (Proc.devRef .tc main_v3) := by sl_kernel_rfl
/-- Part 4 leaves the decoded boxes alone. -/
theorem p4_d : StableHlo.after (part 98 23) s (Proc.devRef .tc main_v29) =
    s (Proc.devRef .tc main_v29) := by sl_kernel_rfl
/-- Part 4 leaves the scores alone. -/
theorem p4_a1 : StableHlo.after (part 98 23) s (Proc.devRef .tc main_arg1) =
    s (Proc.devRef .tc main_arg1) := by sl_kernel_rfl
/-- Part 4 leaves the predicted offsets alone. -/
theorem p4_a2 : StableHlo.after (part 98 23) s (Proc.devRef .tc main_arg2) =
    s (Proc.devRef .tc main_arg2) := by sl_kernel_rfl
/-- Part 4 leaves the best priors alone. -/
theorem p4_bp : StableHlo.after (part 98 23) s (Proc.devRef .tc main_v81) =
    s (Proc.devRef .tc main_v81) := by sl_kernel_rfl
/-- Part 4 leaves the best objects alone. -/
theorem p4_bi : StableHlo.after (part 98 23) s (Proc.devRef .tc main_v83) =
    s (Proc.devRef .tc main_v83) := by sl_kernel_rfl
/-- Part 4 computes the images' numbers. -/
theorem p4_i : StableHlo.after (part 98 23) s (Proc.devRef .tc main_v85) =
    iotaR := by sl_kernel_rfl
/-- Part 4 computes the ratios after the claims. -/
theorem p4_ov : StableHlo.after (part 98 23) s (Proc.devRef .tc main_v101) =
    putTwo (s (Proc.devRef .tc main_v82)) (claimR iotaR (s (Proc.devRef .tc main_v81))) := by sl_kernel_rfl
/-- Part 5 leaves the objects' boxes alone. -/
theorem p5_t : StableHlo.after (part 121 22) s (Proc.devRef .tc main_v0) =
    s (Proc.devRef .tc main_v0) := by sl_kernel_rfl
/-- Part 5 leaves the objects' labels alone. -/
theorem p5_l : StableHlo.after (part 121 22) s (Proc.devRef .tc main_v3) =
    s (Proc.devRef .tc main_v3) := by sl_kernel_rfl
/-- Part 5 leaves the decoded boxes alone. -/
theorem p5_d : StableHlo.after (part 121 22) s (Proc.devRef .tc main_v29) =
    s (Proc.devRef .tc main_v29) := by sl_kernel_rfl
/-- Part 5 leaves the scores alone. -/
theorem p5_a1 : StableHlo.after (part 121 22) s (Proc.devRef .tc main_arg1) =
    s (Proc.devRef .tc main_arg1) := by sl_kernel_rfl
/-- Part 5 leaves the predicted offsets alone. -/
theorem p5_a2 : StableHlo.after (part 121 22) s (Proc.devRef .tc main_arg2) =
    s (Proc.devRef .tc main_arg2) := by sl_kernel_rfl
/-- Part 5 leaves the images' numbers alone. -/
theorem p5_i : StableHlo.after (part 121 22) s (Proc.devRef .tc main_v85) =
    s (Proc.devRef .tc main_v85) := by sl_kernel_rfl
/-- Part 5 leaves the ratios after the claims alone. -/
theorem p5_ov : StableHlo.after (part 121 22) s (Proc.devRef .tc main_v101) =
    s (Proc.devRef .tc main_v101) := by sl_kernel_rfl
/-- Part 5 computes the matched objects. -/
theorem p5_id : StableHlo.after (part 121 22) s (Proc.devRef .tc main_v119) =
    putObj (s (Proc.devRef .tc main_v83)) (claimR (s (Proc.devRef .tc main_v85)) (s (Proc.devRef .tc main_v81))) := by sl_kernel_rfl
/-- Part 6 leaves the decoded boxes alone. -/
theorem p6_d : StableHlo.after (part 143 45) s (Proc.devRef .tc main_v29) =
    s (Proc.devRef .tc main_v29) := by sl_kernel_rfl
/-- Part 6 leaves the scores alone. -/
theorem p6_a1 : StableHlo.after (part 143 45) s (Proc.devRef .tc main_arg1) =
    s (Proc.devRef .tc main_arg1) := by sl_kernel_rfl
/-- Part 6 leaves the predicted offsets alone. -/
theorem p6_a2 : StableHlo.after (part 143 45) s (Proc.devRef .tc main_arg2) =
    s (Proc.devRef .tc main_arg2) := by sl_kernel_rfl
/-- Part 6 computes the matched boxes. -/
theorem p6_bx : StableHlo.after (part 143 45) s (Proc.devRef .tc main_v134) =
    boxR (s (Proc.devRef .tc main_v85)) (s (Proc.devRef .tc main_v0)) (s (Proc.devRef .tc main_v119)) := by sl_kernel_rfl
/-- Part 6 computes the matched labels. -/
theorem p6_cf : StableHlo.after (part 143 45) s (Proc.devRef .tc main_v152) =
    confR (s (Proc.devRef .tc main_v85)) (s (Proc.devRef .tc main_v3)) (s (Proc.devRef .tc main_v101)) (s (Proc.devRef .tc main_v119)) := by sl_kernel_rfl
/-- Part 7 leaves the scores alone. -/
theorem p7_a1 : StableHlo.after (part 188 33) s (Proc.devRef .tc main_arg1) =
    s (Proc.devRef .tc main_arg1) := by sl_kernel_rfl
/-- Part 7 leaves the predicted offsets alone. -/
theorem p7_a2 : StableHlo.after (part 188 33) s (Proc.devRef .tc main_arg2) =
    s (Proc.devRef .tc main_arg2) := by sl_kernel_rfl
/-- Part 7 leaves the matched labels alone. -/
theorem p7_cf : StableHlo.after (part 188 33) s (Proc.devRef .tc main_v152) =
    s (Proc.devRef .tc main_v152) := by sl_kernel_rfl
/-- Part 7 computes the encoded boxes. -/
theorem p7_e : StableHlo.after (part 188 33) s (Proc.devRef .tc main_v181) =
    encR (s (Proc.devRef .tc main_v134)) (censR (s (Proc.devRef .tc main_v29))) := by sl_kernel_rfl
/-- Part 8 leaves main_arg1 alone. -/
theorem p8_a1 : StableHlo.after (part 221 2) s (Proc.devRef .tc main_arg1) =
    s (Proc.devRef .tc main_arg1) := by sl_kernel_rfl
/-- Part 8 leaves main_arg2 alone. -/
theorem p8_a2 : StableHlo.after (part 221 2) s (Proc.devRef .tc main_arg2) =
    s (Proc.devRef .tc main_arg2) := by sl_kernel_rfl
/-- Part 8 leaves main_v152 alone. -/
theorem p8_cf : StableHlo.after (part 221 2) s (Proc.devRef .tc main_v152) =
    s (Proc.devRef .tc main_v152) := by sl_kernel_rfl
/-- Part 8 leaves main_v181 alone. -/
theorem p8_e : StableHlo.after (part 221 2) s (Proc.devRef .tc main_v181) =
    s (Proc.devRef .tc main_v181) := by sl_kernel_rfl
/-- Part 8 computes main_v182. -/
theorem p8_mx : StableHlo.after (part 221 2) s (Proc.devRef .tc main_v182) =
    rmaxR (s (Proc.devRef .tc main_arg1)) := by sl_kernel_rfl
/-- Part 9 leaves main_arg2 alone. -/
theorem p9_a2 : StableHlo.after (part 223 7) s (Proc.devRef .tc main_arg2) =
    s (Proc.devRef .tc main_arg2) := by sl_kernel_rfl
/-- Part 9 leaves main_v152 alone. -/
theorem p9_cf : StableHlo.after (part 223 7) s (Proc.devRef .tc main_v152) =
    s (Proc.devRef .tc main_v152) := by sl_kernel_rfl
/-- Part 9 leaves main_v181 alone. -/
theorem p9_e : StableHlo.after (part 223 7) s (Proc.devRef .tc main_v181) =
    s (Proc.devRef .tc main_v181) := by sl_kernel_rfl
/-- Part 9 computes main_v188. -/
theorem p9_ex : StableHlo.after (part 223 7) s (Proc.devRef .tc main_v188) =
    expR (s (Proc.devRef .tc main_arg1)) (s (Proc.devRef .tc main_v182)) := by sl_kernel_rfl
/-- Part 10 leaves main_arg2 alone. -/
theorem p10_a2 : StableHlo.after (part 230 2) s (Proc.devRef .tc main_arg2) =
    s (Proc.devRef .tc main_arg2) := by sl_kernel_rfl
/-- Part 10 leaves main_v152 alone. -/
theorem p10_cf : StableHlo.after (part 230 2) s (Proc.devRef .tc main_v152) =
    s (Proc.devRef .tc main_v152) := by sl_kernel_rfl
/-- Part 10 leaves main_v181 alone. -/
theorem p10_e : StableHlo.after (part 230 2) s (Proc.devRef .tc main_v181) =
    s (Proc.devRef .tc main_v181) := by sl_kernel_rfl
/-- Part 10 leaves main_v188 alone. -/
theorem p10_ex : StableHlo.after (part 230 2) s (Proc.devRef .tc main_v188) =
    s (Proc.devRef .tc main_v188) := by sl_kernel_rfl
/-- Part 10 computes main_v189. -/
theorem p10_es : StableHlo.after (part 230 2) s (Proc.devRef .tc main_v189) =
    esumR (s (Proc.devRef .tc main_v188)) := by sl_kernel_rfl
/-- Part 11 leaves main_arg2 alone. -/
theorem p11_a2 : StableHlo.after (part 232 5) s (Proc.devRef .tc main_arg2) =
    s (Proc.devRef .tc main_arg2) := by sl_kernel_rfl
/-- Part 11 leaves main_v152 alone. -/
theorem p11_cf : StableHlo.after (part 232 5) s (Proc.devRef .tc main_v152) =
    s (Proc.devRef .tc main_v152) := by sl_kernel_rfl
/-- Part 11 leaves main_v181 alone. -/
theorem p11_e : StableHlo.after (part 232 5) s (Proc.devRef .tc main_v181) =
    s (Proc.devRef .tc main_v181) := by sl_kernel_rfl
/-- Part 11 computes main_v194. -/
theorem p11_pr : StableHlo.after (part 232 5) s (Proc.devRef .tc main_v194) =
    fracR (s (Proc.devRef .tc main_v188)) (s (Proc.devRef .tc main_v189)) := by sl_kernel_rfl
/-- Part 12 leaves main_arg2 alone. -/
theorem p12_a2 : StableHlo.after (part 237 7) s (Proc.devRef .tc main_arg2) =
    s (Proc.devRef .tc main_arg2) := by sl_kernel_rfl
/-- Part 12 leaves main_v181 alone. -/
theorem p12_e : StableHlo.after (part 237 7) s (Proc.devRef .tc main_v181) =
    s (Proc.devRef .tc main_v181) := by sl_kernel_rfl
/-- Part 12 computes main_v199. -/
theorem p12_p : StableHlo.after (part 237 7) s (Proc.devRef .tc main_v199) =
    posR (s (Proc.devRef .tc main_v152)) (s (Proc.devRef .tc main_v194)) := by sl_kernel_rfl
/-- Part 13 leaves main_arg2 alone. -/
theorem p13_a2 : StableHlo.after (part 244 3) s (Proc.devRef .tc main_arg2) =
    s (Proc.devRef .tc main_arg2) := by sl_kernel_rfl
/-- Part 13 leaves main_v181 alone. -/
theorem p13_e : StableHlo.after (part 244 3) s (Proc.devRef .tc main_v181) =
    s (Proc.devRef .tc main_v181) := by sl_kernel_rfl
/-- Part 13 leaves main_v199 alone. -/
theorem p13_p : StableHlo.after (part 244 3) s (Proc.devRef .tc main_v199) =
    s (Proc.devRef .tc main_v199) := by sl_kernel_rfl
/-- Part 13 computes main_v201. -/
theorem p13_ci : StableHlo.after (part 244 3) s (Proc.devRef .tc main_v201) =
    cntI (s (Proc.devRef .tc main_v199)) := by sl_kernel_rfl
/-- Part 14 leaves main_arg2 alone. -/
theorem p14_a2 : StableHlo.after (part 247 3) s (Proc.devRef .tc main_arg2) =
    s (Proc.devRef .tc main_arg2) := by sl_kernel_rfl
/-- Part 14 leaves main_v181 alone. -/
theorem p14_e : StableHlo.after (part 247 3) s (Proc.devRef .tc main_v181) =
    s (Proc.devRef .tc main_v181) := by sl_kernel_rfl
/-- Part 14 leaves main_v199 alone. -/
theorem p14_p : StableHlo.after (part 247 3) s (Proc.devRef .tc main_v199) =
    s (Proc.devRef .tc main_v199) := by sl_kernel_rfl
/-- Part 14 computes main_v203. -/
theorem p14_cb : StableHlo.after (part 247 3) s (Proc.devRef .tc main_v203) =
    cntB (s (Proc.devRef .tc main_v201)) := by sl_kernel_rfl
/-- Part 15 leaves main_arg2 alone. -/
theorem p15_a2 : StableHlo.after (part 250 1) s (Proc.devRef .tc main_arg2) =
    s (Proc.devRef .tc main_arg2) := by sl_kernel_rfl
/-- Part 15 leaves main_v181 alone. -/
theorem p15_e : StableHlo.after (part 250 1) s (Proc.devRef .tc main_v181) =
    s (Proc.devRef .tc main_v181) := by sl_kernel_rfl
/-- Part 15 leaves main_v199 alone. -/
theorem p15_p : StableHlo.after (part 250 1) s (Proc.devRef .tc main_v199) =
    s (Proc.devRef .tc main_v199) := by sl_kernel_rfl
/-- Part 15 computes main_v204. -/
theorem p15_n : StableHlo.after (part 250 1) s (Proc.devRef .tc main_v204) =
    (sitofp .f32 (s (Proc.devRef .tc main_v203) : IVec S_ 32) : FVec Ideal S_ .f32) := by sl_kernel_rfl
/-- Part 16 leaves main_v204 alone. -/
theorem p16_n : StableHlo.after (part 251 17) s (Proc.devRef .tc main_v204) =
    s (Proc.devRef .tc main_v204) := by sl_kernel_rfl
/-- Part 16 computes main_v218. -/
theorem p16_tm : StableHlo.after (part 251 17) s (Proc.devRef .tc main_v218) =
    termR (subf (s (Proc.devRef .tc main_arg2)) (s (Proc.devRef .tc main_v181))) (s (Proc.devRef .tc main_v199)) := by sl_kernel_rfl
/-- Part 17 leaves main_v204 alone. -/
theorem p17_n : StableHlo.after (part 268 2) s (Proc.devRef .tc main_v204) =
    s (Proc.devRef .tc main_v204) := by sl_kernel_rfl
/-- Part 17 computes main_v219. -/
theorem p17_ts : StableHlo.after (part 268 2) s (Proc.devRef .tc main_v219) =
    tsumR (s (Proc.devRef .tc main_v218)) := by sl_kernel_rfl
/-- Part 18 computes main_v222. -/
theorem p18_r : StableHlo.after (part 270 4) s (Proc.devRef .tc main_v222) =
    quotR (s (Proc.devRef .tc main_v219)) (s (Proc.devRef .tc main_v204)) := by sl_kernel_rfl

/-- All the operations leave the loss of the arguments. -/
theorem after_loss : StableHlo.after opsOf.1 s (Proc.devRef .tc main_v222) =
    lossA (s (Proc.devRef .tc main_arg0)) (s (Proc.devRef .tc main_arg1)) (s (Proc.devRef .tc main_arg2))
      (s (Proc.devRef .tc main_arg4)) (s (Proc.devRef .tc main_arg5)) := by
  have h0 : StableHlo.after opsOf.1 s = StableHlo.after (opsOf.1.drop 0) s := rfl
  have hN : opsOf.1.drop 274 = [] := by sl_kernel_rfl
  rw [h0, after_part 0 34, after_part 34 52, after_part 86 12, after_part 98 23, after_part 121 22, after_part 143 45, after_part 188 33, after_part 221 2, after_part 223 7, after_part 230 2, after_part 232 5, after_part 237 7, after_part 244 3, after_part 247 3, after_part 250 1, after_part 251 17, after_part 268 2, after_part 270 4]
  rw [hN, StableHlo.after_nil]
  rw [p18_r]
  rw [p17_n, p17_ts]
  rw [p16_n, p16_tm]
  rw [p15_a2, p15_e, p15_p, p15_n]
  rw [p14_a2, p14_e, p14_p, p14_cb]
  rw [p13_a2, p13_e, p13_p, p13_ci]
  rw [p12_a2, p12_e, p12_p]
  rw [p11_a2, p11_cf, p11_e, p11_pr]
  rw [p10_a2, p10_cf, p10_e, p10_ex, p10_es]
  rw [p9_a2, p9_cf, p9_e, p9_ex]
  rw [p8_a1, p8_a2, p8_cf, p8_e, p8_mx]
  rw [p7_a1, p7_a2, p7_cf, p7_e]
  rw [p6_d, p6_a1, p6_a2, p6_bx, p6_cf]
  rw [p5_t, p5_l, p5_d, p5_a1, p5_a2, p5_i, p5_ov, p5_id]
  rw [p4_t, p4_l, p4_d, p4_a1, p4_a2, p4_bp, p4_bi, p4_i, p4_ov]
  rw [p3_t, p3_l, p3_d, p3_a1, p3_a2, p3_bp, p3_bo, p3_bi]
  rw [p2_t, p2_l, p2_d, p2_a1, p2_a2, p2_o]
  rw [p1_t, p1_l, p1_d, p1_a1, p1_a2]
  rfl

end parts

/-- The reference leaves the localisation loss of its arguments in its result. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v222) = lossA (m ((c.tc : Thread nD τ).loc main_arg0)) (m ((c.tc : Thread nD τ).loc main_arg1))
        (m ((c.tc : Thread nD τ).loc main_arg2)) (m ((c.tc : Thread nD τ).loc main_arg4)) (m ((c.tc : Thread nD τ).loc main_arg5))) := by
  refine θ_run_mono (StableHlo.run_hlo _ _ opsOf.2 (by decide) (by decide) (by unfold opsOf; simp)
      (by unfold opsOf; intro _ h; (repeat (cases h with | head => rfl | tail _ h => ?_)); exact nomatch h) _ _) ?_
  intro r hr c
  exact (hr c main_v222).trans (after_loss _)

end Cert.Loss.Ref

end
-- ==== Proof.Geo.lean ====
/-
  The decoded boxes and their overlap ratios, read at one image, object and prior on both sides.
-/
module

public import proofs.«01_k».proof.Proof.Out
public import proofs.«01_k».proof.Proof.Ref

@[expose] public section

noncomputable section

namespace Cert.Loss

open Idealize.ShloMosaic Idealize.ShloMosaic.Tactic

/-- A prior's place in the flat order, from its row and column in the tile. -/
def flatP (s : Fin 8) (l : Fin 2040) : Fin 16320 := ⟨s.val * 2040 + l.val, by have := s.isLt; have := l.isLt; omega⟩

variable (a0 : Vec Ideal Cert.KernelIdeal.S32x16320x4 .f32) (a4 : Vec Ideal Cert.KernelIdeal.S16320x4 .f32) (a5 : Vec Ideal Cert.KernelIdeal.S32x16x5 .f32) (b : Fin 32)

/-- The literal one half. -/
theorem ofBits_half : Ideal.ofBits .f32 0x3F000000#32 = (((1 / 2 : ℝ)) : EReal) := by
  simp [Ideal.ofBits, Ideal.ieee]
  norm_num [← EReal.coe_mul]
/-- The literal two. -/
theorem ofBits_two : Ideal.ofBits .f32 0x40000000#32 = ((2 : ℝ) : EReal) := by
  simp [Ideal.ofBits, Ideal.ieee]
  norm_num [← EReal.coe_mul]
/-- The literal minus one. -/
theorem ofBits_neg_one : Ideal.ofBits .f32 0xBF800000#32 = ((-1 : ℝ) : EReal) := by
  simp [Ideal.ofBits, Ideal.ieee]
  norm_num [← EReal.coe_mul]
/-- The literal minus infinity. -/
theorem ofBits_bot : Ideal.ofBits .f32 0xFF800000#32 = ⊥ := by
  simp [Ideal.ofBits, Ideal.ieee]

/-- Halving is multiplying by one half. -/
theorem div_two (x : EReal) : Ideal.div x (Ideal.ofBits .f32 0x40000000#32) = x * Ideal.ofBits .f32 0x3F000000#32 := by
  rw [ofBits_half, ofBits_two]
  unfold Ideal.div
  rw [if_neg (by norm_num), ← EReal.coe_inv]
  norm_num

/-- A decoded box's left side, on both sides. -/
theorem x1_eq (s : Fin 8) (l : Fin 2040) : x1T (priA a4) (fourA a0 b) (ix2 s l) = Ref.decR a0 a4 (ix3 b (flatP s l) (0 : Fin 4)) := by
  pointwise [x1T, cxT, wT, pl0, pl2, plane4, priA, fourA, lit, Ref.decR, Ref.join2, Ref.xyR, Ref.whR, Ref.priXY, Ref.priWH, Ref.fst2, Ref.snd2, Ref.num2]
  rw [div_two]
  rfl
/-- A decoded box's upper side, on both sides. -/
theorem y1_eq (s : Fin 8) (l : Fin 2040) : y1T (priA a4) (fourA a0 b) (ix2 s l) = Ref.decR a0 a4 (ix3 b (flatP s l) (1 : Fin 4)) := by
  pointwise [y1T, cyT, hT, pl1, pl3, plane4, priA, fourA, lit, Ref.decR, Ref.join2, Ref.xyR, Ref.whR, Ref.priXY, Ref.priWH, Ref.fst2, Ref.snd2, Ref.num2]
  rw [div_two]
  rfl
/-- A decoded box's right side, on both sides. -/
theorem x2_eq (s : Fin 8) (l : Fin 2040) : x2T (priA a4) (fourA a0 b) (ix2 s l) = Ref.decR a0 a4 (ix3 b (flatP s l) (2 : Fin 4)) := by
  pointwise [x2T, cxT, wT, pl0, pl2, plane4, priA, fourA, lit, Ref.decR, Ref.join2, Ref.xyR, Ref.whR, Ref.priXY, Ref.priWH, Ref.fst2, Ref.snd2, Ref.num2]
  rw [div_two]
  rfl
/-- A decoded box's lower side, on both sides. -/
theorem y2_eq (s : Fin 8) (l : Fin 2040) : y2T (priA a4) (fourA a0 b) (ix2 s l) = Ref.decR a0 a4 (ix3 b (flatP s l) (3 : Fin 4)) := by
  pointwise [y2T, cyT, hT, pl1, pl3, plane4, priA, fourA, lit, Ref.decR, Ref.join2, Ref.xyR, Ref.whR, Ref.priXY, Ref.priWH, Ref.fst2, Ref.snd2, Ref.num2]
  rw [div_two]
  rfl

/-- An object's corner, on both sides. -/
theorem obj_eq (n : Fin 16) (j : Fin 4) : objA a5 b n.val j.val = Ref.truR a5 (ix3 b n j) := by
  unfold objA
  rw [dif_pos ⟨n.isLt, j.isLt⟩]
  pointwise [Ref.truR]

/-- The overlap ratio over the two boxes' sides, on the kernel's side. -/
theorem iouT_at (x1 y1 x2 y2 : Tile) (bb : ℕ → ℕ → Ideal .f32) (t : ℕ) (s : Fin 8) (l : Fin 2040) (d : Fin 4 → EReal) (o : Fin 4 → EReal)
    (hx1 : x1 (ix2 s l) = d 0) (hy1 : y1 (ix2 s l) = d 1) (hx2 : x2 (ix2 s l) = d 2) (hy2 : y2 (ix2 s l) = d 3)
    (h0 : bb t 0 = o 0) (h1 : bb t 1 = o 1) (h2 : bb t 2 = o 2) (h3 : bb t 3 = o 3) :
    iouT x1 y1 x2 y2 bb t (ix2 s l) = Ideal.div
      (max (min (o 2) (d 2) - max (o 0) (d 0)) 0 * max (min (o 3) (d 3) - max (o 1) (d 1)) 0)
      ((o 2 - o 0) * (o 3 - o 1) + (d 2 - d 0) * (d 3 - d 1) -
        max (min (o 2) (d 2) - max (o 0) (d 0)) 0 * max (min (o 3) (d 3) - max (o 1) (d 1)) 0) := by
  pointwise [iouT, interT, lit]
  rw [hx1, hy1, hx2, hy2, h0, h1, h2, h3, min_comm (d 2), min_comm (d 3), max_comm (d 0), max_comm (d 1)]

/-- The overlap ratio, on both sides. -/
theorem iou_eq (n : Fin 16) (s : Fin 8) (l : Fin 2040) :
    iouT (x1T (priA a4) (fourA a0 b)) (y1T (priA a4) (fourA a0 b)) (x2T (priA a4) (fourA a0 b)) (y2T (priA a4) (fourA a0 b)) (objA a5 b) n.val (ix2 s l)
      = Ref.iouA a0 a4 a5 (ix3 b n (flatP s l)) := by
  rw [iouT_at _ _ _ _ _ _ _ _ (fun k => Ref.decR a0 a4 (ix3 b (flatP s l) k)) (fun k => Ref.truR a5 (ix3 b n k))
    (x1_eq a0 a4 b s l) (y1_eq a0 a4 b s l) (x2_eq a0 a4 b s l) (y2_eq a0 a4 b s l) (obj_eq a5 b n 0) (obj_eq a5 b n 1) (obj_eq a5 b n 2) (obj_eq a5 b n 3)]
  unfold Ref.iouA
  generalize Ref.decR a0 a4 = de
  generalize Ref.truR a5 = tr
  pointwise [Ref.iouR, Ref.interR, Ref.sideR, Ref.minR, Ref.maxR, Ref.areaA, Ref.areaB, Ref.fst2, Ref.snd2]

end Cert.Loss

end
-- ==== Proof.Pick.lean ====
/-
  First maxima, and values written over by later claims: what the matching needs, over plain functions.
-/
module

public import proofs.«01_k».proof.Proof.Geo

@[expose] public section

noncomputable section

namespace Cert.Loss

open Idealize.ShloMosaic Idealize.ShloMosaic.Tactic

/-- `p` is the first place at which `f` is the largest. -/
def FirstMax {n : ℕ} (f : Fin n → EReal) (p : Fin n) : Prop := (∀ q, f q ≤ f p) ∧ ∀ q, f q = f p → p ≤ q

/-- The first place of the largest value is one place. -/
theorem FirstMax.eq {n : ℕ} {f : Fin n → EReal} {p q : Fin n} (hp : FirstMax f p) (hq : FirstMax f q) : p = q := by
  have e : f p = f q := le_antisymm (hq.1 p) (hp.1 q)
  exact le_antisymm (hp.2 q e.symm) (hq.2 p e)

/-- The values `v n`, for the first `n` objects, written over `d` where the object's place is `p`; a later object wins. -/
def over {α : Type} (Q : ℕ → Fin 16320) (p : Fin 16320) (d : α) (v : ℕ → α) : ℕ → α
  | 0 => d
  | n + 1 => if Q n = p then v n else over Q p d v n

/-- What is written depends on the values of the written objects alone. -/
theorem over_congr {α : Type} (Q : ℕ → Fin 16320) (p : Fin 16320) (d : α) (v w : ℕ → α) (n : ℕ) (h : ∀ k, k < n → v k = w k) :
    over Q p d v n = over Q p d w n := by
  induction n with
  | zero => rfl
  | succ n ih =>
    unfold over
    rw [h n (Nat.lt_succ_self n), ih fun k hk => h k (Nat.lt_succ_of_lt hk)]

/-- What is written depends on the places of the written objects alone. -/
theorem over_congr_place {α : Type} (Q R : ℕ → Fin 16320) (p : Fin 16320) (d : α) (v : ℕ → α) (n : ℕ) (h : ∀ k, k < n → Q k = R k) :
    over Q p d v n = over R p d v n := by
  induction n with
  | zero => rfl
  | succ n ih =>
    unfold over
    rw [h n (Nat.lt_succ_self n), ih fun k hk => h k (Nat.lt_succ_of_lt hk)]

/-- A function of what is written is what is written of the function. -/
theorem over_map {α β : Type} (g : α → β) (Q : ℕ → Fin 16320) (p : Fin 16320) (d : α) (v : ℕ → α) (n : ℕ) :
    g (over Q p d v n) = over Q p (g d) (fun k => g (v k)) n := by
  induction n with
  | zero => rfl
  | succ n ih =>
    unfold over
    rw [apply_ite g, ih]

/-- The ratio and the label written together: a claimed prior keeps its label, whatever its ratio was. -/
theorem over_label (Q : ℕ → Fin 16320) (p : Fin 16320) (s h : EReal) (hh : ¬ (Ideal.ofBits .f32 0x40000000#32 < h)) (z d : BitVec 32) (v : ℕ → BitVec 32) (n : ℕ) :
    (if over Q p s (fun _ => Ideal.ofBits .f32 0x40000000#32) n < h then z else over Q p d v n) = over Q p (if s < h then z else d) v n := by
  induction n with
  | zero => rfl
  | succ n ih =>
    unfold over
    by_cases e : Q n = p
    · rw [if_pos e, if_pos e, if_pos e, if_neg hh]
    · rw [if_neg e, if_neg e, if_neg e, ih]

/-- Two matched values agree where the written label is not the default, if their defaults agree where the default label is kept. -/
theorem over_box {α : Type} (Q : ℕ → Fin 16320) (p : Fin 16320) (d e : α) (c : BitVec 32) (v : ℕ → α) (w : ℕ → BitVec 32)
    (h : c ≠ 0#32 → d = e) (n : ℕ) (hw : over Q p c w n ≠ 0#32) : over Q p d v n = over Q p e v n := by
  induction n with
  | zero => exact h hw
  | succ n ih =>
    unfold over at hw ⊢
    by_cases k : Q n = p
    · rw [if_pos k, if_pos k]
    · rw [if_neg k] at hw
      rw [if_neg k, if_neg k, ih hw]

/-- The running best ratio and its object, over the first `n` objects. -/
def bestV (f : ℕ → EReal) : ℕ → EReal
  | 0 => Ideal.ofBits .f32 0xBF800000#32
  | n + 1 => max (f n) (bestV f n)
/-- The object of the running best ratio. -/
def bestN (f : ℕ → EReal) : ℕ → ℕ
  | 0 => 0
  | n + 1 => if bestV f n < f n then n else bestN f n

/-- The running best ratio is the largest of the start and the ratios so far. -/
theorem bestV_spec (f : ℕ → EReal) (n : ℕ) : (∀ k, k < n → f k ≤ bestV f n) ∧ Ideal.ofBits .f32 0xBF800000#32 ≤ bestV f n
    ∧ (bestV f n = Ideal.ofBits .f32 0xBF800000#32 ∨ (bestN f n < n ∧ f (bestN f n) = bestV f n ∧ ∀ k, k < bestN f n → f k < bestV f n)) := by
  induction n with
  | zero => exact ⟨fun k hk => absurd hk (Nat.not_lt_zero k), le_refl _, Or.inl rfl⟩
  | succ n ih =>
    obtain ⟨h1, h2, h3⟩ := ih
    unfold bestN
    show (∀ k, k < n + 1 → f k ≤ max (f n) (bestV f n)) ∧ _ ≤ max (f n) (bestV f n) ∧ _
    refine ⟨fun k hk => ?_, le_max_of_le_right h2, ?_⟩
    · rcases Nat.lt_succ_iff_lt_or_eq.1 hk with hk | rfl
      · exact le_max_of_le_right (h1 k hk)
      · exact le_max_left _ _
    · show max (f n) (bestV f n) = _ ∨ _ ∧ _ = max (f n) (bestV f n) ∧ ∀ k, _ → f k < max (f n) (bestV f n)
      by_cases e : bestV f n < f n
      · rw [if_pos e, max_eq_left e.le]
        exact Or.inr ⟨Nat.lt_succ_self n, rfl, fun k hk => lt_of_le_of_lt (h1 k hk) e⟩
      · rw [if_neg e, max_eq_right (not_lt.1 e)]
        rcases h3 with h3 | ⟨h4, h5, h6⟩
        · exact Or.inl h3
        · exact Or.inr ⟨Nat.lt_succ_of_lt h4, h5, h6⟩

/-- A best ratio above the start is the ratios' largest, and its object the first that has it. -/
theorem best_eq (f : ℕ → EReal) (r : Fin 16) (hr : FirstMax (fun k : Fin 16 => f k.val) r) :
    bestV f 16 = max (f r.val) (Ideal.ofBits .f32 0xBF800000#32) ∧ (Ideal.ofBits .f32 0xBF800000#32 < f r.val → bestN f 16 = r.val) := by
  obtain ⟨h1, h2, h3⟩ := bestV_spec f 16
  have hle : max (f r.val) (Ideal.ofBits .f32 0xBF800000#32) ≤ bestV f 16 := max_le (h1 _ r.isLt) h2
  rcases h3 with h3 | ⟨h4, h5, h6⟩
  · refine ⟨le_antisymm (h3.le.trans (le_max_right _ _)) hle, fun hlt => ?_⟩
    exact absurd (lt_of_lt_of_le hlt ((le_max_left _ _).trans (hle.trans h3.le))) (lt_irrefl _)
  · have e1 : bestV f 16 ≤ f r.val := h5.symm.le.trans (hr.1 ⟨bestN f 16, h4⟩)
    have e2 : f r.val = bestV f 16 := le_antisymm (h1 _ r.isLt) e1
    refine ⟨le_antisymm (e1.trans (le_max_left _ _)) hle, fun _ => ?_⟩
    refine le_antisymm (not_lt.1 fun hlt => ?_) (hr.2 ⟨bestN f 16, h4⟩ (h5.trans e2.symm))
    exact absurd (h6 _ hlt) (by rw [e2]; exact lt_irrefl _)

end Cert.Loss

end
-- ==== Proof.KSide.lean ====
/-
  The kernel's matching read at one prior: the best prior of each object, the label and the box a prior is matched with.
-/
module

public import proofs.«01_k».proof.Proof.Pick

@[expose] public section

noncomputable section

namespace Cert.Loss

open Idealize.ShloMosaic Idealize.ShloMosaic.Tactic

/-- A prior's row in the tile. -/
def rowP (p : Fin 16320) : Fin 8 := ⟨p.val / 2040, by have := p.isLt; omega⟩
/-- A prior's column in the tile. -/
def colP (p : Fin 16320) : Fin 2040 := ⟨p.val % 2040, Nat.mod_lt _ (by norm_num)⟩
/-- A prior's place is its row's start plus its column. -/
theorem flat_row_col (p : Fin 16320) : flatP (rowP p) (colP p) = p := Fin.ext (by
  show p.val / 2040 * 2040 + p.val % 2040 = p.val
  omega)
/-- The row of a place. -/
theorem row_flat (s : Fin 8) (l : Fin 2040) : rowP (flatP s l) = s := Fin.ext (by
  have := l.isLt
  show (s.val * 2040 + l.val) / 2040 = s.val
  omega)
/-- The column of a place. -/
theorem col_flat (s : Fin 8) (l : Fin 2040) : colP (flatP s l) = l := Fin.ext (by
  have := l.isLt
  show (s.val * 2040 + l.val) % 2040 = l.val
  omega)

/-- The kernel's number of a prior is its place. -/
theorem flatT_at (s : Fin 8) (l : Fin 2040) : flatT (ix2 s l) = BitVec.ofNat 32 (flatP s l).val := by
  pointwise [flatT]
  unfold flatP
  have := s.isLt
  have := l.isLt
  simp only [IntOp.addi, IntOp.muli]
  apply BitVec.eq_of_toNat_eq
  simp

/-- Two places have the same word only if they are the same. -/
theorem word_inj {a b : ℕ} (ha : a < 16320) (hb : b < 16320) (h : BitVec.ofNat 32 a = BitVec.ofNat 32 b) : a = b := by
  have := congrArg BitVec.toNat h
  simp only [BitVec.toNat_ofNat] at this
  omega

/-- A small word read signed. -/
theorem toInt_small {a : ℕ} (ha : a ≤ 16320) : (BitVec.ofNat 32 a).toInt = a := by
  rw [BitVec.toInt_eq_toNat_of_lt (by simp only [BitVec.toNat_ofNat]; omega)]
  simp only [BitVec.toNat_ofNat]
  omega

/-- The largest entry of a tile is at least every entry and is one of them. -/
theorem topT_spec (x : Tile) : (∀ s l, x (ix2 s l) ≤ topT x) ∧ ∃ s l, x (ix2 s l) = topT x := by
  have e : topT x = Finset.fold max (⊥ : EReal) (fun q : Fin 8 × Fin 2040 => x (ix2 q.1 q.2)) Finset.univ := by
    rw [← ofBits_bot]
    pointwise [topT]
  have h1 : ∀ s l, x (ix2 s l) ≤ topT x := fun s l => by
    rw [e]
    exact Finset.le_fold_max _ |>.2 (Or.inr ⟨(s, l), Finset.mem_univ _, le_refl _⟩)
  refine ⟨h1, ?_⟩
  rcases (Finset.le_fold_max (topT x)).1 e.le with h | ⟨q, _, h⟩
  · exact ⟨0, 0, le_antisymm (h1 0 0) (h.trans bot_le)⟩
  · exact ⟨q.1, q.2, le_antisymm (h1 _ _) h⟩

/-- Choosing by the equality of two words. -/
theorem select_eq {α : Type} (a b : BitVec 32) (x y : α) : Scalar.select (IntOp.cmpi .eq a b) x y = if a = b then x else y := by
  by_cases h : a = b
  · rw [if_pos h, h]
    simp [Scalar.select, IntOp.cmpi]
  · have h' : (a == b) = false := beq_eq_false_iff_ne.2 h
    rw [if_neg h]
    simp [Scalar.select, IntOp.cmpi, h']

/-- The smaller of two words is one of them and at most both. -/
theorem minsi_spec (a b : BitVec 32) : (IntOp.minsi a b).toInt ≤ a.toInt ∧ (IntOp.minsi a b).toInt ≤ b.toInt ∧ (IntOp.minsi a b = a ∨ IntOp.minsi a b = b) := by
  unfold IntOp.minsi
  split
  · next h =>
    have := (BitVec.slt_iff_toInt_lt).1 h
    exact ⟨le_refl _, by omega, Or.inl rfl⟩
  · next h =>
    have := mt (BitVec.slt_iff_toInt_lt).2 h
    exact ⟨by omega, le_refl _, Or.inr rfl⟩

/-- The smallest word of a finite family is at most each and is the start or one of them. -/
theorem fold_minsi_spec {ι : Type} [DecidableEq ι] (f : ι → BitVec 32) (i : BitVec 32) (S : Finset ι) :
    (∀ q ∈ S, (Finset.fold IntOp.minsi i f S).toInt ≤ (f q).toInt) ∧ (Finset.fold IntOp.minsi i f S = i ∨ ∃ q ∈ S, Finset.fold IntOp.minsi i f S = f q) := by
  induction S using Finset.induction_on with
  | empty => exact ⟨fun q hq => absurd hq (Finset.notMem_empty q), Or.inl rfl⟩
  | insert a S ha ih =>
    rw [Finset.fold_insert ha]
    obtain ⟨h1, h2⟩ := ih
    obtain ⟨m1, m2, m3⟩ := minsi_spec (f a) (Finset.fold IntOp.minsi i f S)
    refine ⟨fun q hq => ?_, ?_⟩
    · rcases Finset.mem_insert.1 hq with rfl | hq
      · exact m1
      · exact m2.trans (h1 q hq)
    · rcases m3 with m3 | m3
      · exact Or.inr ⟨a, Finset.mem_insert_self _ _, m3⟩
      · rcases h2 with h2 | ⟨q, hq, h2⟩
        · exact Or.inl (m3.trans h2)
        · exact Or.inr ⟨q, Finset.mem_insert_of_mem hq, m3.trans h2⟩

/-- The smallest word of a tile is at most every entry and is the largest word or one of them. -/
theorem leastT_spec (x : ITile) : (∀ s l, (leastT x).toInt ≤ (x (ix2 s l)).toInt) ∧ (leastT x = 2147483647#32 ∨ ∃ s l, leastT x = x (ix2 s l)) := by
  have e : leastT x = Finset.fold IntOp.minsi (2147483647#32) (fun q : Fin 8 × Fin 2040 => x (ix2 q.1 q.2)) Finset.univ := by
    pointwise [leastT]
  obtain ⟨h1, h2⟩ := fold_minsi_spec (fun q : Fin 8 × Fin 2040 => x (ix2 q.1 q.2)) 2147483647#32 Finset.univ
  rw [← e] at h1 h2
  refine ⟨fun s l => h1 (s, l) (Finset.mem_univ _), ?_⟩
  rcases h2 with h2 | ⟨q, _, h2⟩
  · exact Or.inl h2
  · exact Or.inr ⟨q.1, q.2, h2⟩

/-- The smallest place of a largest entry is the first place of the largest value. -/
theorem first_of_tile (x : Tile) : ∃ P : Fin 16320, leastT (select (cmpf .oeq x (broadcast Cert.KernelIdeal.S8x2040 (topT x))) flatT
    (broadcast Cert.KernelIdeal.S8x2040 16320#32)) = BitVec.ofNat 32 P.val ∧ FirstMax (fun p => x (ix2 (rowP p) (colP p))) P := by
  have hw : ∀ s l, (select (cmpf .oeq x (broadcast Cert.KernelIdeal.S8x2040 (topT x))) flatT (broadcast Cert.KernelIdeal.S8x2040 16320#32) : ITile) (ix2 s l)
      = if x (ix2 s l) = topT x then BitVec.ofNat 32 (flatP s l).val else 16320#32 := fun s l => by
    rw [← flatT_at]
    generalize topT x = z
    generalize flatT = y
    pointwise
  obtain ⟨t1, s0, l0, t2⟩ := topT_spec x
  generalize (select (cmpf .oeq x (broadcast Cert.KernelIdeal.S8x2040 (topT x))) flatT (broadcast Cert.KernelIdeal.S8x2040 16320#32) : ITile) = w at hw ⊢
  obtain ⟨m1, m2⟩ := leastT_spec w
  have hlt : (leastT w).toInt < 16320 := by
    have := m1 s0 l0
    rw [hw, if_pos t2, toInt_small (flatP s0 l0).isLt.le] at this
    have := (flatP s0 l0).isLt
    omega
  rcases m2 with m2 | ⟨s, l, m2⟩
  · rw [m2] at hlt
    exact absurd hlt (by decide)
  · by_cases h : x (ix2 s l) = topT x
    · refine ⟨flatP s l, by rw [m2, hw, if_pos h], fun q => ?_, fun q hq => ?_⟩
      · show x (ix2 (rowP q) (colP q)) ≤ x (ix2 (rowP (flatP s l)) (colP (flatP s l)))
        rw [row_flat, col_flat, h]
        exact t1 _ _
      · have hq' : x (ix2 (rowP q) (colP q)) = x (ix2 (rowP (flatP s l)) (colP (flatP s l))) := hq
        rw [row_flat, col_flat, h] at hq'
        have := m1 (rowP q) (colP q)
        rw [m2, hw, if_pos h, hw, if_pos hq', flat_row_col, toInt_small (flatP s l).isLt.le, toInt_small q.isLt.le] at this
        exact Fin.le_def.2 (by omega)
    · rw [m2, hw, if_neg h] at hlt
      exact absurd hlt (by decide)

section
variable (x1 y1 x2 y2 : Tile) (bb : ℕ → ℕ → Ideal .f32) (lab : ℕ → BitVec 32) (s : Fin 8) (l : Fin 2040)

/-- The best prior of an object is the first place of its largest ratio. -/
theorem bpT_spec (t : ℕ) : ∃ P : Fin 16320, bpT x1 y1 x2 y2 bb t = BitVec.ofNat 32 P.val
    ∧ FirstMax (fun p => iouT x1 y1 x2 y2 bb t (ix2 (rowP p) (colP p))) P := first_of_tile (iouT x1 y1 x2 y2 bb t)

/-- The running best ratio at a prior. -/
theorem bestOvT_at (n : ℕ) : bestOvT x1 y1 x2 y2 bb n (ix2 s l) = bestV (fun k => iouT x1 y1 x2 y2 bb k (ix2 s l)) n := by
  induction n with
  | zero => rfl
  | succ n ih =>
    show max (iouT x1 y1 x2 y2 bb n (ix2 s l)) (bestOvT x1 y1 x2 y2 bb n (ix2 s l)) = _
    rw [ih]
    rfl

/-- The object of the running best ratio at a prior. -/
theorem bestIdxT_at (n : ℕ) : bestIdxT x1 y1 x2 y2 bb n (ix2 s l) = BitVec.ofNat 32 (bestN (fun k => iouT x1 y1 x2 y2 bb k (ix2 s l)) n) := by
  induction n with
  | zero => rfl
  | succ n ih =>
    have e : bestIdxT x1 y1 x2 y2 bb (n + 1) (ix2 s l) = if bestOvT x1 y1 x2 y2 bb n (ix2 s l) < iouT x1 y1 x2 y2 bb n (ix2 s l) then BitVec.ofNat 32 n
        else bestIdxT x1 y1 x2 y2 bb n (ix2 s l) := by
      pointwise [bestIdxT]
    rw [e, ih, bestOvT_at]
    show _ = BitVec.ofNat 32 (if _ then _ else _)
    rw [apply_ite (BitVec.ofNat 32)]

/-- The object of the running best ratio is one of the first `n`. -/
theorem bestN_lt (f : ℕ → EReal) (n : ℕ) (hn : 0 < n) : bestN f n < n := by
  induction n with
  | zero => exact absurd hn (Nat.lt_irrefl 0)
  | succ n ih =>
    unfold bestN
    split
    · exact Nat.lt_succ_self n
    · rcases Nat.eq_zero_or_pos n with rfl | h
      · exact Nat.zero_lt_one
      · exact Nat.lt_succ_of_lt (ih h)

/-- The label of a prior's best object. -/
theorem labAT_at (idx : ITile) (w : ℕ) (hw : idx (ix2 s l) = BitVec.ofNat 32 w) (n : ℕ) (hn : n ≤ 16) (hwn : w < n) : labAT lab idx n (ix2 s l) = lab w := by
  induction n with
  | zero => exact absurd hwn (Nat.not_lt_zero w)
  | succ n ih =>
    have e : labAT lab idx (n + 1) (ix2 s l) = Scalar.select (IntOp.cmpi .eq (idx (ix2 s l)) (BitVec.ofNat 32 n)) (lab n) (labAT lab idx n (ix2 s l)) := by
      pointwise [labAT]
    rw [e, hw, select_eq]
    by_cases h : w = n
    · rw [if_pos (congrArg _ h), h]
    · rw [if_neg fun e => h (word_inj (by omega) (by omega) e), ih (by omega) (by omega)]

/-- A coordinate of a prior's best object. -/
theorem boxAT_at (idx : ITile) (j w : ℕ) (hw : idx (ix2 s l) = BitVec.ofNat 32 w) (n : ℕ) (hn : n ≤ 16) (hwn : w < n) : boxAT bb idx j n (ix2 s l) = bb w j := by
  induction n with
  | zero => exact absurd hwn (Nat.not_lt_zero w)
  | succ n ih =>
    have e : boxAT bb idx j (n + 1) (ix2 s l) = Scalar.select (IntOp.cmpi .eq (idx (ix2 s l)) (BitVec.ofNat 32 n)) (bb n j) (boxAT bb idx j n (ix2 s l)) := by
      pointwise [boxAT]
    rw [e, hw, select_eq]
    by_cases h : w = n
    · rw [if_pos (congrArg _ h), h]
    · rw [if_neg fun e => h (word_inj (by omega) (by omega) e), ih (by omega) (by omega)]

/-- The label after the claims. -/
theorem labBT_at (bp : ℕ → BitVec 32) (Q : ℕ → Fin 16320) (hQ : ∀ k, bp k = BitVec.ofNat 32 (Q k).val) (c0 : ITile) (n : ℕ) :
    labBT lab bp c0 n (ix2 s l) = over Q (flatP s l) (c0 (ix2 s l)) lab n := by
  induction n with
  | zero => rfl
  | succ n ih =>
    have e : labBT lab bp c0 (n + 1) (ix2 s l) = Scalar.select (IntOp.cmpi .eq (flatT (ix2 s l)) (bp n)) (lab n) (labBT lab bp c0 n (ix2 s l)) := by
      show select (cmpi .eq flatT (broadcast Cert.KernelIdeal.S8x2040 (bp n))) (broadcast Cert.KernelIdeal.S8x2040 (lab n)) (labBT lab bp c0 n) (ix2 s l) = _
      generalize labBT lab bp c0 n = u
      generalize flatT = ft
      pointwise
    rw [e, ih, flatT_at, hQ, select_eq]
    show _ = if Q n = flatP s l then _ else _
    by_cases h : Q n = flatP s l
    · rw [if_pos h, h, if_pos rfl]
    · rw [if_neg h, if_neg fun e => h (Fin.ext (word_inj (flatP s l).isLt (Q n).isLt e).symm)]

/-- A coordinate of the matched box after the claims. -/
theorem boxBT_at (bp : ℕ → BitVec 32) (Q : ℕ → Fin 16320) (hQ : ∀ k, bp k = BitVec.ofNat 32 (Q k).val) (m0 : Tile) (j n : ℕ) :
    boxBT bb bp m0 j n (ix2 s l) = over Q (flatP s l) (m0 (ix2 s l)) (fun k => bb k j) n := by
  induction n with
  | zero => rfl
  | succ n ih =>
    have e : boxBT bb bp m0 j (n + 1) (ix2 s l) = Scalar.select (IntOp.cmpi .eq (flatT (ix2 s l)) (bp n)) (bb n j) (boxBT bb bp m0 j n (ix2 s l)) := by
      show select (cmpi .eq flatT (broadcast Cert.KernelIdeal.S8x2040 (bp n))) (broadcast Cert.KernelIdeal.S8x2040 (bb n j)) (boxBT bb bp m0 j n) (ix2 s l) = _
      generalize boxBT bb bp m0 j n = u
      generalize flatT = ft
      pointwise
    rw [e, ih, flatT_at, hQ, select_eq]
    show _ = if Q n = flatP s l then _ else _
    by_cases h : Q n = flatP s l
    · rw [if_pos h, h, if_pos rfl]
    · rw [if_neg h, if_neg fun e => h (Fin.ext (word_inj (flatP s l).isLt (Q n).isLt e).symm)]

/-- The matched label of a prior, over the best priors `Q` of the objects and the first best object `r` of the prior. -/
theorem confT_at (Q : ℕ → Fin 16320) (hQ : ∀ k, bpT x1 y1 x2 y2 bb k = BitVec.ofNat 32 (Q k).val) (f : ℕ → EReal)
    (hf : ∀ k, iouT x1 y1 x2 y2 bb k (ix2 s l) = f k) (r : Fin 16) (hr : FirstMax (fun k : Fin 16 => f k.val) r) :
    confT x1 y1 x2 y2 bb lab (ix2 s l) = over Q (flatP s l) (if f r.val < Ideal.ofBits .f32 0x3F000000#32 then 0#32 else lab r.val) lab 16 := by
  have hf' : (fun k => iouT x1 y1 x2 y2 bb k (ix2 s l)) = f := funext hf
  obtain ⟨b1, b2⟩ := best_eq f r hr
  unfold confT
  rw [labBT_at lab s l _ Q hQ]
  congr 1
  have e : (select (cmpf .olt (bestOvT x1 y1 x2 y2 bb 16) (lit 0x3F000000#32)) (broadcast Cert.KernelIdeal.S8x2040 0#32)
      (labAT lab (bestIdxT x1 y1 x2 y2 bb 16) 16) : ITile) (ix2 s l) = if bestOvT x1 y1 x2 y2 bb 16 (ix2 s l) < Ideal.ofBits .f32 0x3F000000#32 then 0#32
        else labAT lab (bestIdxT x1 y1 x2 y2 bb 16) 16 (ix2 s l) := by
    generalize bestOvT x1 y1 x2 y2 bb 16 = u
    generalize labAT lab (bestIdxT x1 y1 x2 y2 bb 16) 16 = v
    pointwise [lit]
  rw [e, bestOvT_at, labAT_at lab s l _ _ (bestIdxT_at x1 y1 x2 y2 bb s l 16) 16 (le_refl _) (bestN_lt _ 16 (by norm_num)), hf', b1]
  have hneg : Ideal.ofBits .f32 0xBF800000#32 < Ideal.ofBits .f32 0x3F000000#32 := by
    rw [ofBits_neg_one, ofBits_half]
    exact EReal.coe_lt_coe_iff.2 (by norm_num)
  by_cases h : f r.val < Ideal.ofBits .f32 0x3F000000#32
  · rw [if_pos (max_lt h hneg), if_pos h]
  · rw [if_neg h, if_neg fun h' => h (lt_of_le_of_lt (le_max_left _ _) h'), b2 (lt_of_lt_of_le hneg (not_lt.1 h))]

/-- A coordinate of the matched box of a prior that keeps a label, likewise. -/
theorem boxT_at (Q : ℕ → Fin 16320) (hQ : ∀ k, bpT x1 y1 x2 y2 bb k = BitVec.ofNat 32 (Q k).val) (f : ℕ → EReal)
    (hf : ∀ k, iouT x1 y1 x2 y2 bb k (ix2 s l) = f k) (r : Fin 16) (hr : FirstMax (fun k : Fin 16 => f k.val) r) (j : ℕ)
    (hc : confT x1 y1 x2 y2 bb lab (ix2 s l) ≠ 0#32) :
    boxT x1 y1 x2 y2 bb j (ix2 s l) = over Q (flatP s l) (bb r.val j) (fun k => bb k j) 16 := by
  have hf' : (fun k => iouT x1 y1 x2 y2 bb k (ix2 s l)) = f := funext hf
  obtain ⟨b1, b2⟩ := best_eq f r hr
  rw [confT_at x1 y1 x2 y2 bb lab s l Q hQ f hf r hr] at hc
  unfold boxT
  rw [boxBT_at bb s l _ Q hQ, boxAT_at bb s l _ j _ (bestIdxT_at x1 y1 x2 y2 bb s l 16) 16 (le_refl _) (bestN_lt _ 16 (by norm_num)), hf']
  refine over_box Q _ _ _ _ _ lab (fun hd => ?_) 16 hc
  have hneg : Ideal.ofBits .f32 0xBF800000#32 < Ideal.ofBits .f32 0x3F000000#32 := by
    rw [ofBits_neg_one, ofBits_half]
    exact EReal.coe_lt_coe_iff.2 (by norm_num)
  by_cases h : f r.val < Ideal.ofBits .f32 0x3F000000#32
  · rw [if_pos h] at hd
    exact absurd rfl hd
  · rw [b2 (lt_of_lt_of_le hneg (not_lt.1 h))]

end

end Cert.Loss

end
-- ==== Proof.RSide.lean ====
/-
  The reference's matching read at one prior: the best prior of each object, the best object of each prior, the claimed
  places, the label and the box a prior is matched with.
-/
module

public import proofs.«01_k».proof.Proof.Pick
public import Idealize.ShloMosaic.Lib.Routing.OpsPair
public import Idealize.ShloMosaic.PureOps.Ideal.Laws

@[expose] public section

noncomputable section

namespace Cert.Loss.Ref

open Idealize.ShloMosaic Idealize.ShloMosaic.Tactic Cert.ReferenceIdeal Cert.ReferenceIdeal.Gen

/-- A pair of a value and a place comes before another: a larger value, or an equal value no later. -/
def Beats (r q : EReal × BitVec 32) : Prop := q.1 < r.1 ∨ (q.1 = r.1 ∧ r.2.toInt ≤ q.2.toInt)

/-- Coming before is transitive. -/
theorem Beats.trans {a b c : EReal × BitVec 32} (h : Beats a b) (k : Beats b c) : Beats a c := by
  rcases h with h | ⟨h1, h2⟩
  · rcases k with k | ⟨k1, k2⟩
    · exact Or.inl (k.trans h)
    · exact Or.inl (k1.trans_lt h)
  · rcases k with k | ⟨k1, k2⟩
    · exact Or.inl (k.trans_eq h1)
    · exact Or.inr ⟨k1.trans h1, h2.trans k2⟩

/-- Nothing comes before itself strictly. -/
theorem Beats.refl (a : EReal × BitVec 32) : Beats a a := Or.inr ⟨rfl, le_refl _⟩

/-- A larger first value. -/
theorem gt_of {a b : EReal} (h : b < a) : FloatOps.cmpf (F := Ideal) (φ := .f32) .ogt a b = 1#1 := congrArg BitVec.ofBool (decide_eq_true h)
/-- A first value that is not larger. -/
theorem gt_not {a b : EReal} (h : a ≤ b) : FloatOps.cmpf (F := Ideal) (φ := .f32) .ogt a b = 0#1 := congrArg BitVec.ofBool (decide_eq_false (not_lt.2 h))
/-- No value differs from itself. -/
theorem une_self (a : EReal) : FloatOps.cmpf (F := Ideal) (φ := .f32) .une a a = 0#1 := congrArg BitVec.ofBool (decide_eq_false (not_not.2 rfl))
/-- Every value equals itself. -/
theorem eq_self' (a : EReal) : FloatOps.cmpf (F := Ideal) (φ := .f32) .oeq a a = 1#1 := congrArg BitVec.ofBool (decide_eq_true rfl)
/-- Different values are not equal. -/
theorem eq_not {a b : EReal} (h : a ≠ b) : FloatOps.cmpf (F := Ideal) (φ := .f32) .oeq a b = 0#1 := congrArg BitVec.ofBool (decide_eq_false h)

/-- One step of the arg-max keeps the pair that comes before the other. -/
theorem step_spec (a b : EReal × BitVec 32) : Beats (reducer_argmax_f32_i32 (F := Ideal) a b) a ∧ Beats (reducer_argmax_f32_i32 (F := Ideal) a b) b
    ∧ (reducer_argmax_f32_i32 (F := Ideal) a b = a ∨ reducer_argmax_f32_i32 (F := Ideal) a b = b) := by
  obtain ⟨av, ai⟩ := a
  obtain ⟨bv, bi⟩ := b
  rcases lt_trichotomy av bv with h | h | h
  · have e : reducer_argmax_f32_i32 (F := Ideal) (av, ai) (bv, bi) = (bv, bi) := by
      simp [reducer_argmax_f32_i32, Scalar.select, IntOp.ori, IntOp.andi, gt_not h.le, une_self, eq_not h.ne]
    rw [e]
    exact ⟨Or.inl h, Beats.refl _, Or.inr rfl⟩
  · subst h
    by_cases k : ai.toInt < bi.toInt
    · have e : reducer_argmax_f32_i32 (F := Ideal) (av, ai) (av, bi) = (av, ai) := by
        simp [reducer_argmax_f32_i32, Scalar.select, IntOp.ori, IntOp.andi, IntOp.cmpi, gt_not (le_refl av), une_self, eq_self', BitVec.slt_iff_toInt_lt.2 k]
      rw [e]
      exact ⟨Beats.refl _, Or.inr ⟨rfl, k.le⟩, Or.inl rfl⟩
    · have e : reducer_argmax_f32_i32 (F := Ideal) (av, ai) (av, bi) = (av, bi) := by
        simp [reducer_argmax_f32_i32, Scalar.select, IntOp.ori, IntOp.andi, IntOp.cmpi, gt_not (le_refl av), une_self, eq_self', mt BitVec.slt_iff_toInt_lt.1 k]
      rw [e]
      exact ⟨Or.inr ⟨rfl, not_lt.1 k⟩, Beats.refl _, Or.inr rfl⟩
  · have e : reducer_argmax_f32_i32 (F := Ideal) (av, ai) (bv, bi) = (av, ai) := by
      simp [reducer_argmax_f32_i32, Scalar.select, IntOp.ori, IntOp.andi, gt_of h, une_self, eq_not h.ne']
    rw [e]
    exact ⟨Beats.refl _, Or.inl h, Or.inl rfl⟩

/-- The arg-max of a list comes before the start and every entry, and is one of them. -/
theorem fold_spec (L : List (EReal × BitVec 32)) (a : EReal × BitVec 32) :
    Beats (L.foldl (reducer_argmax_f32_i32 (F := Ideal)) a) a ∧ (∀ q ∈ L, Beats (L.foldl (reducer_argmax_f32_i32 (F := Ideal)) a) q)
      ∧ (L.foldl (reducer_argmax_f32_i32 (F := Ideal)) a = a ∨ L.foldl (reducer_argmax_f32_i32 (F := Ideal)) a ∈ L) := by
  induction L generalizing a with
  | nil => exact ⟨Beats.refl a, fun q hq => absurd hq List.not_mem_nil, Or.inl rfl⟩
  | cons x L ih =>
    obtain ⟨h1, h2, h3⟩ := ih (reducer_argmax_f32_i32 (F := Ideal) a x)
    obtain ⟨k1, k2, k3⟩ := step_spec a x
    rw [List.foldl_cons]
    refine ⟨h1.trans k1, fun q hq => ?_, ?_⟩
    · rcases List.mem_cons.1 hq with rfl | hq
      · exact h1.trans k2
      · exact h2 q hq
    · rcases h3 with h3 | h3
      · rcases k3 with k3 | k3
        · exact Or.inl (h3.trans k3)
        · exact Or.inr (List.mem_cons.2 (Or.inl (h3.trans k3)))
      · exact Or.inr (List.mem_cons.2 (Or.inr h3))

/-- The arg-max along one axis, whose places along it are `at`: the first place of the largest value. -/
theorem arg_first {s t : Shape} {axes : List (Fin s.rank)} (x : FVec Ideal s .f32) (y : s.Idx → BitVec 32) (h : s.ReducesTo axes t) (j : t.Idx)
    {n : ℕ} (hn : n ≤ 16320) (hn0 : 0 < n) (at_ : Fin n → s.Idx) (hat : ∀ i, h.drop i = j ↔ ∃ k, i = at_ k) (hy : ∀ k, y (at_ k) = BitVec.ofNat 32 k.val) :
    ∃ k, (Host.argReduce (reducer_argmax_f32_i32 (F := Ideal)) x y (constant S_ .f32 0xFF800000#32) (constantI S_ 32 0#32) h h_S_ j).2 = BitVec.ofNat 32 k.val
      ∧ FirstMax (fun k => x (at_ k)) k := by
  rw [Ideal.argReduce_eq_reduce2, Host.reduce2_eq_foldl_fiber]
  have e0 : ((constant S_ .f32 0xFF800000#32 : FVec Ideal S_ .f32) (Shape.Idx.first h_S_), (constantI S_ 32 0#32 : IVec S_ 32) (Shape.Idx.first h_S_)) = ((⊥ : EReal), 0#32) :=
    Prod.ext ofBits_bot rfl
  rw [e0]
  have hm : ∀ q, q ∈ Host.argReduceFiber x y h j ↔ ∃ k, q = (x (at_ k), BitVec.ofNat 32 k.val) := fun q => by
    unfold Host.argReduceFiber
    rw [List.mem_map]
    constructor
    · rintro ⟨i, hi, rfl⟩
      obtain ⟨k, hk⟩ := (hat _).1 (of_decide_eq_true (List.mem_filter.1 hi).2)
      exact ⟨k, by rw [hk, hy]⟩
    · rintro ⟨k, rfl⟩
      refine ⟨s.rowMajor (at_ k), List.mem_filter.2 ⟨List.mem_finRange _, ?_⟩, ?_⟩
      · rw [Equiv.symm_apply_apply]
        exact decide_eq_true ((hat _).2 ⟨k, rfl⟩)
      · rw [Equiv.symm_apply_apply, hy]
  obtain ⟨f1, f2, f3⟩ := fold_spec (Host.argReduceFiber x y h j) ((⊥ : EReal), 0#32)
  generalize (Host.argReduceFiber x y h j).foldl (reducer_argmax_f32_i32 (F := Ideal)) ((⊥ : EReal), 0#32) = r at f1 f2 f3 ⊢
  have hr : ∃ k : Fin n, r = (x (at_ k), BitVec.ofNat 32 k.val) := by
    rcases f3 with f3 | f3
    · refine ⟨⟨0, hn0⟩, ?_⟩
      rw [f3]
      refine Prod.ext ?_ rfl
      rcases f2 _ ((hm _).2 ⟨⟨0, hn0⟩, rfl⟩) with h' | ⟨h', _⟩
      · rw [f3] at h'
        exact absurd h' not_lt_bot
      · rw [f3] at h'
        exact h'.symm
    · exact (hm r).1 f3
  obtain ⟨k, rfl⟩ := hr
  refine ⟨k, rfl, fun q => ?_, fun q hq => ?_⟩
  · rcases f2 _ ((hm _).2 ⟨q, rfl⟩) with h' | ⟨h', _⟩
    · exact h'.le
    · exact h'.le
  · have hq' : x (at_ q) = x (at_ k) := hq
    rcases f2 _ ((hm _).2 ⟨q, rfl⟩) with h' | ⟨_, h'⟩
    · exact absurd h' (by show ¬ x (at_ q) < x (at_ k); rw [hq']; exact lt_irrefl _)
    · have hk := k.isLt
      have hql := q.isLt
      have e : ∀ a : ℕ, a < 16320 → (BitVec.ofNat 32 a).toInt = a := fun a ha => by
        rw [BitVec.toInt_eq_toNat_of_lt (by simp only [BitVec.toNat_ofNat]; omega)]
        simp only [BitVec.toNat_ofNat]
        omega
      have h2 : (BitVec.ofNat 32 k.val).toInt ≤ (BitVec.ofNat 32 q.val).toInt := h'
      rw [e _ (by omega), e _ (by omega)] at h2
      exact Fin.le_def.2 (by omega)

/-- What a sum over priors of one object leaves: the object. -/
theorem drop_bp (b : Fin 32) (n : Fin 16) (i : S32x16x16320.Idx) : reducesTo_S32x16x16320_S32x16_d2.drop i = ix2 b n ↔ ∃ k, i = ix3 b n k := by
  idx_vars i
  constructor
  · intro h
    have h0 : i0 = b := congrFun h (0 : Fin 2)
    have h1 : i1 = n := congrFun h (1 : Fin 2)
    exact ⟨i2, by rw [h0, h1]⟩
  · rintro ⟨k, hk⟩
    rw [hk]
    funext a
    match a with
    | 0 => rfl
    | 1 => rfl
/-- What a sum over objects at one prior leaves: the prior. -/
theorem drop_bi (b : Fin 32) (p : Fin 16320) (i : S32x16x16320.Idx) : reducesTo_S32x16x16320_S32x16320_d1.drop i = ix2 b p ↔ ∃ k, i = ix3 b k p := by
  idx_vars i
  constructor
  · intro h
    have h0 : i0 = b := congrFun h (0 : Fin 2)
    have h1 : i2 = p := congrFun h (1 : Fin 2)
    exact ⟨i1, by rw [h0, h1]⟩
  · rintro ⟨k, hk⟩
    rw [hk]
    funext a
    match a with
    | 0 => rfl
    | 1 => rfl
/-- The places along the priors. -/
theorem iota_bp (b : Fin 32) (n : Fin 16) (k : Fin 16320) : iotaInDim S32x16x16320 32 2 (ix3 b n k) = BitVec.ofNat 32 k.val := by
  pointwise
/-- The places along the objects. -/
theorem iota_bi (b : Fin 32) (p : Fin 16320) (k : Fin 16) : iotaInDim S32x16x16320 32 1 (ix3 b k p) = BitVec.ofNat 32 k.val := by
  pointwise

/-- The best prior of an object is the first place of its largest ratio. -/
theorem bpR_spec (x : FVec Ideal S32x16x16320 .f32) (b : Fin 32) (n : Fin 16) :
    ∃ P : Fin 16320, bpR x (ix2 b n) = BitVec.ofNat 32 P.val ∧ FirstMax (fun p => x (ix3 b n p)) P := by
  obtain ⟨k, h1, h2⟩ := arg_first (n := 16320) x (iotaInDim S32x16x16320 32 2) reducesTo_S32x16x16320_S32x16_d2 (ix2 b n) (Nat.le_refl _) (by norm_num)
    (fun p => ix3 b n p) (drop_bp b n) (iota_bp b n)
  refine ⟨k, ?_, h2⟩
  rw [← h1]
  have e : bpR x = fun j => (Host.argReduce (reducer_argmax_f32_i32 (F := Ideal)) x (iotaInDim S32x16x16320 32 2) (constant S_ .f32 0xFF800000#32)
      (constantI S_ 32 0#32) reducesTo_S32x16x16320_S32x16_d2 h_S_ j).2 := by
    unfold bpR
    congr
  rw [e]

/-- The best object of a prior is the first object of its largest ratio. -/
theorem biR_spec (x : FVec Ideal S32x16x16320 .f32) (b : Fin 32) (p : Fin 16320) :
    ∃ r : Fin 16, biR x (ix2 b p) = BitVec.ofNat 32 r.val ∧ FirstMax (fun n => x (ix3 b n p)) r := by
  obtain ⟨k, h1, h2⟩ := arg_first (n := 16) x (iotaInDim S32x16x16320 32 1) reducesTo_S32x16x16320_S32x16320_d1 (ix2 b p) (by norm_num) (by norm_num)
    (fun n => ix3 b n p) (drop_bi b p) (iota_bi b p)
  refine ⟨k, ?_, h2⟩
  rw [← h1]
  have e : biR x = fun j => (Host.argReduce (reducer_argmax_f32_i32 (F := Ideal)) x (iotaInDim S32x16x16320 32 1) (constant S_ .f32 0xFF800000#32)
      (constantI S_ 32 0#32) reducesTo_S32x16x16320_S32x16320_d1 h_S_ j).2 := by
    unfold biR
    congr
  rw [e]

/-- The best ratio of a prior is its best object's. -/
theorem boR_spec (x : FVec Ideal S32x16x16320 .f32) (b : Fin 32) (p : Fin 16320) (r : Fin 16) (hr : FirstMax (fun n => x (ix3 b n p)) r) :
    boR x (ix2 b p) = x (ix3 b r p) := by
  have e : boR x (ix2 b p) = Finset.fold max (⊥ : EReal) (fun n : Fin 16 => x (ix3 b n p)) Finset.univ := by
    rw [← ofBits_bot]
    pointwise [boR]
  rw [e]
  refine le_antisymm ((Finset.fold_max_le _).2 ⟨bot_le, fun n _ => hr.1 n⟩) ((Finset.le_fold_max _).2 (Or.inr ⟨r, Finset.mem_univ _, le_refl _⟩))

end Cert.Loss.Ref

end
-- ==== Proof.Put.lean ====
/-
  The reference's claimed places and matched values at one prior.
-/
module

public import proofs.«01_k».proof.Proof.Pick
public import Idealize.ShloMosaic.Lib.Routing.OpsPair

@[expose] public section

noncomputable section

namespace Cert.Loss.Ref

open Idealize.ShloMosaic Idealize.ShloMosaic.Tactic Cert.ReferenceIdeal Cert.ReferenceIdeal.Gen

/-- A list of places gone through in order. -/
theorem fold_fin {α : Type} (g : ℕ → α → α) (x : α) (M : ℕ) : (List.finRange M).foldl (fun a n => g n.val a) x = Nat.rec x (fun n r => g n r) M := by
  induction M with
  | zero => rfl
  | succ M ih =>
    rw [List.finRange_succ_last, List.foldl_append, List.foldl_map]
    show g M ((List.finRange M).foldl (fun a n => g n.val a) x) = _
    rw [ih]

/-- Going through the images' objects in order, one image's objects alone write. -/
theorem rec_over {α : Type} (Q : ℕ → Fin 16320) (p : Fin 16320) (x : α) (v : ℕ → α) (b M : ℕ) :
    (Nat.rec x (fun n r => if n / 16 = b ∧ Q (n % 16) = p then v (n % 16) else r) M : α) = over Q p x v (min (M - 16 * b) 16) := by
  induction M with
  | zero =>
    rw [show min (0 - 16 * b) 16 = 0 by omega]
    rfl
  | succ M ih =>
    show (if M / 16 = b ∧ Q (M % 16) = p then v (M % 16) else _) = _
    rw [ih]
    by_cases h : M / 16 = b
    · rw [show min (M - 16 * b) 16 = M % 16 by omega, show min (M + 1 - 16 * b) 16 = M % 16 + 1 by omega]
      show _ = if Q (M % 16) = p then _ else _
      by_cases k : Q (M % 16) = p
      · rw [if_pos ⟨h, k⟩, if_pos k]
      · rw [if_neg fun e => k e.2, if_neg k]
    · rw [if_neg fun e => h e.1]
      congr 1
      omega

/-- A value put on the claimed places: what the image's objects write at the prior. -/
theorem put_at {α : Type} (x : S32x16320.Idx → α) (w : IVec S32x16x2 32) (u : S32x16.Idx → α) (Q : ℕ → Fin 16320) (b : Fin 32) (p : Fin 16320) (v : ℕ → α)
    (hw0 : ∀ (a : Fin 32) (n : Fin 16), (w (ix3 a n 0)).toInt = a.val) (hw1 : ∀ n : Fin 16, (w (ix3 b n 1)).toInt = (Q n.val).val)
    (hv : ∀ n : Fin 16, u (ix2 b n) = v n.val) :
    Host.scatter scatter_S32x16320_S32x16x2_S32x16_n_01_01_2 (fun _ b => b) x w u (ix2 b p) = over Q p (x (ix2 b p)) v 16 := by
  have hN : S32x16.numel = 512 := by decide
  rw [Routing.scatter_at]
  have e : (fun (a : α) (n : Fin S32x16.numel) => if (scatter_S32x16320_S32x16x2_S32x16_n_01_01_2).resultIdx? (S32x16.rowMajor.symm n) w = some (ix2 b p)
      then (fun _ b => b) a (u (S32x16.rowMajor.symm n)) else a) = fun a n => (fun (n : ℕ) (r : α) => if n / 16 = b.val ∧ Q (n % 16) = p then v (n % 16) else r) n.val a := by
    funext a n
    have hn := n.isLt
    have h1 : n.val / 16 < 32 := by omega
    have h2 : n.val % 16 < 16 := by omega
    have es : S32x16.rowMajor.symm n = ix2 (⟨n.val / 16, h1⟩ : Fin 32) (⟨n.val % 16, h2⟩ : Fin 16) := Routing.symm22 n h1 h2
    rw [es]
    have l : (scatter_S32x16320_S32x16x2_S32x16_n_01_01_2).resultIdx? (ix2 (⟨n.val / 16, h1⟩ : Fin 32) (⟨n.val % 16, h2⟩ : Fin 16)) w = some (ix2 b p) ↔
        (w (ix3 ⟨n.val / 16, h1⟩ ⟨n.val % 16, h2⟩ 0)).toInt = b.val ∧ (w (ix3 ⟨n.val / 16, h1⟩ ⟨n.val % 16, h2⟩ 1)).toInt = p.val :=
      Routing.scatter_lands2 (R := 32) (C := 16320) scatter_S32x16320_S32x16x2_S32x16_n_01_01_2 rfl rfl rfl w ⟨n.val / 16, h1⟩ ⟨n.val % 16, h2⟩ b p
    rw [hw0] at l
    by_cases k : n.val / 16 = b.val
    · have kb : (⟨n.val / 16, h1⟩ : Fin 32) = b := Fin.ext k
      rw [kb] at l ⊢
      rw [hw1] at l
      by_cases k2 : Q (n.val % 16) = p
      · rw [if_pos (l.2 ⟨rfl, by rw [k2]⟩)]
        show u _ = if _ then _ else _
        rw [if_pos ⟨k, k2⟩, hv]
      · rw [if_neg fun h => k2 (Fin.ext (by have := (l.1 h).2; simpa using this))]
        show a = if _ then _ else _
        rw [if_neg fun h => k2 h.2]
    · rw [if_neg fun h => k (by have := (l.1 h).1; exact_mod_cast this)]
      show a = if _ then _ else _
      rw [if_neg fun h => k h.1]
  rw [e]
  refine (fold_fin (fun (n : ℕ) (r : α) => if n / 16 = b.val ∧ Q (n % 16) = p then v (n % 16) else r) _ _).trans ?_
  rw [rec_over, hN]
  congr 1
  have := b.isLt
  omega

/-- The word of a small number is not negative. -/
theorem small_word {a : ℕ} (h : a < 16320) : (BitVec.ofNat 32 a).toNat < 2 ^ (32 - 1) := by
  simp only [BitVec.toNat_ofNat]
  omega
/-- The word of a small number read signed. -/
theorem small_int {a : ℕ} (h : a < 16320) : (BitVec.ofNat 32 a).toInt = a := by
  rw [BitVec.toInt_eq_toNat_of_lt (by simp only [BitVec.toNat_ofNat]; omega)]
  simp only [BitVec.toNat_ofNat]
  omega

/-- The image part of a claimed place. -/
theorem claim_image (bp : IVec S32x16 32) (a : Fin 32) (n : Fin 16) : claimR iotaR bp (ix3 a n 0) = BitVec.ofNat 32 a.val := by
  have e : claimR iotaR bp (ix3 a n 0) = Scalar.select (IntOp.cmpi .slt (BitVec.ofNat 32 a.val) 0#32) (IntOp.addi (BitVec.ofNat 32 a.val) 32#32) (BitVec.ofNat 32 a.val) := by
    pointwise [claimR, iotaR, imgOf]
  rw [e, Routing.wrap_of_lt _ _ (small_word (by have := a.isLt; omega))]
/-- The prior part of a claimed place. -/
theorem claim_prior (bp : IVec S32x16 32) (a : Fin 32) (n : Fin 16) (P : Fin 16320) (h : bp (ix2 a n) = BitVec.ofNat 32 P.val) :
    claimR iotaR bp (ix3 a n 1) = BitVec.ofNat 32 P.val := by
  have e : claimR iotaR bp (ix3 a n 1) = Scalar.select (IntOp.cmpi .slt (bp (ix2 a n)) 0#32) (IntOp.addi (bp (ix2 a n)) 16320#32) (bp (ix2 a n)) := by
    pointwise [claimR, iotaR, imgOf]
  rw [e, h, Routing.wrap_of_lt _ _ (small_word P.isLt)]

/-- The best ratio after the claims. -/
theorem putTwo_at (x : FVec Ideal S32x16320 .f32) (bp : IVec S32x16 32) (Q : ℕ → Fin 16320) (b : Fin 32) (p : Fin 16320)
    (hQ : ∀ n : Fin 16, bp (ix2 b n) = BitVec.ofNat 32 (Q n.val).val) :
    putTwo x (claimR iotaR bp) (ix2 b p) = over Q p (x (ix2 b p)) (fun _ => Ideal.ofBits .f32 0x40000000#32) 16 := by
  unfold putTwo
  refine put_at x _ _ Q b p _ (fun a n => ?_) (fun n => ?_) (fun n => ?_)
  · rw [claim_image, small_int (by have := a.isLt; omega)]
  · rw [claim_prior bp b n _ (hQ n), small_int (Q n.val).isLt]
  · pointwise
/-- The matched object after the claims. -/
theorem putObj_at (x : IVec S32x16320 32) (bp : IVec S32x16 32) (Q : ℕ → Fin 16320) (b : Fin 32) (p : Fin 16320)
    (hQ : ∀ n : Fin 16, bp (ix2 b n) = BitVec.ofNat 32 (Q n.val).val) :
    putObj x (claimR iotaR bp) (ix2 b p) = over Q p (x (ix2 b p)) (fun k => BitVec.ofNat 32 k) 16 := by
  unfold putObj
  refine put_at x _ _ Q b p _ (fun a n => ?_) (fun n => ?_) (fun n => ?_)
  · rw [claim_image, small_int (by have := a.isLt; omega)]
  · rw [claim_prior bp b n _ (hQ n), small_int (Q n.val).isLt]
  · pointwise

end Cert.Loss.Ref

end
-- ==== Proof.Rows.lean ====
/-
  The reference's matched boxes and labels: the rows its two gathers read.
-/
module

public import proofs.«01_k».proof.Proof.Pick
public import Idealize.ShloMosaic.Lib.Routing.OpsPair

@[expose] public section

noncomputable section

namespace Cert.Loss.Ref

open Idealize.ShloMosaic Idealize.ShloMosaic.Tactic Cert.ReferenceIdeal Cert.ReferenceIdeal.Gen

/-- A place of the matched object and coordinate: the row the gather reads. -/
theorem gather_box {α : Type} (tr : S32x16x4.Idx → α) (w : IVec S32x16320x2 32) (b : Fin 32) (p : Fin 16320) (k : Fin 4) (r : Fin 16)
    (h0 : w (ix3 b p 0) = BitVec.ofNat 32 b.val) (h1 : w (ix3 b p 1) = BitVec.ofNat 32 r.val) :
    Host.gather gather_S32x16x4_S32x16320x2_S32x16320x4_2_01_n_n_01_2_114 tr w (ix3 b p k) = tr (ix3 b r k) := by
  unfold Host.gather
  refine congrArg tr (funext fun a => Fin.ext ?_)
  have hs : ∀ q : Fin 2, (gather_S32x16x4_S32x16320x2_S32x16320x4_2_01_n_n_01_2_114).siIdx (ix3 b p k) q = ix3 b p q := fun q => by
    funext c
    match c with
    | 0 => rfl
    | 1 => rfl
    | 2 => rfl
  have hb := b.isLt
  have hr := r.isLt
  match a with
  | 0 =>
    show min (w ((gather_S32x16x4_S32x16320x2_S32x16320x4_2_01_n_n_01_2_114).siIdx (ix3 b p k) (0 : Fin 2))).toInt.toNat (32 - 1) + 0 + 0 = b.val
    rw [hs, h0, StableHlo.Predicate.toInt_ofNat_small _ (by omega)]
    omega
  | 1 =>
    show min (w ((gather_S32x16x4_S32x16320x2_S32x16320x4_2_01_n_n_01_2_114).siIdx (ix3 b p k) (1 : Fin 2))).toInt.toNat (16 - 1) + 0 + 0 = r.val
    rw [hs, h1, StableHlo.Predicate.toInt_ofNat_small _ (by omega)]
    omega
  | 2 =>
    show 0 + 0 + k.val = k.val
    omega

/-- A place of the matched object: the entry the gather reads. -/
theorem gather_lab {α : Type} (la : S32x16.Idx → α) (w : IVec S32x16320x2 32) (b : Fin 32) (p : Fin 16320) (r : Fin 16)
    (h0 : w (ix3 b p 0) = BitVec.ofNat 32 b.val) (h1 : w (ix3 b p 1) = BitVec.ofNat 32 r.val) :
    Host.gather gather_S32x16_S32x16320x2_S32x16320_n_01_n_n_01_2_11 la w (ix2 b p) = la (ix2 b r) := by
  unfold Host.gather
  refine congrArg la (funext fun a => Fin.ext ?_)
  have hs : ∀ q : Fin 2, (gather_S32x16_S32x16320x2_S32x16320_n_01_n_n_01_2_11).siIdx (ix2 b p) q = ix3 b p q := fun q => by
    funext c
    match c with
    | 0 => rfl
    | 1 => rfl
    | 2 => rfl
  have hb := b.isLt
  have hr := r.isLt
  match a with
  | 0 =>
    show min (w ((gather_S32x16_S32x16320x2_S32x16320_n_01_n_n_01_2_11).siIdx (ix2 b p) (0 : Fin 2))).toInt.toNat (32 - 1) + 0 + 0 = b.val
    rw [hs, h0, StableHlo.Predicate.toInt_ofNat_small _ (by omega)]
    omega
  | 1 =>
    show min (w ((gather_S32x16_S32x16320x2_S32x16320_n_01_n_n_01_2_11).siIdx (ix2 b p) (1 : Fin 2))).toInt.toNat (16 - 1) + 0 + 0 = r.val
    rw [hs, h1, StableHlo.Predicate.toInt_ofNat_small _ (by omega)]
    omega

/-- The image part of the matched object's place. -/
theorem pick_image (id : IVec S32x16320 32) (b : Fin 32) (p : Fin 16320) : pickR iotaR id (ix3 b p 0) = BitVec.ofNat 32 b.val := by
  have e : pickR iotaR id (ix3 b p 0) = Scalar.select (IntOp.cmpi .slt (BitVec.ofNat 32 b.val) 0#32) (IntOp.addi (BitVec.ofNat 32 b.val) 32#32) (BitVec.ofNat 32 b.val) := by
    pointwise [pickR, iotaR, imgOf]
  rw [e, Routing.wrap_of_lt _ _ (by have := b.isLt; simp only [BitVec.toNat_ofNat]; omega)]
/-- The object part of the matched object's place. -/
theorem pick_object (id : IVec S32x16320 32) (b : Fin 32) (p : Fin 16320) (r : Fin 16) (h : id (ix2 b p) = BitVec.ofNat 32 r.val) :
    pickR iotaR id (ix3 b p 1) = BitVec.ofNat 32 r.val := by
  have e : pickR iotaR id (ix3 b p 1) = Scalar.select (IntOp.cmpi .slt (id (ix2 b p)) 0#32) (IntOp.addi (id (ix2 b p)) 16#32) (id (ix2 b p)) := by
    pointwise [pickR, iotaR, imgOf]
  rw [e, h, Routing.wrap_of_lt _ _ (by have := r.isLt; simp only [BitVec.toNat_ofNat]; omega)]

/-- The matched box. -/
theorem boxR_at (tr : FVec Ideal S32x16x4 .f32) (id : IVec S32x16320 32) (b : Fin 32) (p : Fin 16320) (k : Fin 4) (r : Fin 16) (h : id (ix2 b p) = BitVec.ofNat 32 r.val) :
    boxR iotaR tr id (ix3 b p k) = tr (ix3 b r k) := gather_box tr _ b p k r (pick_image id b p) (pick_object id b p r h)
/-- The matched label. -/
theorem confR_at (la : IVec S32x16 32) (ov : FVec Ideal S32x16320 .f32) (id : IVec S32x16320 32) (b : Fin 32) (p : Fin 16320) (r : Fin 16)
    (h : id (ix2 b p) = BitVec.ofNat 32 r.val) :
    confR iotaR la ov id (ix2 b p) = if ov (ix2 b p) < Ideal.ofBits .f32 0x3F000000#32 then 0#32 else la (ix2 b r) := by
  rw [← gather_lab la (pickR iotaR id) b p r (pick_image id b p) (pick_object id b p r h)]
  unfold confR
  generalize Host.gather gather_S32x16_S32x16320x2_S32x16320_n_01_n_n_01_2_11 la (pickR iotaR id) = y
  pointwise

end Cert.Loss.Ref

end
-- ==== Proof.Match.lean ====
/-
  The label and the box a prior is matched with are the same on both sides.
-/
module

public import proofs.«01_k».proof.Proof.KSide
public import proofs.«01_k».proof.Proof.RSide
public import proofs.«01_k».proof.Proof.Put
public import proofs.«01_k».proof.Proof.Rows

@[expose] public section

noncomputable section

namespace Cert.Loss

open Idealize.ShloMosaic Idealize.ShloMosaic.Tactic

variable (a0 : Vec Ideal Cert.KernelIdeal.S32x16320x4 .f32) (a4 : Vec Ideal Cert.KernelIdeal.S16320x4 .f32) (a5 : Vec Ideal Cert.KernelIdeal.S32x16x5 .f32) (b : Fin 32)

/-- An object's ratio at a place, on both sides. -/
theorem iou_place (n : Fin 16) (p : Fin 16320) :
    iouT (x1T (priA a4) (fourA a0 b)) (y1T (priA a4) (fourA a0 b)) (x2T (priA a4) (fourA a0 b)) (y2T (priA a4) (fourA a0 b)) (objA a5 b) n.val (ix2 (rowP p) (colP p))
      = Ref.iouA a0 a4 a5 (ix3 b n p) := by
  rw [iou_eq, flat_row_col]

/-- Both sides find the same best priors. -/
theorem places : ∃ Q : ℕ → Fin 16320,
    (∀ k, bpT (x1T (priA a4) (fourA a0 b)) (y1T (priA a4) (fourA a0 b)) (x2T (priA a4) (fourA a0 b)) (y2T (priA a4) (fourA a0 b)) (objA a5 b) k = BitVec.ofNat 32 (Q k).val)
    ∧ ∀ n : Fin 16, Ref.bpR (Ref.iouA a0 a4 a5) (ix2 b n) = BitVec.ofNat 32 (Q n.val).val := by
  choose Q h1 h2 using fun k => bpT_spec (x1T (priA a4) (fourA a0 b)) (y1T (priA a4) (fourA a0 b)) (x2T (priA a4) (fourA a0 b)) (y2T (priA a4) (fourA a0 b)) (objA a5 b) k
  refine ⟨Q, h1, fun n => ?_⟩
  obtain ⟨P, e1, e2⟩ := Ref.bpR_spec (Ref.iouA a0 a4 a5) b n
  have h := h2 n.val
  rw [show (fun p => iouT (x1T (priA a4) (fourA a0 b)) (y1T (priA a4) (fourA a0 b)) (x2T (priA a4) (fourA a0 b)) (y2T (priA a4) (fourA a0 b)) (objA a5 b) n.val (ix2 (rowP p) (colP p)))
    = fun p => Ref.iouA a0 a4 a5 (ix3 b n p) from funext fun p => iou_place a0 a4 a5 b n p] at h
  rw [e1, e2.eq h]

/-- The object written last is one of the sixteen. -/
theorem over_lt (Q : ℕ → Fin 16320) (p : Fin 16320) (r : ℕ) (hr : r < 16) (n : ℕ) (hn : n ≤ 16) : over Q p r (fun k => k) n < 16 := by
  induction n with
  | zero => exact hr
  | succ n ih =>
    unfold over
    split
    · exact hn
    · exact ih (by omega)

/-- An object's label, on both sides. -/
theorem lab_eq (n : Fin 16) : Ref.labR a5 (ix2 b n) = labA a5 b n.val := by
  unfold labA
  rw [dif_pos n.isLt]
  pointwise [Ref.labR]

/-- Two is not below a half. -/
theorem two_not_half : ¬ Ideal.ofBits .f32 0x40000000#32 < Ideal.ofBits .f32 0x3F000000#32 := by
  rw [ofBits_two, ofBits_half]
  exact fun h => absurd (EReal.coe_lt_coe_iff.1 h) (by norm_num)

/-- The matched label, and where it is not 0 the matched box, are the same on both sides. -/
theorem matched (s : Fin 8) (l : Fin 2040) :
    confB (priA a4) (fourA a0 b) (objA a5 b) (labA a5 b) (ix2 s l)
      = Ref.confR Ref.iotaR (Ref.labR a5) (Ref.ovR (Ref.iouA a0 a4 a5)) (Ref.idR (Ref.iouA a0 a4 a5)) (ix2 b (flatP s l))
    ∧ (confB (priA a4) (fourA a0 b) (objA a5 b) (labA a5 b) (ix2 s l) ≠ 0#32 → ∀ j : Fin 4,
      boxB (priA a4) (fourA a0 b) (objA a5 b) j.val (ix2 s l) = Ref.boxR Ref.iotaR (Ref.truR a5) (Ref.idR (Ref.iouA a0 a4 a5)) (ix3 b (flatP s l) j)) := by
  obtain ⟨Q, hK, hR⟩ := places a0 a4 a5 b
  obtain ⟨r, r1, r2⟩ := Ref.biR_spec (Ref.iouA a0 a4 a5) b (flatP s l)
  have hf : FirstMax (fun k : Fin 16 => iouT (x1T (priA a4) (fourA a0 b)) (y1T (priA a4) (fourA a0 b)) (x2T (priA a4) (fourA a0 b)) (y2T (priA a4) (fourA a0 b)) (objA a5 b) k.val (ix2 s l)) r := by
    rw [show (fun k : Fin 16 => iouT (x1T (priA a4) (fourA a0 b)) (y1T (priA a4) (fourA a0 b)) (x2T (priA a4) (fourA a0 b)) (y2T (priA a4) (fourA a0 b)) (objA a5 b) k.val (ix2 s l))
      = fun n => Ref.iouA a0 a4 a5 (ix3 b n (flatP s l)) from funext fun n => iou_eq a0 a4 a5 b n s l]
    exact r2
  have hid : Ref.idR (Ref.iouA a0 a4 a5) (ix2 b (flatP s l)) = BitVec.ofNat 32 (over Q (flatP s l) r.val (fun k => k) 16) := by
    unfold Ref.idR
    rw [Ref.putObj_at _ _ Q b _ hR, r1, over_map (BitVec.ofNat 32)]
  have hov : Ref.ovR (Ref.iouA a0 a4 a5) (ix2 b (flatP s l)) = over Q (flatP s l) (Ref.iouA a0 a4 a5 (ix3 b r (flatP s l))) (fun _ => Ideal.ofBits .f32 0x40000000#32) 16 := by
    unfold Ref.ovR
    rw [Ref.putTwo_at _ _ Q b _ hR, Ref.boR_spec _ b _ r r2]
  have hlt := over_lt Q (flatP s l) r.val r.isLt 16 (le_refl _)
  have ek := confT_at (x1T (priA a4) (fourA a0 b)) (y1T (priA a4) (fourA a0 b)) (x2T (priA a4) (fourA a0 b)) (y2T (priA a4) (fourA a0 b)) (objA a5 b) (labA a5 b) s l Q hK
    (fun k => iouT (x1T (priA a4) (fourA a0 b)) (y1T (priA a4) (fourA a0 b)) (x2T (priA a4) (fourA a0 b)) (y2T (priA a4) (fourA a0 b)) (objA a5 b) k (ix2 s l)) (fun _ => rfl) r hf
  refine ⟨?_, fun hc j => ?_⟩
  · unfold confB
    rw [ek, Ref.confR_at _ _ _ b _ ⟨_, hlt⟩ hid, hov, lab_eq, over_map (labA a5 b), over_label Q _ _ _ two_not_half]
    rw [iou_eq]
  · unfold boxB
    rw [boxT_at (x1T (priA a4) (fourA a0 b)) (y1T (priA a4) (fourA a0 b)) (x2T (priA a4) (fourA a0 b)) (y2T (priA a4) (fourA a0 b)) (objA a5 b) (labA a5 b) s l Q hK
      (fun k => iouT (x1T (priA a4) (fourA a0 b)) (y1T (priA a4) (fourA a0 b)) (x2T (priA a4) (fourA a0 b)) (y2T (priA a4) (fourA a0 b)) (objA a5 b) k (ix2 s l)) (fun _ => rfl) r hf j.val hc,
      Ref.boxR_at _ _ b _ j ⟨_, hlt⟩ hid, ← obj_eq, over_map (fun n => objA a5 b n j.val)]

end Cert.Loss

end
-- ==== Proof.Terms.lean ====
/-
  The probability, the positive mask and the smooth L1 terms at one prior, on both sides.
-/
module

public import proofs.«01_k».proof.Proof.Geo

@[expose] public section

noncomputable section

namespace Cert.Loss

open Idealize.ShloMosaic Idealize.ShloMosaic.Tactic

/-- The smooth L1 of a difference. -/
def huber (d : EReal) : EReal :=
  if FloatOps.absf (F := Ideal) (φ := .f32) d < 1 then Ideal.ofBits .f32 0x3F000000#32 * d * d else FloatOps.absf (F := Ideal) (φ := .f32) d - Ideal.ofBits .f32 0x3F000000#32

/-- The kernel's smooth L1 term. -/
theorem slT_at (o g : Tile) (pos : IVec Cert.KernelIdeal.S8x2040 1) (s : Fin 8) (l : Fin 2040) :
    slT o g (posfT pos) (ix2 s l) = huber (o (ix2 s l) - g (ix2 s l)) * FloatOps.sitofp (F := Ideal) .f32 (BitVec.setWidth 32 (pos (ix2 s l))) := by
  pointwise [slT, posfT, lit, huber]

/-- The reference's smooth L1 term. -/
theorem termR_at (d : FVec Ideal Cert.ReferenceIdeal.S32x16320x4 .f32) (pos : IVec Cert.ReferenceIdeal.S32x16320 1) (b : Fin 32) (p : Fin 16320) (k : Fin 4) :
    Ref.termR d pos (ix3 b p k) = huber (d (ix3 b p k)) * FloatOps.uitofp (F := Ideal) .f32 (pos (ix2 b p)) := by
  pointwise [Ref.termR, Ref.num4, huber]

/-- The larger of two scores, on both sides. -/
theorem max_two (f : Fin 2 → EReal) : max (Ideal.ofBits .f32 0xFF800000#32) (Finset.fold max (Ideal.ofBits .f32 0xFF800000#32) f Finset.univ) = max (f 0) (f 1) := by
  rw [ofBits_bot]
  refine le_antisymm (max_le bot_le ((Finset.fold_max_le _).2 ⟨bot_le, fun k _ => ?_⟩)) (le_max_of_le_right (max_le ?_ ?_))
  · match k with
    | 0 => exact le_max_left _ _
    | 1 => exact le_max_right _ _
  · exact (Finset.le_fold_max _).2 (Or.inr ⟨0, Finset.mem_univ _, le_refl _⟩)
  · exact (Finset.le_fold_max _).2 (Or.inr ⟨1, Finset.mem_univ _, le_refl _⟩)
/-- The kernel's probability. -/
theorem probT_at (a1 : Vec Ideal Cert.KernelIdeal.S32x16320x2 .f32) (b : Fin 32) (s : Fin 8) (l : Fin 2040) :
    probT (twoA a1 b) (ix2 s l) = Ideal.div (Ideal.exp (a1 (ix3 b (flatP s l) 1) - max (a1 (ix3 b (flatP s l) 0)) (a1 (ix3 b (flatP s l) 1))))
      (Ideal.exp (a1 (ix3 b (flatP s l) 0) - max (a1 (ix3 b (flatP s l) 0)) (a1 (ix3 b (flatP s l) 1)))
        + Ideal.exp (a1 (ix3 b (flatP s l) 1) - max (a1 (ix3 b (flatP s l) 0)) (a1 (ix3 b (flatP s l) 1)))) := by
  pointwise [probT, q0, q1, twoA]
  rfl
/-- The larger of two scores, in the reference. -/
theorem rmaxR_at (a1 : FVec Ideal Cert.ReferenceIdeal.S32x16320x2 .f32) (b : Fin 32) (p : Fin 16320) :
    Ref.rmaxR a1 (ix2 b p) = Finset.fold max (Ideal.ofBits .f32 0xFF800000#32) (fun k : Fin 2 => a1 (ix3 b p k)) Finset.univ := by
  pointwise [Ref.rmaxR]
/-- The exponentials, in the reference. -/
theorem expR_at (a1 : FVec Ideal Cert.ReferenceIdeal.S32x16320x2 .f32) (mx : FVec Ideal Cert.ReferenceIdeal.S32x16320 .f32) (b : Fin 32) (p : Fin 16320) (k : Fin 2) :
    Ref.expR a1 mx (ix3 b p k) = Ideal.exp (a1 (ix3 b p k) - max (Ideal.ofBits .f32 0xFF800000#32) (mx (ix2 b p))) := by
  pointwise [Ref.expR]
/-- The sum of the two exponentials, in the reference. -/
theorem esumR_at (e : FVec Ideal Cert.ReferenceIdeal.S32x16320x2 .f32) (b : Fin 32) (p : Fin 16320) : Ref.esumR e (ix2 b p) = ∑ k : Fin 2, e (ix3 b p k) := by
  pointwise [Ref.esumR]
/-- The second exponential over the sum, in the reference. -/
theorem fracR_at (e : FVec Ideal Cert.ReferenceIdeal.S32x16320x2 .f32) (t : FVec Ideal Cert.ReferenceIdeal.S32x16320 .f32) (b : Fin 32) (p : Fin 16320) :
    Ref.fracR e t (ix2 b p) = Ideal.div (e (ix3 b p 1)) (t (ix2 b p)) := by
  pointwise [Ref.fracR]
/-- The probability that a prior holds an object, on both sides. -/
theorem prob_eq (a1 : Vec Ideal Cert.KernelIdeal.S32x16320x2 .f32) (b : Fin 32) (s : Fin 8) (l : Fin 2040) :
    probT (twoA a1 b) (ix2 s l) = Ref.probR a1 (ix2 b (flatP s l)) := by
  rw [probT_at]
  unfold Ref.probR
  rw [fracR_at, esumR_at, Fin.sum_univ_two, expR_at, expR_at, rmaxR_at, max_two (fun k => a1 (ix3 b (flatP s l) k))]

/-- The kernel's positive mask. -/
theorem posT_at (conf : ITile) (a : FVec Ideal Cert.KernelIdeal.S2x8x2040 .f32) (s : Fin 8) (l : Fin 2040) :
    posT conf a (ix2 s l) = IntOp.andi (IntOp.cmpi .sgt (conf (ix2 s l)) 0#32) (Ideal.cmp .ogt (probT a (ix2 s l)) (Ideal.ofBits .f32 0x3C23D70A#32)) := by
  unfold posT
  generalize probT a = x
  pointwise [lit]
/-- The reference's positive mask. -/
theorem posR_at (conf : IVec Cert.ReferenceIdeal.S32x16320 32) (prob : FVec Ideal Cert.ReferenceIdeal.S32x16320 .f32) (b : Fin 32) (p : Fin 16320) :
    Ref.posR conf prob (ix2 b p) = IntOp.andi (IntOp.cmpi .sgt (conf (ix2 b p)) 0#32) (Ideal.cmp .ogt (prob (ix2 b p)) (Ideal.ofBits .f32 0x3C23D70A#32)) := by
  pointwise [Ref.posR]

section enc
variable (mt de : FVec Ideal Cert.ReferenceIdeal.S32x16320x4 .f32) (lo hi u v : Tile) (b : Fin 32) (p : Fin 16320) (s : Fin 8) (l : Fin 2040)

/-- The encoded centre across, on both sides. -/
theorem enc0 (h1 : lo (ix2 s l) = mt (ix3 b p 0)) (h2 : hi (ix2 s l) = mt (ix3 b p 2)) (h3 : u (ix2 s l) = de (ix3 b p 0)) (h4 : v (ix2 s l) = de (ix3 b p 2)) :
    gcT lo hi u v (ix2 s l) = Ref.encR mt (Ref.censR de) (ix3 b p 0) := by
  pointwise [gcT, lit, Ref.encR, Ref.censR, Ref.join2, Ref.fst2, Ref.snd2, Ref.num2]
  rw [div_two, div_two, h1, h2, h3, h4, add_comm (de (ix3 b p 2))]
/-- The encoded centre down, on both sides. -/
theorem enc1 (h1 : lo (ix2 s l) = mt (ix3 b p 1)) (h2 : hi (ix2 s l) = mt (ix3 b p 3)) (h3 : u (ix2 s l) = de (ix3 b p 1)) (h4 : v (ix2 s l) = de (ix3 b p 3)) :
    gcT lo hi u v (ix2 s l) = Ref.encR mt (Ref.censR de) (ix3 b p 1) := by
  pointwise [gcT, lit, Ref.encR, Ref.censR, Ref.join2, Ref.fst2, Ref.snd2, Ref.num2]
  rw [div_two, div_two, h1, h2, h3, h4, add_comm (de (ix3 b p 3))]
/-- The encoded width, on both sides. -/
theorem enc2 (h1 : lo (ix2 s l) = mt (ix3 b p 0)) (h2 : hi (ix2 s l) = mt (ix3 b p 2)) (h3 : u (ix2 s l) = de (ix3 b p 0)) (h4 : v (ix2 s l) = de (ix3 b p 2)) :
    gwT lo hi u v (ix2 s l) = Ref.encR mt (Ref.censR de) (ix3 b p 2) := by
  pointwise [gwT, lit, Ref.encR, Ref.censR, Ref.join2, Ref.fst2, Ref.snd2, Ref.num2]
  rw [h1, h2, h3, h4]
/-- The encoded height, on both sides. -/
theorem enc3 (h1 : lo (ix2 s l) = mt (ix3 b p 1)) (h2 : hi (ix2 s l) = mt (ix3 b p 3)) (h3 : u (ix2 s l) = de (ix3 b p 1)) (h4 : v (ix2 s l) = de (ix3 b p 3)) :
    gwT lo hi u v (ix2 s l) = Ref.encR mt (Ref.censR de) (ix3 b p 3) := by
  pointwise [gwT, lit, Ref.encR, Ref.censR, Ref.join2, Ref.fst2, Ref.snd2, Ref.num2]
  rw [h1, h2, h3, h4]

end enc

/-- The sum of a tile. -/
theorem sumT_at (x : Tile) : sumT x = ∑ s : Fin 8, ∑ l : Fin 2040, x (ix2 s l) := by
  pointwise [sumT]
/-- The number of ones of a mask. -/
theorem countT_at (x : IVec Cert.KernelIdeal.S8x2040 1) (h : 1 < 32) : countT (extui 32 x h)
    = Finset.fold IntOp.addi 0#32 (fun q : Fin 8 × Fin 2040 => BitVec.setWidth 32 (x (ix2 q.1 q.2))) Finset.univ := by
  pointwise [countT]
/-- The sum of the terms. -/
theorem tsumR_at (x : FVec Ideal Cert.ReferenceIdeal.S32x16320x4 .f32) : Ref.tsumR x ix0 = ∑ b : Fin 32, ∑ p : Fin 16320, ∑ k : Fin 4, x (ix3 b p k) := by
  pointwise [Ref.tsumR]
/-- The number of positive priors of the batch, from the images'. -/
theorem cntB_at (x : IVec Cert.ReferenceIdeal.S32 32) : Ref.cntB x ix0 = Finset.fold IntOp.addi 0#32 (fun q : Fin 32 × Fin 1 => x (ix1 q.1)) Finset.univ := by
  pointwise [Ref.cntB]
/-- The number of positive priors of an image. -/
theorem cntI_at (x : IVec Cert.ReferenceIdeal.S32x16320 1) (b : Fin 32) :
    Ref.cntI x (ix1 b) = Finset.fold IntOp.addi 0#32 (fun p : Fin 16320 => BitVec.setWidth 32 (x (ix2 b p))) Finset.univ := by
  pointwise [Ref.cntI]
/-- The kernel's quotient. -/
theorem tailK_at (x : FVec Ideal Cert.KernelIdeal.S32x1x128 .f32) : tailK x ix0
    = Ideal.div (Ideal.div (∑ b : Fin 32, x (ix3 b 0 0)) (Ideal.ofBits .f32 0x40800000#32 * ∑ b : Fin 32, x (ix3 b 0 1))) (∑ b : Fin 32, x (ix3 b 0 1)) := by
  pointwise [tailK]
/-- The reference's quotient. -/
theorem quotR_at (x n : FVec Ideal Cert.ReferenceIdeal.S_ .f32) : Ref.quotR x n ix0 = Ideal.div (Ideal.div (x ix0) (Ideal.ofBits .f32 0x40800000#32 * n ix0)) (n ix0) := by
  pointwise [Ref.quotR]

end Cert.Loss

end
-- ==== Proof.Count.lean ====
/-
  Sums over a tile and over the priors, and counts of ones kept in words.
-/
module

public import proofs.«01_k».proof.Proof.KSide

@[expose] public section

noncomputable section

namespace Cert.Loss

open Idealize.ShloMosaic Idealize.ShloMosaic.Tactic

/-- The priors by row and column, and by place. -/
def tileP : Fin 8 × Fin 2040 ≃ Fin 16320 where
  toFun q := flatP q.1 q.2
  invFun p := (rowP p, colP p)
  left_inv q := Prod.ext (row_flat q.1 q.2) (col_flat q.1 q.2)
  right_inv p := flat_row_col p

/-- A sum over a tile is the sum over the priors. -/
theorem sum_tile {M : Type} [AddCommMonoid M] (f : Fin 16320 → M) : ∑ s : Fin 8, ∑ l : Fin 2040, f (flatP s l) = ∑ p, f p := by
  rw [← Equiv.sum_comp tileP f, Fintype.sum_prod_type]
  rfl

/-- A word's sum, read as a number: the numbers' sum, up to the words' range. -/
theorem fold_addi {ι : Type} [DecidableEq ι] (f : ι → BitVec 32) (S : Finset ι) :
    (Finset.fold IntOp.addi 0#32 f S).toNat = (∑ q ∈ S, (f q).toNat) % 2 ^ 32 := by
  induction S using Finset.induction_on with
  | empty => rfl
  | insert a S ha ih =>
    rw [Finset.fold_insert ha, Finset.sum_insert ha]
    show (f a + Finset.fold IntOp.addi 0#32 f S).toNat = _
    rw [BitVec.toNat_add, ih, Nat.add_mod_mod]

/-- The numbers of positive priors of an image agree, if the masks do. -/
theorem count_tile (x : Fin 8 → Fin 2040 → BitVec 1) (y : Fin 16320 → BitVec 1) (h : ∀ s l, x s l = y (flatP s l)) :
    Finset.fold IntOp.addi 0#32 (fun q : Fin 8 × Fin 2040 => BitVec.setWidth 32 (x q.1 q.2)) Finset.univ
      = Finset.fold IntOp.addi 0#32 (fun p => BitVec.setWidth 32 (y p)) Finset.univ := by
  have e : ∑ q : Fin 8 × Fin 2040, (BitVec.setWidth 32 (x q.1 q.2)).toNat = ∑ p, (BitVec.setWidth 32 (y p)).toNat := by
    rw [← Equiv.sum_comp tileP fun p => (BitVec.setWidth 32 (y p)).toNat]
    refine Finset.sum_congr rfl fun q _ => ?_
    rw [h]
    rfl
  apply BitVec.eq_of_toNat_eq
  rw [fold_addi, fold_addi, e]

/-- An image has at most as many positive priors as priors. -/
theorem count_le (y : Fin 16320 → BitVec 1) : (Finset.fold IntOp.addi 0#32 (fun p => BitVec.setWidth 32 (y p)) Finset.univ).toNat ≤ 16320 := by
  rw [fold_addi]
  refine (Nat.mod_le _ _).trans ((Finset.sum_le_card_nsmul _ _ 1 fun p _ => ?_).trans (by simp))
  rw [BitVec.toNat_setWidth]
  have := (y p).isLt
  exact (Nat.mod_le _ _).trans (by omega)

/-- A sum of numbers, as reals beyond the finite ones. -/
theorem coe_sum {ι : Type} [DecidableEq ι] (f : ι → ℕ) (S : Finset ι) : ∑ q ∈ S, (((f q : ℕ) : ℝ) : EReal) = (((∑ q ∈ S, f q : ℕ) : ℝ) : EReal) := by
  induction S using Finset.induction_on with
  | empty => simp
  | insert a S ha ih =>
    rw [Finset.sum_insert ha, Finset.sum_insert ha, ih, ← EReal.coe_add]
    congr 1
    push_cast
    ring

/-- A small word as a float. -/
theorem float_small (w : BitVec 32) (h : w.toNat < 2 ^ 31) : FloatOps.sitofp (F := Ideal) .f32 w = ((w.toNat : ℝ) : EReal) := by
  show (((w.toInt : ℤ) : ℝ) : EReal) = _
  rw [BitVec.toInt_eq_toNat_of_lt (by omega)]
  norm_num

/-- The images' counts added as floats are the batch's count as a float. -/
theorem count_batch (n : Fin 32 → BitVec 32) (h : ∀ b, (n b).toNat ≤ 16320) :
    ∑ b : Fin 32, FloatOps.sitofp (F := Ideal) .f32 (n b)
      = FloatOps.sitofp (F := Ideal) .f32 (Finset.fold IntOp.addi 0#32 (fun q : Fin 32 × Fin 1 => n q.1) Finset.univ) := by
  have hs : ∑ q : Fin 32 × Fin 1, (n q.1).toNat = ∑ b : Fin 32, (n b).toNat := by
    rw [Fintype.sum_prod_type]
    simp
  have hle : ∑ b : Fin 32, (n b).toNat ≤ 522240 := (Finset.sum_le_card_nsmul _ _ 16320 fun b _ => h b).trans (by simp)
  have hf : (Finset.fold IntOp.addi 0#32 (fun q : Fin 32 × Fin 1 => n q.1) Finset.univ).toNat = ∑ b : Fin 32, (n b).toNat := by
    rw [fold_addi, hs, Nat.mod_eq_of_lt (by omega)]
  rw [float_small _ (by rw [hf]; omega), hf]
  rw [Finset.sum_congr rfl fun b _ => float_small (n b) (by have := h b; omega)]
  exact coe_sum (fun b => (n b).toNat) Finset.univ

/-- A mask bit as a float: through a signed word, and directly. -/
theorem mask_eq (w : BitVec 1) : FloatOps.sitofp (F := Ideal) .f32 (BitVec.setWidth 32 w) = FloatOps.uitofp (F := Ideal) .f32 w := by
  have hw : (BitVec.setWidth 32 w).toNat = w.toNat := by
    rw [BitVec.toNat_setWidth]
    have := w.isLt
    exact Nat.mod_eq_of_lt (by omega)
  rw [float_small _ (by rw [hw]; have := w.isLt; omega), hw]
  rfl
/-- A zero bit as a float. -/
theorem mask_zero : FloatOps.uitofp (F := Ideal) .f32 0#1 = (0 : EReal) := by
  show (((0#1 : BitVec 1).toNat : ℝ) : EReal) = 0
  simp

end Cert.Loss

end
-- ==== Proof.Final.lean ====
/-
  The loss is the same on both sides.
-/
module

public import proofs.«01_k».proof.Proof.Match
public import proofs.«01_k».proof.Proof.Terms
public import proofs.«01_k».proof.Proof.Count

@[expose] public section

noncomputable section

namespace Cert.Loss

open Idealize.ShloMosaic Idealize.ShloMosaic.Tactic

variable (a0 : Vec Ideal Cert.KernelIdeal.S32x16320x4 .f32) (a1 : Vec Ideal Cert.KernelIdeal.S32x16320x2 .f32) (a2 : Vec Ideal Cert.KernelIdeal.S32x16320x4 .f32)
  (a4 : Vec Ideal Cert.KernelIdeal.S16320x4 .f32) (a5 : Vec Ideal Cert.KernelIdeal.S32x16x5 .f32) (b : Fin 32)

/-- The positive masks agree. -/
theorem pos_eq (s : Fin 8) (l : Fin 2040) :
    posB (priA a4) (fourA a0 b) (twoA a1 b) (objA a5 b) (labA a5 b) (ix2 s l) = Ref.posA a0 a1 a4 a5 (ix2 b (flatP s l)) := by
  unfold posB Ref.posA
  rw [posT_at, posR_at, prob_eq, (matched a0 a4 a5 b s l).1]

/-- A positive prior has a label. -/
theorem pos_label (s : Fin 8) (l : Fin 2040) (h : confB (priA a4) (fourA a0 b) (objA a5 b) (labA a5 b) (ix2 s l) = 0#32) :
    posB (priA a4) (fourA a0 b) (twoA a1 b) (objA a5 b) (labA a5 b) (ix2 s l) = 0#1 := by
  unfold posB
  rw [posT_at, h]
  show IntOp.andi 0#1 _ = 0#1
  exact BitVec.zero_and

/-- One smooth L1 term agrees, if the encoded values agree where the prior has a label. -/
theorem term_eq (k : Fin 4) (o g : Tile) (s : Fin 8) (l : Fin 2040) (ho : o (ix2 s l) = a2 (ix3 b (flatP s l) k))
    (hg : confB (priA a4) (fourA a0 b) (objA a5 b) (labA a5 b) (ix2 s l) ≠ 0#32 → g (ix2 s l)
      = Ref.encR (Ref.boxR Ref.iotaR (Ref.truR a5) (Ref.idR (Ref.iouA a0 a4 a5))) (Ref.censR (Ref.decR a0 a4)) (ix3 b (flatP s l) k)) :
    slT o g (posfT (posB (priA a4) (fourA a0 b) (twoA a1 b) (objA a5 b) (labA a5 b))) (ix2 s l) = Ref.termA a0 a1 a2 a4 a5 (ix3 b (flatP s l) k) := by
  unfold Ref.termA
  rw [slT_at, termR_at, mask_eq, ← pos_eq]
  by_cases h : confB (priA a4) (fourA a0 b) (objA a5 b) (labA a5 b) (ix2 s l) = 0#32
  · rw [pos_label a0 a1 a4 a5 b s l h, mask_zero, mul_zero, mul_zero]
  · rw [ho, hg h]
    rfl

/-- The four planes of a block, over the argument. -/
theorem plane_at (s : Fin 8) (l : Fin 2040) : pl0 (fourA a2 b) (ix2 s l) = a2 (ix3 b (flatP s l) 0) ∧ pl1 (fourA a2 b) (ix2 s l) = a2 (ix3 b (flatP s l) 1)
    ∧ pl2 (fourA a2 b) (ix2 s l) = a2 (ix3 b (flatP s l) 2) ∧ pl3 (fourA a2 b) (ix2 s l) = a2 (ix3 b (flatP s l) 3) := by
  refine ⟨?_, ?_, ?_, ?_⟩
  · pointwise [pl0, plane4, fourA]
    rfl
  · pointwise [pl1, plane4, fourA]
    rfl
  · pointwise [pl2, plane4, fourA]
    rfl
  · pointwise [pl3, plane4, fourA]
    rfl

/-- An image's smooth L1 sum agrees. -/
theorem image_sum : sumsA a0 a1 a2 a4 a5 b = ∑ p : Fin 16320, ∑ k : Fin 4, Ref.termA a0 a1 a2 a4 a5 (ix3 b p k) := by
  unfold sumsA sl1B
  have e0 := fun s l => term_eq a0 a1 a2 a4 a5 b 0 (pl0 (fourA a2 b)) _ s l (plane_at a2 b s l).1
    fun h => enc0 _ (Ref.decR a0 a4) _ _ _ _ b (flatP s l) s l ((matched a0 a4 a5 b s l).2 h 0) ((matched a0 a4 a5 b s l).2 h 2) (x1_eq a0 a4 b s l) (x2_eq a0 a4 b s l)
  have e1 := fun s l => term_eq a0 a1 a2 a4 a5 b 1 (pl1 (fourA a2 b)) _ s l (plane_at a2 b s l).2.1
    fun h => enc1 _ (Ref.decR a0 a4) _ _ _ _ b (flatP s l) s l ((matched a0 a4 a5 b s l).2 h 1) ((matched a0 a4 a5 b s l).2 h 3) (y1_eq a0 a4 b s l) (y2_eq a0 a4 b s l)
  have e2 := fun s l => term_eq a0 a1 a2 a4 a5 b 2 (pl2 (fourA a2 b)) _ s l (plane_at a2 b s l).2.2.1
    fun h => enc2 _ (Ref.decR a0 a4) _ _ _ _ b (flatP s l) s l ((matched a0 a4 a5 b s l).2 h 0) ((matched a0 a4 a5 b s l).2 h 2) (x1_eq a0 a4 b s l) (x2_eq a0 a4 b s l)
  have e3 := fun s l => term_eq a0 a1 a2 a4 a5 b 3 (pl3 (fourA a2 b)) _ s l (plane_at a2 b s l).2.2.2
    fun h => enc3 _ (Ref.decR a0 a4) _ _ _ _ b (flatP s l) s l ((matched a0 a4 a5 b s l).2 h 1) ((matched a0 a4 a5 b s l).2 h 3) (y1_eq a0 a4 b s l) (y2_eq a0 a4 b s l)
  have t := fun (k : Fin 4) (x : Tile) (e : ∀ s l, x (ix2 s l) = Ref.termA a0 a1 a2 a4 a5 (ix3 b (flatP s l) k)) =>
    (sumT_at x).trans ((Finset.sum_congr rfl fun s _ => Finset.sum_congr rfl fun l _ => e s l).trans (sum_tile fun p => Ref.termA a0 a1 a2 a4 a5 (ix3 b p k)))
  have t0 := t 0 _ e0
  have t1 := t 1 _ e1
  have t2 := t 2 _ e2
  have t3 := t 3 _ e3
  simp only [Fin.sum_univ_four, Finset.sum_add_distrib]
  rw [← t0, ← t1, ← t2, ← t3]
  have z : Ideal.ofBits .f32 0x00000000#32 = 0 := by
    simp [Ideal.ofBits, Ideal.ieee]
  have hz : ∀ u v w x : EReal, Ideal.ofBits .f32 0x00000000#32 + u + v + w + x = u + v + w + x := fun u v w x => by
    rw [z, zero_add]
  exact hz _ _ _ _

/-- An image's number of positive priors agrees. -/
theorem image_count : cntA a0 a1 a4 a5 b = Ref.cntI (Ref.posA a0 a1 a4 a5) (ix1 b) := by
  unfold cntA nposB
  rw [countT_at, cntI_at]
  exact count_tile (fun s l => posB (priA a4) (fourA a0 b) (twoA a1 b) (objA a5 b) (labA a5 b) (ix2 s l)) (fun p => Ref.posA a0 a1 a4 a5 (ix2 b p))
    fun s l => pos_eq a0 a1 a4 a5 b s l

/-- The quotients agree. -/
theorem loss_eq (x : FVec Ideal Cert.KernelIdeal.S32x1x128 .f32) (h0 : ∀ b, x (ix3 b 0 0) = sumsA a0 a1 a2 a4 a5 b)
    (h1 : ∀ b, x (ix3 b 0 1) = Scalar.sitofp (F := Ideal) .f32 (cntA a0 a1 a4 a5 b)) : tailK x = Ref.lossA a0 a1 a2 a4 a5 := by
  have e0 : ∑ b : Fin 32, x (ix3 b 0 0) = Ref.tsumR (Ref.termA a0 a1 a2 a4 a5) ix0 := by
    rw [tsumR_at]
    exact Finset.sum_congr rfl fun b _ => (h0 b).trans (image_sum a0 a1 a2 a4 a5 b)
  have e1 : ∑ b : Fin 32, x (ix3 b 0 1) = Ref.cntR (Ref.posA a0 a1 a4 a5) ix0 := by
    have hc : ∀ b, (Ref.cntI (Ref.posA a0 a1 a4 a5) (ix1 b)).toNat ≤ 16320 := fun b => by
      rw [cntI_at]
      exact count_le _
    have hb := count_batch (fun b => Ref.cntI (Ref.posA a0 a1 a4 a5) (ix1 b)) hc
    rw [← cntB_at] at hb
    refine Eq.trans (Finset.sum_congr rfl fun b _ => ?_) hb
    rw [h1, image_count]
    rfl
  funext i
  have hi : i = ix0 := by
    funext a
    exact a.elim0
  rw [hi, tailK_at, e0, e1]
  unfold Ref.lossA
  rw [quotR_at]

end Cert.Loss

end
-- ==== Proof.CeModel.lean ====
/-
  The kernel's cross entropy over the 81 classes as arrays: the sum of exponentials, the score picked at each prior's
  matched label, and the cross entropy summed over the positive priors; and the number of hard negatives.
-/
module

public import proofs.«01_k».proof.Proof.Model

@[expose] public section

noncomputable section

namespace Cert.Loss

open Idealize.ShloMosaic Cert.KernelIdeal Cert.KernelIdeal.Gen

section planes
variable (x : ℕ → Tile)

/-- The sum of the exponentials of the first `n` planes. -/
def seT : ℕ → Tile
  | 0 => lit 0x00000000#32
  | n + 1 => addf (seT n) (exp (x n))

/-- The score of each prior's label, among the first `n` planes; 0 where the label is none of them. -/
def gatT (conf : ITile) : ℕ → Tile
  | 0 => lit 0x00000000#32
  | n + 1 => select (cmpi .eq conf (broadcast S8x2040 (BitVec.ofNat 32 n))) (x n) (gatT conf n)

/-- The cross entropy of each prior: the logarithm of the sum of exponentials less the label's score. -/
def ceT (conf : ITile) : Tile := subf (log (seT x 81)) (gatT x conf 81)

/-- The cross entropy summed over the positive priors of a block. -/
def ceB (p a : FVec Ideal S4x8x2040 .f32) (c : FVec Ideal S2x8x2040 .f32) (b : ℕ → ℕ → Ideal .f32) (lab : ℕ → BitVec 32) : Ideal .f32 :=
  sumT (mulf (ceT x (confB p a b lab)) (posfT (posB p a c b lab)))

end planes

/-- The number of hard negatives for `n` positive priors: three for each, and fewer than there are priors. -/
def kB (n : BitVec 32) : BitVec 32 := Scalar.minsi (Scalar.muli 3#32 n) 16319#32

end Cert.Loss

end
-- ==== Proof.CeMath.lean ====
/-
  The arithmetic of the cross entropy: the logarithm of a sum of exponentials does not change when a real number above
  all the scores is taken off first and added back; the kernel's running sum and running choice over the 81 classes are
  the sum over the classes and the score of the matched label; and a bound on the objects' labels is one on the matched
  labels.
-/
module

public import proofs.«01_k».proof.Proof.CeModel
public import proofs.«01_k».proof.Proof.Final

@[expose] public section

noncomputable section

namespace Cert.Ce

open Idealize.ShloMosaic Idealize.ShloMosaic.Tactic Cert.Loss

/-- A finite sum of real numbers is real. -/
theorem sum_real {ι : Type} [DecidableEq ι] (f : ι → ℝ) (S : Finset ι) : ∑ c ∈ S, ((f c : ℝ) : EReal) = ((∑ c ∈ S, f c : ℝ) : EReal) := by
  induction S using Finset.induction_on with
  | empty => simp
  | insert a S ha ih => rw [Finset.sum_insert ha, Finset.sum_insert ha, ih, EReal.coe_add]

/-- Scores below a real number `r` have the same logarithm of the sum of exponentials when `r` is taken off and added back. -/
theorem log_shift (x : Fin 81 → EReal) (r : ℝ) (h : ∀ c, x c ≤ r) :
    Ideal.log (∑ c, Ideal.exp (x c - r)) + r = Ideal.log (∑ c, Ideal.exp (x c)) := by
  have e : ∀ c, ∃ f : ℝ, Ideal.exp (x c - r) = f ∧ Ideal.exp (x c) = ((f * Real.exp r : ℝ) : EReal) := by
    intro c
    have hc := h c
    generalize x c = y at hc ⊢
    induction y using EReal.rec with
    | bot => exact ⟨0, by simp, by simp⟩
    | top => exact absurd (top_le_iff.1 hc) (EReal.coe_ne_top r)
    | coe y =>
      refine ⟨Real.exp (y - r), ?_, ?_⟩
      · rw [← EReal.coe_sub, Ideal.exp_coe]
      · rw [Ideal.exp_coe, ← Real.exp_add, sub_add_cancel]
  choose f hf using e
  rw [Finset.sum_congr rfl fun c _ => (hf c).1, Finset.sum_congr rfl fun c _ => (hf c).2, sum_real, sum_real, ← Finset.sum_mul,
    Ideal.log_coe, Ideal.log_coe]
  generalize ∑ c, f c = S
  by_cases hS : S ≤ 0
  · rw [if_pos hS, if_pos (mul_nonpos_of_nonpos_of_nonneg hS (Real.exp_pos r).le), EReal.bot_add]
  · rw [if_neg hS, if_neg (not_le.2 (mul_pos (not_le.1 hS) (Real.exp_pos r))), Real.log_mul (ne_of_gt (not_le.1 hS)) (Real.exp_pos r).ne', Real.log_exp,
      EReal.coe_add]

/-- The literal infinity. -/
theorem ofBits_top : Ideal.ofBits .f32 0x7F800000#32 = ⊤ := by
  simp [Ideal.ofBits, Ideal.ieee]
/-- The literal zero. -/
theorem ofBits_zero : Ideal.ofBits .f32 0x00000000#32 = 0 := by
  simp [Ideal.ofBits, Ideal.ieee]

/-- What is taken off: the largest score, 0 where that is infinite. -/
def shiftOf (t : EReal) : EReal := if max t (-t) < Ideal.ofBits .f32 0x7F800000#32 then t else Ideal.ofBits .f32 0x00000000#32

/-- The logarithm of the sum of exponentials is the same with a bound of the scores taken off. -/
theorem log_bound (x : Fin 81 → EReal) (t : EReal) (hx : ∀ c, x c ≤ t) :
    Ideal.log (∑ c, Ideal.exp (x c - shiftOf t)) + shiftOf t = Ideal.log (∑ c, Ideal.exp (x c)) := by
  unfold shiftOf
  rw [ofBits_top, ofBits_zero]
  by_cases ht : max t (-t) < ⊤
  · rw [if_pos ht]
    induction t using EReal.rec with
    | bot => simp at ht
    | top => simp at ht
    | coe r => exact log_shift x r hx
  · rw [if_neg ht, add_zero]
    simp only [sub_zero]

/-- The logarithm of the sum of exponentials is the same with the largest score taken off, whatever the scores are. -/
theorem log_top (x : Fin 81 → EReal) : Ideal.log (∑ c, Ideal.exp (x c - shiftOf (Finset.fold max (Ideal.ofBits .f32 0xFF800000#32) x Finset.univ)))
      + shiftOf (Finset.fold max (Ideal.ofBits .f32 0xFF800000#32) x Finset.univ)
    = Ideal.log (∑ c, Ideal.exp (x c)) :=
  log_bound x _ fun c => (Finset.le_fold_max _).2 (Or.inr ⟨c, Finset.mem_univ _, le_refl _⟩)

section planes
variable (x : ℕ → Tile) (conf : ITile) (s : Fin 8) (l : Fin 2040)

/-- The running sum of exponentials is the sum over the classes. -/
theorem seT_at (n : ℕ) : seT x n (ix2 s l) = ∑ c : Fin n, Ideal.exp (x c.val (ix2 s l)) := by
  induction n with
  | zero =>
    show Ideal.ofBits .f32 0x00000000#32 = _
    rw [ofBits_zero]
    simp
  | succ n ih =>
    rw [Fin.sum_univ_castSucc]
    show seT x n (ix2 s l) + Ideal.exp (x n (ix2 s l)) = _
    rw [ih]
    rfl

/-- The running choice is the score of the matched label. -/
theorem gatT_at (k : ℕ) (hk : k < 81) (hc : conf (ix2 s l) = BitVec.ofNat 32 k) (n : ℕ) (hn : k < n) (hn' : n ≤ 81) :
    gatT x conf n (ix2 s l) = x k (ix2 s l) := by
  induction n with
  | zero => exact absurd hn (Nat.not_lt_zero _)
  | succ n ih =>
    show Scalar.select (BitVec.ofBool (conf (ix2 s l) == BitVec.ofNat 32 n)) (x n (ix2 s l)) (gatT x conf n (ix2 s l)) = _
    rw [hc]
    by_cases e : k = n
    · subst e
      rw [beq_self_eq_true]
      rfl
    · have hne : BitVec.ofNat 32 k ≠ BitVec.ofNat 32 n := fun h => by
        have := congrArg BitVec.toNat h
        rw [BitVec.toNat_ofNat, BitVec.toNat_ofNat, Nat.mod_eq_of_lt (by omega), Nat.mod_eq_of_lt (by omega)] at this
        exact e this
      rw [beq_eq_false_iff_ne.2 hne]
      exact ih (by omega) (by omega)

/-- A prior's cross entropy, if its label is a class. -/
theorem ceT_at (k : ℕ) (hk : k < 81) (hc : conf (ix2 s l) = BitVec.ofNat 32 k) :
    ceT x conf (ix2 s l) = Ideal.log (∑ c : Fin 81, Ideal.exp (x c.val (ix2 s l))) - x k (ix2 s l) := by
  rw [← seT_at, ← gatT_at x conf s l k hk hc 81 hk (le_refl _)]
  rfl

end planes

section bound
variable (P : BitVec 32 → Prop) (h0 : P 0#32) (lab : ℕ → BitVec 32) (hl : ∀ n, P (lab n))
include h0 hl

/-- What holds of 0 and of every object's label holds of the best objects' labels. -/
theorem labAT_all (idx : ITile) (n : ℕ) (i : Cert.KernelIdeal.S8x2040.Idx) : P (labAT lab idx n i) := by
  induction n with
  | zero => exact h0
  | succ n ih =>
    show P (Scalar.select _ (lab n) (labAT lab idx n i))
    unfold Scalar.select
    split
    · exact hl n
    · exact ih

omit h0 in
/-- What holds of the first labels and of every object's label holds after the claims. -/
theorem labBT_all (bp : ℕ → BitVec 32) (c0 : ITile) (hc : ∀ i, P (c0 i)) (n : ℕ) (i : Cert.KernelIdeal.S8x2040.Idx) : P (labBT lab bp c0 n i) := by
  induction n with
  | zero => exact hc i
  | succ n ih =>
    show P (Scalar.select _ (lab n) (labBT lab bp c0 n i))
    unfold Scalar.select
    split
    · exact hl n
    · exact ih

/-- What holds of 0 and of every object's label holds of the matched labels. -/
theorem confB_all (p a : FVec Ideal Cert.KernelIdeal.S4x8x2040 .f32) (b : ℕ → ℕ → Ideal .f32) (i : Cert.KernelIdeal.S8x2040.Idx) : P (confB p a b lab i) := by
  unfold confB confT
  refine labBT_all P lab hl _ _ (fun j => ?_) _ _
  show P (Scalar.select _ 0#32 (labAT lab _ 16 j))
  unfold Scalar.select
  split
  · exact h0
  · exact labAT_all P h0 lab hl _ _ _

end bound

end Cert.Ce

end
-- ==== Proof.CeRef.lean ====
/-
  The second reference's results as compositions of named arrays: the match, the objectness probability and the positive
  mask are those of the first reference; then the number of hard negatives, the rows of class scores, each row's
  logarithm of the sum of exponentials, its score at the matched label, and the sum over the positive priors. `run` says
  the reference leaves those compositions in its results.
-/
module

public import proofs.«01_k».proof.Defs
public import proofs.«01_k».proof.Proof.Gen.ReferenceCeIdeal
public import proofs.«01_k».proof.Proof.Ref
public import Idealize.ShloMosaic.Lib.Claim

@[expose] public section

noncomputable section

namespace Cert.Ce.Ref

open Idealize.ShloMosaic Idealize.SL.Sem Cert.ReferenceCeIdeal Cert.ReferenceCeIdeal.Gen Idealize.ShloMosaic.Tactic Cert.Loss.Ref

/-- The number of hard negatives of every image: three for each positive prior, at most all priors but one. -/
def negR (n : IVec S32 32) : IVec S32x1 32 :=
  minsi (muli (broadcastInDim S32x1 ![] bcast_S_S32x1 (constantI S_ 32 3#32)) (broadcastInDim S32x1 ![0] bcast_S32_S32x1_0 n))
    (broadcastInDim S32x1 ![] bcast_S_S32x1 (constantI S_ 32 16319#32))
/-- The number of hard negatives of every image, as a number. -/
def negF (k : IVec S32x1 32) : FVec Ideal S32 .f32 := sitofp .f32 (shapeCast S32 k shapeCasts_S32x1_S32)
/-- The class scores, one row per image and prior. -/
def rowsR (a3 : FVec Ideal S32x16320x81 .f32) : FVec Ideal S522240x81 .f32 := shapeCast S522240x81 a3 shapeCasts_S32x16320x81_S522240x81
/-- The matched labels, one row per image and prior. -/
def rlabR (cf : IVec S32x16320 32) : IVec S522240x1 32 := shapeCast S522240x1 cf shapeCasts_S32x16320_S522240x1
/-- The matched labels as places in a row (a negative one counted from the end). -/
def wrapR (i : IVec S522240x1 32) : IVec S522240x1x1 32 :=
  shapeCast S522240x1x1 (select (cmpi .slt i (broadcastInDim S522240x1 ![] bcast_S_S522240x1 (constantI S_ 32 0#32)))
    (addi i (broadcastInDim S522240x1 ![] bcast_S_S522240x1 (constantI S_ 32 81#32))) i) shapeCasts_S522240x1_S522240x1x1
/-- Whether the places lie in the row, before the conjunction. -/
def inbW (w : IVec S522240x1x1 32) : IVec S522240x1x1 1 :=
  andi (cmpi .sge w (broadcastInDim S522240x1x1 ![] bcast_S_S522240x1x1 (constantI S_ 32 0#32)))
    (cmpi .sle w (broadcastInDim S522240x1x1 ![0, 1, 2] bcast_S1x1x1_S522240x1x1_0_1_2 (broadcastInDim S1x1x1 ![2] bcast_S1_S1x1x1_2 (constantI S1 32 80#32))))
/-- Whether the places lie in the row. -/
def inbR (w : IVec S522240x1x1 32) : IVec S522240x1 1 :=
  Host.reduce IntOp.andi (inbW w) (constantI S_ 1 1#1) reducesTo_S522240x1x1_S522240x1_d2 h_S_
/-- The rows' scores at the places. -/
def takeR (x : FVec Ideal S522240x81 .f32) (w : IVec S522240x1x1 32) : FVec Ideal S522240x1 .f32 :=
  Host.gather gather_S522240x81_S522240x1x1_S522240x1_n_1_0_0_1_2_11 x w
/-- The rows' scores at the places, not a number outside the row. -/
def pickedR (x : FVec Ideal S522240x81 .f32) (w : IVec S522240x1x1 32) (c : IVec S522240x1 1) : FVec Ideal S522240 .f32 :=
  shapeCast S522240 (select c (takeR x w) (broadcastInDim S522240x1 ![] bcast_S_S522240x1 (constant S_ .f32 0x7FC00000#32))) shapeCasts_S522240x1_S522240
/-- The largest score of every row. -/
def topR (x : FVec Ideal S522240x81 .f32) : FVec Ideal S522240 .f32 :=
  Host.reduce FloatOps.maximumf x (constant S_ .f32 0xFF800000#32) reducesTo_S522240x81_S522240_d1 h_S_
/-- The largest score of every row, 0 where it is infinite. -/
def shiftR (t : FVec Ideal S522240 .f32) : FVec Ideal S522240 .f32 :=
  select (cmpf .olt (Host.absf t) (broadcastInDim S522240 ![] bcast_S_S522240 (constant S_ .f32 0x7F800000#32))) t
    (broadcastInDim S522240 ![] bcast_S_S522240 (constant S_ .f32 0x00000000#32))
/-- The exponentials of the scores less the shift. -/
def rexpR (x : FVec Ideal S522240x81 .f32) (t : FVec Ideal S522240 .f32) : FVec Ideal S522240x81 .f32 :=
  Host.exp (subf x (broadcastInDim S522240x81 ![0, 1] bcast_S522240x1_S522240x81_0_1 (broadcastInDim S522240x1 ![0] bcast_S522240_S522240x1_0 t)))
/-- The sums of the exponentials. -/
def rsumR (e : FVec Ideal S522240x81 .f32) : FVec Ideal S522240 .f32 :=
  Host.reduceAdd e (constant S_ .f32 0x00000000#32) reducesTo_S522240x81_S522240_d1 h_S_
/-- The cross entropy of every prior. -/
def crossR (e t g : FVec Ideal S522240 .f32) : FVec Ideal S32x16320 .f32 :=
  shapeCast S32x16320 (subf (addf (Host.log e) t) g) shapeCasts_S522240_S32x16320
/-- The cross entropy of every image's positive priors. -/
def totR (x : FVec Ideal S32x16320 .f32) (pos : IVec S32x16320 1) : FVec Ideal S32 .f32 :=
  Host.reduceAdd (mulf x (uitofp .f32 pos)) (constant S_ .f32 0x00000000#32) reducesTo_S32x16320_S32_d1 h_S_

section whole
variable (a0 : FVec Ideal S32x16320x4 .f32) (a1 : FVec Ideal S32x16320x2 .f32) (a3 : FVec Ideal S32x16320x81 .f32)
  (a4 : FVec Ideal S16320x4 .f32) (a5 : FVec Ideal S32x16x5 .f32)

/-- The matched labels of the arguments. -/
def confA : IVec S32x16320 32 := confR iotaR (labR a5) (ovR (iouA a0 a4 a5)) (idR (iouA a0 a4 a5))
/-- The rows' scores at the matched labels. -/
def gotA : FVec Ideal S522240 .f32 := pickedR (rowsR a3) (wrapR (rlabR (confA a0 a4 a5))) (inbR (wrapR (rlabR (confA a0 a4 a5))))
/-- The shift of every row. -/
def shiftA : FVec Ideal S522240 .f32 := shiftR (topR (rowsR a3))
/-- The cross entropy of every prior of the arguments. -/
def crossA : FVec Ideal S32x16320 .f32 := crossR (rsumR (rexpR (rowsR a3) (shiftA a3))) (shiftA a3) (gotA a0 a3 a4 a5)
/-- The cross entropy of every image's positive priors of the arguments. -/
def totA : FVec Ideal S32 .f32 := totR (crossA a0 a3 a4 a5) (posA a0 a1 a4 a5)
/-- The number of hard negatives of every image of the arguments. -/
def negA : FVec Ideal S32 .f32 := negF (negR (cntI (posA a0 a1 a4 a5)))

end whole

/-- The reference's operations, in order. -/
def opsOf : { l : List (HloOp τ sig (Elt Ideal)) // ∀ d, StableHlo.IsSeq (main (F := Ideal) d) l } := by
  apply Subtype.mk
  intro d
  hlo_seq

/-- The operations after the first `a`, up to `n` of them. -/
def part (a n : ℕ) : List (HloOp τ sig (Elt Ideal)) := (opsOf.1.drop a).take n

/-- The operations run in two parts. -/
theorem after_part (a n : ℕ) (s : Valuation τ sig (Elt Ideal)) :
    StableHlo.after (opsOf.1.drop a) s = StableHlo.after (opsOf.1.drop (a + n)) (StableHlo.after (part a n) s) := by
  rw [← List.drop_drop]
  unfold part
  generalize List.drop a opsOf.1 = ops
  induction n generalizing ops s with
  | zero => rfl
  | succ k ih =>
    cases ops with
    | nil => rfl
    | cons o l => exact ih (o.result s) l

section parts
variable (s : Valuation τ sig (Elt Ideal))

/-- Part 1 leaves the objectness scores alone. -/
theorem p1_a1 : StableHlo.after (part 0 34) s (Proc.devRef .tc main_arg1) =
    s (Proc.devRef .tc main_arg1) := by sl_kernel_rfl
/-- Part 1 leaves the class scores alone. -/
theorem p1_a3 : StableHlo.after (part 0 34) s (Proc.devRef .tc main_arg3) =
    s (Proc.devRef .tc main_arg3) := by sl_kernel_rfl
/-- Part 1 computes the objects' boxes. -/
theorem p1_t : StableHlo.after (part 0 34) s (Proc.devRef .tc main_v0) =
    truR (s (Proc.devRef .tc main_arg5)) := by sl_kernel_rfl
/-- Part 1 computes the objects' labels. -/
theorem p1_l : StableHlo.after (part 0 34) s (Proc.devRef .tc main_v3) =
    labR (s (Proc.devRef .tc main_arg5)) := by sl_kernel_rfl
/-- Part 1 computes the decoded boxes. -/
theorem p1_d : StableHlo.after (part 0 34) s (Proc.devRef .tc main_v29) =
    decR (s (Proc.devRef .tc main_arg0)) (s (Proc.devRef .tc main_arg4)) := by sl_kernel_rfl
/-- Part 2 leaves the objects' labels alone. -/
theorem p2_l : StableHlo.after (part 34 52) s (Proc.devRef .tc main_v3) =
    s (Proc.devRef .tc main_v3) := by sl_kernel_rfl
/-- Part 2 leaves the objectness scores alone. -/
theorem p2_a1 : StableHlo.after (part 34 52) s (Proc.devRef .tc main_arg1) =
    s (Proc.devRef .tc main_arg1) := by sl_kernel_rfl
/-- Part 2 leaves the class scores alone. -/
theorem p2_a3 : StableHlo.after (part 34 52) s (Proc.devRef .tc main_arg3) =
    s (Proc.devRef .tc main_arg3) := by sl_kernel_rfl
/-- Part 2 computes the overlap ratios. -/
theorem p2_o : StableHlo.after (part 34 52) s (Proc.devRef .tc main_v80) =
    iouR (s (Proc.devRef .tc main_v0)) (s (Proc.devRef .tc main_v29)) := by sl_kernel_rfl
/-- Part 3 leaves the objects' labels alone. -/
theorem p3_l : StableHlo.after (part 86 12) s (Proc.devRef .tc main_v3) =
    s (Proc.devRef .tc main_v3) := by sl_kernel_rfl
/-- Part 3 leaves the objectness scores alone. -/
theorem p3_a1 : StableHlo.after (part 86 12) s (Proc.devRef .tc main_arg1) =
    s (Proc.devRef .tc main_arg1) := by sl_kernel_rfl
/-- Part 3 leaves the class scores alone. -/
theorem p3_a3 : StableHlo.after (part 86 12) s (Proc.devRef .tc main_arg3) =
    s (Proc.devRef .tc main_arg3) := by sl_kernel_rfl
/-- Part 3 computes the best priors. -/
theorem p3_bp : StableHlo.after (part 86 12) s (Proc.devRef .tc main_v81) =
    bpR (s (Proc.devRef .tc main_v80)) := by sl_kernel_rfl
/-- Part 3 computes the best ratios. -/
theorem p3_bo : StableHlo.after (part 86 12) s (Proc.devRef .tc main_v82) =
    boR (s (Proc.devRef .tc main_v80)) := by sl_kernel_rfl
/-- Part 3 computes the best objects. -/
theorem p3_bi : StableHlo.after (part 86 12) s (Proc.devRef .tc main_v83) =
    biR (s (Proc.devRef .tc main_v80)) := by sl_kernel_rfl
/-- Part 4 leaves the objects' labels alone. -/
theorem p4_l : StableHlo.after (part 98 23) s (Proc.devRef .tc main_v3) =
    s (Proc.devRef .tc main_v3) := by sl_kernel_rfl
/-- Part 4 leaves the objectness scores alone. -/
theorem p4_a1 : StableHlo.after (part 98 23) s (Proc.devRef .tc main_arg1) =
    s (Proc.devRef .tc main_arg1) := by sl_kernel_rfl
/-- Part 4 leaves the class scores alone. -/
theorem p4_a3 : StableHlo.after (part 98 23) s (Proc.devRef .tc main_arg3) =
    s (Proc.devRef .tc main_arg3) := by sl_kernel_rfl
/-- Part 4 leaves the best priors alone. -/
theorem p4_bp : StableHlo.after (part 98 23) s (Proc.devRef .tc main_v81) =
    s (Proc.devRef .tc main_v81) := by sl_kernel_rfl
/-- Part 4 leaves the best objects alone. -/
theorem p4_bi : StableHlo.after (part 98 23) s (Proc.devRef .tc main_v83) =
    s (Proc.devRef .tc main_v83) := by sl_kernel_rfl
/-- Part 4 computes the images' numbers. -/
theorem p4_i : StableHlo.after (part 98 23) s (Proc.devRef .tc main_v85) =
    iotaR := by sl_kernel_rfl
/-- Part 4 computes the ratios after the claims. -/
theorem p4_ov : StableHlo.after (part 98 23) s (Proc.devRef .tc main_v101) =
    putTwo (s (Proc.devRef .tc main_v82)) (claimR iotaR (s (Proc.devRef .tc main_v81))) := by sl_kernel_rfl
/-- Part 5 leaves the objects' labels alone. -/
theorem p5_l : StableHlo.after (part 121 22) s (Proc.devRef .tc main_v3) =
    s (Proc.devRef .tc main_v3) := by sl_kernel_rfl
/-- Part 5 leaves the objectness scores alone. -/
theorem p5_a1 : StableHlo.after (part 121 22) s (Proc.devRef .tc main_arg1) =
    s (Proc.devRef .tc main_arg1) := by sl_kernel_rfl
/-- Part 5 leaves the class scores alone. -/
theorem p5_a3 : StableHlo.after (part 121 22) s (Proc.devRef .tc main_arg3) =
    s (Proc.devRef .tc main_arg3) := by sl_kernel_rfl
/-- Part 5 leaves the images' numbers alone. -/
theorem p5_i : StableHlo.after (part 121 22) s (Proc.devRef .tc main_v85) =
    s (Proc.devRef .tc main_v85) := by sl_kernel_rfl
/-- Part 5 leaves the ratios after the claims alone. -/
theorem p5_ov : StableHlo.after (part 121 22) s (Proc.devRef .tc main_v101) =
    s (Proc.devRef .tc main_v101) := by sl_kernel_rfl
/-- Part 5 computes the matched objects. -/
theorem p5_id : StableHlo.after (part 121 22) s (Proc.devRef .tc main_v119) =
    putObj (s (Proc.devRef .tc main_v83)) (claimR (s (Proc.devRef .tc main_v85)) (s (Proc.devRef .tc main_v81))) := by sl_kernel_rfl
/-- Part 6 leaves the objectness scores alone. -/
theorem p6_a1 : StableHlo.after (part 143 45) s (Proc.devRef .tc main_arg1) =
    s (Proc.devRef .tc main_arg1) := by sl_kernel_rfl
/-- Part 6 leaves the class scores alone. -/
theorem p6_a3 : StableHlo.after (part 143 45) s (Proc.devRef .tc main_arg3) =
    s (Proc.devRef .tc main_arg3) := by sl_kernel_rfl
/-- Part 6 computes the matched labels. -/
theorem p6_cf : StableHlo.after (part 143 45) s (Proc.devRef .tc main_v152) =
    confR (s (Proc.devRef .tc main_v85)) (s (Proc.devRef .tc main_v3)) (s (Proc.devRef .tc main_v101)) (s (Proc.devRef .tc main_v119)) := by sl_kernel_rfl
/-- Part 7 leaves the objectness scores alone. -/
theorem p7_a1 : StableHlo.after (part 188 33) s (Proc.devRef .tc main_arg1) =
    s (Proc.devRef .tc main_arg1) := by sl_kernel_rfl
/-- Part 7 leaves the class scores alone. -/
theorem p7_a3 : StableHlo.after (part 188 33) s (Proc.devRef .tc main_arg3) =
    s (Proc.devRef .tc main_arg3) := by sl_kernel_rfl
/-- Part 7 leaves the matched labels alone. -/
theorem p7_cf : StableHlo.after (part 188 33) s (Proc.devRef .tc main_v152) =
    s (Proc.devRef .tc main_v152) := by sl_kernel_rfl
/-- Part 8 leaves the objectness scores alone. -/
theorem p8_a1 : StableHlo.after (part 221 2) s (Proc.devRef .tc main_arg1) =
    s (Proc.devRef .tc main_arg1) := by sl_kernel_rfl
/-- Part 8 leaves the class scores alone. -/
theorem p8_a3 : StableHlo.after (part 221 2) s (Proc.devRef .tc main_arg3) =
    s (Proc.devRef .tc main_arg3) := by sl_kernel_rfl
/-- Part 8 leaves the matched labels alone. -/
theorem p8_cf : StableHlo.after (part 221 2) s (Proc.devRef .tc main_v152) =
    s (Proc.devRef .tc main_v152) := by sl_kernel_rfl
/-- Part 8 computes the larger scores. -/
theorem p8_mx : StableHlo.after (part 221 2) s (Proc.devRef .tc main_v182) =
    rmaxR (s (Proc.devRef .tc main_arg1)) := by sl_kernel_rfl
/-- Part 9 leaves the class scores alone. -/
theorem p9_a3 : StableHlo.after (part 223 7) s (Proc.devRef .tc main_arg3) =
    s (Proc.devRef .tc main_arg3) := by sl_kernel_rfl
/-- Part 9 leaves the matched labels alone. -/
theorem p9_cf : StableHlo.after (part 223 7) s (Proc.devRef .tc main_v152) =
    s (Proc.devRef .tc main_v152) := by sl_kernel_rfl
/-- Part 9 computes the exponentials of the scores. -/
theorem p9_ex : StableHlo.after (part 223 7) s (Proc.devRef .tc main_v188) =
    expR (s (Proc.devRef .tc main_arg1)) (s (Proc.devRef .tc main_v182)) := by sl_kernel_rfl
/-- Part 10 leaves the class scores alone. -/
theorem p10_a3 : StableHlo.after (part 230 2) s (Proc.devRef .tc main_arg3) =
    s (Proc.devRef .tc main_arg3) := by sl_kernel_rfl
/-- Part 10 leaves the matched labels alone. -/
theorem p10_cf : StableHlo.after (part 230 2) s (Proc.devRef .tc main_v152) =
    s (Proc.devRef .tc main_v152) := by sl_kernel_rfl
/-- Part 10 leaves the exponentials of the scores alone. -/
theorem p10_ex : StableHlo.after (part 230 2) s (Proc.devRef .tc main_v188) =
    s (Proc.devRef .tc main_v188) := by sl_kernel_rfl
/-- Part 10 computes their sum. -/
theorem p10_es : StableHlo.after (part 230 2) s (Proc.devRef .tc main_v189) =
    esumR (s (Proc.devRef .tc main_v188)) := by sl_kernel_rfl
/-- Part 11 leaves the class scores alone. -/
theorem p11_a3 : StableHlo.after (part 232 5) s (Proc.devRef .tc main_arg3) =
    s (Proc.devRef .tc main_arg3) := by sl_kernel_rfl
/-- Part 11 leaves the matched labels alone. -/
theorem p11_cf : StableHlo.after (part 232 5) s (Proc.devRef .tc main_v152) =
    s (Proc.devRef .tc main_v152) := by sl_kernel_rfl
/-- Part 11 computes the probability. -/
theorem p11_pr : StableHlo.after (part 232 5) s (Proc.devRef .tc main_v194) =
    fracR (s (Proc.devRef .tc main_v188)) (s (Proc.devRef .tc main_v189)) := by sl_kernel_rfl
/-- Part 12 leaves the class scores alone. -/
theorem p12_a3 : StableHlo.after (part 237 7) s (Proc.devRef .tc main_arg3) =
    s (Proc.devRef .tc main_arg3) := by sl_kernel_rfl
/-- Part 12 leaves the matched labels alone. -/
theorem p12_cf : StableHlo.after (part 237 7) s (Proc.devRef .tc main_v152) =
    s (Proc.devRef .tc main_v152) := by sl_kernel_rfl
/-- Part 12 computes the positive mask. -/
theorem p12_p : StableHlo.after (part 237 7) s (Proc.devRef .tc main_v199) =
    posR (s (Proc.devRef .tc main_v152)) (s (Proc.devRef .tc main_v194)) := by sl_kernel_rfl
/-- Part 13 leaves the class scores alone. -/
theorem p13_a3 : StableHlo.after (part 244 3) s (Proc.devRef .tc main_arg3) =
    s (Proc.devRef .tc main_arg3) := by sl_kernel_rfl
/-- Part 13 leaves the matched labels alone. -/
theorem p13_cf : StableHlo.after (part 244 3) s (Proc.devRef .tc main_v152) =
    s (Proc.devRef .tc main_v152) := by sl_kernel_rfl
/-- Part 13 leaves the positive mask alone. -/
theorem p13_p : StableHlo.after (part 244 3) s (Proc.devRef .tc main_v199) =
    s (Proc.devRef .tc main_v199) := by sl_kernel_rfl
/-- Part 13 computes the number of positive priors. -/
theorem p13_ci : StableHlo.after (part 244 3) s (Proc.devRef .tc main_v201) =
    cntI (s (Proc.devRef .tc main_v199)) := by sl_kernel_rfl
/-- Part 14 leaves the class scores alone. -/
theorem p14_a3 : StableHlo.after (part 247 7) s (Proc.devRef .tc main_arg3) =
    s (Proc.devRef .tc main_arg3) := by sl_kernel_rfl
/-- Part 14 leaves the matched labels alone. -/
theorem p14_cf : StableHlo.after (part 247 7) s (Proc.devRef .tc main_v152) =
    s (Proc.devRef .tc main_v152) := by sl_kernel_rfl
/-- Part 14 leaves the positive mask alone. -/
theorem p14_p : StableHlo.after (part 247 7) s (Proc.devRef .tc main_v199) =
    s (Proc.devRef .tc main_v199) := by sl_kernel_rfl
/-- Part 14 computes the number of hard negatives. -/
theorem p14_ng : StableHlo.after (part 247 7) s (Proc.devRef .tc main_v206) =
    negR (s (Proc.devRef .tc main_v201)) := by sl_kernel_rfl
/-- Part 15 leaves the positive mask alone. -/
theorem p15_p : StableHlo.after (part 254 2) s (Proc.devRef .tc main_v199) =
    s (Proc.devRef .tc main_v199) := by sl_kernel_rfl
/-- Part 15 leaves the number of hard negatives alone. -/
theorem p15_ng : StableHlo.after (part 254 2) s (Proc.devRef .tc main_v206) =
    s (Proc.devRef .tc main_v206) := by sl_kernel_rfl
/-- Part 15 computes the rows of class scores. -/
theorem p15_rw : StableHlo.after (part 254 2) s (Proc.devRef .tc main_v207) =
    rowsR (s (Proc.devRef .tc main_arg3)) := by sl_kernel_rfl
/-- Part 15 computes the rows of labels. -/
theorem p15_rl : StableHlo.after (part 254 2) s (Proc.devRef .tc main_v208) =
    rlabR (s (Proc.devRef .tc main_v152)) := by sl_kernel_rfl
/-- Part 16 leaves the positive mask alone. -/
theorem p16_p : StableHlo.after (part 256 8) s (Proc.devRef .tc main_v199) =
    s (Proc.devRef .tc main_v199) := by sl_kernel_rfl
/-- Part 16 leaves the number of hard negatives alone. -/
theorem p16_ng : StableHlo.after (part 256 8) s (Proc.devRef .tc main_v206) =
    s (Proc.devRef .tc main_v206) := by sl_kernel_rfl
/-- Part 16 leaves the rows of class scores alone. -/
theorem p16_rw : StableHlo.after (part 256 8) s (Proc.devRef .tc main_v207) =
    s (Proc.devRef .tc main_v207) := by sl_kernel_rfl
/-- Part 16 computes the places in the rows. -/
theorem p16_w : StableHlo.after (part 256 8) s (Proc.devRef .tc main_call3_v5) =
    wrapR (s (Proc.devRef .tc main_v208)) := by sl_kernel_rfl
/-- Part 17 leaves the positive mask alone. -/
theorem p17_p : StableHlo.after (part 264 10) s (Proc.devRef .tc main_v199) =
    s (Proc.devRef .tc main_v199) := by sl_kernel_rfl
/-- Part 17 leaves the number of hard negatives alone. -/
theorem p17_ng : StableHlo.after (part 264 10) s (Proc.devRef .tc main_v206) =
    s (Proc.devRef .tc main_v206) := by sl_kernel_rfl
/-- Part 17 leaves the rows of class scores alone. -/
theorem p17_rw : StableHlo.after (part 264 10) s (Proc.devRef .tc main_v207) =
    s (Proc.devRef .tc main_v207) := by sl_kernel_rfl
/-- Part 17 leaves the places in the rows alone. -/
theorem p17_w : StableHlo.after (part 264 10) s (Proc.devRef .tc main_call3_v5) =
    s (Proc.devRef .tc main_call3_v5) := by sl_kernel_rfl
/-- Part 17 computes whether the places lie in the rows. -/
theorem p17_ib : StableHlo.after (part 264 10) s (Proc.devRef .tc main_call3_v12) =
    inbR (s (Proc.devRef .tc main_call3_v5)) := by sl_kernel_rfl
/-- Part 18 leaves the positive mask alone. -/
theorem p18_p : StableHlo.after (part 274 5) s (Proc.devRef .tc main_v199) =
    s (Proc.devRef .tc main_v199) := by sl_kernel_rfl
/-- Part 18 leaves the number of hard negatives alone. -/
theorem p18_ng : StableHlo.after (part 274 5) s (Proc.devRef .tc main_v206) =
    s (Proc.devRef .tc main_v206) := by sl_kernel_rfl
/-- Part 18 leaves the rows of class scores alone. -/
theorem p18_rw : StableHlo.after (part 274 5) s (Proc.devRef .tc main_v207) =
    s (Proc.devRef .tc main_v207) := by sl_kernel_rfl
/-- Part 18 computes the scores at the places. -/
theorem p18_g : StableHlo.after (part 274 5) s (Proc.devRef .tc main_v210) =
    pickedR (s (Proc.devRef .tc main_v207)) (s (Proc.devRef .tc main_call3_v5)) (s (Proc.devRef .tc main_call3_v12)) := by sl_kernel_rfl
/-- Part 19 leaves the positive mask alone. -/
theorem p19_p : StableHlo.after (part 279 2) s (Proc.devRef .tc main_v199) =
    s (Proc.devRef .tc main_v199) := by sl_kernel_rfl
/-- Part 19 leaves the number of hard negatives alone. -/
theorem p19_ng : StableHlo.after (part 279 2) s (Proc.devRef .tc main_v206) =
    s (Proc.devRef .tc main_v206) := by sl_kernel_rfl
/-- Part 19 leaves the rows of class scores alone. -/
theorem p19_rw : StableHlo.after (part 279 2) s (Proc.devRef .tc main_v207) =
    s (Proc.devRef .tc main_v207) := by sl_kernel_rfl
/-- Part 19 leaves the scores at the places alone. -/
theorem p19_g : StableHlo.after (part 279 2) s (Proc.devRef .tc main_v210) =
    s (Proc.devRef .tc main_v210) := by sl_kernel_rfl
/-- Part 19 computes the largest scores. -/
theorem p19_tp : StableHlo.after (part 279 2) s (Proc.devRef .tc main_v211) =
    topR (s (Proc.devRef .tc main_v207)) := by sl_kernel_rfl
/-- Part 20 leaves the positive mask alone. -/
theorem p20_p : StableHlo.after (part 281 8) s (Proc.devRef .tc main_v199) =
    s (Proc.devRef .tc main_v199) := by sl_kernel_rfl
/-- Part 20 leaves the number of hard negatives alone. -/
theorem p20_ng : StableHlo.after (part 281 8) s (Proc.devRef .tc main_v206) =
    s (Proc.devRef .tc main_v206) := by sl_kernel_rfl
/-- Part 20 leaves the rows of class scores alone. -/
theorem p20_rw : StableHlo.after (part 281 8) s (Proc.devRef .tc main_v207) =
    s (Proc.devRef .tc main_v207) := by sl_kernel_rfl
/-- Part 20 leaves the scores at the places alone. -/
theorem p20_g : StableHlo.after (part 281 8) s (Proc.devRef .tc main_v210) =
    s (Proc.devRef .tc main_v210) := by sl_kernel_rfl
/-- Part 20 computes the shifts. -/
theorem p20_sh : StableHlo.after (part 281 8) s (Proc.devRef .tc main_v215) =
    shiftR (s (Proc.devRef .tc main_v211)) := by sl_kernel_rfl
/-- Part 21 leaves the positive mask alone. -/
theorem p21_p : StableHlo.after (part 289 4) s (Proc.devRef .tc main_v199) =
    s (Proc.devRef .tc main_v199) := by sl_kernel_rfl
/-- Part 21 leaves the number of hard negatives alone. -/
theorem p21_ng : StableHlo.after (part 289 4) s (Proc.devRef .tc main_v206) =
    s (Proc.devRef .tc main_v206) := by sl_kernel_rfl
/-- Part 21 leaves the scores at the places alone. -/
theorem p21_g : StableHlo.after (part 289 4) s (Proc.devRef .tc main_v210) =
    s (Proc.devRef .tc main_v210) := by sl_kernel_rfl
/-- Part 21 leaves the shifts alone. -/
theorem p21_sh : StableHlo.after (part 289 4) s (Proc.devRef .tc main_v215) =
    s (Proc.devRef .tc main_v215) := by sl_kernel_rfl
/-- Part 21 computes the exponentials of the rows. -/
theorem p21_re : StableHlo.after (part 289 4) s (Proc.devRef .tc main_v219) =
    rexpR (s (Proc.devRef .tc main_v207)) (s (Proc.devRef .tc main_v215)) := by sl_kernel_rfl
/-- Part 22 leaves the positive mask alone. -/
theorem p22_p : StableHlo.after (part 293 2) s (Proc.devRef .tc main_v199) =
    s (Proc.devRef .tc main_v199) := by sl_kernel_rfl
/-- Part 22 leaves the number of hard negatives alone. -/
theorem p22_ng : StableHlo.after (part 293 2) s (Proc.devRef .tc main_v206) =
    s (Proc.devRef .tc main_v206) := by sl_kernel_rfl
/-- Part 22 leaves the scores at the places alone. -/
theorem p22_g : StableHlo.after (part 293 2) s (Proc.devRef .tc main_v210) =
    s (Proc.devRef .tc main_v210) := by sl_kernel_rfl
/-- Part 22 leaves the shifts alone. -/
theorem p22_sh : StableHlo.after (part 293 2) s (Proc.devRef .tc main_v215) =
    s (Proc.devRef .tc main_v215) := by sl_kernel_rfl
/-- Part 22 computes their sums. -/
theorem p22_rs : StableHlo.after (part 293 2) s (Proc.devRef .tc main_v220) =
    rsumR (s (Proc.devRef .tc main_v219)) := by sl_kernel_rfl
/-- Part 23 leaves the positive mask alone. -/
theorem p23_p : StableHlo.after (part 295 4) s (Proc.devRef .tc main_v199) =
    s (Proc.devRef .tc main_v199) := by sl_kernel_rfl
/-- Part 23 leaves the number of hard negatives alone. -/
theorem p23_ng : StableHlo.after (part 295 4) s (Proc.devRef .tc main_v206) =
    s (Proc.devRef .tc main_v206) := by sl_kernel_rfl
/-- Part 23 computes the cross entropies. -/
theorem p23_ce : StableHlo.after (part 295 4) s (Proc.devRef .tc main_v224) =
    crossR (s (Proc.devRef .tc main_v220)) (s (Proc.devRef .tc main_v215)) (s (Proc.devRef .tc main_v210)) := by sl_kernel_rfl
/-- Part 24 leaves the number of hard negatives alone. -/
theorem p24_ng : StableHlo.after (part 299 4) s (Proc.devRef .tc main_v206) =
    s (Proc.devRef .tc main_v206) := by sl_kernel_rfl
/-- Part 24 computes the cross entropy of the positive priors. -/
theorem p24_tt : StableHlo.after (part 299 4) s (Proc.devRef .tc main_v227) =
    totR (s (Proc.devRef .tc main_v224)) (s (Proc.devRef .tc main_v199)) := by sl_kernel_rfl
/-- Part 25 leaves the cross entropy of the positive priors alone. -/
theorem p25_tt : StableHlo.after (part 303 2) s (Proc.devRef .tc main_v227) =
    s (Proc.devRef .tc main_v227) := by sl_kernel_rfl
/-- Part 25 computes the number of hard negatives as a number. -/
theorem p25_nf : StableHlo.after (part 303 2) s (Proc.devRef .tc main_v229) =
    negF (s (Proc.devRef .tc main_v206)) := by sl_kernel_rfl

/-- All the operations leave the cross entropy of the positive priors. -/
theorem after_tot : StableHlo.after opsOf.1 s (Proc.devRef .tc main_v227) =
    totA (s (Proc.devRef .tc main_arg0)) (s (Proc.devRef .tc main_arg1)) (s (Proc.devRef .tc main_arg3)) (s (Proc.devRef .tc main_arg4)) (s (Proc.devRef .tc main_arg5)) := by
  have h0 : StableHlo.after opsOf.1 s = StableHlo.after (opsOf.1.drop 0) s := rfl
  have hN : opsOf.1.drop 305 = [] := by sl_kernel_rfl
  rw [h0, after_part 0 34, after_part 34 52, after_part 86 12, after_part 98 23, after_part 121 22, after_part 143 45, after_part 188 33, after_part 221 2, after_part 223 7, after_part 230 2, after_part 232 5, after_part 237 7, after_part 244 3, after_part 247 7, after_part 254 2, after_part 256 8, after_part 264 10, after_part 274 5, after_part 279 2, after_part 281 8, after_part 289 4, after_part 293 2, after_part 295 4, after_part 299 4, after_part 303 2]
  rw [hN, StableHlo.after_nil]
  rw [p25_tt]
  rw [p24_tt]
  rw [p23_p, p23_ce]
  rw [p22_p, p22_g, p22_sh, p22_rs]
  rw [p21_p, p21_g, p21_sh, p21_re]
  rw [p20_p, p20_rw, p20_g, p20_sh]
  rw [p19_p, p19_rw, p19_g, p19_tp]
  rw [p18_p, p18_rw, p18_g]
  rw [p17_p, p17_rw, p17_w, p17_ib]
  rw [p16_p, p16_rw, p16_w]
  rw [p15_p, p15_rw, p15_rl]
  rw [p14_a3, p14_cf, p14_p]
  rw [p13_a3, p13_cf, p13_p]
  rw [p12_a3, p12_cf, p12_p]
  rw [p11_a3, p11_cf, p11_pr]
  rw [p10_a3, p10_cf, p10_ex, p10_es]
  rw [p9_a3, p9_cf, p9_ex]
  rw [p8_a1, p8_a3, p8_cf, p8_mx]
  rw [p7_a1, p7_a3, p7_cf]
  rw [p6_a1, p6_a3, p6_cf]
  rw [p5_l, p5_a1, p5_a3, p5_i, p5_ov, p5_id]
  rw [p4_l, p4_a1, p4_a3, p4_bp, p4_bi, p4_i, p4_ov]
  rw [p3_l, p3_a1, p3_a3, p3_bp, p3_bo, p3_bi]
  rw [p2_l, p2_a1, p2_a3, p2_o]
  rw [p1_a1, p1_a3, p1_t, p1_l, p1_d]
  rfl

/-- All the operations leave the number of hard negatives. -/
theorem after_neg : StableHlo.after opsOf.1 s (Proc.devRef .tc main_v229) =
    negA (s (Proc.devRef .tc main_arg0)) (s (Proc.devRef .tc main_arg1)) (s (Proc.devRef .tc main_arg4)) (s (Proc.devRef .tc main_arg5)) := by
  have h0 : StableHlo.after opsOf.1 s = StableHlo.after (opsOf.1.drop 0) s := rfl
  have hN : opsOf.1.drop 305 = [] := by sl_kernel_rfl
  rw [h0, after_part 0 34, after_part 34 52, after_part 86 12, after_part 98 23, after_part 121 22, after_part 143 45, after_part 188 33, after_part 221 2, after_part 223 7, after_part 230 2, after_part 232 5, after_part 237 7, after_part 244 3, after_part 247 7, after_part 254 2, after_part 256 8, after_part 264 10, after_part 274 5, after_part 279 2, after_part 281 8, after_part 289 4, after_part 293 2, after_part 295 4, after_part 299 4, after_part 303 2]
  rw [hN, StableHlo.after_nil]
  rw [p25_nf]
  rw [p24_ng]
  rw [p23_ng]
  rw [p22_ng]
  rw [p21_ng]
  rw [p20_ng]
  rw [p19_ng]
  rw [p18_ng]
  rw [p17_ng]
  rw [p16_ng]
  rw [p15_ng]
  rw [p14_ng]
  rw [p13_ci]
  rw [p12_p]
  rw [p11_cf, p11_pr]
  rw [p10_cf, p10_ex, p10_es]
  rw [p9_cf, p9_ex]
  rw [p8_a1, p8_cf, p8_mx]
  rw [p7_a1, p7_cf]
  rw [p6_a1, p6_cf]
  rw [p5_l, p5_a1, p5_i, p5_ov, p5_id]
  rw [p4_l, p4_a1, p4_bp, p4_bi, p4_i, p4_ov]
  rw [p3_l, p3_a1, p3_bp, p3_bo, p3_bi]
  rw [p2_l, p2_a1, p2_o]
  rw [p1_a1, p1_t, p1_l, p1_d]
  rfl

end parts

/-- The reference leaves both compositions of its arguments in its results. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v227) = totA (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))
      ∧ r.2.mem ((c.tc : Thread nD τ).loc main_v229) = negA (m ((c.tc : Thread nD τ).loc main_arg0)) (m ((c.tc : Thread nD τ).loc main_arg1)) (m ((c.tc : Thread nD τ).loc main_arg4)) (m ((c.tc : Thread nD τ).loc main_arg5))) := by
  refine θ_run_mono (StableHlo.run_hlo _ _ opsOf.2 (by decide) (by decide) (by unfold opsOf; simp)
      (by unfold opsOf; intro _ h; (repeat (cases h with | head => rfl | tail _ h => ?_)); exact nomatch h) _ _) ?_
  intro r hr c
  exact ⟨(hr c main_v227).trans (after_tot _), (hr c main_v229).trans (after_neg _)⟩

end Cert.Ce.Ref

end
-- ==== Proof.CeAt.lean ====
/-
  The second reference's arrays, read at an index.
-/
module

public import proofs.«01_k».proof.Proof.CeMath
public import proofs.«01_k».proof.Proof.CeRef

@[expose] public section

noncomputable section

namespace Cert.Ce.Ref

open Idealize.ShloMosaic Idealize.ShloMosaic.Tactic Cert.ReferenceCeIdeal Cert.ReferenceCeIdeal.Gen

/-- The row of an image's prior. -/
def rowQ (b : Fin 32) (p : Fin 16320) : Fin 522240 := ⟨b.val * 16320 + p.val, by have := b.isLt; have := p.isLt; omega⟩

/-- The cross entropy of a prior. -/
theorem crossR_at (e t g : FVec Ideal S522240 .f32) (b : Fin 32) (p : Fin 16320) :
    crossR e t g (ix2 b p) = Ideal.log (e (ix1 (rowQ b p))) + t (ix1 (rowQ b p)) - g (ix1 (rowQ b p)) := by
  pointwise [crossR]
  rfl
/-- The sum of a row's exponentials. -/
theorem rsumR_at (e : FVec Ideal S522240x81 .f32) (q : Fin 522240) : rsumR e (ix1 q) = ∑ c : Fin 81, e (ix2 q c) := by
  pointwise [rsumR]
/-- The exponentials of a row. -/
theorem rexpR_at (x : FVec Ideal S522240x81 .f32) (t : FVec Ideal S522240 .f32) (q : Fin 522240) (c : Fin 81) :
    rexpR x t (ix2 q c) = Ideal.exp (x (ix2 q c) - t (ix1 q)) := by
  pointwise [rexpR]
/-- The largest score of a row. -/
theorem topR_at (x : FVec Ideal S522240x81 .f32) (q : Fin 522240) :
    topR x (ix1 q) = Finset.fold max (Ideal.ofBits .f32 0xFF800000#32) (fun c : Fin 81 => x (ix2 q c)) Finset.univ := by
  pointwise [topR]
/-- The shift of a row. -/
theorem shiftR_at (t : FVec Ideal S522240 .f32) (q : Fin 522240) : shiftR t (ix1 q) = shiftOf (t (ix1 q)) := by
  pointwise [shiftR, shiftOf]
  rfl
/-- The image of a row. -/
theorem rowQ_div (b : Fin 32) (p : Fin 16320) (h : (rowQ b p).val / 16320 < 32) : (⟨(rowQ b p).val / 16320, h⟩ : Fin 32) = b :=
  Fin.ext (show (b.val * 16320 + p.val) / 16320 = b.val by have := p.isLt; omega)
/-- The prior of a row. -/
theorem rowQ_mod (b : Fin 32) (p : Fin 16320) (h : (rowQ b p).val % 16320 < 16320) : (⟨(rowQ b p).val % 16320, h⟩ : Fin 16320) = p :=
  Fin.ext (show (b.val * 16320 + p.val) % 16320 = p.val by have := p.isLt; omega)
/-- A row of scores. -/
theorem rowsR_at (a3 : FVec Ideal S32x16320x81 .f32) (b : Fin 32) (p : Fin 16320) (c : Fin 81) : rowsR a3 (ix2 (rowQ b p) c) = a3 (ix3 b p c) := by
  pointwise [rowsR]
  rw [rowQ_div, rowQ_mod]
/-- A row's label. -/
theorem rlabR_at (cf : IVec S32x16320 32) (b : Fin 32) (p : Fin 16320) : rlabR cf (ix2 (rowQ b p) 0) = cf (ix2 b p) := by
  pointwise [rlabR]
  rw [rowQ_div, rowQ_mod]
/-- No class is negative. -/
theorem wrap_class : ∀ k : Fin 81, Scalar.select (IntOp.cmpi .slt (BitVec.ofNat 32 k.val) 0#32) (IntOp.addi (BitVec.ofNat 32 k.val) 81#32) (BitVec.ofNat 32 k.val)
    = BitVec.ofNat 32 k.val := by decide
/-- Every class lies in the row. -/
theorem class_in : ∀ k : Fin 81, IntOp.andi (IntOp.cmpi .sge (BitVec.ofNat 32 k.val) 0#32) (IntOp.cmpi .sle (BitVec.ofNat 32 k.val) 80#32) = 1#1 := by decide
/-- A label that is a class is its place. -/
theorem wrapR_at (i : IVec S522240x1 32) (q : Fin 522240) (k : ℕ) (hk : k < 81) (h : i (ix2 q 0) = BitVec.ofNat 32 k) :
    wrapR i (ix3 q 0 0) = BitVec.ofNat 32 k := by
  have e : wrapR i (ix3 q 0 0) = Scalar.select (IntOp.cmpi .slt (i (ix2 q 0)) 0#32) (IntOp.addi (i (ix2 q 0)) 81#32) (i (ix2 q 0)) := by
    pointwise [wrapR]
  rw [e, h]
  exact wrap_class ⟨k, hk⟩
/-- Whether a place lies in the row. -/
theorem inbR_at (w : IVec S522240x1x1 32) (q : Fin 522240) (k : ℕ) (hk : k < 81) (h : w (ix3 q 0 0) = BitVec.ofNat 32 k) : inbR w (ix2 q 0) = 1#1 := by
  have e : inbW w (ix3 q 0 0) = IntOp.andi (IntOp.cmpi .sge (w (ix3 q 0 0)) 0#32) (IntOp.cmpi .sle (w (ix3 q 0 0)) 80#32) := by
    pointwise [inbW]
  rw [h, class_in ⟨k, hk⟩] at e
  unfold inbR
  generalize inbW w = y at e ⊢
  pointwise
  rw [Finset.univ_unique, Finset.fold_singleton, Subsingleton.elim (default : Fin 1) 0, e]
  rfl
/-- The score at a place of the row. -/
theorem takeR_at (x : FVec Ideal S522240x81 .f32) (w : IVec S522240x1x1 32) (q : Fin 522240) (k : Fin 81) (h : w (ix3 q 0 0) = BitVec.ofNat 32 k.val) :
    takeR x w (ix2 q 0) = x (ix2 q k) := by
  unfold takeR Host.gather
  refine congrArg x (funext fun a => Fin.ext ?_)
  have hs : (gather_S522240x81_S522240x1x1_S522240x1_n_1_0_0_1_2_11).siIdx (ix2 q 0) (0 : Fin 1) = ix3 q 0 0 := by
    funext c
    match c with
    | 0 => rfl
    | 1 => rfl
    | 2 => rfl
  have hk := k.isLt
  match a with
  | 0 =>
    show 0 + q.val + 0 = q.val
    omega
  | 1 =>
    show min (w ((gather_S522240x81_S522240x1x1_S522240x1_n_1_0_0_1_2_11).siIdx (ix2 q 0) (0 : Fin 1))).toInt.toNat (81 - 1) + 0 + 0 = k.val
    rw [hs, h, StableHlo.Predicate.toInt_ofNat_small _ (by omega)]
    omega
/-- The score picked at a place of the row. -/
theorem pickedR_at (x : FVec Ideal S522240x81 .f32) (w : IVec S522240x1x1 32) (c : IVec S522240x1 1) (q : Fin 522240) (hc : c (ix2 q 0) = 1#1) :
    pickedR x w c (ix1 q) = takeR x w (ix2 q 0) := by
  unfold pickedR
  generalize takeR x w = y
  pointwise
  rw [hc]
  rfl
/-- The cross entropy of an image's positive priors. -/
theorem totR_at (x : FVec Ideal S32x16320 .f32) (pos : IVec S32x16320 1) (b : Fin 32) :
    totR x pos (ix1 b) = ∑ p : Fin 16320, x (ix2 b p) * FloatOps.uitofp (F := Ideal) .f32 (pos (ix2 b p)) := by
  pointwise [totR]
/-- The number of hard negatives of an image. -/
theorem neg_at (n : IVec S32 32) (b : Fin 32) : negF (negR n) (ix1 b) = Scalar.sitofp (F := Ideal) .f32 (Loss.kB (n (ix1 b))) := by
  pointwise [negF, negR, Loss.kB]
  rfl

end Cert.Ce.Ref

end
-- ==== Proof.CeBlock.lean ====
/-
  What one grid point leaves in the third and fifth columns of its output block, read through the named arrays of
  Proof/CeModel.lean.
-/
module

public import proofs.«01_k».proof.Proof.Gen.KernelCeIdeal.Frame
public import proofs.«01_k».proof.Proof.CeModel
public import proofs.«01_k».proof.Proof.Block

@[expose] public section

noncomputable section

namespace Cert.Ce

open Idealize.ShloMosaic Cert.KernelCeIdeal Cert.KernelCeIdeal.Gen Idealize.ShloMosaic.Tactic

/-- One class plane is inside the block of class scores. -/
theorem inb_class {n : ℕ} (h : n < 81) :
    ∀ a, (![0, n, 0, 0] : Fin 4 → ℕ) a + S1x1x8x2040.size a ≤ S1x81x8x2040.size a := by
  intro a
  match a with
  | 0 => show 0 + 1 ≤ 1; omega
  | 1 => show n + 1 ≤ 81; omega
  | 2 => show 0 + 8 ≤ 8; omega
  | 3 => show 0 + 2040 ≤ 2040; omega

/-- Class plane `n`, loaded from a block of class scores. -/
def ldCls (X : Vec Ideal S1x81x8x2040 .f32) (n : ℕ) : Loss.Tile :=
  if h : n < 81 then
    shapeCast S8x2040 (View.ld X (Rect.unit (s := S1x81x8x2040) ![0, n, 0, 0] S1x1x8x2040.size (inb_class h)) : Vec Ideal S1x1x8x2040 .f32) shapeCasts_S1x1x8x2040_S8x2040
  else Loss.lit 0

section run
variable (c : Dev nD) (arg1 : Memref sig .tc .vmem S1x16x4 .f32) (harg1 : arg1.IsWhole) (arg2 : Memref sig .tc .vmem S1x1x16 .i32) (harg2 : arg2.IsWhole) (arg3 : Memref sig .tc .vmem S1x81x8x2040 .f32) (harg3 : arg3.IsWhole) (arg4 : Memref sig .tc .vmem S1x4x8x2040 .f32) (harg4 : arg4.IsWhole) (arg6 : Memref sig .tc .vmem S1x2x8x2040 .f32) (harg6 : arg6.IsWhole) (arg7 : Memref sig .tc .vmem S4x8x2040 .f32) (harg7 : arg7.IsWhole)
  (x0 : Vec Ideal S1x16x4 .f32) (x1 : Vec Ideal S1x1x16 .i32) (x2 : Vec Ideal S1x81x8x2040 .f32) (x3 : Vec Ideal S1x4x8x2040 .f32) (x5 : Vec Ideal S1x2x8x2040 .f32) (x6 : Vec Ideal S4x8x2040 .f32)

/-- The fifth value the run names is the number of hard negatives, as a float. -/
theorem run_k :
    kernelRun0_A.sl.r_165 c arg1 harg1 arg2 harg2 arg4 harg4 arg6 harg6 arg7 harg7 x0 x1 x3 x5 x6 =
      Scalar.sitofp (F := Ideal) .f32 (Loss.kB (Loss.nposB (Loss.ldPri (arg7.view.read (Elt Ideal) (harg7.unread x6))) (Loss.ldFour (arg4.view.read (Elt Ideal) (harg4.unread x3)))
        (Loss.ldTwo (arg6.view.read (Elt Ideal) (harg6.unread x5)))
        (Loss.ldObj (arg1.view.read (Elt Ideal) (harg1.unread x0))) (Loss.ldLab (arg2.view.read (Elt Ideal) (harg2.unread x1))))) := by
  sl_kernel_rfl

/-- The third value the run names is the cross entropy summed over the positive priors. -/
theorem run_ce :
    kernelRun0_A.sl.r_162 c arg1 harg1 arg2 harg2 arg3 harg3 arg4 harg4 arg6 harg6 arg7 harg7 x0 x1 x2 x3 x5 x6 =
      Loss.ceB (ldCls (arg3.view.read (Elt Ideal) (harg3.unread x2))) (Loss.ldPri (arg7.view.read (Elt Ideal) (harg7.unread x6))) (Loss.ldFour (arg4.view.read (Elt Ideal) (harg4.unread x3)))
        (Loss.ldTwo (arg6.view.read (Elt Ideal) (harg6.unread x5)))
        (Loss.ldObj (arg1.view.read (Elt Ideal) (harg1.unread x0))) (Loss.ldLab (arg2.view.read (Elt Ideal) (harg2.unread x1))) := by
  sl_kernel_rfl

end run

end Cert.Ce

end
-- ==== Proof.CeOut.lean ====
/-
  The kernel's output array with the second ending: image `b`'s cross entropy over its positive priors in column 2 and
  its number of hard negatives in column 4, over the operands the host laid out.
-/
module

public import proofs.«01_k».proof.Proof.CeBlock
public import proofs.«01_k».proof.Proof.Out

@[expose] public section

noncomputable section

namespace Cert.Ce

open Idealize.ShloMosaic Idealize.ShloMosaic.Pipeline Idealize.ShloMosaic.TcCoe Cert.KernelCeIdeal Cert.KernelCeIdeal.Gen Idealize.ShloMosaic.Tactic
open Cert.Loss (ldObj ldLab ldFour ldPri ldTwo drop4 drop2 same4 fourA twoA priA objA labA ldObj_at ldLab_at nposB kB ceB cntA)

/-- The stored row at its third column. -/
theorem row_two (a b d s : Ideal .f32) (n : BitVec 32) :
    k0_pay1 a b d (iota .tc S1x128 32 [1] iota_S1x128_d1_w32) (k0_pay418 n s) (k0_pay420 (iota .tc S1x128 32 [1] iota_S1x128_d1_w32) k0_pay419)
      (ix3 (0 : Fin 1) (0 : Fin 1) (2 : Fin 128)) = a := by
  pointwise [k0_pay1, k0_pay418, k0_pay419, k0_pay420]
  rfl

/-- The stored row at its fifth column. -/
theorem row_four (a b d s : Ideal .f32) (n : BitVec 32) :
    k0_pay1 a b d (iota .tc S1x128 32 [1] iota_S1x128_d1_w32) (k0_pay418 n s) (k0_pay420 (iota .tc S1x128 32 [1] iota_S1x128_d1_w32) k0_pay419)
      (ix3 (0 : Fin 1) (0 : Fin 1) (4 : Fin 128)) = d := by
  pointwise [k0_pay1, k0_pay418, k0_pay419, k0_pay420]

variable (m : (ℓ : Loc nD τ sig) → Buf (Elt Ideal) ℓ) (c : Dev nD)

/-- The block an image leaves, at its third column. -/
theorem outs_two (t : Fin cfg0.N) : outsAt0 m c t (ix3 (0 : Fin 1) (0 : Fin 1) (2 : Fin 128)) =
    ceB (ldCls (iblk m c 2 t)) (ldPri (iblk m c 6 t)) (ldFour (iblk m c 3 t)) (ldTwo (iblk m c 5 t))
      (ldObj (iblk m c 0 t)) (ldLab (iblk m c 1 t)) := by
  unfold outsAt0 out0_A_7
  rw [View.read_writes_junk_eq_canon]
  unfold kernelRun0_A
  dsimp only
  rw [View.canon_unit_zero (by decide)]
  refine (row_two _ _ _ _ _).trans ?_
  rw [run_ce]
  simp only [Memref.IsWhole.read_unread]

/-- The block an image leaves, at its fifth column. -/
theorem outs_four (t : Fin cfg0.N) : outsAt0 m c t (ix3 (0 : Fin 1) (0 : Fin 1) (4 : Fin 128)) =
    Scalar.sitofp (F := Ideal) .f32 (kB (nposB (ldPri (iblk m c 6 t)) (ldFour (iblk m c 3 t)) (ldTwo (iblk m c 5 t))
      (ldObj (iblk m c 0 t)) (ldLab (iblk m c 1 t)))) := by
  unfold outsAt0 out0_A_7
  rw [View.read_writes_junk_eq_canon]
  unfold kernelRun0_A
  dsimp only
  rw [View.canon_unit_zero (by decide)]
  refine (row_four _ _ _ _ _).trans ?_
  rw [run_k]
  simp only [Memref.IsWhole.read_unread]

/-- Every window's block index at a grid point: the image's number on the first axis (decided). -/
theorem idx : ∀ t : Fin cfg0.N, win0_0.index t = ![t.val, 0, 0] ∧ win0_1.index t = ![t.val, 0, 0] ∧ win0_2.index t = ![t.val, 0, 0, 0] ∧ win0_3.index t = ![t.val, 0, 0, 0]
    ∧ win0_4.index t = ![t.val, 0, 0, 0] ∧ win0_5.index t = ![t.val, 0, 0, 0] ∧ win0_6.index t = ![0, 0, 0] ∧ win0_7.index t = ![t.val, 0, 0] :=
  (by decide +kernel : ∀ t : Fin grid0.N, _)

/-- The output array, block by block. -/
theorem out_array : (dats m 0 c).arrAt 7 cfg0.N = fun i : S32x1x128.Idx => outsAt0 m c (i 0) (ix3 (0 : Fin 1) (0 : Fin 1) (i 2)) := by
  refine (dats m 0 c).arrAt_eq_of_covers 7 _ (by decide +kernel) fun t hf y => ?_
  blk_simp
  rw [after0_7]
  idx_vars y
  have e0 : (((View.whole main_v15).slice (win0_7.rect t)).emb (ix3 y0 y1 y2) (0 : Fin 3)) = t := by
    apply Fin.ext
    refine (Window.rect_emb_val win0_7 t (ix3 y0 y1 y2) 0).trans ?_
    rw [(idx t).2.2.2.2.2.2.2]
    show t.val * 1 + y0.val = t.val
    omega
  have e2 : (((View.whole main_v15).slice (win0_7.rect t)).emb (ix3 y0 y1 y2) (2 : Fin 3)) = y2 := by
    apply Fin.ext
    refine (Window.rect_emb_val win0_7 t (ix3 y0 y1 y2) 2).trans ?_
    rw [(idx t).2.2.2.2.2.2.2]
    show 0 * 128 + y2.val = y2.val
    omega
  rw [e0, e2]
  obtain rfl : y0 = 0 := Subsingleton.elim _ _
  obtain rfl : y1 = 0 := Subsingleton.elim _ _
  rfl

/-- Column `j` of the launch's result, as the host lines read it. -/
def colK (x : FVec Ideal S32x1x128 .f32) (off : Fin 2 → ℕ) (h : S32x128.Slices off S32x1) : FVec Ideal S32 .f32 :=
  shapeCast S32 (extractStridedSlice S32x1 off (shapeCast S32x128 x shapeCasts_S32x1x128_S32x128 : FVec Ideal S32x128 .f32) h : FVec Ideal S32x1 .f32) shapeCasts_S32x1_S32

/-- The third column at an image. -/
theorem colK_two (x : FVec Ideal S32x1x128 .f32) (b : Fin 32) : colK x ![0, 2] slices_S32x128_S32x1_0_2 (ix1 b) = x (ix3 b (0 : Fin 1) (2 : Fin 128)) := by
  pointwise [colK]
/-- The fifth column at an image. -/
theorem colK_four (x : FVec Ideal S32x1x128 .f32) (b : Fin 32) : colK x ![0, 4] slices_S32x128_S32x1_0_4 (ix1 b) = x (ix3 b (0 : Fin 1) (4 : Fin 128)) := by
  pointwise [colK]

/-- The first result of the lines after the launch. -/
theorem tail_two (s : Valuation τ sig (Elt Ideal)) :
    StableHlo.after (hostOps1 (F := Ideal)) s (Proc.devRef .tc main_v18) = colK (s (Proc.devRef .tc main_v15)) ![0, 2] slices_S32x128_S32x1_0_2 := by
  sl_kernel_rfl
/-- The second result of the lines after the launch. -/
theorem tail_four (s : Valuation τ sig (Elt Ideal)) :
    StableHlo.after (hostOps1 (F := Ideal)) s (Proc.devRef .tc main_v20) = colK (s (Proc.devRef .tc main_v15)) ![0, 4] slices_S32x128_S32x1_0_4 := by
  sl_kernel_rfl

/-- The run's first result, from the output array. -/
theorem after_two : Pipeline.afterTail₀ cfgs (dats m) 0 (V0 m) [hostOps1] c main_v18 = colK ((dats m 0 c).arrAt 7 cfg0.N) ![0, 2] slices_S32x128_S32x1_0_2 := by
  unfold Pipeline.afterTail₀
  rw [List.flatten_singleton]
  refine (tail_two _).trans (congrArg (fun x => colK x ![0, 2] slices_S32x128_S32x1_0_2) ?_)
  exact Pipeline.withArrays_arr spec0 (by decide) c (V0 m c) (fun w => (dats m 0 c).arrAt w cfg0.N) 7
/-- The run's second result, from the output array. -/
theorem after_four : Pipeline.afterTail₀ cfgs (dats m) 0 (V0 m) [hostOps1] c main_v20 = colK ((dats m 0 c).arrAt 7 cfg0.N) ![0, 4] slices_S32x128_S32x1_0_4 := by
  unfold Pipeline.afterTail₀
  rw [List.flatten_singleton]
  refine (tail_four _).trans (congrArg (fun x => colK x ![0, 4] slices_S32x128_S32x1_0_4) ?_)
  exact Pipeline.withArrays_arr spec0 (by decide) c (V0 m c) (fun w => (dats m 0 c).arrAt w cfg0.N) 7

/-- The loaded block of arm boxes, over the argument. -/
theorem block_loc (t : Fin cfg0.N) : ldFour (iblk m c 3 t) = fourA (m ((c.tc : Thread nD τ).loc main_arg0)) t := by
  have hV : V m c main_v1 = shapeCast S32x4x8x2040 (transpose S32x4x16320 [0, 2, 1] (m ((c.tc : Thread nD τ).loc main_arg0)) transposes_S32x16320x4_S32x4x16320_0_2_1) shapeCasts_S32x4x16320_S32x4x8x2040 := by
    sl_kernel_rfl
  funext y
  idx_vars y
  unfold ldFour iblk drop4
  rw [View.ld_unit_zero (by decide)]
  pointwise [fourA]
  show V m c main_v1 (((View.whole main_v1).slice (win0_3.rect t)).emb (ix4 0 y0 y1 y2)) = _
  have e : (((View.whole main_v1).slice (win0_3.rect t)).emb (ix4 0 y0 y1 y2)) = ix4 t y0 y1 y2 := by
    funext a
    apply Fin.ext
    refine (Window.rect_emb_val win0_3 t (ix4 0 y0 y1 y2) a).trans ?_
    rw [(idx t).2.2.2.1]
    match a with
    | 0 => show t.val * 1 + 0 = t.val; omega
    | 1 => show 0 * 4 + y0.val = y0.val; omega
    | 2 => show 0 * 8 + y1.val = y1.val; omega
    | 3 => show 0 * 2040 + y2.val = y2.val; omega
  rw [e, hV]
  pointwise

/-- The loaded block of scores, over the argument. -/
theorem block_arm (t : Fin cfg0.N) : ldTwo (iblk m c 5 t) = twoA (m ((c.tc : Thread nD τ).loc main_arg1)) t := by
  have hV : V m c main_v5 = shapeCast S32x2x8x2040 (transpose S32x2x16320 [0, 2, 1] (m ((c.tc : Thread nD τ).loc main_arg1)) transposes_S32x16320x2_S32x2x16320_0_2_1) shapeCasts_S32x2x16320_S32x2x8x2040 := by
    sl_kernel_rfl
  funext y
  idx_vars y
  unfold ldTwo iblk drop2
  rw [View.ld_unit_zero (by decide)]
  pointwise [twoA]
  show V m c main_v5 (((View.whole main_v5).slice (win0_5.rect t)).emb (ix4 0 y0 y1 y2)) = _
  have e : (((View.whole main_v5).slice (win0_5.rect t)).emb (ix4 0 y0 y1 y2)) = ix4 t y0 y1 y2 := by
    funext a
    apply Fin.ext
    refine (Window.rect_emb_val win0_5 t (ix4 0 y0 y1 y2) a).trans ?_
    rw [(idx t).2.2.2.2.2.1]
    match a with
    | 0 => show t.val * 1 + 0 = t.val; omega
    | 1 => show 0 * 2 + y0.val = y0.val; omega
    | 2 => show 0 * 8 + y1.val = y1.val; omega
    | 3 => show 0 * 2040 + y2.val = y2.val; omega
  rw [e, hV]
  pointwise

/-- The loaded block of priors, over the argument. -/
theorem block_pri (t : Fin cfg0.N) : ldPri (iblk m c 6 t) = priA (m ((c.tc : Thread nD τ).loc main_arg4)) := by
  have hV : V m c main_v9 = shapeCast S4x8x2040 (transpose S4x16320 [1, 0] (m ((c.tc : Thread nD τ).loc main_arg4)) transposes_S16320x4_S4x16320_1_0) shapeCasts_S4x16320_S4x8x2040 := by
    sl_kernel_rfl
  funext y
  idx_vars y
  unfold ldPri iblk same4
  rw [View.ld_unit_zero (by decide)]
  pointwise [priA]
  show V m c main_v9 (((View.whole main_v9).slice (win0_6.rect t)).emb (ix3 y0 y1 y2)) = _
  have e : (((View.whole main_v9).slice (win0_6.rect t)).emb (ix3 y0 y1 y2)) = ix3 y0 y1 y2 := by
    funext a
    apply Fin.ext
    refine (Window.rect_emb_val win0_6 t (ix3 y0 y1 y2) a).trans ?_
    rw [(idx t).2.2.2.2.2.2.1]
    match a with
    | 0 => show 0 * 4 + y0.val = y0.val; omega
    | 1 => show 0 * 8 + y1.val = y1.val; omega
    | 2 => show 0 * 2040 + y2.val = y2.val; omega
  rw [e, hV]
  pointwise

/-- The class planes of an image's scores. -/
def clsA (a : Vec Ideal S32x16320x81 .f32) (b : Fin 32) (n : ℕ) : Loss.Tile :=
  if h : n < 81 then fun y => a (ix3 b (⟨(y 0).val * 2040 + (y 1).val, by have h1 : (y 0).val < 8 := (y 0).isLt; have h2 : (y 1).val < 2040 := (y 1).isLt; omega⟩ : Fin 16320) (⟨n, h⟩ : Fin 81))
  else Loss.lit 0

/-- A plane without its leading unit axes. -/
theorem plane_cast (Y : Vec Ideal S1x1x8x2040 .f32) (s : Fin 8) (l : Fin 2040) :
    shapeCast S8x2040 Y shapeCasts_S1x1x8x2040_S8x2040 (ix2 s l) = Y (ix4 (0 : Fin 1) (0 : Fin 1) s l) := by
  pointwise

/-- A loaded plane is the block's. -/
theorem ldCls_at (X : Vec Ideal S1x81x8x2040 .f32) (n : ℕ) (h : n < 81) (s : Fin 8) (l : Fin 2040) :
    ldCls X n (ix2 s l) = X (ix4 (0 : Fin 1) (⟨n, h⟩ : Fin 81) s l) := by
  unfold ldCls
  rw [dif_pos h]
  refine (plane_cast _ s l).trans ?_
  refine congrArg X (funext fun a => Fin.ext ?_)
  match a with
  | 0 => rfl
  | 1 => show n + 1 * 0 = n; omega
  | 2 => show 0 + 1 * s.val = s.val; omega
  | 3 => show 0 + 1 * l.val = l.val; omega

/-- The loaded class planes, over the argument. -/
theorem block_cls (t : Fin cfg0.N) : ldCls (iblk m c 2 t) = clsA (m ((c.tc : Thread nD τ).loc main_arg3)) t := by
  have hV : V m c main_v7 = shapeCast S32x81x8x2040 (transpose S32x81x16320 [0, 2, 1] (m ((c.tc : Thread nD τ).loc main_arg3)) transposes_S32x16320x81_S32x81x16320_0_2_1) shapeCasts_S32x81x16320_S32x81x8x2040 := by
    sl_kernel_rfl
  funext n y
  idx_vars y
  by_cases h : n < 81
  · rw [ldCls_at _ n h]
    unfold clsA iblk
    rw [dif_pos h]
    show V m c main_v7 (((View.whole main_v7).slice (win0_2.rect t)).emb (ix4 (0 : Fin 1) (⟨n, h⟩ : Fin 81) y0 y1)) = _
    have e : (((View.whole main_v7).slice (win0_2.rect t)).emb (ix4 (0 : Fin 1) (⟨n, h⟩ : Fin 81) y0 y1)) = ix4 t (⟨n, h⟩ : Fin 81) y0 y1 := by
      funext a
      apply Fin.ext
      refine (Window.rect_emb_val win0_2 t _ a).trans ?_
      rw [(idx t).2.2.1]
      match a with
      | 0 => show t.val * 1 + 0 = t.val; omega
      | 1 => show 0 * 81 + n = n; omega
      | 2 => show 0 * 8 + y0.val = y0.val; omega
      | 3 => show 0 * 2040 + y1.val = y1.val; omega
    rw [e, hV]
    pointwise
  · unfold ldCls clsA
    rw [dif_neg h, dif_neg h]

/-- The loaded corners, over the argument. -/
theorem block_obj (t : Fin cfg0.N) : ldObj (iblk m c 0 t) = objA (m ((c.tc : Thread nD τ).loc main_arg5)) t := by
  have hV : V m c main_v10 = extractStridedSlice S32x16x4 ![0, 0, 0] (m ((c.tc : Thread nD τ).loc main_arg5)) slices_S32x16x5_S32x16x4_0_0_0 := by
    sl_kernel_rfl
  funext n j
  by_cases h : n < 16 ∧ j < 4
  · rw [ldObj_at _ n j h]
    unfold objA iblk
    rw [dif_pos h]
    show V m c main_v10 (((View.whole main_v10).slice (win0_0.rect t)).emb (ix3 (0 : Fin 1) (⟨n, h.1⟩ : Fin 16) (⟨j, h.2⟩ : Fin 4))) = _
    have e : (((View.whole main_v10).slice (win0_0.rect t)).emb (ix3 (0 : Fin 1) (⟨n, h.1⟩ : Fin 16) (⟨j, h.2⟩ : Fin 4))) = ix3 t (⟨n, h.1⟩ : Fin 16) (⟨j, h.2⟩ : Fin 4) := by
      funext a
      apply Fin.ext
      refine (Window.rect_emb_val win0_0 t _ a).trans ?_
      rw [(idx t).1]
      match a with
      | 0 => show t.val * 1 + 0 = t.val; omega
      | 1 => show 0 * 16 + n = n; omega
      | 2 => show 0 * 4 + j = j; omega
    rw [e, hV]
    pointwise
  · unfold ldObj objA
    rw [dif_neg h, dif_neg h]

/-- The loaded labels, over the argument. -/
theorem block_lab (t : Fin cfg0.N) : ldLab (iblk m c 1 t) = labA (m ((c.tc : Thread nD τ).loc main_arg5)) t := by
  have hV : V m c main_v14 = shapeCast S32x1x16 (fptosi 32 (shapeCast S32x16 (extractStridedSlice S32x16x1 ![0, 0, 4] (m ((c.tc : Thread nD τ).loc main_arg5)) slices_S32x16x5_S32x16x1_0_0_4 : FVec Ideal S32x16x1 .f32) shapeCasts_S32x16x1_S32x16 : FVec Ideal S32x16 .f32) : IVec S32x16 32) shapeCasts_S32x16_S32x1x16 := by
    sl_kernel_rfl
  funext n
  by_cases h : n < 16
  · rw [ldLab_at _ n h]
    unfold labA iblk
    rw [dif_pos h]
    show V m c main_v14 (((View.whole main_v14).slice (win0_1.rect t)).emb (ix3 (0 : Fin 1) (0 : Fin 1) (⟨n, h⟩ : Fin 16))) = _
    have e : (((View.whole main_v14).slice (win0_1.rect t)).emb (ix3 (0 : Fin 1) (0 : Fin 1) (⟨n, h⟩ : Fin 16))) = ix3 t (0 : Fin 1) (⟨n, h⟩ : Fin 16) := by
      funext a
      apply Fin.ext
      refine (Window.rect_emb_val win0_1 t _ a).trans ?_
      rw [(idx t).2.1]
      match a with
      | 0 => show t.val * 1 + 0 = t.val; omega
      | 1 => show 0 * 1 + 0 = 0; omega
      | 2 => show 0 * 16 + n = n; omega
    rw [e, hV]
    pointwise
  · unfold ldLab labA
    rw [dif_neg h, dif_neg h]

/-- An image's cross entropy over its positive priors. -/
def ceA (a0 : Vec Ideal S32x16320x4 .f32) (a1 : Vec Ideal S32x16320x2 .f32) (a3 : Vec Ideal S32x16320x81 .f32) (a4 : Vec Ideal S16320x4 .f32)
    (a5 : Vec Ideal S32x16x5 .f32) (b : Fin 32) : Ideal .f32 :=
  ceB (clsA a3 b) (priA a4) (fourA a0 b) (twoA a1 b) (objA a5 b) (labA a5 b)

/-- The third column at an image, over the arguments. -/
theorem outs_two' (t : Fin cfg0.N) : outsAt0 m c t (ix3 (0 : Fin 1) (0 : Fin 1) (2 : Fin 128)) =
    ceA (m ((c.tc : Thread nD τ).loc main_arg0)) (m ((c.tc : Thread nD τ).loc main_arg1))
      (m ((c.tc : Thread nD τ).loc main_arg3)) (m ((c.tc : Thread nD τ).loc main_arg4)) (m ((c.tc : Thread nD τ).loc main_arg5)) t := by
  rw [outs_two, block_cls, block_loc, block_arm, block_pri, block_obj, block_lab]
  rfl

/-- The fifth column at an image, over the arguments. -/
theorem outs_four' (t : Fin cfg0.N) : outsAt0 m c t (ix3 (0 : Fin 1) (0 : Fin 1) (4 : Fin 128)) =
    Scalar.sitofp (F := Ideal) .f32 (kB (cntA (m ((c.tc : Thread nD τ).loc main_arg0)) (m ((c.tc : Thread nD τ).loc main_arg1))
      (m ((c.tc : Thread nD τ).loc main_arg4)) (m ((c.tc : Thread nD τ).loc main_arg5)) t)) := by
  rw [outs_four, block_loc, block_arm, block_pri, block_obj, block_lab]
  rfl

/-- The kernel's run with the second ending: its results are the images' cross entropies over their positive priors and
    their numbers of hard negatives. -/
theorem run (g : Dev nD → PrngReg) : θ_run (defs (F := Ideal)) (onTc (τ := τ) (main (F := Ideal))) ⟨m, fun _ => 0, g⟩ (fun r => ∀ c : Dev nD,
    r.2.mem ((c.tc : Thread nD τ).loc main_v18) = (fun i : S32.Idx => ceA (m ((c.tc : Thread nD τ).loc main_arg0)) (m ((c.tc : Thread nD τ).loc main_arg1))
          (m ((c.tc : Thread nD τ).loc main_arg3)) (m ((c.tc : Thread nD τ).loc main_arg4)) (m ((c.tc : Thread nD τ).loc main_arg5)) (i 0))
      ∧ r.2.mem ((c.tc : Thread nD τ).loc main_v20) = (fun i : S32.Idx => Scalar.sitofp (F := Ideal) .f32 (kB (cntA (m ((c.tc : Thread nD τ).loc main_arg0)) (m ((c.tc : Thread nD τ).loc main_arg1))
          (m ((c.tc : Thread nD τ).loc main_arg4)) (m ((c.tc : Thread nD τ).loc main_arg5)) (i 0))))) := by
  refine θ_run_mono (run_main m g) ?_
  intro r hr c
  refine ⟨((hr c).2 main_v18 (by decide)).trans ((after_two m c).trans ?_), ((hr c).2 main_v20 (by decide)).trans ((after_four m c).trans ?_)⟩
  · funext i
    idx_vars i
    rw [colK_two, out_array]
    exact outs_two' m c i0
  · funext i
    idx_vars i
    rw [colK_four, out_array]
    exact outs_four' m c i0

end Cert.Ce

end
-- ==== Proof.CeFinal.lean ====
/-
  The cross entropy of the positive priors and the number of hard negatives are the same on both sides.
-/
module

public import proofs.«01_k».proof.Proof.CeAt
public import proofs.«01_k».proof.Proof.CeOut
public import proofs.«01_k».proof.Proof.Gen.Pre_labels_in_range

@[expose] public section

noncomputable section

namespace Cert.Ce

open Idealize.ShloMosaic Idealize.ShloMosaic.Tactic Cert.Loss

/-- A conjunction of bits is one only if each bit is. -/
theorem all_one {ι : Type} [DecidableEq ι] (f : ι → BitVec 1) (S : Finset ι) (h : Finset.fold IntOp.andi 1#1 f S = 1#1) : ∀ q ∈ S, f q = 1#1 := by
  have two : ∀ u v : BitVec 1, IntOp.andi u v = 1#1 → u = 1#1 ∧ v = 1#1 := by decide
  induction S using Finset.induction_on with
  | empty => exact fun q hq => absurd hq (Finset.notMem_empty q)
  | insert a S ha ih =>
    rw [Finset.fold_insert ha] at h
    obtain ⟨h1, h2⟩ := two _ _ h
    intro q hq
    rcases Finset.mem_insert.1 hq with e | e
    · exact e ▸ h1
    · exact ih h2 q e

/-- A word between 0 and 81 is a class. -/
theorem class_of (v : BitVec 32) (h0 : IntOp.cmpi .sgt v 0#32 = 1#1) (h1 : IntOp.cmpi .slt v 81#32 = 1#1) : v.toNat < 81 := by
  have e0 : (0#32).slt v = true := by
    by_contra h
    rw [Bool.not_eq_true] at h
    unfold IntOp.cmpi at h0
    simp [h] at h0
  have e1 : v.slt 81#32 = true := by
    by_contra h
    rw [Bool.not_eq_true] at h
    unfold IntOp.cmpi at h1
    simp [h] at h1
  rw [BitVec.slt_iff_toInt_lt] at e0 e1
  have := v.isLt
  rw [BitVec.toInt_eq_toNat_cond v] at e0 e1
  have z : (0#32).toInt = 0 := rfl
  have w : (81#32).toInt = 81 := rfl
  rw [z] at e0
  rw [w] at e1
  split at e0 <;> split at e1 <;> omega

section whole
variable (a0 : Vec Ideal Cert.KernelIdeal.S32x16320x4 .f32) (a1 : Vec Ideal Cert.KernelIdeal.S32x16320x2 .f32) (a2 : Vec Ideal Cert.KernelIdeal.S32x16320x4 .f32)
  (a3 : Vec Ideal Cert.KernelCeIdeal.S32x16320x81 .f32) (a4 : Vec Ideal Cert.KernelIdeal.S16320x4 .f32) (a5 : Vec Ideal Cert.KernelIdeal.S32x16x5 .f32) (b : Fin 32)

/-- Under the precondition every object's label is below 81. -/
theorem label_below (hF : Cert.Pre_labels_in_range.Facts) (h : Cert.Pre_labels_in_range.fn (F := Ideal) a0 a1 a2 a3 a4 a5 = fun _ => 1#1) (n : ℕ) :
    IntOp.cmpi .slt (labA a5 b n) 81#32 = 1#1 := by
  have h0 := congrFun h ix0
  have e : Cert.Pre_labels_in_range.fn (F := Ideal) a0 a1 a2 a3 a4 a5 ix0
      = Finset.fold IntOp.andi 1#1 (fun q : Fin 32 × Fin 16 => IntOp.cmpi .slt (FloatOps.fptosi (F := Ideal) (φ := .f32) 32 (a5 (ix3 q.1 q.2 (4 : Fin 5)))) 81#32) Finset.univ := by
    pointwise [Cert.Pre_labels_in_range.fn]
  rw [e] at h0
  unfold labA
  by_cases hn : n < 16
  · rw [dif_pos hn]
    exact all_one _ _ h0 (b, ⟨n, hn⟩) (Finset.mem_univ _)
  · rw [dif_neg hn]
    decide

/-- A class plane of a block, over the argument. -/
theorem cls_at (c : Fin 81) (s : Fin 8) (l : Fin 2040) : clsA a3 b c.val (ix2 s l) = a3 (ix3 b (flatP s l) c) := by
  unfold clsA
  rw [dif_pos c.isLt]
  rfl

/-- A prior's cross entropy agrees, if its label is a class. -/
theorem cross_eq (s : Fin 8) (l : Fin 2040) (k : ℕ) (hk : k < 81) (hc : confB (priA a4) (fourA a0 b) (objA a5 b) (labA a5 b) (ix2 s l) = BitVec.ofNat 32 k) :
    ceT (clsA a3 b) (confB (priA a4) (fourA a0 b) (objA a5 b) (labA a5 b)) (ix2 s l) = Ref.crossA a0 a3 a4 a5 (ix2 b (flatP s l)) := by
  have hr : Ref.rlabR (Ref.confA a0 a4 a5) (ix2 (Ref.rowQ b (flatP s l)) 0) = BitVec.ofNat 32 k := by
    rw [Ref.rlabR_at, ← hc, (matched a0 a4 a5 b s l).1]
    rfl
  have hw := Ref.wrapR_at _ _ k hk hr
  rw [ceT_at _ _ s l k hk hc]
  unfold Ref.crossA Ref.gotA
  rw [Ref.crossR_at, Ref.rsumR_at, Ref.pickedR_at _ _ _ _ (Ref.inbR_at _ _ k hk hw), Ref.takeR_at _ _ _ ⟨k, hk⟩ hw, Ref.rowsR_at,
    cls_at a3 b ⟨k, hk⟩ s l]
  unfold Ref.shiftA
  rw [Ref.shiftR_at, Ref.topR_at]
  have e : ∀ c : Fin 81, Ref.rexpR (Ref.rowsR a3) (Ref.shiftR (Ref.topR (Ref.rowsR a3))) (ix2 (Ref.rowQ b (flatP s l)) c)
      = Ideal.exp (a3 (ix3 b (flatP s l) c) - shiftOf (Finset.fold max (Ideal.ofBits .f32 0xFF800000#32) (fun c : Fin 81 => a3 (ix3 b (flatP s l) c)) Finset.univ)) := fun c => by
    rw [Ref.rexpR_at, Ref.shiftR_at, Ref.topR_at, Ref.rowsR_at]
    simp only [Ref.rowsR_at]
  rw [Finset.sum_congr rfl fun c _ => e c]
  simp only [Ref.rowsR_at]
  rw [log_top, Finset.sum_congr rfl fun c _ => congrArg Ideal.exp (cls_at a3 b c s l)]

/-- The cross entropy of an image's positive priors agrees. -/
theorem tot_eq (hl : ∀ n, IntOp.cmpi .slt (labA a5 b n) 81#32 = 1#1) : ceA a0 a1 a3 a4 a5 b = Ref.totA a0 a1 a3 a4 a5 (ix1 b) := by
  unfold ceA ceB Ref.totA
  rw [sumT_at, Ref.totR_at]
  refine (Finset.sum_congr rfl fun s _ => Finset.sum_congr rfl fun l _ => ?_).trans
    (sum_tile fun p => Ref.crossA a0 a3 a4 a5 (ix2 b p) * FloatOps.uitofp (F := Ideal) .f32 (Loss.Ref.posA a0 a1 a4 a5 (ix2 b p)))
  show ceT (clsA a3 b) (confB (priA a4) (fourA a0 b) (objA a5 b) (labA a5 b)) (ix2 s l)
    * FloatOps.sitofp (F := Ideal) .f32 (BitVec.setWidth 32 (posB (priA a4) (fourA a0 b) (twoA a1 b) (objA a5 b) (labA a5 b) (ix2 s l))) = _
  rw [mask_eq, ← pos_eq]
  by_cases hp : posB (priA a4) (fourA a0 b) (twoA a1 b) (objA a5 b) (labA a5 b) (ix2 s l) = 0#1
  · rw [hp, mask_zero, mul_zero, mul_zero]
  · have h1 : IntOp.cmpi .sgt (confB (priA a4) (fourA a0 b) (objA a5 b) (labA a5 b) (ix2 s l)) 0#32 = 1#1 := by
      unfold posB at hp
      rw [posT_at] at hp
      have two : ∀ u v : BitVec 1, IntOp.andi u v ≠ 0#1 → u = 1#1 := by decide
      exact two _ _ hp
    have h2 := class_of _ h1 (confB_all (fun v => IntOp.cmpi .slt v 81#32 = 1#1) (by decide) (labA a5 b) hl _ _ _ _)
    rw [cross_eq a0 a3 a4 a5 b s l _ h2 (BitVec.eq_of_toNat_eq (by rw [BitVec.toNat_ofNat]; exact (Nat.mod_eq_of_lt (BitVec.isLt _)).symm))]

/-- The number of hard negatives of an image agrees. -/
theorem neg_eq : Scalar.sitofp (F := Ideal) .f32 (kB (cntA a0 a1 a4 a5 b)) = Ref.negA a0 a1 a4 a5 (ix1 b) := by
  unfold Ref.negA
  rw [Ref.neg_at, image_count]

end whole

end Cert.Ce

end
-- ==== Proof.MinDefs.lean ====
/-
  The third reference's result as a composition of named arrays: the match, the positive mask and the rows' cross entropy
  are those of the other references; then the losses with the largest score taken off, their two sorts, the hard
  negatives, and the quotient.
-/
module

public import proofs.«01_k».proof.Defs
public import proofs.«01_k».proof.Proof.Gen.ReferenceMinedIdeal
public import proofs.«01_k».proof.Proof.CeRef
public import Idealize.ShloMosaic.Lib.Claim

@[expose] public section

noncomputable section

namespace Cert.Mined.Ref

open Idealize.ShloMosaic Idealize.SL.Sem Cert.ReferenceMinedIdeal Cert.ReferenceMinedIdeal.Gen Idealize.ShloMosaic.Tactic
open Cert.Loss.Ref (iotaR truR labR decR iouR bpR boR biR putTwo putObj claimR confR rmaxR expR esumR fracR posR cntI posA ovR idR iouA)
open Cert.Ce.Ref (rowsR rlabR wrapR inbR pickedR topR shiftR rexpR rsumR crossR gotA crossA confA)

/-- The numbers of positive priors as a column. -/
def ncolR (n : IVec S32 32) : IVec S32x1 32 := broadcastInDim S32x1 ![0] bcast_S32_S32x1_0 n
/-- The numbers of hard negatives, from the column of the numbers of positive priors. -/
def capR (n : IVec S32x1 32) : IVec S32x1 32 :=
  minsi (muli (broadcastInDim S32x1 ![] bcast_S_S32x1 (constantI S_ 32 3#32)) n) (broadcastInDim S32x1 ![] bcast_S_S32x1 (constantI S_ 32 16319#32))
/-- The largest score of all. -/
def gmaxR (x : FVec Ideal S522240x81 .f32) : FVec Ideal S_ .f32 :=
  Host.reduce FloatOps.maximumf x (constant S_ .f32 0xFF800000#32) reducesTo_S522240x81_S_d0_1 h_S_
/-- The rows' sums of exponentials with the largest score of all taken off. -/
def gsumR (x : FVec Ideal S522240x81 .f32) (g : FVec Ideal S_ .f32) : FVec Ideal S522240 .f32 :=
  Host.reduceAdd (Host.exp (subf x (broadcastInDim S522240x81 ![] bcast_S_S522240x81 g))) (constant S_ .f32 0x00000000#32) reducesTo_S522240x81_S522240_d1 h_S_
/-- The rows' losses with the largest score of all put back. -/
def glossR (e : FVec Ideal S522240 .f32) (g : FVec Ideal S_ .f32) (p : FVec Ideal S522240 .f32) : FVec Ideal S522240 .f32 :=
  subf (addf (Host.log e) (broadcastInDim S522240 ![] bcast_S_S522240 g)) p
/-- The losses, zero at the positive priors. -/
def mineR (pos : IVec S32x16320 1) (l : FVec Ideal S522240 .f32) : FVec Ideal S32x16320 .f32 :=
  shapeCast S32x16320 (select (shapeCast S522240 pos shapeCasts_S32x16320_S522240) (broadcastInDim S522240 ![] bcast_S_S522240 (constant S_ .f32 0x00000000#32)) l)
    shapeCasts_S522240_S32x16320
/-- The priors of every image in the order of falling losses. -/
def orderR (x : FVec Ideal S32x16320 .f32) : IVec S32x16320 32 :=
  (Host.sort2 S32x16320 1 comparator_f32_i32_d1 (Host.negf x) (iotaInDim S32x16320 32 1)).2
/-- The place of every prior in an order. -/
def rankR (o : IVec S32x16320 32) : IVec S32x16320 32 :=
  (Host.sort2 S32x16320 1 comparator_i32_i32_d1 o (iotaInDim S32x16320 32 1)).2
/-- The priors whose places are below a number. -/
def belowR (r : IVec S32x16320 32) (k : IVec S32x1 32) : IVec S32x16320 1 :=
  cmpi .slt r (broadcastInDim S32x16320 ![0, 1] bcast_S32x1_S32x16320_0_1 k)
/-- The number of positive priors of all images. -/
def allR (n : IVec S32x1 32) : FVec Ideal S_ .f32 := sitofp .f32 (Host.reduce IntOp.addi n (constantI S_ 32 0#32) reducesTo_S32x1_S_d0_1 h_S_)
/-- The number of picked priors of all images. -/
def pickN (p : IVec S32x16320 1) : FVec Ideal S_ .f32 :=
  sitofp .f32 (Host.reduce IntOp.addi (extui 32 p natLt_1_32) (constantI S_ 32 0#32) reducesTo_S32x16320_S_d0_1 h_S_)
/-- The cross entropy of the picked priors of all images. -/
def pickS (x : FVec Ideal S32x16320 .f32) (p : IVec S32x16320 1) : FVec Ideal S_ .f32 :=
  Host.reduceAdd (mulf x (uitofp .f32 p)) (constant S_ .f32 0x00000000#32) reducesTo_S32x16320_S_d0_1 h_S_

section whole
variable (a0 : FVec Ideal S32x16320x4 .f32) (a1 : FVec Ideal S32x16320x2 .f32) (a3 : FVec Ideal S32x16320x81 .f32)
  (a4 : FVec Ideal S16320x4 .f32) (a5 : FVec Ideal S32x16x5 .f32)

/-- The losses of the arguments, zero at the positive priors. -/
def mineA : FVec Ideal S32x16320 .f32 :=
  mineR (posA a0 a1 a4 a5) (glossR (gsumR (rowsR a3) (gmaxR (rowsR a3))) (gmaxR (rowsR a3)) (gotA a0 a3 a4 a5))
/-- The number of hard negatives of every image of the arguments. -/
def kA : IVec S32x1 32 := capR (ncolR (cntI (posA a0 a1 a4 a5)))
/-- The hard negatives of the arguments. -/
def hardA : IVec S32x16320 1 := belowR (rankR (orderR (mineA a0 a1 a3 a4 a5))) (kA a0 a1 a4 a5)
/-- The picked priors of the arguments: the positive ones and the hard negatives. -/
def pickA : IVec S32x16320 1 := ori (posA a0 a1 a4 a5) (hardA a0 a1 a3 a4 a5)
/-- The loss of the arguments. -/
def lossA : FVec Ideal S_ .f32 :=
  Host.divf (Host.divf (pickS (crossA a0 a3 a4 a5) (pickA a0 a1 a3 a4 a5)) (pickN (pickA a0 a1 a3 a4 a5))) (allR (ncolR (cntI (posA a0 a1 a4 a5))))

end whole

end Cert.Mined.Ref

end
-- ==== Proof.MinPre.lean ====
/-
  The precondition as a conjunction over the reference's own arrays.
-/
module

public import proofs.«01_k».proof.Proof.MinDefs
public import proofs.«01_k».proof.Proof.Gen.Pre_clear_cutoff

@[expose] public section

noncomputable section

namespace Cert.Mined

open Idealize.ShloMosaic Cert.Pre_clear_cutoff Cert.Pre_clear_cutoff.Facts Idealize.ShloMosaic.Tactic

variable [Cert.Pre_clear_cutoff.Facts]

/-- Whether every label is a class. -/
def labP (l : IVec S32x16 32) : IVec S_ 1 :=
  Host.reduce IntOp.andi (andi (cmpi .sge l (broadcastInDim S32x16 ![] bcast_S_S32x16 (constantI S_ 32 0#32)))
    (cmpi .slt l (broadcastInDim S32x16 ![] bcast_S_S32x16 (constantI S_ 32 81#32)))) (constantI S_ 1 1#1) reducesTo_S32x16_S_d0_1 h_S_
/-- Whether every score is finite. -/
def finP (a3 : FVec Ideal S32x16320x81 .f32) : IVec S_ 1 :=
  Host.reduce IntOp.andi (cmpf .olt (Host.absf a3) (broadcastInDim S32x16320x81 ![] bcast_S_S32x16320x81 (constant S_ .f32 0x7F800000#32)))
    (constantI S_ 1 1#1) reducesTo_S32x16320x81_S_d0_1_2 h_S_
/-- The least picked loss of every image, at every prior. -/
def cutP (x : FVec Ideal S32x16320 .f32) (n : IVec S32x16320 1) : FVec Ideal S32x16320 .f32 :=
  broadcastInDim S32x16320 ![0, 1] bcast_S32x1_S32x16320_0_1 (broadcastInDim S32x1 ![0] bcast_S32_S32x1_0
    (Host.reduce FloatOps.minimumf (select n x (broadcastInDim S32x16320 ![] bcast_S_S32x16320 (constant S_ .f32 0x7F800000#32)))
      (constant S_ .f32 0x7F800000#32) reducesTo_S32x16320_S32_d1 h_S_))
/-- Whether a loss is the least picked one or away from it. -/
def clearP (x t : FVec Ideal S32x16320 .f32) : IVec S32x16320 1 :=
  ori (cmpf .oeq x t) (cmpf .ogt (Host.absf (subf x t))
    (addf (broadcastInDim S32x16320 ![] bcast_S_S32x16320 (constant S_ .f32 0x0DA24260#32))
      (mulf (broadcastInDim S32x16320 ![] bcast_S_S32x16320 (constant S_ .f32 0x358637BD#32)) x)))
/-- What is asked of every prior. -/
def priP (x : FVec Ideal S32x16320 .f32) (p n : IVec S32x16320 1) : IVec S32x16320 1 :=
  andi (andi (cmpf .olt x (broadcastInDim S32x16320 ![] bcast_S_S32x16320 (constant S_ .f32 0x7149F2CA#32))) (noti (andi p n))) (clearP x (cutP x n))
/-- Whether it holds of every prior. -/
def allP (y : IVec S32x16320 1) : IVec S_ 1 := Host.reduce IntOp.andi y (constantI S_ 1 1#1) reducesTo_S32x16320_S_d0_1 h_S_

/-- The precondition's last lines. -/
theorem last_lines (a3 : FVec Ideal S32x16320x81 .f32) (l : IVec S32x16 32) (p : IVec S32x16320 1) (x : FVec Ideal S32x16320 .f32) (r : IVec S32x16320 32) (c : IVec S32x1 32) :
    fn_part11 (F := Ideal) a3 l p c x r (constantI S_ 32 3#32) =
      andi (andi (labP l) (finP a3)) (allP (priP x p (Ref.belowR r (Ref.capR c)))) := by
  sl_kernel_rfl

section whole
variable (a0 : FVec Ideal S32x16320x4 .f32) (a1 : FVec Ideal S32x16320x2 .f32) (a2 : FVec Ideal S32x16320x4 .f32) (a3 : FVec Ideal S32x16320x81 .f32)
  (a4 : FVec Ideal S16320x4 .f32) (a5 : FVec Ideal S32x16x5 .f32)

/-- The precondition, from the reference's arrays. -/
theorem pre_eq : fn (F := Ideal) a0 a1 a2 a3 a4 a5 = andi (andi (labP (Loss.Ref.labR a5)) (finP a3))
    (allP (priP (Ref.mineA a0 a1 a3 a4 a5) (Loss.Ref.posA a0 a1 a4 a5) (Ref.hardA a0 a1 a3 a4 a5))) := by
  sl_kernel_rfl

end whole

end Cert.Mined

end
-- ==== Proof.MinAt.lean ====
/-
  The mined loss's arrays and the precondition's arrays at an index.
-/
module

public import proofs.«01_k».proof.Proof.MinPre
public import proofs.«01_k».proof.Proof.CeAt

@[expose] public section

noncomputable section

namespace Cert.Mined

open Idealize.ShloMosaic Idealize.ShloMosaic.Tactic
open Cert.Ce.Ref (rowQ rowQ_div rowQ_mod)

section loss
open Cert.ReferenceMinedIdeal

/-- The largest score of all. -/
theorem gmaxR_at (x : FVec Ideal S522240x81 .f32) :
    Ref.gmaxR x ix0 = Finset.fold max (Ideal.ofBits .f32 0xFF800000#32) (fun q : Fin 522240 × Fin 81 => x (ix2 q.1 q.2)) Finset.univ := by
  pointwise [Ref.gmaxR]
/-- A row's sum of exponentials. -/
theorem gsumR_at (x : FVec Ideal S522240x81 .f32) (g : FVec Ideal S_ .f32) (q : Fin 522240) :
    Ref.gsumR x g (ix1 q) = ∑ c : Fin 81, Ideal.exp (x (ix2 q c) - g ix0) := by
  pointwise [Ref.gsumR]
/-- A row's loss. -/
theorem glossR_at (e : FVec Ideal S522240 .f32) (g : FVec Ideal S_ .f32) (p : FVec Ideal S522240 .f32) (q : Fin 522240) :
    Ref.glossR e g p (ix1 q) = Ideal.log (e (ix1 q)) + g ix0 - p (ix1 q) := by
  pointwise [Ref.glossR]
/-- A prior's loss, zero at the positive priors. -/
theorem mineR_at (pos : IVec S32x16320 1) (l : FVec Ideal S522240 .f32) (b : Fin 32) (p : Fin 16320) :
    Ref.mineR pos l (ix2 b p) = Scalar.select (pos (ix2 b p)) 0 (l (ix1 (rowQ b p))) := by
  pointwise [Ref.mineR]
  rfl
/-- The number of picked priors. -/
theorem pickN_at (x : IVec S32x16320 1) :
    Ref.pickN x ix0 = FloatOps.sitofp (F := Ideal) .f32 (Finset.fold IntOp.addi 0#32 (fun q : Fin 32 × Fin 16320 => BitVec.setWidth 32 (x (ix2 q.1 q.2))) Finset.univ) := by
  pointwise [Ref.pickN]
/-- The cross entropy of the picked priors. -/
theorem pickS_at (x : FVec Ideal S32x16320 .f32) (y : IVec S32x16320 1) :
    Ref.pickS x y ix0 = ∑ b : Fin 32, ∑ p : Fin 16320, x (ix2 b p) * FloatOps.uitofp (F := Ideal) .f32 (y (ix2 b p)) := by
  pointwise [Ref.pickS]
/-- The number of positive priors. -/
theorem allR_at (n : IVec S32 32) :
    Ref.allR (Ref.ncolR n) ix0 = FloatOps.sitofp (F := Ideal) .f32 (Finset.fold IntOp.addi 0#32 (fun q : Fin 32 × Fin 1 => n (ix1 q.1)) Finset.univ) := by
  pointwise [Ref.allR, Ref.ncolR]

end loss

section condition
open Cert.Pre_clear_cutoff
variable [Cert.Pre_clear_cutoff.Facts]

/-- Whether every label is a class. -/
theorem labP_at (l : IVec S32x16 32) : labP l ix0 = Finset.fold IntOp.andi 1#1
    (fun q : Fin 32 × Fin 16 => IntOp.andi (IntOp.cmpi .sge (l (ix2 q.1 q.2)) 0#32) (IntOp.cmpi .slt (l (ix2 q.1 q.2)) 81#32)) Finset.univ := by
  pointwise [labP]
/-- Whether every score is finite. -/
theorem finP_at (x : FVec Ideal S32x16320x81 .f32) : finP x ix0 = Finset.fold IntOp.andi 1#1
    (fun q : Fin 32 × Fin 16320 × Fin 81 => Ideal.cmp .olt (max (x (ix3 q.1 q.2.1 q.2.2)) (-(x (ix3 q.1 q.2.1 q.2.2)))) (Ideal.ofBits .f32 0x7F800000#32)) Finset.univ := by
  pointwise [finP]
  rfl
/-- The least picked loss of an image. -/
theorem cutP_at (x : FVec Ideal S32x16320 .f32) (n : IVec S32x16320 1) (b : Fin 32) (p : Fin 16320) : cutP x n (ix2 b p) =
    Finset.fold min (Ideal.ofBits .f32 0x7F800000#32) (fun p : Fin 16320 => Scalar.select (n (ix2 b p)) (x (ix2 b p)) (Ideal.ofBits .f32 0x7F800000#32)) Finset.univ := by
  pointwise [cutP]
/-- Whether a loss is clear of the least picked one. -/
theorem clearP_at (x t : FVec Ideal S32x16320 .f32) (b : Fin 32) (p : Fin 16320) : clearP x t (ix2 b p) =
    IntOp.ori (Ideal.cmp .oeq (x (ix2 b p)) (t (ix2 b p))) (Ideal.cmp .ogt (max (x (ix2 b p) - t (ix2 b p)) (-(x (ix2 b p) - t (ix2 b p))))
      (Ideal.ofBits .f32 0x0DA24260#32 + Ideal.ofBits .f32 0x358637BD#32 * x (ix2 b p))) := by
  pointwise [clearP]
  rfl
/-- What is asked of a prior. -/
theorem priP_at (x : FVec Ideal S32x16320 .f32) (p n : IVec S32x16320 1) (b : Fin 32) (i : Fin 16320) : priP x p n (ix2 b i) =
    IntOp.andi (IntOp.andi (Ideal.cmp .olt (x (ix2 b i)) (Ideal.ofBits .f32 0x7149F2CA#32)) (~~~ (IntOp.andi (p (ix2 b i)) (n (ix2 b i)))))
      (clearP x (cutP x n) (ix2 b i)) := by
  unfold priP
  generalize clearP x (cutP x n) = y
  pointwise
/-- Whether it holds of every prior. -/
theorem allP_at (y : IVec S32x16320 1) : allP y ix0 = Finset.fold IntOp.andi 1#1 (fun q : Fin 32 × Fin 16320 => y (ix2 q.1 q.2)) Finset.univ := by
  pointwise [allP]

end condition

end Cert.Mined

end
-- ==== Proof.MinWords.lean ====
/-
  The numbers that the words from zero to that of infinity stand for: increasing, and close to their neighbours.
-/
module

public import Idealize.ShloMosaic.Lib.TotalOrder
public import Idealize.ShloMosaic.PureOps.Ideal

@[expose] public section

noncomputable section

namespace Cert.Mined

open Idealize.ShloMosaic

/-- The number a word stands for. -/
def num (w : BitVec 32) : EReal := Ideal.ofBits .f32 w

/-- The word of infinity. -/
abbrev top32 : ℕ := 2139095040

/-- A word up to that of infinity has no sign and is a number. -/
theorem plain (w : BitVec 32) (h : w.toNat ≤ top32) : num w = TotalOrder.absVal 8 23 w ∧ ¬ TotalOrder.IsNaN 8 23 w ∧ TotalOrder.mag 8 23 w = w.toNat := by
  have hm : (w : BitVec (8 + 23 + 1)).msb = false := by
    rw [BitVec.msb_eq_decide]
    simp only [top32] at h
    simp
    omega
  have hs : TotalOrder.sign 8 23 w = false := (TotalOrder.sign_eq_msb (e := 8) (m := 23) w).trans hm
  have hg : TotalOrder.mag 8 23 w = w.toNat := by
    have := TotalOrder.toNat_eq_sign_add_mag (e := 8) (m := 23) w
    rw [hm] at this
    simpa using this.symm
  have hn : ¬ TotalOrder.IsNaN 8 23 w := by
    rintro ⟨h1, h2⟩
    rw [TotalOrder.expo_eq] at h1
    rw [TotalOrder.frac_eq] at h2
    simp only [top32] at h
    omega
  refine ⟨?_, hn, hg⟩
  show Ideal.ieee 8 23 w = _
  rw [TotalOrder.ieee_eq_signed_absVal hn, hs]
  rfl

/-- A larger word stands for a larger number. -/
theorem num_lt (a b : BitVec 32) (hb : b.toNat ≤ top32) (h : a.toNat < b.toNat) : num a < num b := by
  obtain ⟨ea, na, ga⟩ := plain a (by omega)
  obtain ⟨eb, nb, gb⟩ := plain b hb
  rw [ea, eb, TotalOrder.absVal_lt_absVal_iff na nb, ga, gb]
  exact h

/-- Such a number is not negative. -/
theorem num_nonneg (a : BitVec 32) (h : a.toNat ≤ top32) : 0 ≤ num a := by
  rw [(plain a h).1]
  exact TotalOrder.absVal_nonneg a

/-- The word of infinity stands for infinity. -/
theorem num_top : num 2139095040#32 = ⊤ := by
  rw [(plain _ (by decide)).1]
  unfold TotalOrder.absVal
  rw [if_pos (by decide)]

/-- A finite word's number, as a multiple of the smallest one. -/
theorem num_coe (a : BitVec 32) (h : a.toNat < top32) : num a = (((TotalOrder.sig 23 (a.toNat / 2 ^ 23) (a.toNat % 2 ^ 23) : ℝ) * TotalOrder.ulp 8 23 : ℝ) : EReal) := by
  rw [(plain a h.le).1]
  simp only [top32] at h
  unfold TotalOrder.absVal
  have e1 : TotalOrder.expo 8 23 a = a.toNat / 2 ^ 23 := by rw [TotalOrder.expo_eq]; omega
  have e2 : TotalOrder.frac 23 a = a.toNat % 2 ^ 23 := by rw [TotalOrder.frac_eq]
  rw [if_neg (by rw [e1]; omega), e1, e2]

/-- The multiples of neighbours: apart by one, or by less than a part in 2^23. -/
theorem sig_step (n : ℕ) : TotalOrder.sig 23 ((n + 1) / 2 ^ 23) ((n + 1) % 2 ^ 23) * 2 ^ 23
    ≤ TotalOrder.sig 23 (n / 2 ^ 23) (n % 2 ^ 23) * (2 ^ 23 + 1) + 2 ^ 23 := by
  have hT := Nat.mod_lt n (show 0 < 2 ^ 23 by decide)
  have key : TotalOrder.sig 23 ((n + 1) / 2 ^ 23) ((n + 1) % 2 ^ 23) = TotalOrder.sig 23 (n / 2 ^ 23) (n % 2 ^ 23) + 2 ^ (n / 2 ^ 23 - 1) := by
    unfold TotalOrder.sig
    by_cases hc : n % 2 ^ 23 + 1 = 2 ^ 23
    · have a : (n + 1) / 2 ^ 23 = n / 2 ^ 23 + 1 := by omega
      have b : (n + 1) % 2 ^ 23 = 0 := by omega
      have c : n % 2 ^ 23 = 2 ^ 23 - 1 := by omega
      rw [a, b, c, if_neg (by omega), Nat.add_sub_cancel]
      by_cases hE : n / 2 ^ 23 = 0
      · rw [hE]
        norm_num
      · rw [if_neg hE]
        obtain ⟨e, he⟩ : ∃ e, n / 2 ^ 23 = e + 1 := ⟨n / 2 ^ 23 - 1, by omega⟩
        rw [he]
        simp only [Nat.add_sub_cancel, Nat.pow_succ]
        generalize 2 ^ e = x
        norm_num
        omega
    · have a : (n + 1) / 2 ^ 23 = n / 2 ^ 23 := by omega
      have b : (n + 1) % 2 ^ 23 = n % 2 ^ 23 + 1 := by omega
      rw [a, b]
      ring
  rw [key]
  have : 2 ^ (n / 2 ^ 23 - 1) * 2 ^ 23 ≤ TotalOrder.sig 23 (n / 2 ^ 23) (n % 2 ^ 23) + 2 ^ 23 := by
    unfold TotalOrder.sig
    by_cases hE : n / 2 ^ 23 = 0
    · rw [hE]
      norm_num
    · rw [if_neg hE]
      generalize 2 ^ (n / 2 ^ 23 - 1) = x
      nlinarith [Nat.zero_le (n % 2 ^ 23 * x)]
  nlinarith

/-- The smallest number is below 1e-31. -/
theorem ulp_small : TotalOrder.ulp 8 23 < 1 / 10 ^ 31 := by
  unfold TotalOrder.ulp
  norm_num [zpow_neg]

/-- Two reals between the numbers of neighbouring words are close. -/
theorem near (a : BitVec 32) (h : a.toNat + 1 < top32) (x y : ℝ) (hx : num a ≤ (x : EReal)) (hx' : (x : EReal) < num (a + 1#32))
    (hy : num a ≤ (y : EReal)) (hy' : (y : EReal) < num (a + 1#32)) : |x - y| ≤ 1 / 10 ^ 31 + x / 2 ^ 23 := by
  have ha : (a + 1#32).toNat = a.toNat + 1 := by
    rw [BitVec.toNat_add]
    simp only [top32] at h
    show (a.toNat + 1) % 2 ^ 32 = _
    omega
  rw [num_coe a (by omega), EReal.coe_le_coe_iff] at hx hy
  rw [num_coe (a + 1#32) (by omega), ha, EReal.coe_lt_coe_iff] at hx' hy'
  have hs := sig_step a.toNat
  have hs' : (TotalOrder.sig 23 ((a.toNat + 1) / 2 ^ 23) ((a.toNat + 1) % 2 ^ 23) : ℝ) * 2 ^ 23
    ≤ (TotalOrder.sig 23 (a.toNat / 2 ^ 23) (a.toNat % 2 ^ 23) : ℝ) * (2 ^ 23 + 1) + 2 ^ 23 := by exact_mod_cast hs
  have hu := TotalOrder.ulp_pos 8 23
  have hu' := ulp_small
  generalize TotalOrder.ulp 8 23 = u at *
  generalize (TotalOrder.sig 23 ((a.toNat + 1) / 2 ^ 23) ((a.toNat + 1) % 2 ^ 23) : ℝ) = p at *
  generalize (TotalOrder.sig 23 (a.toNat / 2 ^ 23) (a.toNat % 2 ^ 23) : ℝ) = q at *
  have h2 : p * u * 2 ^ 23 ≤ q * u * (2 ^ 23 + 1) + 2 ^ 23 * u := by nlinarith
  rw [abs_le]
  constructor <;> linarith

end Cert.Mined

end
-- ==== Proof.MinSort.lean ====
/-
  Sorting positions twice ranks them: the positions whose ranks are below `k` are `k` positions of largest values.
-/
module

public import proofs.«01_k».proof.Proof.MinDefs
public import Idealize.ShloMosaic.Lib.SortFacts

@[expose] public section

noncomputable section

namespace Cert.Mined

open Idealize.ShloMosaic Idealize.ShloMosaic.Tactic

/-- Two lists of places, the second sorting the first: each is the other's inverse. -/
theorem inverse {n : ℕ} (σ τ : Fin n → Fin n) (h : ∀ i j, i < j → σ (τ i) < σ (τ j)) (i : Fin n) : σ (τ i) = i := by
  have hm : StrictMono fun i => σ (τ i) := fun i j hij => h i j hij
  exact le_antisymm hm.apply_le hm.le_apply

/-- The places of rank below `k`. -/
def ranked {n : ℕ} (τ : Fin n → Fin n) (k : ℕ) : Finset (Fin n) := Finset.univ.filter fun p => (τ p).val < k

/-- There are `k` of them. -/
theorem ranked_card {n : ℕ} (τ : Fin n → Fin n) (hτ : Function.Bijective τ) (k : ℕ) (hk : k ≤ n) : (ranked τ k).card = k := by
  unfold ranked
  rw [Finset.card_bijective (t := Finset.univ.filter fun i : Fin n => i.val < k) τ hτ (fun i => by simp)]
  rw [Fin.card_filter_val_lt]
  omega

/-- Their values are the largest. -/
theorem ranked_top {n : ℕ} (σ τ : Fin n → Fin n) (h : ∀ i j, i < j → σ (τ i) < σ (τ j)) (x : Fin n → EReal)
    (hx : ∀ i j, i < j → x (σ j) ≤ x (σ i)) (k : ℕ) : ∀ i ∈ ranked τ k, ∀ j, j ∉ ranked τ k → x j ≤ x i := by
  intro i hi j hj
  have hi' := (Finset.mem_filter.1 hi).2
  have hj' : ¬ (τ j).val < k := fun hh => hj (Finset.mem_filter.2 ⟨Finset.mem_univ _, hh⟩)
  have := hx (τ i) (τ j) (by rw [Fin.lt_def]; omega)
  rwa [inverse σ τ h, inverse σ τ h] at this

/-- The floats' order of two keys: the smaller first. -/
theorem cmp_float (u v : EReal) (a b : BitVec 32) : (Cert.ReferenceMinedIdeal.comparator_f32_i32_d1 (F := Ideal) (u, a) (v, b) == 1#1) = decide (u < v) := by
  have s : ∀ w : EReal, Scalar.select (FloatOps.cmpf (F := Ideal) (φ := .f32) .une w w) (FloatOps.ofBits (F := Ideal) .f32 0x7FC00000#32)
      (Scalar.select (FloatOps.cmpf (F := Ideal) (φ := .f32) .oeq w (FloatOps.ofBits .f32 0x00000000#32)) (FloatOps.ofBits .f32 0x00000000#32) w) = w := by
    intro w
    have e1 : FloatOps.cmpf (F := Ideal) (φ := .f32) .une w w = 0#1 := by
      show BitVec.ofBool (decide (w ≠ w)) = 0#1
      simp
    rw [e1]
    show Scalar.select (BitVec.ofBool (decide (w = Ideal.ofBits .f32 0x00000000#32))) (Ideal.ofBits .f32 0x00000000#32) w = w
    by_cases e : w = Ideal.ofBits .f32 0x00000000#32
    · rw [decide_eq_true e]
      exact e.symm
    · rw [decide_eq_false e]
      rfl
  show (FloatOps.cmpfTotal (F := Ideal) (φ := .f32) .lt (Scalar.select (FloatOps.cmpf (F := Ideal) (φ := .f32) .une u u) (FloatOps.ofBits (F := Ideal) .f32 0x7FC00000#32)
      (Scalar.select (FloatOps.cmpf (F := Ideal) (φ := .f32) .oeq u (FloatOps.ofBits .f32 0x00000000#32)) (FloatOps.ofBits .f32 0x00000000#32) u))
    (Scalar.select (FloatOps.cmpf (F := Ideal) (φ := .f32) .une v v) (FloatOps.ofBits (F := Ideal) .f32 0x7FC00000#32)
      (Scalar.select (FloatOps.cmpf (F := Ideal) (φ := .f32) .oeq v (FloatOps.ofBits .f32 0x00000000#32)) (FloatOps.ofBits .f32 0x00000000#32) v)) == 1#1) = _
  rw [s, s]
  show (BitVec.ofBool (decide (u < v)) == 1#1) = _
  by_cases e : u < v
  · rw [decide_eq_true e]
    rfl
  · rw [decide_eq_false e]
    rfl

/-- The order of two keys that are words: the smaller first. -/
theorem cmp_word (u v a b : BitVec 32) : (Cert.ReferenceMinedIdeal.comparator_i32_i32_d1 (u, a) (v, b) == 1#1) = u.slt v := by
  show (BitVec.ofBool (u.slt v) == 1#1) = _
  cases u.slt v <;> rfl

end Cert.Mined

end
-- ==== Proof.MinRank.lean ====
/-
  The hard negatives of an image are as many priors of largest losses.
-/
module

public import proofs.«01_k».proof.Proof.MinSort
public import proofs.«01_k».proof.Proof.CeMath

@[expose] public section

noncomputable section

namespace Cert.Mined

open Idealize.ShloMosaic Idealize.ShloMosaic.Tactic Cert.Loss

/-- The priors in the order of falling values. -/
def sig {n : ℕ} (y : Fin n → EReal) : Fin n → Fin n := sortedFrom fun k k' => decide (y k' < y k)
/-- The places of the priors in that order. -/
def tau {n : ℕ} (y : Fin n → EReal) : Fin n → Fin n := sortedFrom fun k k' => decide (sig y k < sig y k')

/-- The values fall. -/
theorem sig_falls {n : ℕ} (y : Fin n → EReal) (i j : Fin n) (h : i < j) : y (sig y j) ≤ y (sig y i) := by
  have := sortedFrom_noInversion (fun k k' => decide (y k' < y k)) (fun k k' => decide (y k' < y k))
    (fun a b hab => by simp only [decide_eq_true_eq, decide_eq_false_iff_not, not_lt] at *; exact hab.le) (fun a b hab => hab)
    (fun a b c h1 h2 => by simp only [decide_eq_false_iff_not, not_lt] at *; exact h1.trans h2) i j h
  simpa [sig] using this

/-- The places are in order. -/
theorem tau_rises {n : ℕ} (y : Fin n → EReal) (i j : Fin n) (h : i < j) : sig y (tau y i) < sig y (tau y j) := by
  have := sortedFrom_noInversion (fun k k' => decide (sig y k < sig y k')) (fun k k' => decide (sig y k < sig y k'))
    (fun a b hab => by simp only [decide_eq_true_eq, decide_eq_false_iff_not, not_lt] at *; exact hab.le) (fun a b hab => hab)
    (fun a b c h1 h2 => by simp only [decide_eq_false_iff_not, not_lt] at *; exact h2.trans h1) i j h
  have h' : sig y (tau y i) ≤ sig y (tau y j) := by simpa [tau] using this
  refine lt_of_le_of_ne h' fun e => ?_
  have := sortedFrom_injective _ (sortedFrom_injective _ e)
  exact h.ne this

/-- The places are a bijection. -/
theorem tau_bij {n : ℕ} (y : Fin n → EReal) : Function.Bijective (tau y) := ⟨sortedFrom_injective _, sortedFrom_surjective _⟩

/-- A row's index with its place changed. -/
theorem along_row (b : Fin 32) (p k : Fin 16320) : (ix2 b p).along (1 : Fin 2) k = ix2 b k := by
  funext i
  fin_cases i <;> rfl

/-- The order of an image's losses. -/
theorem orderR_at (x : FVec Ideal Cert.ReferenceMinedIdeal.S32x16320 .f32) (b : Fin 32) (p : Fin 16320) :
    Ref.orderR x (ix2 b p) = BitVec.ofNat 32 (sig (fun p => x (ix2 b p)) p).val := by
  have e : (fun k k' : Fin 16320 => Cert.ReferenceMinedIdeal.comparator_f32_i32_d1 (F := Ideal)
      (Host.negf x ((ix2 b p).along (1 : Fin 2) k), iotaInDim Cert.ReferenceMinedIdeal.S32x16320 32 1 ((ix2 b p).along (1 : Fin 2) k))
      (Host.negf x ((ix2 b p).along (1 : Fin 2) k'), iotaInDim Cert.ReferenceMinedIdeal.S32x16320 32 1 ((ix2 b p).along (1 : Fin 2) k')) == 1#1)
      = fun k k' => decide (x (ix2 b k') < x (ix2 b k)) := by
    funext k k'
    rw [cmp_float, along_row, along_row]
    show decide (-(x (ix2 b k)) < -(x (ix2 b k'))) = _
    simp only [EReal.neg_lt_neg_iff]
  have h : Ref.orderR x (ix2 b p) = iotaInDim Cert.ReferenceMinedIdeal.S32x16320 32 1 ((ix2 b p).along (1 : Fin 2) (sortedFrom (fun k k' : Fin 16320 => Cert.ReferenceMinedIdeal.comparator_f32_i32_d1 (F := Ideal)
      (Host.negf x ((ix2 b p).along (1 : Fin 2) k), iotaInDim Cert.ReferenceMinedIdeal.S32x16320 32 1 ((ix2 b p).along (1 : Fin 2) k))
      (Host.negf x ((ix2 b p).along (1 : Fin 2) k'), iotaInDim Cert.ReferenceMinedIdeal.S32x16320 32 1 ((ix2 b p).along (1 : Fin 2) k')) == 1#1) p)) := by
    unfold Ref.orderR Host.sort2
    rw [dif_pos (by decide : 1 < Cert.ReferenceMinedIdeal.S32x16320.rank)]
    rfl
  rw [h, e]
  exact (congrArg (iotaInDim Cert.ReferenceMinedIdeal.S32x16320 32 1) (along_row b p (sig (fun p => x (ix2 b p)) p))).trans rfl

/-- The place of a prior in an order of small words. -/
theorem rankR_at (o : IVec Cert.ReferenceMinedIdeal.S32x16320 32) (y : Fin 16320 → EReal) (b : Fin 32) (ho : ∀ p, o (ix2 b p) = BitVec.ofNat 32 (sig y p).val) (p : Fin 16320) :
    Ref.rankR o (ix2 b p) = BitVec.ofNat 32 (tau y p).val := by
  have e : (fun k k' : Fin 16320 => Cert.ReferenceMinedIdeal.comparator_i32_i32_d1
      (o ((ix2 b p).along (1 : Fin 2) k), iotaInDim Cert.ReferenceMinedIdeal.S32x16320 32 1 ((ix2 b p).along (1 : Fin 2) k))
      (o ((ix2 b p).along (1 : Fin 2) k'), iotaInDim Cert.ReferenceMinedIdeal.S32x16320 32 1 ((ix2 b p).along (1 : Fin 2) k')) == 1#1)
      = fun k k' => decide (sig y k < sig y k') := by
    funext k k'
    rw [cmp_word, along_row, along_row, ho, ho, BitVec.slt_eq_decide]
    have l1 := (sig y k).isLt
    have l2 := (sig y k').isLt
    rw [BitVec.toInt_eq_toNat_cond, BitVec.toInt_eq_toNat_cond, BitVec.toNat_ofNat, BitVec.toNat_ofNat,
      Nat.mod_eq_of_lt (by omega), Nat.mod_eq_of_lt (by omega), if_pos (by omega), if_pos (by omega)]
    simp only [Int.ofNat_lt, Fin.lt_def]
  have h : Ref.rankR o (ix2 b p) = iotaInDim Cert.ReferenceMinedIdeal.S32x16320 32 1 ((ix2 b p).along (1 : Fin 2) (sortedFrom (fun k k' : Fin 16320 => Cert.ReferenceMinedIdeal.comparator_i32_i32_d1
      (o ((ix2 b p).along (1 : Fin 2) k), iotaInDim Cert.ReferenceMinedIdeal.S32x16320 32 1 ((ix2 b p).along (1 : Fin 2) k))
      (o ((ix2 b p).along (1 : Fin 2) k'), iotaInDim Cert.ReferenceMinedIdeal.S32x16320 32 1 ((ix2 b p).along (1 : Fin 2) k')) == 1#1) p)) := by
    unfold Ref.rankR Host.sort2
    rw [dif_pos (by decide : 1 < Cert.ReferenceMinedIdeal.S32x16320.rank)]
    rfl
  rw [h, e]
  exact (congrArg (iotaInDim Cert.ReferenceMinedIdeal.S32x16320 32 1) (along_row b p (tau y p))).trans rfl

/-- Whether a prior's place is below a number. -/
theorem belowR_at (r : IVec Cert.ReferenceMinedIdeal.S32x16320 32) (k : IVec Cert.ReferenceMinedIdeal.S32x1 32) (b : Fin 32) (p : Fin 16320) :
    Ref.belowR r k (ix2 b p) = IntOp.cmpi .slt (r (ix2 b p)) (k (ix2 b (0 : Fin 1))) := by
  pointwise [Ref.belowR]

/-- The number of hard negatives of an image, from its number of positive priors. -/
theorem capR_at (n : IVec Cert.ReferenceMinedIdeal.S32 32) (b : Fin 32) :
    Ref.capR (Ref.ncolR n) (ix2 b (0 : Fin 1)) = IntOp.minsi (IntOp.muli 3#32 (n (ix1 b))) 16319#32 := by
  pointwise [Ref.capR, Ref.ncolR]

/-- The hard negatives of an image. -/
def hardS (y : Fin 16320 → EReal) (k : BitVec 32) : Finset (Fin 16320) := ranked (tau y) k.toNat

/-- They are as many as asked for. -/
theorem hardS_card (y : Fin 16320 → EReal) (k : BitVec 32) (hk : k.toNat ≤ 16320) : (hardS y k).card = k.toNat := ranked_card _ (tau_bij y) _ hk

/-- Their losses are the largest. -/
theorem hardS_top (y : Fin 16320 → EReal) (k : BitVec 32) : ∀ i ∈ hardS y k, ∀ j, j ∉ hardS y k → y j ≤ y i :=
  ranked_top (sig y) (tau y) (tau_rises y) y (sig_falls y) _

/-- The reference's bit of a hard negative. -/
theorem hard_bit (x : FVec Ideal Cert.ReferenceMinedIdeal.S32x16320 .f32) (k : IVec Cert.ReferenceMinedIdeal.S32x1 32) (b : Fin 32) (p : Fin 16320)
    (hk : (k (ix2 b (0 : Fin 1))).toNat ≤ 16320) :
    Ref.belowR (Ref.rankR (Ref.orderR x)) k (ix2 b p) = BitVec.ofBool (decide (p ∈ hardS (fun p => x (ix2 b p)) (k (ix2 b (0 : Fin 1))))) := by
  rw [belowR_at, rankR_at _ (fun p => x (ix2 b p)) b (fun p => orderR_at x b p)]
  have l := (tau (fun p => x (ix2 b p)) p).isLt
  show BitVec.ofBool ((BitVec.ofNat 32 (tau (fun p => x (ix2 b p)) p).val).slt (k (ix2 b (0 : Fin 1)))) = _
  rw [BitVec.slt_eq_decide, BitVec.toInt_eq_toNat_cond, BitVec.toInt_eq_toNat_cond (k (ix2 b (0 : Fin 1))), BitVec.toNat_ofNat, Nat.mod_eq_of_lt (by omega),
    if_pos (by omega), if_pos (by omega)]
  unfold hardS
  generalize (k (ix2 b (0 : Fin 1))).toNat = n
  refine congrArg BitVec.ofBool (decide_eq_decide.2 ?_)
  unfold ranked
  rw [Finset.mem_filter]
  exact ⟨fun h => ⟨Finset.mem_univ _, Int.ofNat_lt.1 h⟩, fun h => Int.ofNat_lt.2 h.2⟩

end Cert.Mined

end
-- ==== Proof.MinGood.lean ====
/-
  What the precondition says of every label, score and prior.
-/
module

public import proofs.«01_k».proof.Proof.MinAt
public import proofs.«01_k».proof.Proof.MinWords
public import proofs.«01_k».proof.Proof.MinRank
public import proofs.«01_k».proof.Proof.CeFinal

@[expose] public section

noncomputable section

namespace Cert.Mined

open Idealize.ShloMosaic Idealize.ShloMosaic.Tactic Cert.Loss

section whole
variable (a0 : Vec Ideal Cert.KernelIdeal.S32x16320x4 .f32) (a1 : Vec Ideal Cert.KernelIdeal.S32x16320x2 .f32) (a2 : Vec Ideal Cert.KernelIdeal.S32x16320x4 .f32)
  (a3 : Vec Ideal Cert.KernelCeIdeal.S32x16320x81 .f32) (a4 : Vec Ideal Cert.KernelIdeal.S16320x4 .f32) (a5 : Vec Ideal Cert.KernelIdeal.S32x16x5 .f32)

/-- The losses of an image. -/
def lossOf (b : Fin 32) (p : Fin 16320) : EReal := Ref.mineA a0 a1 a3 a4 a5 (ix2 b p)
/-- The number of hard negatives of an image. -/
def numOf (b : Fin 32) : BitVec 32 := kB (cntA a0 a1 a4 a5 b)
/-- The hard negatives of an image. -/
def setOf (b : Fin 32) : Finset (Fin 16320) := hardS (lossOf a0 a1 a3 a4 a5 b) (numOf a0 a1 a4 a5 b)
/-- The positive priors of an image. -/
def posOf (b : Fin 32) (p : Fin 16320) : BitVec 1 := Loss.Ref.posA a0 a1 a4 a5 (ix2 b p)

/-- What the precondition says: labels are classes, scores are finite, losses are below 1e30, no prior is picked twice, and
    no loss is close to the least picked one without being it. -/
structure Good : Prop where
  lab : ∀ (b : Fin 32) (n : ℕ), (labA a5 b n).toNat < 81
  fin : ∀ (b : Fin 32) (p : Fin 16320) (c : Fin 81), ∃ r : ℝ, a3 (ix3 b p c) = (r : EReal)
  low : ∀ b p, lossOf a0 a1 a3 a4 a5 b p < num 0x7149F2CA#32
  apart : ∀ b p, p ∈ setOf a0 a1 a3 a4 a5 b → posOf a0 a1 a4 a5 b p = 0#1
  clear : ∀ b, ∀ i0 ∈ setOf a0 a1 a3 a4 a5 b, (∀ i ∈ setOf a0 a1 a3 a4 a5 b, lossOf a0 a1 a3 a4 a5 b i0 ≤ lossOf a0 a1 a3 a4 a5 b i) → ∀ j,
    lossOf a0 a1 a3 a4 a5 b j = lossOf a0 a1 a3 a4 a5 b i0 ∨ num 0x0DA24260#32 + num 0x358637BD#32 * lossOf a0 a1 a3 a4 a5 b j
      < max (lossOf a0 a1 a3 a4 a5 b j - lossOf a0 a1 a3 a4 a5 b i0) (-(lossOf a0 a1 a3 a4 a5 b j - lossOf a0 a1 a3 a4 a5 b i0))

/-- A word from 0 to below 81 is a class. -/
theorem class_low (v : BitVec 32) (h0 : IntOp.cmpi .sge v 0#32 = 1#1) (h1 : IntOp.cmpi .slt v 81#32 = 1#1) : v.toNat < 81 := by
  have e0 : (0#32).sle v = true := by
    by_contra h
    rw [Bool.not_eq_true] at h
    unfold IntOp.cmpi at h0
    simp [h] at h0
  have e1 : v.slt 81#32 = true := by
    by_contra h
    rw [Bool.not_eq_true] at h
    unfold IntOp.cmpi at h1
    simp [h] at h1
  rw [BitVec.sle_iff_toInt_le] at e0
  rw [BitVec.slt_iff_toInt_lt] at e1
  have := v.isLt
  rw [BitVec.toInt_eq_toNat_cond v] at e0 e1
  have z : (0#32).toInt = 0 := rfl
  have w : (81#32).toInt = 81 := rfl
  rw [z] at e0
  rw [w] at e1
  split at e0 <;> split at e1 <;> omega

/-- A conjunction of two bits. -/
theorem and_one : ∀ u v : BitVec 1, IntOp.andi u v = 1#1 → u = 1#1 ∧ v = 1#1 := by decide
/-- A disjunction of two bits. -/
theorem or_one : ∀ u v : BitVec 1, IntOp.ori u v = 1#1 → u = 1#1 ∨ v = 1#1 := by decide
/-- Not both of two bits. -/
theorem not_both : ∀ u v : BitVec 1, ~~~ (IntOp.andi u v) = 1#1 → v = 1#1 → u = 0#1 := by decide
/-- A decided bit that is one. -/
theorem bit_one (P : Prop) [Decidable P] (h : BitVec.ofBool (decide P) = 1#1) : P := by
  by_contra hc
  rw [decide_eq_false hc] at h
  exact absurd h (by decide)

/-- At most 16319 hard negatives. -/
theorem kB_le (n : BitVec 32) (hn : n.toNat ≤ 16320) : (kB n).toNat ≤ 16319 := by
  have h3 : (3#32 * n).toNat = 3 * n.toNat := by
    rw [BitVec.toNat_mul]
    show 3 * n.toNat % 2 ^ 32 = _
    omega
  show (if (3#32 * n).slt 16319#32 then 3#32 * n else 16319#32).toNat ≤ 16319
  split
  · rename_i h
    rw [BitVec.slt_iff_toInt_lt, BitVec.toInt_eq_toNat_cond, if_pos (by omega), h3] at h
    have w : (16319#32).toInt = 16319 := rfl
    omega
  · exact le_refl _

/-- At most 16320 positive priors. -/
theorem cntA_le (b : Fin 32) : (cntA a0 a1 a4 a5 b).toNat ≤ 16320 := by
  rw [image_count, cntI_at]
  exact count_le _

/-- The reference's number of hard negatives. -/
theorem kA_at (b : Fin 32) : Ref.kA a0 a1 a4 a5 (ix2 b (0 : Fin 1)) = numOf a0 a1 a4 a5 b := by
  unfold Ref.kA numOf
  rw [capR_at, image_count]
  rfl

/-- The reference's bit of a hard negative. -/
theorem hardA_at (b : Fin 32) (p : Fin 16320) : Ref.hardA a0 a1 a3 a4 a5 (ix2 b p) = BitVec.ofBool (decide (p ∈ setOf a0 a1 a3 a4 a5 b)) := by
  unfold Ref.hardA
  rw [hard_bit _ _ _ _ (by rw [kA_at]; exact (kB_le _ (cntA_le a0 a1 a4 a5 b)).trans (by omega)), kA_at]
  rfl

/-- A score whose absolute value is below infinity is a real. -/
theorem real_of (x : EReal) (h : max x (-x) < ⊤) : ∃ r : ℝ, x = (r : EReal) := by
  induction x using EReal.rec with
  | bot => exact absurd h (by simp)
  | coe r => exact ⟨r, rfl⟩
  | top => exact absurd h (by simp)

/-- The least of the picked losses. -/
theorem cut_least {ι : Type} [Fintype ι] [DecidableEq ι] (y : ι → EReal) (N : Finset ι) (i0 : ι) (h0 : i0 ∈ N) (hmin : ∀ i ∈ N, y i0 ≤ y i) :
    Finset.fold min (⊤ : EReal) (fun i => Scalar.select (BitVec.ofBool (decide (i ∈ N))) (y i) ⊤) Finset.univ = y i0 := by
  refine le_antisymm ((Finset.fold_min_le _).2 (Or.inr ⟨i0, Finset.mem_univ _, ?_⟩)) ((Finset.le_fold_min _).2 ⟨le_top, fun i _ => ?_⟩)
  · rw [decide_eq_true h0]
    exact le_refl _
  · by_cases hi : i ∈ N
    · rw [decide_eq_true hi]
      exact hmin i hi
    · rw [decide_eq_false hi]
      exact le_top

/-- Every bit of a conjunction that is one is one. -/
theorem all_ones {ι : Type} [Fintype ι] [DecidableEq ι] (f : ι → BitVec 1) (h : Finset.fold IntOp.andi 1#1 f Finset.univ = 1#1) (q : ι) : f q = 1#1 :=
  Ce.all_one f Finset.univ h q (Finset.mem_univ q)

/-- The precondition says that much. -/
theorem good_of (hF : Cert.Pre_clear_cutoff.Facts) (h : Cert.Pre_clear_cutoff.fn (F := Ideal) a0 a1 a2 a3 a4 a5 = fun _ => 1#1) : Good a0 a1 a3 a4 a5 := by
  have h' := congrFun h ix0
  rw [pre_eq] at h'
  obtain ⟨h12, h3⟩ := and_one _ _ h'
  obtain ⟨h1, h2⟩ := and_one _ _ h12
  rw [labP_at] at h1
  rw [finP_at] at h2
  rw [allP_at] at h3
  have k1 := all_ones _ h1
  have k2 := all_ones _ h2
  have k3 := all_ones _ h3
  clear h h' h12 h1 h2 h3
  have k4 : ∀ b p, lossOf a0 a1 a3 a4 a5 b p < num 0x7149F2CA#32 ∧ (p ∈ setOf a0 a1 a3 a4 a5 b → posOf a0 a1 a4 a5 b p = 0#1)
      ∧ clearP (Ref.mineA a0 a1 a3 a4 a5) (cutP (Ref.mineA a0 a1 a3 a4 a5) (Ref.hardA a0 a1 a3 a4 a5)) (ix2 b p) = 1#1 := by
    intro b p
    have e := k3 (b, p)
    rw [priP_at] at e
    obtain ⟨e12, e3⟩ := and_one _ _ e
    obtain ⟨e1, e2⟩ := and_one _ _ e12
    refine ⟨bit_one _ e1, fun hp => not_both _ _ e2 ?_, e3⟩
    rw [hardA_at, decide_eq_true hp]
    rfl
  refine ⟨fun b n => ?_, fun b p c => real_of _ ?_, fun b p => (k4 b p).1, fun b p => (k4 b p).2.1, fun b i0 hi hmin j => ?_⟩
  · by_cases hn : n < 16
    · have e := k1 (b, ⟨n, hn⟩)
      obtain ⟨e1, e2⟩ := and_one _ _ e
      have := class_low _ e1 e2
      exact (lab_eq a5 b ⟨n, hn⟩) ▸ this
    · unfold labA
      rw [dif_neg hn]
      decide
  · have e := bit_one _ (k2 (b, p, c))
    rw [Ce.ofBits_top] at e
    exact e
  · have e := (k4 b j).2.2
    rw [clearP_at, cutP_at, Ce.ofBits_top] at e
    have hc : Finset.fold min (⊤ : EReal) (fun p : Fin 16320 => Scalar.select (Ref.hardA a0 a1 a3 a4 a5 (ix2 b p)) (Ref.mineA a0 a1 a3 a4 a5 (ix2 b p)) ⊤) Finset.univ
        = lossOf a0 a1 a3 a4 a5 b i0 := by
      rw [Finset.fold_congr fun p _ => by rw [hardA_at]]
      exact cut_least (lossOf a0 a1 a3 a4 a5 b) _ i0 hi hmin
    rw [hc] at e
    exact (or_one _ _ e).imp (fun h => bit_one _ h) (fun h => bit_one _ h)

end whole

end Cert.Mined

end
-- ==== Proof.MinLoop.lean ====
/-
  The bisection on words: it ends with neighbours, the lower one passing the test and the upper one not.
-/
module

public import Idealize.ShloMosaic.PureOps
public import Idealize.ShloMosaic.Lib.Exec

@[expose] public section

noncomputable section

namespace Cert.Mined

open Idealize.ShloMosaic

/-- The word halfway between two. -/
def mid (x : BitVec 32 × BitVec 32) : BitVec 32 := Scalar.addi x.1 (Scalar.shrsi (Scalar.subi x.2 x.1) 1#32)

/-- One halving. -/
def halve (p : BitVec 32 → BitVec 1) (x : BitVec 32 × BitVec 32) : BitVec 32 × BitVec 32 :=
  (Scalar.select (p (mid x)) (mid x) x.1, Scalar.select (p (mid x)) x.2 (mid x))

/-- The word halfway, as a number. -/
theorem mid_nat (x : BitVec 32 × BitVec 32) (h : x.1.toNat ≤ x.2.toNat) (h2 : x.2.toNat ≤ 2139095040) :
    (mid x).toNat = x.1.toNat + (x.2.toNat - x.1.toNat) / 2 := by
  have hs : (x.2 - x.1).toNat = x.2.toNat - x.1.toNat := BitVec.toNat_sub_of_le (by rw [BitVec.le_def]; exact h)
  have hm : (x.2 - x.1).msb = false := by
    rw [BitVec.msb_eq_decide, hs]
    simp
    omega
  have e : Scalar.shrsi (Scalar.subi x.2 x.1) 1#32 = (x.2 - x.1) >>> 1 := by
    show IntOp.shrsi .scalar (x.2 - x.1) 1#32 = _
    unfold IntOp.shrsi
    rw [if_pos (by decide)]
    rw [BitVec.sshiftRight_eq', show (1#32).toNat = 1 from rfl, BitVec.sshiftRight_eq_of_msb_false hm]
  show (x.1 + Scalar.shrsi (Scalar.subi x.2 x.1) 1#32).toNat = _
  rw [e, BitVec.toNat_add, BitVec.toNat_ushiftRight, hs, Nat.shiftRight_eq_div_pow]
  omega

/-- What holds while halving, after `n` of 31 rounds. -/
def Inv (p : BitVec 32 → BitVec 1) (n : ℕ) (x : BitVec 32 × BitVec 32) : Prop :=
  x.1.toNat < x.2.toNat ∧ x.2.toNat ≤ 2139095040 ∧ x.2.toNat - x.1.toNat ≤ 2 ^ (31 - n) ∧ p x.1 = 1#1 ∧ p x.2 ≠ 1#1

/-- A round keeps it. -/
theorem inv_step (p : BitVec 32 → BitVec 1) (n : ℕ) (hn : n < 31) (x : BitVec 32 × BitVec 32) (h : Inv p n x) : Inv p (n + 1) (halve p x) := by
  obtain ⟨h1, h2, h3, h4, h5⟩ := h
  have hm := mid_nat x h1.le h2
  have hp : 2 ^ (31 - n) = 2 * 2 ^ (31 - (n + 1)) := by
    rw [← Nat.pow_succ', show (31 - (n + 1)).succ = 31 - n by omega]
  have hpos : 1 ≤ 2 ^ (31 - (n + 1)) := Nat.one_le_two_pow
  rw [hp] at h3
  unfold Inv halve Scalar.select
  by_cases hc : p (mid x) = 1
  · rw [if_pos hc, if_pos hc]
    refine ⟨?_, h2, ?_, hc, h5⟩ <;> dsimp only <;> omega
  · rw [if_neg hc, if_neg hc]
    have hne : x.1.toNat ≠ (mid x).toNat := fun e => hc ((congrArg p (BitVec.eq_of_toNat_eq e)).symm.trans h4)
    refine ⟨?_, ?_, ?_, h4, hc⟩ <;> dsimp only <;> omega

/-- All the rounds. -/
theorem inv_all (p : BitVec 32 → BitVec 1) (l : ℕ) : ∀ (n : ℕ) (x : BitVec 32 × BitVec 32), n + l ≤ 31 → Inv p n x →
    ∀ ks : List (Fin 31), ks.length = l → Inv p (n + l) (ks.foldl (fun acc _ => halve p acc) x) := by
  induction l with
  | zero =>
    intro n x _ h ks hk
    rw [List.length_eq_zero_iff.1 hk]
    exact h
  | succ l ih =>
    intro n x hl h ks hk
    match ks with
    | [] => exact absurd hk (by simp)
    | k :: ks =>
      have := ih (n + 1) (halve p x) (by omega) (inv_step p n (by omega) x h) ks (by simpa using hk)
      rw [show n + 1 + l = n + (l + 1) by omega] at this
      exact this

/-- The whole bisection ends with neighbouring words. -/
theorem bisect (p : BitVec 32 → BitVec 1) (h0 : p 0#32 = 1#1) (h1 : p 2139095040#32 ≠ 1#1) (x : BitVec 32 × BitVec 32)
    (hx : x = Scf.fold (n := 31) (fun _ acc => halve p acc) (0#32, 2139095040#32)) :
    x.1.toNat + 1 ≤ 2139095040 ∧ p x.1 = 1#1 ∧ p (x.1 + 1#32) ≠ 1#1 := by
  have h : Inv p 31 x := by
    rw [hx, Scf.fold_eq]
    exact inv_all p 31 0 _ (by omega) ⟨by decide, by decide, by decide, h0, h1⟩ _ (by simp)
  obtain ⟨a1, a2, a3, a4, a5⟩ := h
  rw [show 31 - 31 = 0 from rfl, Nat.pow_zero] at a3
  have e : x.1 + 1#32 = x.2 := by
    apply BitVec.eq_of_toNat_eq
    rw [BitVec.toNat_add]
    show (x.1.toNat + 1) % 2 ^ 32 = _
    omega
  refine ⟨by omega, a4, ?_⟩
  rw [e]
  exact a5

end Cert.Mined

end
-- ==== Proof.MinModel.lean ====
/-
  The kernel's selection of hard negatives as arrays: the losses with the positive priors' set to zero, the bisection
  for the threshold word, and the sum of the picked losses.
-/
module

public import proofs.«01_k».proof.Proof.CeModel
public import proofs.«01_k».proof.Proof.MinLoop

@[expose] public section

noncomputable section

namespace Cert.Mined

open Idealize.ShloMosaic Cert.KernelIdeal Cert.KernelIdeal.Gen Cert.Loss

/-- The losses, zero at the positive priors. -/
def mineT (pos : IVec S8x2040 1) (ce : Tile) : Tile := select pos (lit 0x00000000#32) ce

section pick
variable (x : Tile) (k : BitVec 32)

/-- Where a loss reaches a word's number. -/
def geT (w : BitVec 32) : IVec S8x2040 1 := cmpf .oge x (broadcast S8x2040 (Scalar.ofBits (F := Ideal) .f32 w))

/-- How many losses reach a word's number. -/
def reachT (w : BitVec 32) : BitVec 32 := countT (extui 32 (geT x w) natLt_1_32)

/-- Whether at least `k` losses reach a word's number. -/
def testT (w : BitVec 32) : BitVec 1 := Scalar.cmpi .sge (reachT x w) k

/-- The bisection's last bounds. -/
def boundsT : BitVec 32 × BitVec 32 := Scf.fold (n := 31) (fun _ acc => halve (testT x k) acc) (0#32, 2139095040#32)

/-- The largest value of a tile. -/
def maxT (y : Tile) : Ideal .f32 :=
  extractAt ![0, 0, 0] (shapeCast S1x1x1 (multiReduction .maximumf [1, 2] S1
    (shapeCast S1x8x2040 y shapeCasts_S8x2040_S1x8x2040) 0xFF800000#32 reduces_S1x8x2040_S1 (.inl rfl) rfl)
    shapeCasts_S1_S1x1x1 : FVec Ideal S1x1x1 .f32) inpos_S1x1x1_p0_0_0

/-- The sum of the `k` largest losses, with the threshold word `w`. -/
def sumAt (w : BitVec 32) : Ideal .f32 :=
  Scalar.select (Scalar.cmpi .sgt k 0#32)
    (Scalar.addf (sumT (select (geT x (Scalar.addi w 1#32)) x (lit 0x00000000#32)))
      (Scalar.mulf (Scalar.sitofp (F := Ideal) .f32 (Scalar.subi k (reachT x (Scalar.addi w 1#32))))
        (maxT (select (andi (geT x w) (xori (geT x (Scalar.addi w 1#32)) (constantI S8x2040 1 1#1))) x (lit 0xF149F2CA#32)))))
    (Scalar.ofBits .f32 0x00000000#32)

/-- The sum of the `k` largest losses. -/
def negT : Ideal .f32 := sumAt x k (boundsT x k).1

end pick

section block
variable (x : ℕ → Tile) (p a : FVec Ideal S4x8x2040 .f32) (c : FVec Ideal S2x8x2040 .f32) (b : ℕ → ℕ → Ideal .f32) (lab : ℕ → BitVec 32)

/-- The losses of a block, zero at the positive priors. -/
def mineB : Tile := mineT (posB p a c b lab) (ceT x (confB p a b lab))

/-- The sum of the hard negatives' losses of a block. -/
def negB : Ideal .f32 := negT (mineB x p a c b lab) (kB (nposB p a c b lab))

end block

end Cert.Mined

end
-- ==== Proof.MinTop.lean ====
/-
  The sum of the largest values of a finite family: those past a threshold word, and the rest of them all equal.
-/
module

public import Mathlib.Data.EReal.Operations
public import Mathlib.Algebra.BigOperators.Group.Finset.Basic

@[expose] public section

noncomputable section

namespace Cert.Mined

section top
variable {ι : Type} [Fintype ι] [DecidableEq ι] (m : ι → EReal) (N : Finset ι) (a b : EReal)

/-- Where fewer values than picked reach `b` and at least as many reach `a`, the least picked one lies between. -/
theorem cut_between (hab : a ≤ b) (htop : ∀ i ∈ N, ∀ j, j ∉ N → m j ≤ m i) (i0 : ι) (h0 : i0 ∈ N) (hmin : ∀ i ∈ N, m i0 ≤ m i)
    (ha : N.card ≤ (Finset.univ.filter fun i => a ≤ m i).card) (hb : (Finset.univ.filter fun i => b ≤ m i).card < N.card) : a ≤ m i0 ∧ m i0 < b := by
  constructor
  · by_contra h
    rw [not_le] at h
    have hs : (Finset.univ.filter fun i => a ≤ m i) ⊆ N.erase i0 := by
      intro j hj
      have hj' := (Finset.mem_filter.1 hj).2
      refine Finset.mem_erase.2 ⟨fun e => ?_, ?_⟩
      · rw [e] at hj'
        exact absurd h (not_lt.2 hj')
      · by_contra hn
        exact absurd (lt_of_lt_of_le h (hj'.trans (htop i0 h0 j hn))) (lt_irrefl _)
    have := Finset.card_le_card hs
    rw [Finset.card_erase_of_mem h0] at this
    have := Finset.card_pos.2 ⟨i0, h0⟩
    omega
  · by_contra h
    rw [not_lt] at h
    have hs : N ⊆ Finset.univ.filter fun i => b ≤ m i := fun i hi => Finset.mem_filter.2 ⟨Finset.mem_univ _, h.trans (hmin i hi)⟩
    have := Finset.card_le_card hs
    omega

/-- The picked values' sum: those that reach `b`, and the least picked value for each of the others. -/
theorem pick_sum (htop : ∀ i ∈ N, ∀ j, j ∉ N → m j ≤ m i) (i0 : ι) (h0 : i0 ∈ N) (hmin : ∀ i ∈ N, m i0 ≤ m i)
    (h1 : a ≤ m i0) (h2 : m i0 < b) (hcell : ∀ j, a ≤ m j → m j < b → m j = m i0) :
    (Finset.univ.filter fun i => b ≤ m i).card ≤ N.card ∧
    ∑ i ∈ N, m i = (∑ i, if b ≤ m i then m i else 0) + (N.card - (Finset.univ.filter fun i => b ≤ m i).card) • m i0 := by
  have hU : (Finset.univ.filter fun i => b ≤ m i) ⊆ N := by
    intro j hj
    have hj' := (Finset.mem_filter.1 hj).2
    by_contra hn
    exact absurd (lt_of_lt_of_le h2 (hj'.trans (htop i0 h0 j hn))) (lt_irrefl _)
  refine ⟨Finset.card_le_card hU, ?_⟩
  rw [← Finset.sum_filter, ← Finset.sum_sdiff hU, add_comm]
  congr 1
  rw [Finset.sum_congr rfl (g := fun _ => m i0), Finset.sum_const, Finset.card_sdiff_of_subset hU]
  intro i hi
  obtain ⟨hi1, hi2⟩ := Finset.mem_sdiff.1 hi
  have hlt : m i < b := by
    by_contra h
    exact hi2 (Finset.mem_filter.2 ⟨Finset.mem_univ _, not_lt.1 h⟩)
  exact hcell i (h1.trans (hmin i hi1)) hlt

/-- The largest value between the thresholds. -/
theorem cell_max (i0 : ι) (h1 : a ≤ m i0) (h2 : m i0 < b) (hcell : ∀ j, a ≤ m j → m j < b → m j = m i0) (z : EReal) (hz : z ≤ m i0) :
    Finset.fold max ⊥ (fun i => if a ≤ m i ∧ m i < b then m i else z) Finset.univ = m i0 := by
  refine le_antisymm ?_ ?_
  · rw [Finset.fold_max_le]
    refine ⟨bot_le, fun i _ => ?_⟩
    split
    · rename_i h
      exact (hcell i h.1 h.2).le
    · exact hz
  · rw [Finset.le_fold_max]
    exact Or.inr ⟨i0, Finset.mem_univ _, by rw [if_pos ⟨h1, h2⟩]⟩

end top

end Cert.Mined

end
-- ==== Proof.MinKer.lean ====
/-
  The kernel's sum of the picked losses is the sum over any set of as many priors of largest losses.
-/
module

public import proofs.«01_k».proof.Proof.MinModel
public import proofs.«01_k».proof.Proof.MinWords
public import proofs.«01_k».proof.Proof.MinTop
public import proofs.«01_k».proof.Proof.CeMath
public import Idealize.ShloMosaic.Lib.IndicatorCount

@[expose] public section

noncomputable section

namespace Cert.Mined

open Idealize.ShloMosaic Idealize.ShloMosaic.Tactic Cert.Loss

/-- Comparing small words, signed. -/
theorem sge_small (u v : BitVec 32) (hu : u.toNat < 2 ^ 31) (hv : v.toNat < 2 ^ 31) : Scalar.cmpi .sge u v = 1#1 ↔ v.toNat ≤ u.toNat := by
  have e : v.sle u = decide (v.toNat ≤ u.toNat) := by
    rw [BitVec.sle_eq_decide, BitVec.toInt_eq_toNat_cond v, BitVec.toInt_eq_toNat_cond u, if_pos (by omega), if_pos (by omega)]
    simp
  show BitVec.ofBool (v.sle u) = 1#1 ↔ _
  rw [e]
  by_cases h : v.toNat ≤ u.toNat <;> simp [h]

/-- A small word is positive unless it is zero. -/
theorem sgt_small (v : BitVec 32) (hv : v.toNat < 2 ^ 31) : Scalar.cmpi .sgt v 0#32 = BitVec.ofBool (decide (0 < v.toNat)) := by
  show BitVec.ofBool ((0#32).slt v) = _
  rw [BitVec.slt_eq_decide, BitVec.toInt_eq_toNat_cond v, if_pos (by omega)]
  simp

/-- Whether a loss reaches a word's number. -/
theorem geT_at (x : Tile) (w : BitVec 32) (s : Fin 8) (l : Fin 2040) : geT x w (ix2 s l) = BitVec.ofBool (decide (num w ≤ x (ix2 s l))) := rfl

/-- The literal minus infinity. -/
theorem ofBits_bot : Ideal.ofBits .f32 0xFF800000#32 = ⊥ := by
  simp [Ideal.ofBits, Ideal.ieee]

/-- The literal below all losses is negative. -/
theorem low_neg : Ideal.ofBits .f32 0xF149F2CA#32 ≤ 0 := by
  have hn : ¬ TotalOrder.IsNaN 8 23 (0xF149F2CA#32 : BitVec 32) := by
    rintro ⟨h1, _⟩
    revert h1
    decide
  have hs : TotalOrder.sign 8 23 (0xF149F2CA#32 : BitVec 32) = true := by decide
  show Ideal.ieee 8 23 (0xF149F2CA#32 : BitVec 32) ≤ 0
  rw [TotalOrder.ieee_eq_signed_absVal hn, hs, if_pos rfl]
  have := TotalOrder.absVal_nonneg (e := 8) (m := 23) (0xF149F2CA#32 : BitVec 32)
  rw [← neg_zero]
  exact EReal.neg_le_neg_iff.2 this

/-- The literals of the margin, as reals: more than 1e-31 and more than a part in 2^23. -/
theorem margin : ∃ u v : ℝ, num 0x0DA24260#32 = (u : EReal) ∧ num 0x358637BD#32 = (v : EReal) ∧ 1 / 10 ^ 31 < u ∧ 1 / 2 ^ 23 < v := by
  refine ⟨_, _, num_coe _ (by decide), num_coe _ (by decide), ?_, ?_⟩
  · unfold TotalOrder.sig TotalOrder.ulp
    norm_num [zpow_neg]
  · unfold TotalOrder.sig TotalOrder.ulp
    norm_num [zpow_neg]

/-- The largest value of a tile. -/
theorem maxT_at (x : Tile) : maxT x = Finset.fold max (Ideal.ofBits .f32 0xFF800000#32) (fun q : Fin 8 × Fin 2040 => x (ix2 q.1 q.2)) Finset.univ := by
  pointwise [maxT]

section tile
variable (x : Tile) (y : Fin 16320 → EReal) (hx : ∀ s l, x (ix2 s l) = y (flatP s l))
include hx

/-- How many losses reach a word's number. -/
theorem reachT_eq (w : BitVec 32) : (reachT x w).toNat = (Finset.univ.filter fun p => num w ≤ y p).card := by
  unfold reachT
  rw [countT_at, count_tile (fun s l => geT x w (ix2 s l)) (fun p => BitVec.ofBool (decide (num w ≤ y p))) (fun s l => by rw [geT_at, hx]),
    IndicatorCount.fold_addi_setWidth_eq_card]
  have e : (Finset.univ.filter fun p : Fin 16320 => BitVec.ofBool (decide (num w ≤ y p)) = 1#1) = Finset.univ.filter fun p => num w ≤ y p := by
    ext p
    by_cases h : num w ≤ y p <;> simp [h]
  rw [e, BitVec.toNat_ofNat, Nat.mod_eq_of_lt]
  exact lt_of_le_of_lt (Finset.card_le_univ _) (by simp)

/-- There are at most as many as priors. -/
theorem reachT_le (w : BitVec 32) : (reachT x w).toNat ≤ 16320 := by
  rw [reachT_eq x y hx]
  exact (Finset.card_le_univ _).trans (by simp)

/-- The sum of the losses that reach a word's number. -/
theorem sumGe (w : BitVec 32) : sumT (select (geT x w) x (lit 0x00000000#32)) = ∑ p, if num w ≤ y p then y p else 0 := by
  rw [sumT_at, ← sum_tile]
  refine Finset.sum_congr rfl fun s _ => Finset.sum_congr rfl fun l _ => ?_
  show Scalar.select (geT x w (ix2 s l)) (x (ix2 s l)) (Ideal.ofBits .f32 0x00000000#32) = _
  rw [geT_at, hx, Cert.Ce.ofBits_zero]
  by_cases h : num w ≤ y (flatP s l)
  · rw [decide_eq_true h, if_pos h]
    rfl
  · rw [decide_eq_false h, if_neg h]
    rfl

/-- The largest loss between two words' numbers, if all there are the same. -/
theorem maxCell (w v : BitVec 32) (p0 : Fin 16320) (h0 : 0 ≤ y p0) (h1 : num w ≤ y p0) (h2 : y p0 < num v)
    (hcell : ∀ p, num w ≤ y p → y p < num v → y p = y p0) :
    maxT (select (andi (geT x w) (xori (geT x v) (constantI Cert.KernelIdeal.S8x2040 1 1#1))) x (lit 0xF149F2CA#32)) = y p0 := by
  rw [maxT_at, ofBits_bot]
  have hq : ∀ q : Fin 8 × Fin 2040, select (andi (geT x w) (xori (geT x v) (constantI Cert.KernelIdeal.S8x2040 1 1#1))) x (lit 0xF149F2CA#32) (ix2 q.1 q.2)
      = if num w ≤ y (flatP q.1 q.2) ∧ y (flatP q.1 q.2) < num v then y (flatP q.1 q.2) else Ideal.ofBits .f32 0xF149F2CA#32 := by
    intro q
    show Scalar.select (IntOp.andi (geT x w (ix2 q.1 q.2)) (IntOp.xori (geT x v (ix2 q.1 q.2)) 1#1)) (x (ix2 q.1 q.2)) (Ideal.ofBits .f32 0xF149F2CA#32) = _
    rw [geT_at, geT_at, hx]
    by_cases a : num w ≤ y (flatP q.1 q.2) <;> by_cases c : num v ≤ y (flatP q.1 q.2)
    · rw [decide_eq_true a, decide_eq_true c, if_neg (fun h => not_lt.2 c h.2)]
      rfl
    · rw [decide_eq_true a, decide_eq_false c, if_pos ⟨a, not_le.1 c⟩]
      rfl
    · rw [decide_eq_false a, decide_eq_true c, if_neg (fun h => a h.1)]
      rfl
    · rw [decide_eq_false a, decide_eq_false c, if_neg (fun h => a h.1)]
      rfl
  rw [Finset.fold_congr fun q _ => hq q]
  obtain ⟨q0, e0⟩ : ∃ q0 : Fin 8 × Fin 2040, flatP q0.1 q0.2 = p0 := ⟨tileP.symm p0, tileP.apply_symm_apply p0⟩
  have := cell_max (fun q : Fin 8 × Fin 2040 => y (flatP q.1 q.2)) (num w) (num v) q0 (by simpa only [e0] using h1) (by simpa only [e0] using h2)
    (fun q a c => by simpa only [e0] using hcell _ a c) (Ideal.ofBits .f32 0xF149F2CA#32) (by simpa only [e0] using low_neg.trans h0)
  rw [this, e0]

/-- The kernel's sum of the `k` largest losses, against any `k` priors of largest losses. -/
theorem negT_eq (h0 : ∀ p, 0 ≤ y p) (h1 : ∀ p, y p < num 0x7149F2CA#32) (k : BitVec 32) (hk : k.toNat ≤ 16319) (N : Finset (Fin 16320)) (hN : N.card = k.toNat)
    (htop : ∀ i ∈ N, ∀ j, j ∉ N → y j ≤ y i)
    (hclear : ∀ i0 ∈ N, (∀ i ∈ N, y i0 ≤ y i) → ∀ j, y j = y i0 ∨ num 0x0DA24260#32 + num 0x358637BD#32 * y j < max (y j - y i0) (-(y j - y i0))) :
    negT x k = ∑ p ∈ N, y p := by
  unfold negT sumAt
  rw [sgt_small k (by omega)]
  by_cases hz : 0 < k.toNat
  swap
  · rw [decide_eq_false hz, Finset.card_eq_zero.1 (hN.trans (by omega)), Finset.sum_empty]
    exact Cert.Ce.ofBits_zero
  rw [decide_eq_true hz]
  have small := reachT_le x y hx
  have t := fun w => sge_small (reachT x w) k (by have := small w; omega) (by omega)
  obtain ⟨b1, b2, b3⟩ := bisect (testT x k) ((t _).2 (by
      rw [reachT_eq x y hx, Finset.filter_true_of_mem fun p _ => ?_]
      · simp
        omega
      · show Ideal.ofBits .f32 0x00000000#32 ≤ y p
        rw [Cert.Ce.ofBits_zero]
        exact h0 p)) (fun h => by
      have h' := (t _).1 h
      rw [reachT_eq x y hx, Finset.filter_false_of_mem fun p _ => ?_] at h'
      · simp at h'
        omega
      · rw [num_top, top_le_iff]
        exact ((h1 p).trans_le le_top).ne) (boundsT x k) rfl
  generalize (boundsT x k).1 = w at *
  have c2 := (t w).1 b2
  have c3 : (reachT x (w + 1#32)).toNat < k.toNat := not_le.1 fun h => b3 ((t _).2 h)
  rw [reachT_eq x y hx] at c2 c3
  have hw1 : (w + 1#32).toNat = w.toNat + 1 := by
    rw [BitVec.toNat_add]
    show (w.toNat + 1) % 2 ^ 32 = _
    omega
  obtain ⟨i0, hi0, hmin⟩ := N.exists_min_image y (Finset.card_pos.1 (by omega))
  obtain ⟨d1, d2⟩ := cut_between y N (num w) (num (w + 1#32)) (num_lt _ _ (by simp only [top32]; omega) (by omega)).le htop i0 hi0 hmin (by omega) (by omega)
  have hw : w.toNat + 1 < top32 := by
    by_contra hc
    have : num 0x7149F2CA#32 < num w := num_lt _ _ (by simp only [top32]; omega) (by
      have : (0x7149F2CA#32 : BitVec 32).toNat = 0x7149F2CA := rfl
      simp only [top32] at hc
      omega)
    exact absurd (this.trans_le d1) (not_lt.2 (h1 i0).le)
  have real : ∀ p, ∃ r : ℝ, y p = (r : EReal) := fun p =>
    ⟨(y p).toReal, (EReal.coe_toReal ((h1 p).trans_le le_top).ne (ne_of_gt (lt_of_lt_of_le EReal.bot_lt_zero (h0 p)))).symm⟩
  have hcell : ∀ j, num w ≤ y j → y j < num (w + 1#32) → y j = y i0 := by
    intro j j1 j2
    rcases hclear i0 hi0 hmin j with e | e
    · exact e
    · exfalso
      obtain ⟨r, hr⟩ := real j
      obtain ⟨r0, hr0⟩ := real i0
      obtain ⟨u, v, hu, hv, lu, lv⟩ := margin
      have hpos := h0 j
      rw [hr] at j1 j2 hpos
      rw [hr0] at d1 d2
      have hn := near w hw r r0 j1 j2 d1 d2
      have hpos' : 0 ≤ r := EReal.coe_nonneg.1 hpos
      rw [hr, hr0, hu, hv, ← EReal.coe_mul, ← EReal.coe_add, ← EReal.coe_sub, ← EReal.coe_neg, ← EReal.coe_strictMono.monotone.map_max, EReal.coe_lt_coe_iff] at e
      have : max (r - r0) (-(r - r0)) = |r - r0| := rfl
      rw [this] at e
      have : r / 2 ^ 23 ≤ v * r := by
        rw [div_eq_mul_one_div, mul_comm]
        exact mul_le_mul_of_nonneg_right lv.le hpos'
      linarith
  obtain ⟨s1, s2⟩ := pick_sum y N (num w) (num (w + 1#32)) htop i0 hi0 hmin d1 d2 hcell
  rw [s2]
  show sumT (select (geT x (w + 1#32)) x (lit 0x00000000#32)) + FloatOps.sitofp (F := Ideal) .f32 (k - reachT x (w + 1#32))
    * maxT (select (andi (geT x w) (xori (geT x (w + 1#32)) (constantI Cert.KernelIdeal.S8x2040 1 1#1))) x (lit 0xF149F2CA#32)) = _
  rw [sumGe x y hx, maxCell x y hx w (w + 1#32) i0 (h0 i0) d1 d2 hcell]
  have hsub : (k - reachT x (w + 1#32)).toNat = k.toNat - (Finset.univ.filter fun p => num (w + 1#32) ≤ y p).card := by
    rw [BitVec.toNat_sub_of_le (by rw [BitVec.le_def, reachT_eq x y hx]; omega), reachT_eq x y hx]
  have hf : FloatOps.sitofp (F := Ideal) .f32 (k - reachT x (w + 1#32)) = (((k.toNat - (Finset.univ.filter fun p => num (w + 1#32) ≤ y p).card : ℕ) : ℝ) : EReal) :=
    (float_small _ (by rw [hsub]; omega)).trans (by rw [hsub])
  rw [hf, hN, EReal.nsmul_eq_mul]
  rfl

end tile

end Cert.Mined

end
-- ==== Proof.MinBlock.lean ====
/-
  What one grid point leaves in the second to fifth columns of its output block with the third ending, read through the
  named arrays of Proof/MinModel.lean.
-/
module

public import proofs.«01_k».proof.Proof.Gen.KernelMinedIdeal.Frame
public import proofs.«01_k».proof.Proof.MinModel
public import proofs.«01_k».proof.Proof.CeOut

@[expose] public section

noncomputable section

namespace Cert.Mined

open Idealize.ShloMosaic Cert.KernelMinedIdeal Cert.KernelMinedIdeal.Gen Idealize.ShloMosaic.Tactic
open Cert.Ce (ldCls)

section run
variable (c : Dev nD) (arg1 : Memref sig .tc .vmem S1x16x4 .f32) (harg1 : arg1.IsWhole) (arg2 : Memref sig .tc .vmem S1x1x16 .i32) (harg2 : arg2.IsWhole) (arg3 : Memref sig .tc .vmem S1x81x8x2040 .f32) (harg3 : arg3.IsWhole) (arg4 : Memref sig .tc .vmem S1x4x8x2040 .f32) (harg4 : arg4.IsWhole) (arg6 : Memref sig .tc .vmem S1x2x8x2040 .f32) (harg6 : arg6.IsWhole) (arg7 : Memref sig .tc .vmem S4x8x2040 .f32) (harg7 : arg7.IsWhole)
  (x0 : Vec Ideal S1x16x4 .f32) (x1 : Vec Ideal S1x1x16 .i32) (x2 : Vec Ideal S1x81x8x2040 .f32) (x3 : Vec Ideal S1x4x8x2040 .f32) (x5 : Vec Ideal S1x2x8x2040 .f32) (x6 : Vec Ideal S4x8x2040 .f32)

/-- The fifth value the run names is the number of hard negatives, as a float. -/
theorem run_k :
    kernelRun0_A.sl.r_165 c arg1 harg1 arg2 harg2 arg4 harg4 arg6 harg6 arg7 harg7 x0 x1 x3 x5 x6 =
      Scalar.sitofp (F := Ideal) .f32 (Loss.kB (Loss.nposB (Loss.ldPri (arg7.view.read (Elt Ideal) (harg7.unread x6))) (Loss.ldFour (arg4.view.read (Elt Ideal) (harg4.unread x3)))
        (Loss.ldTwo (arg6.view.read (Elt Ideal) (harg6.unread x5)))
        (Loss.ldObj (arg1.view.read (Elt Ideal) (harg1.unread x0))) (Loss.ldLab (arg2.view.read (Elt Ideal) (harg2.unread x1))))) := by
  sl_kernel_rfl

/-- The third value the run names is the cross entropy summed over the positive priors. -/
theorem run_ce :
    kernelRun0_A.sl.r_162 c arg1 harg1 arg2 harg2 arg3 harg3 arg4 harg4 arg6 harg6 arg7 harg7 x0 x1 x2 x3 x5 x6 =
      Loss.ceB (ldCls (arg3.view.read (Elt Ideal) (harg3.unread x2))) (Loss.ldPri (arg7.view.read (Elt Ideal) (harg7.unread x6))) (Loss.ldFour (arg4.view.read (Elt Ideal) (harg4.unread x3)))
        (Loss.ldTwo (arg6.view.read (Elt Ideal) (harg6.unread x5)))
        (Loss.ldObj (arg1.view.read (Elt Ideal) (harg1.unread x0))) (Loss.ldLab (arg2.view.read (Elt Ideal) (harg2.unread x1))) := by
  sl_kernel_rfl

/-- The fourth value the run names is the sum of the hard negatives' losses. -/
theorem run_neg :
    kernelRun0_A.sl.r_164 c arg1 harg1 arg2 harg2 arg3 harg3 arg4 harg4 arg6 harg6 arg7 harg7 x0 x1 x2 x3 x5 x6 =
      negB (ldCls (arg3.view.read (Elt Ideal) (harg3.unread x2))) (Loss.ldPri (arg7.view.read (Elt Ideal) (harg7.unread x6))) (Loss.ldFour (arg4.view.read (Elt Ideal) (harg4.unread x3)))
        (Loss.ldTwo (arg6.view.read (Elt Ideal) (harg6.unread x5)))
        (Loss.ldObj (arg1.view.read (Elt Ideal) (harg1.unread x0))) (Loss.ldLab (arg2.view.read (Elt Ideal) (harg2.unread x1))) := by
  sl_kernel_rfl

/-- The count the run names is the number of positive priors. -/
theorem run_npos :
    kernelRun0_A.sl.v1531 c arg1 harg1 arg2 harg2 arg4 harg4 arg6 harg6 arg7 harg7 x0 x1 x3 x5 x6 =
      Loss.nposB (Loss.ldPri (arg7.view.read (Elt Ideal) (harg7.unread x6))) (Loss.ldFour (arg4.view.read (Elt Ideal) (harg4.unread x3)))
        (Loss.ldTwo (arg6.view.read (Elt Ideal) (harg6.unread x5)))
        (Loss.ldObj (arg1.view.read (Elt Ideal) (harg1.unread x0))) (Loss.ldLab (arg2.view.read (Elt Ideal) (harg2.unread x1))) := by
  sl_kernel_rfl

end run

end Cert.Mined

end
-- ==== Proof.MinOut.lean ====
/-
  The kernel's output array with the third ending: image `b`'s number of positive priors, its cross entropy over them, its
  hard negatives' losses and their number in columns 1 to 4, over the operands the host laid out; and the quotient of them.
-/
module

public import proofs.«01_k».proof.Proof.MinBlock

@[expose] public section

noncomputable section

namespace Cert.Mined

open Idealize.ShloMosaic Idealize.ShloMosaic.Pipeline Idealize.ShloMosaic.TcCoe Cert.KernelMinedIdeal Cert.KernelMinedIdeal.Gen Idealize.ShloMosaic.Tactic
open Cert.Loss (ldObj ldLab ldFour ldPri ldTwo drop4 drop2 same4 fourA twoA priA objA labA ldObj_at ldLab_at nposB kB ceB cntA)
open Cert.Ce (ldCls clsA plane_cast ldCls_at ceA)

/-- The stored row at column 1. -/
theorem row_one (a b d s : Ideal .f32) (n : BitVec 32) :
    k0_pay1 a b d (iota .tc S1x128 32 [1] iota_S1x128_d1_w32) (k0_pay418 n s) (k0_pay420 (iota .tc S1x128 32 [1] iota_S1x128_d1_w32) k0_pay419)
      (ix3 (0 : Fin 1) (0 : Fin 1) (1 : Fin 128)) = Scalar.sitofp .f32 n := by
  pointwise [k0_pay1, k0_pay418, k0_pay419, k0_pay420]
  rfl

/-- The stored row at column 2. -/
theorem row_two (a b d s : Ideal .f32) (n : BitVec 32) :
    k0_pay1 a b d (iota .tc S1x128 32 [1] iota_S1x128_d1_w32) (k0_pay418 n s) (k0_pay420 (iota .tc S1x128 32 [1] iota_S1x128_d1_w32) k0_pay419)
      (ix3 (0 : Fin 1) (0 : Fin 1) (2 : Fin 128)) = a := by
  pointwise [k0_pay1, k0_pay418, k0_pay419, k0_pay420]
  rfl

/-- The stored row at column 3. -/
theorem row_three (a b d s : Ideal .f32) (n : BitVec 32) :
    k0_pay1 a b d (iota .tc S1x128 32 [1] iota_S1x128_d1_w32) (k0_pay418 n s) (k0_pay420 (iota .tc S1x128 32 [1] iota_S1x128_d1_w32) k0_pay419)
      (ix3 (0 : Fin 1) (0 : Fin 1) (3 : Fin 128)) = b := by
  pointwise [k0_pay1, k0_pay418, k0_pay419, k0_pay420]
  rfl

/-- The stored row at column 4. -/
theorem row_four (a b d s : Ideal .f32) (n : BitVec 32) :
    k0_pay1 a b d (iota .tc S1x128 32 [1] iota_S1x128_d1_w32) (k0_pay418 n s) (k0_pay420 (iota .tc S1x128 32 [1] iota_S1x128_d1_w32) k0_pay419)
      (ix3 (0 : Fin 1) (0 : Fin 1) (4 : Fin 128)) = d := by
  pointwise [k0_pay1, k0_pay418, k0_pay419, k0_pay420]

variable (m : (ℓ : Loc nD τ sig) → Buf (Elt Ideal) ℓ) (c : Dev nD)

/-- The block an image leaves, at column 1. -/
theorem outs_one (t : Fin cfg0.N) : outsAt0 m c t (ix3 (0 : Fin 1) (0 : Fin 1) (1 : Fin 128)) =
    Scalar.sitofp (F := Ideal) .f32 (nposB (ldPri (iblk m c 6 t)) (ldFour (iblk m c 3 t)) (ldTwo (iblk m c 5 t))
      (ldObj (iblk m c 0 t)) (ldLab (iblk m c 1 t))) := by
  unfold outsAt0 out0_A_7
  rw [View.read_writes_junk_eq_canon]
  unfold kernelRun0_A
  dsimp only
  rw [View.canon_unit_zero (by decide)]
  refine (row_one _ _ _ _ _).trans ?_
  rw [run_npos]
  simp only [Memref.IsWhole.read_unread]

/-- The block an image leaves, at column 2. -/
theorem outs_two (t : Fin cfg0.N) : outsAt0 m c t (ix3 (0 : Fin 1) (0 : Fin 1) (2 : Fin 128)) =
    ceB (ldCls (iblk m c 2 t)) (ldPri (iblk m c 6 t)) (ldFour (iblk m c 3 t)) (ldTwo (iblk m c 5 t))
      (ldObj (iblk m c 0 t)) (ldLab (iblk m c 1 t)) := by
  unfold outsAt0 out0_A_7
  rw [View.read_writes_junk_eq_canon]
  unfold kernelRun0_A
  dsimp only
  rw [View.canon_unit_zero (by decide)]
  refine (row_two _ _ _ _ _).trans ?_
  rw [run_ce]
  simp only [Memref.IsWhole.read_unread]

/-- The block an image leaves, at column 3. -/
theorem outs_three (t : Fin cfg0.N) : outsAt0 m c t (ix3 (0 : Fin 1) (0 : Fin 1) (3 : Fin 128)) =
    negB (ldCls (iblk m c 2 t)) (ldPri (iblk m c 6 t)) (ldFour (iblk m c 3 t)) (ldTwo (iblk m c 5 t))
      (ldObj (iblk m c 0 t)) (ldLab (iblk m c 1 t)) := by
  unfold outsAt0 out0_A_7
  rw [View.read_writes_junk_eq_canon]
  unfold kernelRun0_A
  dsimp only
  rw [View.canon_unit_zero (by decide)]
  refine (row_three _ _ _ _ _).trans ?_
  rw [run_neg]
  simp only [Memref.IsWhole.read_unread]

/-- The block an image leaves, at column 4. -/
theorem outs_four (t : Fin cfg0.N) : outsAt0 m c t (ix3 (0 : Fin 1) (0 : Fin 1) (4 : Fin 128)) =
    Scalar.sitofp (F := Ideal) .f32 (kB (nposB (ldPri (iblk m c 6 t)) (ldFour (iblk m c 3 t)) (ldTwo (iblk m c 5 t))
      (ldObj (iblk m c 0 t)) (ldLab (iblk m c 1 t)))) := by
  unfold outsAt0 out0_A_7
  rw [View.read_writes_junk_eq_canon]
  unfold kernelRun0_A
  dsimp only
  rw [View.canon_unit_zero (by decide)]
  refine (row_four _ _ _ _ _).trans ?_
  rw [run_k]
  simp only [Memref.IsWhole.read_unread]

/-- Every window's block index at a grid point: the image's number on the first axis (decided). -/
theorem idx : ∀ t : Fin cfg0.N, win0_0.index t = ![t.val, 0, 0] ∧ win0_1.index t = ![t.val, 0, 0] ∧ win0_2.index t = ![t.val, 0, 0, 0] ∧ win0_3.index t = ![t.val, 0, 0, 0]
    ∧ win0_4.index t = ![t.val, 0, 0, 0] ∧ win0_5.index t = ![t.val, 0, 0, 0] ∧ win0_6.index t = ![0, 0, 0] ∧ win0_7.index t = ![t.val, 0, 0] :=
  (by decide +kernel : ∀ t : Fin grid0.N, _)

/-- The output array, block by block. -/
theorem out_array : (dats m 0 c).arrAt 7 cfg0.N = fun i : S32x1x128.Idx => outsAt0 m c (i 0) (ix3 (0 : Fin 1) (0 : Fin 1) (i 2)) := by
  refine (dats m 0 c).arrAt_eq_of_covers 7 _ (by decide +kernel) fun t hf y => ?_
  blk_simp
  rw [after0_7]
  idx_vars y
  have e0 : (((View.whole main_v15).slice (win0_7.rect t)).emb (ix3 y0 y1 y2) (0 : Fin 3)) = t := by
    apply Fin.ext
    refine (Window.rect_emb_val win0_7 t (ix3 y0 y1 y2) 0).trans ?_
    rw [(idx t).2.2.2.2.2.2.2]
    show t.val * 1 + y0.val = t.val
    omega
  have e2 : (((View.whole main_v15).slice (win0_7.rect t)).emb (ix3 y0 y1 y2) (2 : Fin 3)) = y2 := by
    apply Fin.ext
    refine (Window.rect_emb_val win0_7 t (ix3 y0 y1 y2) 2).trans ?_
    rw [(idx t).2.2.2.2.2.2.2]
    show 0 * 128 + y2.val = y2.val
    omega
  rw [e0, e2]
  obtain rfl : y0 = 0 := Subsingleton.elim _ _
  obtain rfl : y1 = 0 := Subsingleton.elim _ _
  rfl

/-- Column `j` of the launch's result, as the host lines read it. -/
def colK (x : FVec Ideal S32x1x128 .f32) (off : Fin 2 → ℕ) (h : S32x128.Slices off S32x1) : FVec Ideal S32 .f32 :=
  shapeCast S32 (extractStridedSlice S32x1 off (shapeCast S32x128 x shapeCasts_S32x1x128_S32x128 : FVec Ideal S32x128 .f32) h : FVec Ideal S32x1 .f32) shapeCasts_S32x1_S32

/-- Column 1 at an image. -/
theorem colK_one (x : FVec Ideal S32x1x128 .f32) (b : Fin 32) : colK x ![0, 1] slices_S32x128_S32x1_0_1 (ix1 b) = x (ix3 b (0 : Fin 1) (1 : Fin 128)) := by
  pointwise [colK]
/-- Column 2 at an image. -/
theorem colK_two (x : FVec Ideal S32x1x128 .f32) (b : Fin 32) : colK x ![0, 2] slices_S32x128_S32x1_0_2 (ix1 b) = x (ix3 b (0 : Fin 1) (2 : Fin 128)) := by
  pointwise [colK]
/-- Column 3 at an image. -/
theorem colK_three (x : FVec Ideal S32x1x128 .f32) (b : Fin 32) : colK x ![0, 3] slices_S32x128_S32x1_0_3 (ix1 b) = x (ix3 b (0 : Fin 1) (3 : Fin 128)) := by
  pointwise [colK]
/-- Column 4 at an image. -/
theorem colK_four (x : FVec Ideal S32x1x128 .f32) (b : Fin 32) : colK x ![0, 4] slices_S32x128_S32x1_0_4 (ix1 b) = x (ix3 b (0 : Fin 1) (4 : Fin 128)) := by
  pointwise [colK]
/-- The sum of a row of images. -/
def sumK (y : FVec Ideal S32 .f32) : FVec Ideal S_ .f32 := Host.reduceAdd y (constant S_ .f32 0x00000000#32) reducesTo_S32_S_d0 h_S_
/-- The sum over the images. -/
theorem sumK_at (y : FVec Ideal S32 .f32) : sumK y ix0 = ∑ b : Fin 32, y (ix1 b) := by
  pointwise [sumK]

/-- The loss, from the launch's result: the summed losses over the number of picked priors, over the number of positive ones. -/
def tailM (x : FVec Ideal S32x1x128 .f32) : FVec Ideal S_ .f32 :=
  Host.divf (Host.divf (addf (sumK (colK x ![0, 2] slices_S32x128_S32x1_0_2)) (sumK (colK x ![0, 3] slices_S32x128_S32x1_0_3)))
    (addf (sumK (colK x ![0, 1] slices_S32x128_S32x1_0_1)) (sumK (colK x ![0, 4] slices_S32x128_S32x1_0_4))))
    (sumK (colK x ![0, 1] slices_S32x128_S32x1_0_1))

/-- The loss, read from the columns. -/
theorem tailM_at (x : FVec Ideal S32x1x128 .f32) : tailM x ix0 =
    Ideal.div (Ideal.div ((∑ b : Fin 32, x (ix3 b (0 : Fin 1) (2 : Fin 128))) + ∑ b : Fin 32, x (ix3 b (0 : Fin 1) (3 : Fin 128)))
      ((∑ b : Fin 32, x (ix3 b (0 : Fin 1) (1 : Fin 128))) + ∑ b : Fin 32, x (ix3 b (0 : Fin 1) (4 : Fin 128))))
      (∑ b : Fin 32, x (ix3 b (0 : Fin 1) (1 : Fin 128))) := by
  show Ideal.div (Ideal.div (sumK (colK x ![0, 2] slices_S32x128_S32x1_0_2) ix0 + sumK (colK x ![0, 3] slices_S32x128_S32x1_0_3) ix0)
    (sumK (colK x ![0, 1] slices_S32x128_S32x1_0_1) ix0 + sumK (colK x ![0, 4] slices_S32x128_S32x1_0_4) ix0)) (sumK (colK x ![0, 1] slices_S32x128_S32x1_0_1) ix0) = _
  simp only [sumK_at, colK_one, colK_two, colK_three, colK_four]

/-- The result of the lines after the launch. -/
theorem tail_loss (s : Valuation τ sig (Elt Ideal)) :
    StableHlo.after (hostOps1 (F := Ideal)) s (Proc.devRef .tc main_v32) = tailM (s (Proc.devRef .tc main_v15)) := by
  sl_kernel_rfl

/-- The run's result, from the output array. -/
theorem after_loss : Pipeline.afterTail₀ cfgs (dats m) 0 (V0 m) [hostOps1] c main_v32 = tailM ((dats m 0 c).arrAt 7 cfg0.N) := by
  unfold Pipeline.afterTail₀
  rw [List.flatten_singleton]
  refine (tail_loss _).trans (congrArg tailM ?_)
  exact Pipeline.withArrays_arr spec0 (by decide) c (V0 m c) (fun w => (dats m 0 c).arrAt w cfg0.N) 7

/-- The loaded block of arm boxes, over the argument. -/
theorem block_loc (t : Fin cfg0.N) : ldFour (iblk m c 3 t) = fourA (m ((c.tc : Thread nD τ).loc main_arg0)) t := by
  have hV : V m c main_v1 = shapeCast S32x4x8x2040 (transpose S32x4x16320 [0, 2, 1] (m ((c.tc : Thread nD τ).loc main_arg0)) transposes_S32x16320x4_S32x4x16320_0_2_1) shapeCasts_S32x4x16320_S32x4x8x2040 := by
    sl_kernel_rfl
  funext y
  idx_vars y
  unfold ldFour iblk drop4
  rw [View.ld_unit_zero (by decide)]
  pointwise [fourA]
  show V m c main_v1 (((View.whole main_v1).slice (win0_3.rect t)).emb (ix4 0 y0 y1 y2)) = _
  have e : (((View.whole main_v1).slice (win0_3.rect t)).emb (ix4 0 y0 y1 y2)) = ix4 t y0 y1 y2 := by
    funext a
    apply Fin.ext
    refine (Window.rect_emb_val win0_3 t (ix4 0 y0 y1 y2) a).trans ?_
    rw [(idx t).2.2.2.1]
    match a with
    | 0 => show t.val * 1 + 0 = t.val; omega
    | 1 => show 0 * 4 + y0.val = y0.val; omega
    | 2 => show 0 * 8 + y1.val = y1.val; omega
    | 3 => show 0 * 2040 + y2.val = y2.val; omega
  rw [e, hV]
  pointwise

/-- The loaded block of scores, over the argument. -/
theorem block_arm (t : Fin cfg0.N) : ldTwo (iblk m c 5 t) = twoA (m ((c.tc : Thread nD τ).loc main_arg1)) t := by
  have hV : V m c main_v5 = shapeCast S32x2x8x2040 (transpose S32x2x16320 [0, 2, 1] (m ((c.tc : Thread nD τ).loc main_arg1)) transposes_S32x16320x2_S32x2x16320_0_2_1) shapeCasts_S32x2x16320_S32x2x8x2040 := by
    sl_kernel_rfl
  funext y
  idx_vars y
  unfold ldTwo iblk drop2
  rw [View.ld_unit_zero (by decide)]
  pointwise [twoA]
  show V m c main_v5 (((View.whole main_v5).slice (win0_5.rect t)).emb (ix4 0 y0 y1 y2)) = _
  have e : (((View.whole main_v5).slice (win0_5.rect t)).emb (ix4 0 y0 y1 y2)) = ix4 t y0 y1 y2 := by
    funext a
    apply Fin.ext
    refine (Window.rect_emb_val win0_5 t (ix4 0 y0 y1 y2) a).trans ?_
    rw [(idx t).2.2.2.2.2.1]
    match a with
    | 0 => show t.val * 1 + 0 = t.val; omega
    | 1 => show 0 * 2 + y0.val = y0.val; omega
    | 2 => show 0 * 8 + y1.val = y1.val; omega
    | 3 => show 0 * 2040 + y2.val = y2.val; omega
  rw [e, hV]
  pointwise

/-- The loaded block of priors, over the argument. -/
theorem block_pri (t : Fin cfg0.N) : ldPri (iblk m c 6 t) = priA (m ((c.tc : Thread nD τ).loc main_arg4)) := by
  have hV : V m c main_v9 = shapeCast S4x8x2040 (transpose S4x16320 [1, 0] (m ((c.tc : Thread nD τ).loc main_arg4)) transposes_S16320x4_S4x16320_1_0) shapeCasts_S4x16320_S4x8x2040 := by
    sl_kernel_rfl
  funext y
  idx_vars y
  unfold ldPri iblk same4
  rw [View.ld_unit_zero (by decide)]
  pointwise [priA]
  show V m c main_v9 (((View.whole main_v9).slice (win0_6.rect t)).emb (ix3 y0 y1 y2)) = _
  have e : (((View.whole main_v9).slice (win0_6.rect t)).emb (ix3 y0 y1 y2)) = ix3 y0 y1 y2 := by
    funext a
    apply Fin.ext
    refine (Window.rect_emb_val win0_6 t (ix3 y0 y1 y2) a).trans ?_
    rw [(idx t).2.2.2.2.2.2.1]
    match a with
    | 0 => show 0 * 4 + y0.val = y0.val; omega
    | 1 => show 0 * 8 + y1.val = y1.val; omega
    | 2 => show 0 * 2040 + y2.val = y2.val; omega
  rw [e, hV]
  pointwise

/-- The loaded class planes, over the argument. -/
theorem block_cls (t : Fin cfg0.N) : ldCls (iblk m c 2 t) = clsA (m ((c.tc : Thread nD τ).loc main_arg3)) t := by
  have hV : V m c main_v7 = shapeCast S32x81x8x2040 (transpose S32x81x16320 [0, 2, 1] (m ((c.tc : Thread nD τ).loc main_arg3)) transposes_S32x16320x81_S32x81x16320_0_2_1) shapeCasts_S32x81x16320_S32x81x8x2040 := by
    sl_kernel_rfl
  funext n y
  idx_vars y
  by_cases h : n < 81
  · rw [ldCls_at _ n h]
    unfold clsA iblk
    rw [dif_pos h]
    show V m c main_v7 (((View.whole main_v7).slice (win0_2.rect t)).emb (ix4 (0 : Fin 1) (⟨n, h⟩ : Fin 81) y0 y1)) = _
    have e : (((View.whole main_v7).slice (win0_2.rect t)).emb (ix4 (0 : Fin 1) (⟨n, h⟩ : Fin 81) y0 y1)) = ix4 t (⟨n, h⟩ : Fin 81) y0 y1 := by
      funext a
      apply Fin.ext
      refine (Window.rect_emb_val win0_2 t _ a).trans ?_
      rw [(idx t).2.2.1]
      match a with
      | 0 => show t.val * 1 + 0 = t.val; omega
      | 1 => show 0 * 81 + n = n; omega
      | 2 => show 0 * 8 + y0.val = y0.val; omega
      | 3 => show 0 * 2040 + y1.val = y1.val; omega
    rw [e, hV]
    pointwise
  · unfold ldCls clsA
    rw [dif_neg h, dif_neg h]

/-- The loaded corners, over the argument. -/
theorem block_obj (t : Fin cfg0.N) : ldObj (iblk m c 0 t) = objA (m ((c.tc : Thread nD τ).loc main_arg5)) t := by
  have hV : V m c main_v10 = extractStridedSlice S32x16x4 ![0, 0, 0] (m ((c.tc : Thread nD τ).loc main_arg5)) slices_S32x16x5_S32x16x4_0_0_0 := by
    sl_kernel_rfl
  funext n j
  by_cases h : n < 16 ∧ j < 4
  · rw [ldObj_at _ n j h]
    unfold objA iblk
    rw [dif_pos h]
    show V m c main_v10 (((View.whole main_v10).slice (win0_0.rect t)).emb (ix3 (0 : Fin 1) (⟨n, h.1⟩ : Fin 16) (⟨j, h.2⟩ : Fin 4))) = _
    have e : (((View.whole main_v10).slice (win0_0.rect t)).emb (ix3 (0 : Fin 1) (⟨n, h.1⟩ : Fin 16) (⟨j, h.2⟩ : Fin 4))) = ix3 t (⟨n, h.1⟩ : Fin 16) (⟨j, h.2⟩ : Fin 4) := by
      funext a
      apply Fin.ext
      refine (Window.rect_emb_val win0_0 t _ a).trans ?_
      rw [(idx t).1]
      match a with
      | 0 => show t.val * 1 + 0 = t.val; omega
      | 1 => show 0 * 16 + n = n; omega
      | 2 => show 0 * 4 + j = j; omega
    rw [e, hV]
    pointwise
  · unfold ldObj objA
    rw [dif_neg h, dif_neg h]

/-- The loaded labels, over the argument. -/
theorem block_lab (t : Fin cfg0.N) : ldLab (iblk m c 1 t) = labA (m ((c.tc : Thread nD τ).loc main_arg5)) t := by
  have hV : V m c main_v14 = shapeCast S32x1x16 (fptosi 32 (shapeCast S32x16 (extractStridedSlice S32x16x1 ![0, 0, 4] (m ((c.tc : Thread nD τ).loc main_arg5)) slices_S32x16x5_S32x16x1_0_0_4 : FVec Ideal S32x16x1 .f32) shapeCasts_S32x16x1_S32x16 : FVec Ideal S32x16 .f32) : IVec S32x16 32) shapeCasts_S32x16_S32x1x16 := by
    sl_kernel_rfl
  funext n
  by_cases h : n < 16
  · rw [ldLab_at _ n h]
    unfold labA iblk
    rw [dif_pos h]
    show V m c main_v14 (((View.whole main_v14).slice (win0_1.rect t)).emb (ix3 (0 : Fin 1) (0 : Fin 1) (⟨n, h⟩ : Fin 16))) = _
    have e : (((View.whole main_v14).slice (win0_1.rect t)).emb (ix3 (0 : Fin 1) (0 : Fin 1) (⟨n, h⟩ : Fin 16))) = ix3 t (0 : Fin 1) (⟨n, h⟩ : Fin 16) := by
      funext a
      apply Fin.ext
      refine (Window.rect_emb_val win0_1 t _ a).trans ?_
      rw [(idx t).2.1]
      match a with
      | 0 => show t.val * 1 + 0 = t.val; omega
      | 1 => show 0 * 1 + 0 = 0; omega
      | 2 => show 0 * 16 + n = n; omega
    rw [e, hV]
    pointwise
  · unfold ldLab labA
    rw [dif_neg h, dif_neg h]

/-- The summed losses of an image's hard negatives. -/
def negK (a0 : Vec Ideal S32x16320x4 .f32) (a1 : Vec Ideal S32x16320x2 .f32) (a3 : Vec Ideal S32x16320x81 .f32) (a4 : Vec Ideal S16320x4 .f32)
    (a5 : Vec Ideal S32x16x5 .f32) (b : Fin 32) : Ideal .f32 :=
  negB (clsA a3 b) (priA a4) (fourA a0 b) (twoA a1 b) (objA a5 b) (labA a5 b)

/-- The second column at an image, over the arguments. -/
theorem outs_one' (t : Fin cfg0.N) : outsAt0 m c t (ix3 (0 : Fin 1) (0 : Fin 1) (1 : Fin 128)) =
    Scalar.sitofp (F := Ideal) .f32 (cntA (m ((c.tc : Thread nD τ).loc main_arg0)) (m ((c.tc : Thread nD τ).loc main_arg1)) (m ((c.tc : Thread nD τ).loc main_arg4)) (m ((c.tc : Thread nD τ).loc main_arg5)) t) := by
  rw [outs_one, block_loc, block_arm, block_pri, block_obj, block_lab]
  rfl
/-- The third column at an image, over the arguments. -/
theorem outs_two' (t : Fin cfg0.N) : outsAt0 m c t (ix3 (0 : Fin 1) (0 : Fin 1) (2 : Fin 128)) =
    ceA (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) t := by
  rw [outs_two, block_cls, block_loc, block_arm, block_pri, block_obj, block_lab]
  rfl
/-- The fourth column at an image, over the arguments. -/
theorem outs_three' (t : Fin cfg0.N) : outsAt0 m c t (ix3 (0 : Fin 1) (0 : Fin 1) (3 : Fin 128)) =
    negK (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) t := by
  rw [outs_three, block_cls, block_loc, block_arm, block_pri, block_obj, block_lab]
  rfl
/-- The fifth column at an image, over the arguments. -/
theorem outs_four' (t : Fin cfg0.N) : outsAt0 m c t (ix3 (0 : Fin 1) (0 : Fin 1) (4 : Fin 128)) =
    Scalar.sitofp (F := Ideal) .f32 (kB (cntA (m ((c.tc : Thread nD τ).loc main_arg0)) (m ((c.tc : Thread nD τ).loc main_arg1)) (m ((c.tc : Thread nD τ).loc main_arg4)) (m ((c.tc : Thread nD τ).loc main_arg5)) t)) := by
  rw [outs_four, block_loc, block_arm, block_pri, block_obj, block_lab]
  rfl

/-- The kernel's run with the third ending: its result is the quotient of the images' sums. -/
theorem run (g : Dev nD → PrngReg) : θ_run (defs (F := Ideal)) (onTc (τ := τ) (main (F := Ideal))) ⟨m, fun _ => 0, g⟩ (fun r => ∀ c : Dev nD,
    ∃ x : FVec Ideal S32x1x128 .f32, r.2.mem ((c.tc : Thread nD τ).loc main_v32) = tailM x ∧ ∀ b : Fin 32,
      x (ix3 b (0 : Fin 1) (1 : Fin 128)) = Scalar.sitofp (F := Ideal) .f32 (cntA (m ((c.tc : Thread nD τ).loc main_arg0)) (m ((c.tc : Thread nD τ).loc main_arg1)) (m ((c.tc : Thread nD τ).loc main_arg4)) (m ((c.tc : Thread nD τ).loc main_arg5)) b)
      ∧ x (ix3 b (0 : Fin 1) (2 : Fin 128)) = ceA (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) b
      ∧ x (ix3 b (0 : Fin 1) (3 : Fin 128)) = negK (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) b
      ∧ x (ix3 b (0 : Fin 1) (4 : Fin 128)) = Scalar.sitofp (F := Ideal) .f32 (kB (cntA (m ((c.tc : Thread nD τ).loc main_arg0)) (m ((c.tc : Thread nD τ).loc main_arg1)) (m ((c.tc : Thread nD τ).loc main_arg4)) (m ((c.tc : Thread nD τ).loc main_arg5)) b))) := by
  refine θ_run_mono (run_main m g) ?_
  intro r hr c
  refine ⟨_, ((hr c).2 main_v32 (by decide)).trans (after_loss m c), fun b => ?_⟩
  rw [out_array]
  exact ⟨outs_one' m c b, outs_two' m c b, outs_three' m c b, outs_four' m c b⟩

end Cert.Mined

end
-- ==== Proof.MinFinal.lean ====
/-
  Under the precondition the kernel's mined loss is the reference's.
-/
module

public import proofs.«01_k».proof.Proof.MinGood
public import proofs.«01_k».proof.Proof.MinKer
public import proofs.«01_k».proof.Proof.MinOut

@[expose] public section

noncomputable section

namespace Cert.Mined

open Idealize.ShloMosaic Idealize.ShloMosaic.Tactic Cert.Loss
open Cert.Ce.Ref (rowQ)
open Cert.Ce (clsA ceA)

/-- The logarithm of a sum of exponentials of reals is at least each of them. -/
theorem log_ge (x : Fin 81 → EReal) (h : ∀ c, ∃ r : ℝ, x c = (r : EReal)) (k : Fin 81) : 0 ≤ Ideal.log (∑ c, Ideal.exp (x c)) - x k := by
  choose r hr using h
  have e : ∀ c, Ideal.exp (x c) = ((Real.exp (r c) : ℝ) : EReal) := fun c => by
    rw [hr]
    rfl
  rw [Finset.sum_congr rfl fun c _ => e c, Ce.sum_real, hr]
  have hle : Real.exp (r k) ≤ ∑ c, Real.exp (r c) := Finset.single_le_sum (fun c _ => (Real.exp_pos (r c)).le) (Finset.mem_univ k)
  have hpos : 0 < ∑ c, Real.exp (r c) := (Real.exp_pos _).trans_le hle
  have hl : Ideal.log (((∑ c, Real.exp (r c) : ℝ) : EReal)) = ((Real.log (∑ c, Real.exp (r c)) : ℝ) : EReal) := by
    show (if (∑ c, Real.exp (r c)) ≤ 0 then (⊥ : EReal) else ((Real.log (∑ c, Real.exp (r c)) : ℝ) : EReal)) = _
    rw [if_neg (not_le.2 hpos)]
  rw [hl, ← EReal.coe_sub]
  refine EReal.coe_nonneg.2 (sub_nonneg.2 ?_)
  rw [← Real.log_exp (r k)]
  exact Real.log_le_log (Real.exp_pos _) hle

/-- The largest of finitely many reals is a real, and at least each. -/
theorem max_real {ι : Type} [Fintype ι] [DecidableEq ι] [Nonempty ι] (x : ι → EReal) (h : ∀ i, ∃ r : ℝ, x i = (r : EReal)) :
    ∃ r : ℝ, Finset.fold max (⊥ : EReal) x Finset.univ = (r : EReal) ∧ ∀ i, x i ≤ (r : EReal) := by
  have lt : Finset.fold max (⊥ : EReal) x Finset.univ < ⊤ := by
    rw [Finset.fold_max_lt]
    refine ⟨bot_lt_top, fun i _ => ?_⟩
    obtain ⟨r, hr⟩ := h i
    rw [hr]
    exact EReal.coe_lt_top r
  have ge : ∀ i, x i ≤ Finset.fold max (⊥ : EReal) x Finset.univ := fun i => (Finset.le_fold_max _).2 (Or.inr ⟨i, Finset.mem_univ _, le_refl _⟩)
  obtain ⟨i⟩ := ‹Nonempty ι›
  obtain ⟨r, hr⟩ := h i
  have gt : ⊥ < Finset.fold max (⊥ : EReal) x Finset.univ := (EReal.bot_lt_coe r).trans_le (hr ▸ ge i)
  have e := (EReal.coe_toReal lt.ne gt.ne').symm
  exact ⟨_, e, fun i => e ▸ ge i⟩

/-- A sum over a set, as a sum over all. -/
theorem sum_mem {ι : Type} [Fintype ι] [DecidableEq ι] (N : Finset ι) (y : ι → EReal) : ∑ i, (if i ∈ N then y i else 0) = ∑ i ∈ N, y i := by
  rw [← Finset.sum_filter, Finset.filter_mem_eq_inter, Finset.univ_inter]

section whole
variable (a0 : Vec Ideal Cert.KernelIdeal.S32x16320x4 .f32) (a1 : Vec Ideal Cert.KernelIdeal.S32x16320x2 .f32)
  (a3 : Vec Ideal Cert.KernelCeIdeal.S32x16320x81 .f32) (a4 : Vec Ideal Cert.KernelIdeal.S16320x4 .f32) (a5 : Vec Ideal Cert.KernelIdeal.S32x16x5 .f32)
  (G : Good a0 a1 a3 a4 a5)
include G

/-- The largest score of all is a real at least each score. -/
theorem top_real : ∃ r : ℝ, Ref.gmaxR (Ce.Ref.rowsR a3) ix0 = (r : EReal) ∧ ∀ b p c, a3 (ix3 b p c) ≤ (r : EReal) := by
  have rows : ∀ q : Fin 522240 × Fin 81, ∃ r : ℝ, Ce.Ref.rowsR a3 (ix2 q.1 q.2) = (r : EReal) := by
    intro q
    have hb : q.1.val / 16320 < 32 := by have := q.1.isLt; omega
    have hq : q.1 = rowQ ⟨q.1.val / 16320, hb⟩ ⟨q.1.val % 16320, Nat.mod_lt _ (by decide)⟩ :=
      Fin.ext (show q.1.val = q.1.val / 16320 * 16320 + q.1.val % 16320 by omega)
    rw [hq, Ce.Ref.rowsR_at]
    exact G.fin _ _ _
  haveI : Nonempty (Fin 522240 × Fin 81) := ⟨(⟨0, by decide⟩, 0)⟩
  obtain ⟨r, e, h⟩ := max_real (fun q : Fin 522240 × Fin 81 => Ce.Ref.rowsR a3 (ix2 q.1 q.2)) rows
  refine ⟨r, ?_, fun b p c => ?_⟩
  · rw [gmaxR_at, ofBits_bot]
    exact e
  · have := h (rowQ b p, c)
    simp only [Ce.Ref.rowsR_at] at this
    exact this

/-- A matched label is a class. -/
theorem conf_lt (b : Fin 32) (s : Fin 8) (l : Fin 2040) : (confB (priA a4) (fourA a0 b) (objA a5 b) (labA a5 b) (ix2 s l)).toNat < 81 :=
  Ce.confB_all (fun v => v.toNat < 81) (by decide) (labA a5 b) (G.lab b) _ _ _ _

/-- A matched label is one of the classes. -/
theorem conf_class (b : Fin 32) (s : Fin 8) (l : Fin 2040) : ∃ k, k < 81 ∧ confB (priA a4) (fourA a0 b) (objA a5 b) (labA a5 b) (ix2 s l) = BitVec.ofNat 32 k :=
  ⟨_, conf_lt a0 a1 a3 a4 a5 G b s l, BitVec.eq_of_toNat_eq (by rw [BitVec.toNat_ofNat]; exact (Nat.mod_eq_of_lt (BitVec.isLt _)).symm)⟩

omit G in
/-- A prior's cross entropy, with nothing taken off. -/
theorem cross_form (b : Fin 32) (s : Fin 8) (l : Fin 2040) (k : ℕ) (hk : k < 81)
    (hc : confB (priA a4) (fourA a0 b) (objA a5 b) (labA a5 b) (ix2 s l) = BitVec.ofNat 32 k) :
    ceT (clsA a3 b) (confB (priA a4) (fourA a0 b) (objA a5 b) (labA a5 b)) (ix2 s l)
      = Ideal.log (∑ c : Fin 81, Ideal.exp (a3 (ix3 b (flatP s l) c))) - a3 (ix3 b (flatP s l) ⟨k, hk⟩) := by
  rw [Ce.ceT_at _ _ s l k hk hc, Finset.sum_congr rfl fun c _ => congrArg Ideal.exp (Ce.cls_at a3 b c s l), Ce.cls_at a3 b ⟨k, hk⟩ s l]

omit G in
/-- The score at a prior's matched label. -/
theorem got_form (b : Fin 32) (s : Fin 8) (l : Fin 2040) (k : ℕ) (hk : k < 81)
    (hc : confB (priA a4) (fourA a0 b) (objA a5 b) (labA a5 b) (ix2 s l) = BitVec.ofNat 32 k) :
    Ce.Ref.gotA a0 a3 a4 a5 (ix1 (rowQ b (flatP s l))) = a3 (ix3 b (flatP s l) ⟨k, hk⟩) := by
  have hl : Ce.Ref.rlabR (Ce.Ref.confA a0 a4 a5) (ix2 (rowQ b (flatP s l)) 0) = BitVec.ofNat 32 k := by
    rw [Ce.Ref.rlabR_at, ← hc, (matched a0 a4 a5 b s l).1]
    rfl
  have hw := Ce.Ref.wrapR_at _ _ k hk hl
  unfold Ce.Ref.gotA
  rw [Ce.Ref.pickedR_at _ _ _ _ (Ce.Ref.inbR_at _ _ k hk hw), Ce.Ref.takeR_at _ _ _ ⟨k, hk⟩ hw, Ce.Ref.rowsR_at]

omit G in
/-- A loss, from the row's sum of exponentials and the largest score of all. -/
theorem mine_form (b : Fin 32) (p : Fin 16320) : lossOf a0 a1 a3 a4 a5 b p = Scalar.select (posOf a0 a1 a4 a5 b p) 0
    (Ideal.log (∑ c : Fin 81, Ideal.exp (a3 (ix3 b p c) - Ref.gmaxR (Ce.Ref.rowsR a3) ix0)) + Ref.gmaxR (Ce.Ref.rowsR a3) ix0
      - Ce.Ref.gotA a0 a3 a4 a5 (ix1 (rowQ b p))) := by
  have e : ∀ g : EReal, ∑ c : Fin 81, Ideal.exp (Ce.Ref.rowsR a3 (ix2 (rowQ b p) c) - g) = ∑ c : Fin 81, Ideal.exp (a3 (ix3 b p c) - g) := fun g =>
    Finset.sum_congr rfl fun c _ => by rw [Ce.Ref.rowsR_at]
  rw [← e]
  unfold lossOf posOf Ref.mineA
  generalize Ref.gmaxR (Ce.Ref.rowsR a3) = g
  generalize Ce.Ref.gotA a0 a3 a4 a5 = q
  rw [mineR_at, glossR_at, gsumR_at]

/-- A prior's cross entropy on both sides. -/
theorem loss_one (b : Fin 32) (s : Fin 8) (l : Fin 2040) :
    ceT (clsA a3 b) (confB (priA a4) (fourA a0 b) (objA a5 b) (labA a5 b)) (ix2 s l) = Ce.Ref.crossA a0 a3 a4 a5 (ix2 b (flatP s l)) := by
  obtain ⟨k, hk, hc⟩ := conf_class a0 a1 a3 a4 a5 G b s l
  exact Ce.cross_eq a0 a3 a4 a5 b s l k hk hc

/-- No cross entropy is negative. -/
theorem loss_two (b : Fin 32) (s : Fin 8) (l : Fin 2040) : 0 ≤ Ce.Ref.crossA a0 a3 a4 a5 (ix2 b (flatP s l)) := by
  obtain ⟨k, hk, hc⟩ := conf_class a0 a1 a3 a4 a5 G b s l
  rw [← Ce.cross_eq a0 a3 a4 a5 b s l k hk hc, cross_form a0 a3 a4 a5 b s l k hk hc]
  exact log_ge (fun c => a3 (ix3 b (flatP s l) c)) (fun c => G.fin b (flatP s l) c) ⟨k, hk⟩

/-- A loss is the cross entropy, or zero at a positive prior. -/
theorem loss_three (b : Fin 32) (s : Fin 8) (l : Fin 2040) :
    lossOf a0 a1 a3 a4 a5 b (flatP s l) = Scalar.select (posOf a0 a1 a4 a5 b (flatP s l)) 0 (Ce.Ref.crossA a0 a3 a4 a5 (ix2 b (flatP s l))) := by
  obtain ⟨k, hk, hc⟩ := conf_class a0 a1 a3 a4 a5 G b s l
  obtain ⟨r, hr, hle⟩ := top_real a0 a1 a3 a4 a5 G
  rw [← Ce.cross_eq a0 a3 a4 a5 b s l k hk hc, cross_form a0 a3 a4 a5 b s l k hk hc, mine_form, got_form a0 a3 a4 a5 b s l k hk hc, hr,
    Ce.log_shift (fun c => a3 (ix3 b (flatP s l) c)) r fun c => hle b (flatP s l) c]

omit G in
/-- Every prior is a place of the tile. -/
theorem flat_all (p : Fin 16320) : ∃ (s : Fin 8) (l : Fin 2040), flatP s l = p := ⟨(tileP.symm p).1, (tileP.symm p).2, tileP.apply_symm_apply p⟩

/-- The tile of losses is the reference's. -/
theorem mine_tile (b : Fin 32) (s : Fin 8) (l : Fin 2040) :
    mineB (clsA a3 b) (priA a4) (fourA a0 b) (twoA a1 b) (objA a5 b) (labA a5 b) (ix2 s l) = lossOf a0 a1 a3 a4 a5 b (flatP s l) := by
  rw [loss_three a0 a1 a3 a4 a5 G, ← loss_one a0 a1 a3 a4 a5 G]
  unfold posOf
  rw [← pos_eq]
  show Scalar.select _ (Ideal.ofBits .f32 0x00000000#32) _ = _
  rw [Ce.ofBits_zero]

/-- No loss is negative. -/
theorem loss_nonneg (b : Fin 32) (p : Fin 16320) : 0 ≤ lossOf a0 a1 a3 a4 a5 b p := by
  obtain ⟨s, l, rfl⟩ := flat_all p
  have h := loss_two a0 a1 a3 a4 a5 G b s l
  rw [loss_three a0 a1 a3 a4 a5 G]
  unfold Scalar.select
  split
  · exact le_refl _
  · exact h

omit G in
/-- The number of an image's hard negatives. -/
theorem set_card (b : Fin 32) : (setOf a0 a1 a3 a4 a5 b).card = (numOf a0 a1 a4 a5 b).toNat := by
  unfold setOf
  exact hardS_card _ _ ((kB_le _ (cntA_le a0 a1 a4 a5 b)).trans (by omega))

/-- The kernel's sum of an image's hard negatives. -/
theorem neg_sum (b : Fin 32) : negK a0 a1 a3 a4 a5 b = ∑ p ∈ setOf a0 a1 a3 a4 a5 b, lossOf a0 a1 a3 a4 a5 b p := by
  have hk : (numOf a0 a1 a4 a5 b).toNat ≤ 16319 := kB_le _ (cntA_le a0 a1 a4 a5 b)
  have hN : (setOf a0 a1 a3 a4 a5 b).card = (numOf a0 a1 a4 a5 b).toNat := set_card a0 a1 a3 a4 a5 b
  have ht : ∀ i ∈ setOf a0 a1 a3 a4 a5 b, ∀ j, j ∉ setOf a0 a1 a3 a4 a5 b → lossOf a0 a1 a3 a4 a5 b j ≤ lossOf a0 a1 a3 a4 a5 b i := by
    unfold setOf
    exact hardS_top _ _
  have hc := G.clear b
  generalize setOf a0 a1 a3 a4 a5 b = N at *
  have e : negK a0 a1 a3 a4 a5 b = negT (mineB (clsA a3 b) (priA a4) (fourA a0 b) (twoA a1 b) (objA a5 b) (labA a5 b)) (numOf a0 a1 a4 a5 b) := rfl
  rw [e]
  exact negT_eq _ (lossOf a0 a1 a3 a4 a5 b) (mine_tile a0 a1 a3 a4 a5 G b) (loss_nonneg a0 a1 a3 a4 a5 G b) (G.low b) (numOf a0 a1 a4 a5 b) hk N hN ht hc

omit G in
/-- The picked priors of an image. -/
theorem pick_bit (b : Fin 32) (p : Fin 16320) : Ref.pickA a0 a1 a3 a4 a5 (ix2 b p)
    = IntOp.ori (posOf a0 a1 a4 a5 b p) (BitVec.ofBool (decide (p ∈ setOf a0 a1 a3 a4 a5 b))) := by
  rw [← hardA_at]
  rfl

/-- The cross entropy of an image's picked priors. -/
theorem picked_sum (b : Fin 32) : ∑ p : Fin 16320, Ce.Ref.crossA a0 a3 a4 a5 (ix2 b p) * FloatOps.uitofp (F := Ideal) .f32 (Ref.pickA a0 a1 a3 a4 a5 (ix2 b p))
    = ceA a0 a1 a3 a4 a5 b + negK a0 a1 a3 a4 a5 b := by
  have hl : ∀ n, IntOp.cmpi .slt (labA a5 b n) 81#32 = 1#1 := fun n => by
    have h := G.lab b n
    show BitVec.ofBool ((labA a5 b n).slt 81#32) = 1#1
    have w : (81#32).toInt = 81 := rfl
    rw [BitVec.slt_eq_decide, BitVec.toInt_eq_toNat_cond, if_pos (by omega), w, decide_eq_true (by omega)]
    rfl
  rw [Ce.tot_eq a0 a1 a3 a4 a5 b hl, neg_sum a0 a1 a3 a4 a5 G]
  unfold Ce.Ref.totA
  rw [Ce.Ref.totR_at, ← sum_mem (setOf a0 a1 a3 a4 a5 b) (lossOf a0 a1 a3 a4 a5 b), ← Finset.sum_add_distrib]
  refine Finset.sum_congr rfl fun p _ => ?_
  rw [pick_bit]
  have one : FloatOps.uitofp (F := Ideal) .f32 1#1 = (1 : EReal) := by
    show (((1#1 : BitVec 1).toNat : ℝ) : EReal) = 1
    simp
  by_cases hp : p ∈ setOf a0 a1 a3 a4 a5 b
  · have h0 := G.apart b p hp
    have h0' : Loss.Ref.posA a0 a1 a4 a5 (ix2 b p) = 0#1 := h0
    rw [decide_eq_true hp, if_pos hp, h0, h0', mask_zero, mul_zero, zero_add]
    obtain ⟨s, l, rfl⟩ := flat_all p
    rw [loss_three a0 a1 a3 a4 a5 G b s l, h0]
    show Ce.Ref.crossA a0 a3 a4 a5 (ix2 b (flatP s l)) * FloatOps.uitofp (F := Ideal) .f32 1#1 = _
    rw [one, mul_one]
    rfl
  · rw [decide_eq_false hp, if_neg hp, add_zero]
    have z : ∀ w : BitVec 1, IntOp.ori w (BitVec.ofBool false) = w := by decide
    rw [z]
    rfl

end whole

end Cert.Mined

end
-- ==== Proof.MinEnd.lean ====
/-
  The mined loss's quotient is the same on both sides.
-/
module

public import proofs.«01_k».proof.Proof.MinFinal

@[expose] public section

noncomputable section

namespace Cert.Mined

open Idealize.ShloMosaic Idealize.ShloMosaic.Tactic Cert.Loss
open Cert.Ce (clsA ceA)

/-- The number of ones of a mask, as a sum. -/
theorem ones (f : Fin 16320 → BitVec 1) : (Finset.fold IntOp.addi 0#32 (fun p => BitVec.setWidth 32 (f p)) Finset.univ).toNat = ∑ p, (f p).toNat := by
  have e : ∀ p, (BitVec.setWidth 32 (f p)).toNat = (f p).toNat := fun p => by
    rw [BitVec.toNat_setWidth]
    have := (f p).isLt
    exact Nat.mod_eq_of_lt (by omega)
  rw [fold_addi, Finset.sum_congr rfl fun p _ => e p]
  refine Nat.mod_eq_of_lt (lt_of_le_of_lt (Finset.sum_le_card_nsmul _ _ 1 fun p _ => ?_) (by rw [Finset.card_univ, Fintype.card_fin, smul_eq_mul]; omega : (Finset.univ : Finset (Fin 16320)).card • 1 < 2 ^ 32))
  have := (f p).isLt
  omega

/-- The number of ones of all images' masks, as a sum. -/
theorem ones_all (f : Fin 32 → Fin 16320 → BitVec 1) : (Finset.fold IntOp.addi 0#32 (fun q : Fin 32 × Fin 16320 => BitVec.setWidth 32 (f q.1 q.2)) Finset.univ).toNat
    = ∑ b, ∑ p, (f b p).toNat := by
  have e : ∀ q : Fin 32 × Fin 16320, (BitVec.setWidth 32 (f q.1 q.2)).toNat = (f q.1 q.2).toNat := fun q => by
    rw [BitVec.toNat_setWidth]
    have := (f q.1 q.2).isLt
    exact Nat.mod_eq_of_lt (by omega)
  have hs : ∑ q : Fin 32 × Fin 16320, (f q.1 q.2).toNat = ∑ b, ∑ p, (f b p).toNat := Fintype.sum_prod_type _
  have hle : ∑ q : Fin 32 × Fin 16320, (f q.1 q.2).toNat ≤ 522240 := by
    rw [hs]
    refine (Finset.sum_le_card_nsmul _ _ 16320 fun b _ => ?_).trans (by rw [Finset.card_univ, Fintype.card_fin, smul_eq_mul])
    refine (Finset.sum_le_card_nsmul _ _ 1 fun p _ => ?_).trans (by rw [Finset.card_univ, Fintype.card_fin, smul_eq_mul])
    have := (f b p).isLt
    omega
  rw [fold_addi, Finset.sum_congr rfl fun q _ => e q, Nat.mod_eq_of_lt (by omega), hs]

/-- The number of a set's bits. -/
theorem ones_set {ι : Type} [Fintype ι] [DecidableEq ι] (N : Finset ι) : ∑ i, (BitVec.ofBool (decide (i ∈ N))).toNat = N.card := by
  have e : ∀ i, (BitVec.ofBool (decide (i ∈ N))).toNat = if i ∈ N then 1 else 0 := fun i => by
    by_cases h : i ∈ N
    · rw [decide_eq_true h, if_pos h]
      rfl
    · rw [decide_eq_false h, if_neg h]
      rfl
  rw [Finset.sum_congr rfl fun i _ => e i, Finset.sum_ite_mem, Finset.univ_inter, Finset.sum_const, smul_eq_mul, mul_one]

/-- A quotient of a quotient. -/
theorem quot_at (x y z : FVec Ideal Cert.ReferenceMinedIdeal.S_ .f32) : Host.divf (Host.divf x y) z ix0 = Ideal.div (Ideal.div (x ix0) (y ix0)) (z ix0) := rfl

section whole
variable (a0 : Vec Ideal Cert.KernelIdeal.S32x16320x4 .f32) (a1 : Vec Ideal Cert.KernelIdeal.S32x16320x2 .f32)
  (a3 : Vec Ideal Cert.KernelCeIdeal.S32x16320x81 .f32) (a4 : Vec Ideal Cert.KernelIdeal.S16320x4 .f32) (a5 : Vec Ideal Cert.KernelIdeal.S32x16x5 .f32)
  (G : Good a0 a1 a3 a4 a5)
include G

/-- The number of an image's picked priors. -/
theorem pick_ones (b : Fin 32) : ∑ p, (Ref.pickA a0 a1 a3 a4 a5 (ix2 b p)).toNat = (cntA a0 a1 a4 a5 b).toNat + (numOf a0 a1 a4 a5 b).toNat := by
  rw [image_count, cntI_at, ones, ← set_card a0 a1 a3 a4 a5 b, ← ones_set, ← Finset.sum_add_distrib]
  refine Finset.sum_congr rfl fun p _ => ?_
  rw [pick_bit]
  by_cases hp : p ∈ setOf a0 a1 a3 a4 a5 b
  · have h0 := G.apart b p hp
    have h0' : Loss.Ref.posA a0 a1 a4 a5 (ix2 b p) = 0#1 := h0
    rw [decide_eq_true hp, h0, h0']
    rfl
  · rw [decide_eq_false hp]
    have z : ∀ w : BitVec 1, (IntOp.ori w (BitVec.ofBool false)).toNat = w.toNat + (BitVec.ofBool false).toNat := by decide
    exact z _

/-- The number of all picked priors. -/
theorem pick_all : (∑ b : Fin 32, FloatOps.sitofp (F := Ideal) .f32 (cntA a0 a1 a4 a5 b)) + ∑ b : Fin 32, FloatOps.sitofp (F := Ideal) .f32 (numOf a0 a1 a4 a5 b)
    = Ref.pickN (Ref.pickA a0 a1 a3 a4 a5) ix0 := by
  have hc := fun b => cntA_le a0 a1 a4 a5 b
  have hk := fun b => kB_le _ (hc b)
  have e := ones_all fun b p => Ref.pickA a0 a1 a3 a4 a5 (ix2 b p)
  rw [Finset.sum_congr rfl fun b _ => pick_ones a0 a1 a3 a4 a5 G b] at e
  have hle : ∑ b : Fin 32, ((cntA a0 a1 a4 a5 b).toNat + (numOf a0 a1 a4 a5 b).toNat) ≤ 32 * 32639 :=
    (Finset.sum_le_card_nsmul _ _ 32639 fun b _ => by
      have h1 := hc b
      have h2 : (numOf a0 a1 a4 a5 b).toNat ≤ 16319 := hk b
      omega).trans (by rw [Finset.card_univ, Fintype.card_fin, smul_eq_mul])
  rw [pickN_at, float_small _ (by rw [e]; omega), e, ← coe_sum,
    Finset.sum_congr rfl fun b _ => float_small (cntA a0 a1 a4 a5 b) (by have := hc b; omega),
    Finset.sum_congr rfl fun b _ => float_small (numOf a0 a1 a4 a5 b) (by have h2 : (numOf a0 a1 a4 a5 b).toNat ≤ 16319 := hk b; omega),
    ← Finset.sum_add_distrib]
  refine Finset.sum_congr rfl fun b _ => ?_
  rw [← EReal.coe_add, Nat.cast_add]

omit G in
/-- The number of all positive priors. -/
theorem pos_all : ∑ b : Fin 32, FloatOps.sitofp (F := Ideal) .f32 (cntA a0 a1 a4 a5 b) = Ref.allR (Ref.ncolR (Loss.Ref.cntI (Loss.Ref.posA a0 a1 a4 a5))) ix0 := by
  rw [allR_at, ← count_batch (fun b => Loss.Ref.cntI (Loss.Ref.posA a0 a1 a4 a5) (ix1 b)) fun b => by rw [← image_count]; exact cntA_le a0 a1 a4 a5 b]
  exact Finset.sum_congr rfl fun b _ => by rw [image_count]

/-- The quotients agree. -/
theorem mined_eq (x : FVec Ideal Cert.KernelMinedIdeal.S32x1x128 .f32)
    (h : ∀ b : Fin 32, x (ix3 b (0 : Fin 1) (1 : Fin 128)) = Scalar.sitofp (F := Ideal) .f32 (cntA a0 a1 a4 a5 b)
      ∧ x (ix3 b (0 : Fin 1) (2 : Fin 128)) = ceA a0 a1 a3 a4 a5 b
      ∧ x (ix3 b (0 : Fin 1) (3 : Fin 128)) = negK a0 a1 a3 a4 a5 b
      ∧ x (ix3 b (0 : Fin 1) (4 : Fin 128)) = Scalar.sitofp (F := Ideal) .f32 (kB (cntA a0 a1 a4 a5 b))) : tailM x = Ref.lossA a0 a1 a3 a4 a5 := by
  have e1 : ∑ b : Fin 32, x (ix3 b (0 : Fin 1) (1 : Fin 128)) = ∑ b : Fin 32, FloatOps.sitofp (F := Ideal) .f32 (cntA a0 a1 a4 a5 b) :=
    Finset.sum_congr rfl fun b _ => (h b).1
  have e4 : ∑ b : Fin 32, x (ix3 b (0 : Fin 1) (4 : Fin 128)) = ∑ b : Fin 32, FloatOps.sitofp (F := Ideal) .f32 (numOf a0 a1 a4 a5 b) :=
    Finset.sum_congr rfl fun b _ => (h b).2.2.2
  have e23 : (∑ b : Fin 32, x (ix3 b (0 : Fin 1) (2 : Fin 128))) + ∑ b : Fin 32, x (ix3 b (0 : Fin 1) (3 : Fin 128))
      = Ref.pickS (Ce.Ref.crossA a0 a3 a4 a5) (Ref.pickA a0 a1 a3 a4 a5) ix0 := by
    rw [← Finset.sum_add_distrib, pickS_at]
    exact Finset.sum_congr rfl fun b _ => by rw [(h b).2.1, (h b).2.2.1, picked_sum a0 a1 a3 a4 a5 G b]
  funext i
  have hi : i = ix0 := by
    funext a
    exact a.elim0
  rw [hi, tailM_at, e23, e1, e4, pick_all a0 a1 a3 a4 a5 G, pos_all]
  unfold Ref.lossA
  rw [quot_at]

end whole

end Cert.Mined

end
-- ==== Proof.MinRef.lean ====
/-
  The third reference leaves the composition of named arrays in its result.
-/
module

public import proofs.«01_k».proof.Defs
public import proofs.«01_k».proof.Proof.Gen.ReferenceMinedIdeal
public import proofs.«01_k».proof.Proof.MinDefs
public import Idealize.ShloMosaic.Lib.Claim

@[expose] public section

noncomputable section

namespace Cert.Mined.Ref

open Idealize.ShloMosaic Idealize.SL.Sem Cert.ReferenceMinedIdeal Cert.ReferenceMinedIdeal.Gen Idealize.ShloMosaic.Tactic
open Cert.Loss.Ref (iotaR truR labR decR iouR bpR boR biR putTwo putObj claimR confR rmaxR expR esumR fracR posR cntI posA ovR idR iouA)
open Cert.Ce.Ref (rowsR rlabR wrapR inbR pickedR topR shiftR rexpR rsumR crossR gotA crossA confA)

/-- The reference's operations, in order. -/
def opsOf : { l : List (HloOp τ sig (Elt Ideal)) // ∀ d, StableHlo.IsSeq (main (F := Ideal) d) l } := by
  apply Subtype.mk
  intro d
  hlo_seq

/-- The operations after the first `a`, up to `n` of them. -/
def part (a n : ℕ) : List (HloOp τ sig (Elt Ideal)) := (opsOf.1.drop a).take n

/-- The operations run in two parts. -/
theorem after_part (a n : ℕ) (s : Valuation τ sig (Elt Ideal)) :
    StableHlo.after (opsOf.1.drop a) s = StableHlo.after (opsOf.1.drop (a + n)) (StableHlo.after (part a n) s) := by
  rw [← List.drop_drop]
  unfold part
  generalize List.drop a opsOf.1 = ops
  induction n generalizing ops s with
  | zero => rfl
  | succ k ih =>
    cases ops with
    | nil => rfl
    | cons o l => exact ih (o.result s) l

/-- A number as a float. -/
def floatC (n : IVec S_ 32) : FVec Ideal S_ .f32 := sitofp .f32 n
/-- A sum over a number, over another number. -/
def quotM (x y z : FVec Ideal S_ .f32) : FVec Ideal S_ .f32 := Host.divf (Host.divf x y) z
/-- The number of picked priors of all images, as a word. -/
def pickC (p : IVec S32x16320 1) : IVec S_ 32 := Host.reduce IntOp.addi (extui 32 p natLt_1_32) (constantI S_ 32 0#32) reducesTo_S32x16320_S_d0_1 h_S_

section parts
variable (s : Valuation τ sig (Elt Ideal))

/-- Part 1 leaves the objectness scores alone. -/
theorem p1_a1 : StableHlo.after (part 0 34) s (Proc.devRef .tc main_arg1) =
    s (Proc.devRef .tc main_arg1) := by sl_kernel_rfl
/-- Part 1 leaves the class scores alone. -/
theorem p1_a3 : StableHlo.after (part 0 34) s (Proc.devRef .tc main_arg3) =
    s (Proc.devRef .tc main_arg3) := by sl_kernel_rfl
/-- Part 1 computes the objects' boxes. -/
theorem p1_t : StableHlo.after (part 0 34) s (Proc.devRef .tc main_v0) =
    truR (s (Proc.devRef .tc main_arg5)) := by sl_kernel_rfl
/-- Part 1 computes the objects' labels. -/
theorem p1_l : StableHlo.after (part 0 34) s (Proc.devRef .tc main_v3) =
    labR (s (Proc.devRef .tc main_arg5)) := by sl_kernel_rfl
/-- Part 1 computes the decoded boxes. -/
theorem p1_d : StableHlo.after (part 0 34) s (Proc.devRef .tc main_v29) =
    decR (s (Proc.devRef .tc main_arg0)) (s (Proc.devRef .tc main_arg4)) := by sl_kernel_rfl
/-- Part 2 leaves the objects' labels alone. -/
theorem p2_l : StableHlo.after (part 34 52) s (Proc.devRef .tc main_v3) =
    s (Proc.devRef .tc main_v3) := by sl_kernel_rfl
/-- Part 2 leaves the objectness scores alone. -/
theorem p2_a1 : StableHlo.after (part 34 52) s (Proc.devRef .tc main_arg1) =
    s (Proc.devRef .tc main_arg1) := by sl_kernel_rfl
/-- Part 2 leaves the class scores alone. -/
theorem p2_a3 : StableHlo.after (part 34 52) s (Proc.devRef .tc main_arg3) =
    s (Proc.devRef .tc main_arg3) := by sl_kernel_rfl
/-- Part 2 computes the overlap ratios. -/
theorem p2_o : StableHlo.after (part 34 52) s (Proc.devRef .tc main_v80) =
    iouR (s (Proc.devRef .tc main_v0)) (s (Proc.devRef .tc main_v29)) := by sl_kernel_rfl
/-- Part 3 leaves the objects' labels alone. -/
theorem p3_l : StableHlo.after (part 86 12) s (Proc.devRef .tc main_v3) =
    s (Proc.devRef .tc main_v3) := by sl_kernel_rfl
/-- Part 3 leaves the objectness scores alone. -/
theorem p3_a1 : StableHlo.after (part 86 12) s (Proc.devRef .tc main_arg1) =
    s (Proc.devRef .tc main_arg1) := by sl_kernel_rfl
/-- Part 3 leaves the class scores alone. -/
theorem p3_a3 : StableHlo.after (part 86 12) s (Proc.devRef .tc main_arg3) =
    s (Proc.devRef .tc main_arg3) := by sl_kernel_rfl
/-- Part 3 computes the best priors. -/
theorem p3_bp : StableHlo.after (part 86 12) s (Proc.devRef .tc main_v81) =
    bpR (s (Proc.devRef .tc main_v80)) := by sl_kernel_rfl
/-- Part 3 computes the best ratios. -/
theorem p3_bo : StableHlo.after (part 86 12) s (Proc.devRef .tc main_v82) =
    boR (s (Proc.devRef .tc main_v80)) := by sl_kernel_rfl
/-- Part 3 computes the best objects. -/
theorem p3_bi : StableHlo.after (part 86 12) s (Proc.devRef .tc main_v83) =
    biR (s (Proc.devRef .tc main_v80)) := by sl_kernel_rfl
/-- Part 4 leaves the objects' labels alone. -/
theorem p4_l : StableHlo.after (part 98 23) s (Proc.devRef .tc main_v3) =
    s (Proc.devRef .tc main_v3) := by sl_kernel_rfl
/-- Part 4 leaves the objectness scores alone. -/
theorem p4_a1 : StableHlo.after (part 98 23) s (Proc.devRef .tc main_arg1) =
    s (Proc.devRef .tc main_arg1) := by sl_kernel_rfl
/-- Part 4 leaves the class scores alone. -/
theorem p4_a3 : StableHlo.after (part 98 23) s (Proc.devRef .tc main_arg3) =
    s (Proc.devRef .tc main_arg3) := by sl_kernel_rfl
/-- Part 4 leaves the best priors alone. -/
theorem p4_bp : StableHlo.after (part 98 23) s (Proc.devRef .tc main_v81) =
    s (Proc.devRef .tc main_v81) := by sl_kernel_rfl
/-- Part 4 leaves the best objects alone. -/
theorem p4_bi : StableHlo.after (part 98 23) s (Proc.devRef .tc main_v83) =
    s (Proc.devRef .tc main_v83) := by sl_kernel_rfl
/-- Part 4 computes the images' numbers. -/
theorem p4_i : StableHlo.after (part 98 23) s (Proc.devRef .tc main_v85) =
    iotaR := by sl_kernel_rfl
/-- Part 4 computes the ratios after the claims. -/
theorem p4_ov : StableHlo.after (part 98 23) s (Proc.devRef .tc main_v101) =
    putTwo (s (Proc.devRef .tc main_v82)) (claimR iotaR (s (Proc.devRef .tc main_v81))) := by sl_kernel_rfl
/-- Part 5 leaves the objects' labels alone. -/
theorem p5_l : StableHlo.after (part 121 22) s (Proc.devRef .tc main_v3) =
    s (Proc.devRef .tc main_v3) := by sl_kernel_rfl
/-- Part 5 leaves the objectness scores alone. -/
theorem p5_a1 : StableHlo.after (part 121 22) s (Proc.devRef .tc main_arg1) =
    s (Proc.devRef .tc main_arg1) := by sl_kernel_rfl
/-- Part 5 leaves the class scores alone. -/
theorem p5_a3 : StableHlo.after (part 121 22) s (Proc.devRef .tc main_arg3) =
    s (Proc.devRef .tc main_arg3) := by sl_kernel_rfl
/-- Part 5 leaves the images' numbers alone. -/
theorem p5_i : StableHlo.after (part 121 22) s (Proc.devRef .tc main_v85) =
    s (Proc.devRef .tc main_v85) := by sl_kernel_rfl
/-- Part 5 leaves the ratios after the claims alone. -/
theorem p5_ov : StableHlo.after (part 121 22) s (Proc.devRef .tc main_v101) =
    s (Proc.devRef .tc main_v101) := by sl_kernel_rfl
/-- Part 5 computes the matched objects. -/
theorem p5_id : StableHlo.after (part 121 22) s (Proc.devRef .tc main_v119) =
    putObj (s (Proc.devRef .tc main_v83)) (claimR (s (Proc.devRef .tc main_v85)) (s (Proc.devRef .tc main_v81))) := by sl_kernel_rfl
/-- Part 6 leaves the objectness scores alone. -/
theorem p6_a1 : StableHlo.after (part 143 45) s (Proc.devRef .tc main_arg1) =
    s (Proc.devRef .tc main_arg1) := by sl_kernel_rfl
/-- Part 6 leaves the class scores alone. -/
theorem p6_a3 : StableHlo.after (part 143 45) s (Proc.devRef .tc main_arg3) =
    s (Proc.devRef .tc main_arg3) := by sl_kernel_rfl
/-- Part 6 computes the matched labels. -/
theorem p6_cf : StableHlo.after (part 143 45) s (Proc.devRef .tc main_v152) =
    confR (s (Proc.devRef .tc main_v85)) (s (Proc.devRef .tc main_v3)) (s (Proc.devRef .tc main_v101)) (s (Proc.devRef .tc main_v119)) := by sl_kernel_rfl
/-- Part 7 leaves the objectness scores alone. -/
theorem p7_a1 : StableHlo.after (part 188 33) s (Proc.devRef .tc main_arg1) =
    s (Proc.devRef .tc main_arg1) := by sl_kernel_rfl
/-- Part 7 leaves the class scores alone. -/
theorem p7_a3 : StableHlo.after (part 188 33) s (Proc.devRef .tc main_arg3) =
    s (Proc.devRef .tc main_arg3) := by sl_kernel_rfl
/-- Part 7 leaves the matched labels alone. -/
theorem p7_cf : StableHlo.after (part 188 33) s (Proc.devRef .tc main_v152) =
    s (Proc.devRef .tc main_v152) := by sl_kernel_rfl
/-- Part 8 leaves the objectness scores alone. -/
theorem p8_a1 : StableHlo.after (part 221 2) s (Proc.devRef .tc main_arg1) =
    s (Proc.devRef .tc main_arg1) := by sl_kernel_rfl
/-- Part 8 leaves the class scores alone. -/
theorem p8_a3 : StableHlo.after (part 221 2) s (Proc.devRef .tc main_arg3) =
    s (Proc.devRef .tc main_arg3) := by sl_kernel_rfl
/-- Part 8 leaves the matched labels alone. -/
theorem p8_cf : StableHlo.after (part 221 2) s (Proc.devRef .tc main_v152) =
    s (Proc.devRef .tc main_v152) := by sl_kernel_rfl
/-- Part 8 computes the larger scores. -/
theorem p8_mx : StableHlo.after (part 221 2) s (Proc.devRef .tc main_v182) =
    rmaxR (s (Proc.devRef .tc main_arg1)) := by sl_kernel_rfl
/-- Part 9 leaves the class scores alone. -/
theorem p9_a3 : StableHlo.after (part 223 7) s (Proc.devRef .tc main_arg3) =
    s (Proc.devRef .tc main_arg3) := by sl_kernel_rfl
/-- Part 9 leaves the matched labels alone. -/
theorem p9_cf : StableHlo.after (part 223 7) s (Proc.devRef .tc main_v152) =
    s (Proc.devRef .tc main_v152) := by sl_kernel_rfl
/-- Part 9 computes the exponentials of the scores. -/
theorem p9_ex : StableHlo.after (part 223 7) s (Proc.devRef .tc main_v188) =
    expR (s (Proc.devRef .tc main_arg1)) (s (Proc.devRef .tc main_v182)) := by sl_kernel_rfl
/-- Part 10 leaves the class scores alone. -/
theorem p10_a3 : StableHlo.after (part 230 2) s (Proc.devRef .tc main_arg3) =
    s (Proc.devRef .tc main_arg3) := by sl_kernel_rfl
/-- Part 10 leaves the matched labels alone. -/
theorem p10_cf : StableHlo.after (part 230 2) s (Proc.devRef .tc main_v152) =
    s (Proc.devRef .tc main_v152) := by sl_kernel_rfl
/-- Part 10 leaves the exponentials of the scores alone. -/
theorem p10_ex : StableHlo.after (part 230 2) s (Proc.devRef .tc main_v188) =
    s (Proc.devRef .tc main_v188) := by sl_kernel_rfl
/-- Part 10 computes their sum. -/
theorem p10_es : StableHlo.after (part 230 2) s (Proc.devRef .tc main_v189) =
    esumR (s (Proc.devRef .tc main_v188)) := by sl_kernel_rfl
/-- Part 11 leaves the class scores alone. -/
theorem p11_a3 : StableHlo.after (part 232 5) s (Proc.devRef .tc main_arg3) =
    s (Proc.devRef .tc main_arg3) := by sl_kernel_rfl
/-- Part 11 leaves the matched labels alone. -/
theorem p11_cf : StableHlo.after (part 232 5) s (Proc.devRef .tc main_v152) =
    s (Proc.devRef .tc main_v152) := by sl_kernel_rfl
/-- Part 11 computes the probability. -/
theorem p11_pr : StableHlo.after (part 232 5) s (Proc.devRef .tc main_v194) =
    fracR (s (Proc.devRef .tc main_v188)) (s (Proc.devRef .tc main_v189)) := by sl_kernel_rfl
/-- Part 12 leaves the class scores alone. -/
theorem p12_a3 : StableHlo.after (part 237 7) s (Proc.devRef .tc main_arg3) =
    s (Proc.devRef .tc main_arg3) := by sl_kernel_rfl
/-- Part 12 leaves the matched labels alone. -/
theorem p12_cf : StableHlo.after (part 237 7) s (Proc.devRef .tc main_v152) =
    s (Proc.devRef .tc main_v152) := by sl_kernel_rfl
/-- Part 12 computes the positive mask. -/
theorem p12_p : StableHlo.after (part 237 7) s (Proc.devRef .tc main_v199) =
    posR (s (Proc.devRef .tc main_v152)) (s (Proc.devRef .tc main_v194)) := by sl_kernel_rfl
/-- Part 13 leaves the class scores alone. -/
theorem p13_a3 : StableHlo.after (part 244 3) s (Proc.devRef .tc main_arg3) =
    s (Proc.devRef .tc main_arg3) := by sl_kernel_rfl
/-- Part 13 leaves the matched labels alone. -/
theorem p13_cf : StableHlo.after (part 244 3) s (Proc.devRef .tc main_v152) =
    s (Proc.devRef .tc main_v152) := by sl_kernel_rfl
/-- Part 13 leaves the positive mask alone. -/
theorem p13_p : StableHlo.after (part 244 3) s (Proc.devRef .tc main_v199) =
    s (Proc.devRef .tc main_v199) := by sl_kernel_rfl
/-- Part 13 computes the number of positive priors. -/
theorem p13_ci : StableHlo.after (part 244 3) s (Proc.devRef .tc main_v201) =
    cntI (s (Proc.devRef .tc main_v199)) := by sl_kernel_rfl
/-- Part 14 leaves the class scores alone. -/
theorem p14_a3 : StableHlo.after (part 247 1) s (Proc.devRef .tc main_arg3) =
    s (Proc.devRef .tc main_arg3) := by sl_kernel_rfl
/-- Part 14 leaves the matched labels alone. -/
theorem p14_cf : StableHlo.after (part 247 1) s (Proc.devRef .tc main_v152) =
    s (Proc.devRef .tc main_v152) := by sl_kernel_rfl
/-- Part 14 leaves the positive mask alone. -/
theorem p14_p : StableHlo.after (part 247 1) s (Proc.devRef .tc main_v199) =
    s (Proc.devRef .tc main_v199) := by sl_kernel_rfl
/-- Part 14 computes the column of numbers of positive priors. -/
theorem p14_nb : StableHlo.after (part 247 1) s (Proc.devRef .tc main_v202) =
    ncolR (s (Proc.devRef .tc main_v201)) := by sl_kernel_rfl
/-- Part 15 leaves the class scores alone. -/
theorem p15_a3 : StableHlo.after (part 248 2) s (Proc.devRef .tc main_arg3) =
    s (Proc.devRef .tc main_arg3) := by sl_kernel_rfl
/-- Part 15 leaves the positive mask alone. -/
theorem p15_p : StableHlo.after (part 248 2) s (Proc.devRef .tc main_v199) =
    s (Proc.devRef .tc main_v199) := by sl_kernel_rfl
/-- Part 15 leaves the column of numbers of positive priors alone. -/
theorem p15_nb : StableHlo.after (part 248 2) s (Proc.devRef .tc main_v202) =
    s (Proc.devRef .tc main_v202) := by sl_kernel_rfl
/-- Part 15 computes the rows of class scores. -/
theorem p15_rw : StableHlo.after (part 248 2) s (Proc.devRef .tc main_v203) =
    rowsR (s (Proc.devRef .tc main_arg3)) := by sl_kernel_rfl
/-- Part 15 computes the rows of labels. -/
theorem p15_rl : StableHlo.after (part 248 2) s (Proc.devRef .tc main_v204) =
    rlabR (s (Proc.devRef .tc main_v152)) := by sl_kernel_rfl
/-- Part 16 leaves the class scores alone. -/
theorem p16_a3 : StableHlo.after (part 250 8) s (Proc.devRef .tc main_arg3) =
    s (Proc.devRef .tc main_arg3) := by sl_kernel_rfl
/-- Part 16 leaves the positive mask alone. -/
theorem p16_p : StableHlo.after (part 250 8) s (Proc.devRef .tc main_v199) =
    s (Proc.devRef .tc main_v199) := by sl_kernel_rfl
/-- Part 16 leaves the column of numbers of positive priors alone. -/
theorem p16_nb : StableHlo.after (part 250 8) s (Proc.devRef .tc main_v202) =
    s (Proc.devRef .tc main_v202) := by sl_kernel_rfl
/-- Part 16 leaves the rows of class scores alone. -/
theorem p16_rw : StableHlo.after (part 250 8) s (Proc.devRef .tc main_v203) =
    s (Proc.devRef .tc main_v203) := by sl_kernel_rfl
/-- Part 16 computes the places in the rows. -/
theorem p16_w : StableHlo.after (part 250 8) s (Proc.devRef .tc main_call3_v5) =
    wrapR (s (Proc.devRef .tc main_v204)) := by sl_kernel_rfl
/-- Part 17 leaves the class scores alone. -/
theorem p17_a3 : StableHlo.after (part 258 10) s (Proc.devRef .tc main_arg3) =
    s (Proc.devRef .tc main_arg3) := by sl_kernel_rfl
/-- Part 17 leaves the positive mask alone. -/
theorem p17_p : StableHlo.after (part 258 10) s (Proc.devRef .tc main_v199) =
    s (Proc.devRef .tc main_v199) := by sl_kernel_rfl
/-- Part 17 leaves the column of numbers of positive priors alone. -/
theorem p17_nb : StableHlo.after (part 258 10) s (Proc.devRef .tc main_v202) =
    s (Proc.devRef .tc main_v202) := by sl_kernel_rfl
/-- Part 17 leaves the rows of class scores alone. -/
theorem p17_rw : StableHlo.after (part 258 10) s (Proc.devRef .tc main_v203) =
    s (Proc.devRef .tc main_v203) := by sl_kernel_rfl
/-- Part 17 leaves the places in the rows alone. -/
theorem p17_w : StableHlo.after (part 258 10) s (Proc.devRef .tc main_call3_v5) =
    s (Proc.devRef .tc main_call3_v5) := by sl_kernel_rfl
/-- Part 17 computes whether the places lie in the rows. -/
theorem p17_ib : StableHlo.after (part 258 10) s (Proc.devRef .tc main_call3_v12) =
    inbR (s (Proc.devRef .tc main_call3_v5)) := by sl_kernel_rfl
/-- Part 18 leaves the class scores alone. -/
theorem p18_a3 : StableHlo.after (part 268 5) s (Proc.devRef .tc main_arg3) =
    s (Proc.devRef .tc main_arg3) := by sl_kernel_rfl
/-- Part 18 leaves the positive mask alone. -/
theorem p18_p : StableHlo.after (part 268 5) s (Proc.devRef .tc main_v199) =
    s (Proc.devRef .tc main_v199) := by sl_kernel_rfl
/-- Part 18 leaves the column of numbers of positive priors alone. -/
theorem p18_nb : StableHlo.after (part 268 5) s (Proc.devRef .tc main_v202) =
    s (Proc.devRef .tc main_v202) := by sl_kernel_rfl
/-- Part 18 leaves the rows of class scores alone. -/
theorem p18_rw : StableHlo.after (part 268 5) s (Proc.devRef .tc main_v203) =
    s (Proc.devRef .tc main_v203) := by sl_kernel_rfl
/-- Part 18 computes the scores at the places. -/
theorem p18_g : StableHlo.after (part 268 5) s (Proc.devRef .tc main_v206) =
    pickedR (s (Proc.devRef .tc main_v203)) (s (Proc.devRef .tc main_call3_v5)) (s (Proc.devRef .tc main_call3_v12)) := by sl_kernel_rfl
/-- Part 19 leaves the class scores alone. -/
theorem p19_a3 : StableHlo.after (part 273 2) s (Proc.devRef .tc main_arg3) =
    s (Proc.devRef .tc main_arg3) := by sl_kernel_rfl
/-- Part 19 leaves the positive mask alone. -/
theorem p19_p : StableHlo.after (part 273 2) s (Proc.devRef .tc main_v199) =
    s (Proc.devRef .tc main_v199) := by sl_kernel_rfl
/-- Part 19 leaves the column of numbers of positive priors alone. -/
theorem p19_nb : StableHlo.after (part 273 2) s (Proc.devRef .tc main_v202) =
    s (Proc.devRef .tc main_v202) := by sl_kernel_rfl
/-- Part 19 leaves the rows of class scores alone. -/
theorem p19_rw : StableHlo.after (part 273 2) s (Proc.devRef .tc main_v203) =
    s (Proc.devRef .tc main_v203) := by sl_kernel_rfl
/-- Part 19 leaves the scores at the places alone. -/
theorem p19_g : StableHlo.after (part 273 2) s (Proc.devRef .tc main_v206) =
    s (Proc.devRef .tc main_v206) := by sl_kernel_rfl
/-- Part 19 computes the largest score of all. -/
theorem p19_gm : StableHlo.after (part 273 2) s (Proc.devRef .tc main_v207) =
    gmaxR (s (Proc.devRef .tc main_v203)) := by sl_kernel_rfl
/-- Part 20 leaves the class scores alone. -/
theorem p20_a3 : StableHlo.after (part 275 5) s (Proc.devRef .tc main_arg3) =
    s (Proc.devRef .tc main_arg3) := by sl_kernel_rfl
/-- Part 20 leaves the positive mask alone. -/
theorem p20_p : StableHlo.after (part 275 5) s (Proc.devRef .tc main_v199) =
    s (Proc.devRef .tc main_v199) := by sl_kernel_rfl
/-- Part 20 leaves the column of numbers of positive priors alone. -/
theorem p20_nb : StableHlo.after (part 275 5) s (Proc.devRef .tc main_v202) =
    s (Proc.devRef .tc main_v202) := by sl_kernel_rfl
/-- Part 20 leaves the scores at the places alone. -/
theorem p20_g : StableHlo.after (part 275 5) s (Proc.devRef .tc main_v206) =
    s (Proc.devRef .tc main_v206) := by sl_kernel_rfl
/-- Part 20 leaves the largest score of all alone. -/
theorem p20_gm : StableHlo.after (part 275 5) s (Proc.devRef .tc main_v207) =
    s (Proc.devRef .tc main_v207) := by sl_kernel_rfl
/-- Part 20 computes the sums of exponentials. -/
theorem p20_gs : StableHlo.after (part 275 5) s (Proc.devRef .tc main_v211) =
    gsumR (s (Proc.devRef .tc main_v203)) (s (Proc.devRef .tc main_v207)) := by sl_kernel_rfl
/-- Part 21 leaves the class scores alone. -/
theorem p21_a3 : StableHlo.after (part 280 4) s (Proc.devRef .tc main_arg3) =
    s (Proc.devRef .tc main_arg3) := by sl_kernel_rfl
/-- Part 21 leaves the positive mask alone. -/
theorem p21_p : StableHlo.after (part 280 4) s (Proc.devRef .tc main_v199) =
    s (Proc.devRef .tc main_v199) := by sl_kernel_rfl
/-- Part 21 leaves the column of numbers of positive priors alone. -/
theorem p21_nb : StableHlo.after (part 280 4) s (Proc.devRef .tc main_v202) =
    s (Proc.devRef .tc main_v202) := by sl_kernel_rfl
/-- Part 21 leaves the scores at the places alone. -/
theorem p21_g : StableHlo.after (part 280 4) s (Proc.devRef .tc main_v206) =
    s (Proc.devRef .tc main_v206) := by sl_kernel_rfl
/-- Part 21 computes the losses. -/
theorem p21_ls : StableHlo.after (part 280 4) s (Proc.devRef .tc main_v215) =
    glossR (s (Proc.devRef .tc main_v211)) (s (Proc.devRef .tc main_v207)) (s (Proc.devRef .tc main_v206)) := by sl_kernel_rfl
/-- Part 22 leaves the class scores alone. -/
theorem p22_a3 : StableHlo.after (part 284 6) s (Proc.devRef .tc main_arg3) =
    s (Proc.devRef .tc main_arg3) := by sl_kernel_rfl
/-- Part 22 leaves the positive mask alone. -/
theorem p22_p : StableHlo.after (part 284 6) s (Proc.devRef .tc main_v199) =
    s (Proc.devRef .tc main_v199) := by sl_kernel_rfl
/-- Part 22 leaves the column of numbers of positive priors alone. -/
theorem p22_nb : StableHlo.after (part 284 6) s (Proc.devRef .tc main_v202) =
    s (Proc.devRef .tc main_v202) := by sl_kernel_rfl
/-- Part 22 leaves the scores at the places alone. -/
theorem p22_g : StableHlo.after (part 284 6) s (Proc.devRef .tc main_v206) =
    s (Proc.devRef .tc main_v206) := by sl_kernel_rfl
/-- Part 22 computes the losses, zero at the positive priors. -/
theorem p22_mi : StableHlo.after (part 284 6) s (Proc.devRef .tc main_v218) =
    mineR (s (Proc.devRef .tc main_v199)) (s (Proc.devRef .tc main_v215)) := by sl_kernel_rfl
/-- Part 23 leaves the class scores alone. -/
theorem p23_a3 : StableHlo.after (part 290 4) s (Proc.devRef .tc main_arg3) =
    s (Proc.devRef .tc main_arg3) := by sl_kernel_rfl
/-- Part 23 leaves the positive mask alone. -/
theorem p23_p : StableHlo.after (part 290 4) s (Proc.devRef .tc main_v199) =
    s (Proc.devRef .tc main_v199) := by sl_kernel_rfl
/-- Part 23 leaves the column of numbers of positive priors alone. -/
theorem p23_nb : StableHlo.after (part 290 4) s (Proc.devRef .tc main_v202) =
    s (Proc.devRef .tc main_v202) := by sl_kernel_rfl
/-- Part 23 leaves the scores at the places alone. -/
theorem p23_g : StableHlo.after (part 290 4) s (Proc.devRef .tc main_v206) =
    s (Proc.devRef .tc main_v206) := by sl_kernel_rfl
/-- Part 23 computes the order of the losses. -/
theorem p23_od : StableHlo.after (part 290 4) s (Proc.devRef .tc main_v220) =
    orderR (s (Proc.devRef .tc main_v218)) := by sl_kernel_rfl
/-- Part 24 leaves the class scores alone. -/
theorem p24_a3 : StableHlo.after (part 294 3) s (Proc.devRef .tc main_arg3) =
    s (Proc.devRef .tc main_arg3) := by sl_kernel_rfl
/-- Part 24 leaves the positive mask alone. -/
theorem p24_p : StableHlo.after (part 294 3) s (Proc.devRef .tc main_v199) =
    s (Proc.devRef .tc main_v199) := by sl_kernel_rfl
/-- Part 24 leaves the column of numbers of positive priors alone. -/
theorem p24_nb : StableHlo.after (part 294 3) s (Proc.devRef .tc main_v202) =
    s (Proc.devRef .tc main_v202) := by sl_kernel_rfl
/-- Part 24 leaves the scores at the places alone. -/
theorem p24_g : StableHlo.after (part 294 3) s (Proc.devRef .tc main_v206) =
    s (Proc.devRef .tc main_v206) := by sl_kernel_rfl
/-- Part 24 computes the places in that order. -/
theorem p24_rk : StableHlo.after (part 294 3) s (Proc.devRef .tc main_v221) =
    rankR (s (Proc.devRef .tc main_v220)) := by sl_kernel_rfl
/-- Part 25 leaves the class scores alone. -/
theorem p25_a3 : StableHlo.after (part 297 6) s (Proc.devRef .tc main_arg3) =
    s (Proc.devRef .tc main_arg3) := by sl_kernel_rfl
/-- Part 25 leaves the positive mask alone. -/
theorem p25_p : StableHlo.after (part 297 6) s (Proc.devRef .tc main_v199) =
    s (Proc.devRef .tc main_v199) := by sl_kernel_rfl
/-- Part 25 leaves the column of numbers of positive priors alone. -/
theorem p25_nb : StableHlo.after (part 297 6) s (Proc.devRef .tc main_v202) =
    s (Proc.devRef .tc main_v202) := by sl_kernel_rfl
/-- Part 25 leaves the scores at the places alone. -/
theorem p25_g : StableHlo.after (part 297 6) s (Proc.devRef .tc main_v206) =
    s (Proc.devRef .tc main_v206) := by sl_kernel_rfl
/-- Part 25 leaves the places in that order alone. -/
theorem p25_rk : StableHlo.after (part 297 6) s (Proc.devRef .tc main_v221) =
    s (Proc.devRef .tc main_v221) := by sl_kernel_rfl
/-- Part 25 computes the numbers of hard negatives. -/
theorem p25_kk : StableHlo.after (part 297 6) s (Proc.devRef .tc main_v225) =
    capR (s (Proc.devRef .tc main_v202)) := by sl_kernel_rfl
/-- Part 26 leaves the class scores alone. -/
theorem p26_a3 : StableHlo.after (part 303 2) s (Proc.devRef .tc main_arg3) =
    s (Proc.devRef .tc main_arg3) := by sl_kernel_rfl
/-- Part 26 leaves the positive mask alone. -/
theorem p26_p : StableHlo.after (part 303 2) s (Proc.devRef .tc main_v199) =
    s (Proc.devRef .tc main_v199) := by sl_kernel_rfl
/-- Part 26 leaves the column of numbers of positive priors alone. -/
theorem p26_nb : StableHlo.after (part 303 2) s (Proc.devRef .tc main_v202) =
    s (Proc.devRef .tc main_v202) := by sl_kernel_rfl
/-- Part 26 leaves the scores at the places alone. -/
theorem p26_g : StableHlo.after (part 303 2) s (Proc.devRef .tc main_v206) =
    s (Proc.devRef .tc main_v206) := by sl_kernel_rfl
/-- Part 26 computes the hard negatives. -/
theorem p26_hn : StableHlo.after (part 303 2) s (Proc.devRef .tc main_v227) =
    belowR (s (Proc.devRef .tc main_v221)) (s (Proc.devRef .tc main_v225)) := by sl_kernel_rfl
/-- Part 27 leaves the class scores alone. -/
theorem p27_a3 : StableHlo.after (part 305 3) s (Proc.devRef .tc main_arg3) =
    s (Proc.devRef .tc main_arg3) := by sl_kernel_rfl
/-- Part 27 leaves the positive mask alone. -/
theorem p27_p : StableHlo.after (part 305 3) s (Proc.devRef .tc main_v199) =
    s (Proc.devRef .tc main_v199) := by sl_kernel_rfl
/-- Part 27 leaves the scores at the places alone. -/
theorem p27_g : StableHlo.after (part 305 3) s (Proc.devRef .tc main_v206) =
    s (Proc.devRef .tc main_v206) := by sl_kernel_rfl
/-- Part 27 leaves the hard negatives alone. -/
theorem p27_hn : StableHlo.after (part 305 3) s (Proc.devRef .tc main_v227) =
    s (Proc.devRef .tc main_v227) := by sl_kernel_rfl
/-- Part 27 computes the number of all positive priors. -/
theorem p27_nn : StableHlo.after (part 305 3) s (Proc.devRef .tc main_v229) =
    allR (s (Proc.devRef .tc main_v202)) := by sl_kernel_rfl
/-- Part 28 leaves the class scores alone. -/
theorem p28_a3 : StableHlo.after (part 308 1) s (Proc.devRef .tc main_arg3) =
    s (Proc.devRef .tc main_arg3) := by sl_kernel_rfl
/-- Part 28 leaves the scores at the places alone. -/
theorem p28_g : StableHlo.after (part 308 1) s (Proc.devRef .tc main_v206) =
    s (Proc.devRef .tc main_v206) := by sl_kernel_rfl
/-- Part 28 leaves the number of all positive priors alone. -/
theorem p28_nn : StableHlo.after (part 308 1) s (Proc.devRef .tc main_v229) =
    s (Proc.devRef .tc main_v229) := by sl_kernel_rfl
/-- Part 28 computes the picked priors. -/
theorem p28_se : StableHlo.after (part 308 1) s (Proc.devRef .tc main_v230) =
    ori (s (Proc.devRef .tc main_v199)) (s (Proc.devRef .tc main_v227)) := by sl_kernel_rfl
/-- Part 29 leaves the scores at the places alone. -/
theorem p29_g : StableHlo.after (part 309 1) s (Proc.devRef .tc main_v206) =
    s (Proc.devRef .tc main_v206) := by sl_kernel_rfl
/-- Part 29 leaves the number of all positive priors alone. -/
theorem p29_nn : StableHlo.after (part 309 1) s (Proc.devRef .tc main_v229) =
    s (Proc.devRef .tc main_v229) := by sl_kernel_rfl
/-- Part 29 leaves the picked priors alone. -/
theorem p29_se : StableHlo.after (part 309 1) s (Proc.devRef .tc main_v230) =
    s (Proc.devRef .tc main_v230) := by sl_kernel_rfl
/-- Part 29 computes the rows of class scores again. -/
theorem p29_rx : StableHlo.after (part 309 1) s (Proc.devRef .tc main_v231) =
    rowsR (s (Proc.devRef .tc main_arg3)) := by sl_kernel_rfl
/-- Part 30 leaves the scores at the places alone. -/
theorem p30_g : StableHlo.after (part 310 2) s (Proc.devRef .tc main_v206) =
    s (Proc.devRef .tc main_v206) := by sl_kernel_rfl
/-- Part 30 leaves the number of all positive priors alone. -/
theorem p30_nn : StableHlo.after (part 310 2) s (Proc.devRef .tc main_v229) =
    s (Proc.devRef .tc main_v229) := by sl_kernel_rfl
/-- Part 30 leaves the picked priors alone. -/
theorem p30_se : StableHlo.after (part 310 2) s (Proc.devRef .tc main_v230) =
    s (Proc.devRef .tc main_v230) := by sl_kernel_rfl
/-- Part 30 leaves the rows of class scores again alone. -/
theorem p30_rx : StableHlo.after (part 310 2) s (Proc.devRef .tc main_v231) =
    s (Proc.devRef .tc main_v231) := by sl_kernel_rfl
/-- Part 30 computes the largest scores. -/
theorem p30_tp : StableHlo.after (part 310 2) s (Proc.devRef .tc main_v232) =
    topR (s (Proc.devRef .tc main_v231)) := by sl_kernel_rfl
/-- Part 31 leaves the scores at the places alone. -/
theorem p31_g : StableHlo.after (part 312 8) s (Proc.devRef .tc main_v206) =
    s (Proc.devRef .tc main_v206) := by sl_kernel_rfl
/-- Part 31 leaves the number of all positive priors alone. -/
theorem p31_nn : StableHlo.after (part 312 8) s (Proc.devRef .tc main_v229) =
    s (Proc.devRef .tc main_v229) := by sl_kernel_rfl
/-- Part 31 leaves the picked priors alone. -/
theorem p31_se : StableHlo.after (part 312 8) s (Proc.devRef .tc main_v230) =
    s (Proc.devRef .tc main_v230) := by sl_kernel_rfl
/-- Part 31 leaves the rows of class scores again alone. -/
theorem p31_rx : StableHlo.after (part 312 8) s (Proc.devRef .tc main_v231) =
    s (Proc.devRef .tc main_v231) := by sl_kernel_rfl
/-- Part 31 computes the shifts. -/
theorem p31_sh : StableHlo.after (part 312 8) s (Proc.devRef .tc main_v236) =
    shiftR (s (Proc.devRef .tc main_v232)) := by sl_kernel_rfl
/-- Part 32 leaves the scores at the places alone. -/
theorem p32_g : StableHlo.after (part 320 4) s (Proc.devRef .tc main_v206) =
    s (Proc.devRef .tc main_v206) := by sl_kernel_rfl
/-- Part 32 leaves the number of all positive priors alone. -/
theorem p32_nn : StableHlo.after (part 320 4) s (Proc.devRef .tc main_v229) =
    s (Proc.devRef .tc main_v229) := by sl_kernel_rfl
/-- Part 32 leaves the picked priors alone. -/
theorem p32_se : StableHlo.after (part 320 4) s (Proc.devRef .tc main_v230) =
    s (Proc.devRef .tc main_v230) := by sl_kernel_rfl
/-- Part 32 leaves the shifts alone. -/
theorem p32_sh : StableHlo.after (part 320 4) s (Proc.devRef .tc main_v236) =
    s (Proc.devRef .tc main_v236) := by sl_kernel_rfl
/-- Part 32 computes the exponentials of the rows. -/
theorem p32_re : StableHlo.after (part 320 4) s (Proc.devRef .tc main_v240) =
    rexpR (s (Proc.devRef .tc main_v231)) (s (Proc.devRef .tc main_v236)) := by sl_kernel_rfl
/-- Part 33 leaves the scores at the places alone. -/
theorem p33_g : StableHlo.after (part 324 2) s (Proc.devRef .tc main_v206) =
    s (Proc.devRef .tc main_v206) := by sl_kernel_rfl
/-- Part 33 leaves the number of all positive priors alone. -/
theorem p33_nn : StableHlo.after (part 324 2) s (Proc.devRef .tc main_v229) =
    s (Proc.devRef .tc main_v229) := by sl_kernel_rfl
/-- Part 33 leaves the picked priors alone. -/
theorem p33_se : StableHlo.after (part 324 2) s (Proc.devRef .tc main_v230) =
    s (Proc.devRef .tc main_v230) := by sl_kernel_rfl
/-- Part 33 leaves the shifts alone. -/
theorem p33_sh : StableHlo.after (part 324 2) s (Proc.devRef .tc main_v236) =
    s (Proc.devRef .tc main_v236) := by sl_kernel_rfl
/-- Part 33 computes their sums. -/
theorem p33_rs : StableHlo.after (part 324 2) s (Proc.devRef .tc main_v241) =
    rsumR (s (Proc.devRef .tc main_v240)) := by sl_kernel_rfl
/-- Part 34 leaves the number of all positive priors alone. -/
theorem p34_nn : StableHlo.after (part 326 4) s (Proc.devRef .tc main_v229) =
    s (Proc.devRef .tc main_v229) := by sl_kernel_rfl
/-- Part 34 leaves the picked priors alone. -/
theorem p34_se : StableHlo.after (part 326 4) s (Proc.devRef .tc main_v230) =
    s (Proc.devRef .tc main_v230) := by sl_kernel_rfl
/-- Part 34 computes the cross entropies. -/
theorem p34_ce : StableHlo.after (part 326 4) s (Proc.devRef .tc main_v245) =
    crossR (s (Proc.devRef .tc main_v241)) (s (Proc.devRef .tc main_v236)) (s (Proc.devRef .tc main_v206)) := by sl_kernel_rfl
/-- Part 35 leaves the number of all positive priors alone. -/
theorem p35_nn : StableHlo.after (part 330 3) s (Proc.devRef .tc main_v229) =
    s (Proc.devRef .tc main_v229) := by sl_kernel_rfl
/-- Part 35 leaves the picked priors alone. -/
theorem p35_se : StableHlo.after (part 330 3) s (Proc.devRef .tc main_v230) =
    s (Proc.devRef .tc main_v230) := by sl_kernel_rfl
/-- Part 35 leaves the cross entropies alone. -/
theorem p35_ce : StableHlo.after (part 330 3) s (Proc.devRef .tc main_v245) =
    s (Proc.devRef .tc main_v245) := by sl_kernel_rfl
/-- Part 35 computes the number of picked priors as a word. -/
theorem p35_nw : StableHlo.after (part 330 3) s (Proc.devRef .tc main_v247) =
    pickC (s (Proc.devRef .tc main_v230)) := by sl_kernel_rfl
/-- Part 35 leaves the number of all positive priors alone. -/
theorem p38_nn : StableHlo.after (part 333 1) s (Proc.devRef .tc main_v229) =
    s (Proc.devRef .tc main_v229) := by sl_kernel_rfl
/-- Part 35 leaves the picked priors alone. -/
theorem p38_se : StableHlo.after (part 333 1) s (Proc.devRef .tc main_v230) =
    s (Proc.devRef .tc main_v230) := by sl_kernel_rfl
/-- Part 35 leaves the cross entropies alone. -/
theorem p38_ce : StableHlo.after (part 333 1) s (Proc.devRef .tc main_v245) =
    s (Proc.devRef .tc main_v245) := by sl_kernel_rfl
/-- Part 35 computes the number of picked priors. -/
theorem p38_ns : StableHlo.after (part 333 1) s (Proc.devRef .tc main_v248) =
    floatC (s (Proc.devRef .tc main_v247)) := by sl_kernel_rfl
/-- Part 36 leaves the number of all positive priors alone. -/
theorem p36_nn : StableHlo.after (part 334 4) s (Proc.devRef .tc main_v229) =
    s (Proc.devRef .tc main_v229) := by sl_kernel_rfl
/-- Part 36 leaves the number of picked priors alone. -/
theorem p36_ns : StableHlo.after (part 334 4) s (Proc.devRef .tc main_v248) =
    s (Proc.devRef .tc main_v248) := by sl_kernel_rfl
/-- Part 36 computes the cross entropy of the picked priors. -/
theorem p36_tt : StableHlo.after (part 334 4) s (Proc.devRef .tc main_v251) =
    pickS (s (Proc.devRef .tc main_v245)) (s (Proc.devRef .tc main_v230)) := by sl_kernel_rfl
/-- Part 37 computes the loss. -/
theorem p37_lo : StableHlo.after (part 338 2) s (Proc.devRef .tc main_v253) =
    quotM (s (Proc.devRef .tc main_v251)) (s (Proc.devRef .tc main_v248)) (s (Proc.devRef .tc main_v229)) := by sl_kernel_rfl

/-- The losses, zero at the positive priors, from the positive mask and the matched labels. -/
def mineF (p : IVec S32x16320 1) (a3 : FVec Ideal S32x16320x81 .f32) (c : IVec S32x16320 32) : FVec Ideal S32x16320 .f32 :=
  mineR p (glossR (gsumR (rowsR a3) (gmaxR (rowsR a3))) (gmaxR (rowsR a3)) (pickedR (rowsR a3) (wrapR (rlabR c)) (inbR (wrapR (rlabR c)))))
/-- The picked priors, from the positive mask and the matched labels. -/
def pickF (p : IVec S32x16320 1) (a3 : FVec Ideal S32x16320x81 .f32) (c : IVec S32x16320 32) : IVec S32x16320 1 :=
  ori p (belowR (rankR (orderR (mineF p a3 c))) (capR (ncolR (cntI p))))
/-- The loss, from the positive mask and the matched labels. -/
def lossF (p : IVec S32x16320 1) (a3 : FVec Ideal S32x16320x81 .f32) (c : IVec S32x16320 32) : FVec Ideal S_ .f32 :=
  Host.divf (Host.divf (pickS (crossR (rsumR (rexpR (rowsR a3) (shiftR (topR (rowsR a3))))) (shiftR (topR (rowsR a3)))
    (pickedR (rowsR a3) (wrapR (rlabR c)) (inbR (wrapR (rlabR c))))) (pickF p a3 c)) (pickN (pickF p a3 c))) (allR (ncolR (cntI p)))

/-- The operations after the positive mask leave the loss of the mask and the matched labels. -/
theorem after_tail : StableHlo.after (opsOf.1.drop 244) s (Proc.devRef .tc main_v253) =
    lossF (s (Proc.devRef .tc main_v199)) (s (Proc.devRef .tc main_arg3)) (s (Proc.devRef .tc main_v152)) := by
  have hN : opsOf.1.drop 340 = [] := by sl_kernel_rfl
  rw [after_part 244 3, after_part 247 1, after_part 248 2, after_part 250 8, after_part 258 10, after_part 268 5, after_part 273 2, after_part 275 5, after_part 280 4, after_part 284 6, after_part 290 4, after_part 294 3, after_part 297 6, after_part 303 2, after_part 305 3, after_part 308 1, after_part 309 1, after_part 310 2, after_part 312 8, after_part 320 4, after_part 324 2, after_part 326 4, after_part 330 3, after_part 333 1, after_part 334 4, after_part 338 2]
  rw [hN, StableHlo.after_nil]
  rw [p37_lo]
  rw [p36_nn, p36_ns, p36_tt]
  rw [p38_nn, p38_se, p38_ce, p38_ns]
  rw [p35_nn, p35_se, p35_ce, p35_nw]
  rw [p34_nn, p34_se, p34_ce]
  rw [p33_g, p33_nn, p33_se, p33_sh, p33_rs]
  rw [p32_g, p32_nn, p32_se, p32_sh, p32_re]
  rw [p31_g, p31_nn, p31_se, p31_rx, p31_sh]
  rw [p30_g, p30_nn, p30_se, p30_rx, p30_tp]
  rw [p29_g, p29_nn, p29_se, p29_rx]
  rw [p28_a3, p28_g, p28_nn, p28_se]
  rw [p27_a3, p27_p, p27_g, p27_hn, p27_nn]
  rw [p26_a3, p26_p, p26_nb, p26_g, p26_hn]
  rw [p25_a3, p25_p, p25_nb, p25_g, p25_rk, p25_kk]
  rw [p24_a3, p24_p, p24_nb, p24_g, p24_rk]
  rw [p23_a3, p23_p, p23_nb, p23_g, p23_od]
  rw [p22_a3, p22_p, p22_nb, p22_g, p22_mi]
  rw [p21_a3, p21_p, p21_nb, p21_g, p21_ls]
  rw [p20_a3, p20_p, p20_nb, p20_g, p20_gm, p20_gs]
  rw [p19_a3, p19_p, p19_nb, p19_rw, p19_g, p19_gm]
  rw [p18_a3, p18_p, p18_nb, p18_rw, p18_g]
  rw [p17_a3, p17_p, p17_nb, p17_rw, p17_w, p17_ib]
  rw [p16_a3, p16_p, p16_nb, p16_rw, p16_w]
  rw [p15_a3, p15_p, p15_nb, p15_rw, p15_rl]
  rw [p14_a3, p14_cf, p14_p, p14_nb]
  rw [p13_a3, p13_cf, p13_p, p13_ci]
  unfold lossF pickF mineF pickN pickC quotM floatC
  rfl

/-- The operations up to the positive mask leave the mask, the class scores and the matched labels. -/
theorem after_head : ∃ s' : Valuation τ sig (Elt Ideal), StableHlo.after opsOf.1 s = StableHlo.after (opsOf.1.drop 244) s' ∧
    s' (Proc.devRef .tc main_v199) = posA (s (Proc.devRef .tc main_arg0)) (s (Proc.devRef .tc main_arg1)) (s (Proc.devRef .tc main_arg4)) (s (Proc.devRef .tc main_arg5)) ∧
    s' (Proc.devRef .tc main_arg3) = s (Proc.devRef .tc main_arg3) ∧
    s' (Proc.devRef .tc main_v152) = confA (s (Proc.devRef .tc main_arg0)) (s (Proc.devRef .tc main_arg4)) (s (Proc.devRef .tc main_arg5)) := by
  have h0 : StableHlo.after opsOf.1 s = StableHlo.after (opsOf.1.drop 0) s := rfl
  refine ⟨StableHlo.after (part 237 7) (StableHlo.after (part 232 5) (StableHlo.after (part 230 2) (StableHlo.after (part 223 7) (StableHlo.after (part 221 2) (StableHlo.after (part 188 33) (StableHlo.after (part 143 45) (StableHlo.after (part 121 22) (StableHlo.after (part 98 23) (StableHlo.after (part 86 12) (StableHlo.after (part 34 52) (StableHlo.after (part 0 34) s))))))))))), ?_, ?_, ?_, ?_⟩
  · rw [h0, after_part 0 34, after_part 34 52, after_part 86 12, after_part 98 23, after_part 121 22, after_part 143 45, after_part 188 33, after_part 221 2, after_part 223 7, after_part 230 2, after_part 232 5, after_part 237 7]
  · rw [p12_p]
    rw [p11_cf, p11_pr]
    rw [p10_cf, p10_ex, p10_es]
    rw [p9_cf, p9_ex]
    rw [p8_a1, p8_cf, p8_mx]
    rw [p7_a1, p7_cf]
    rw [p6_a1, p6_cf]
    rw [p5_l, p5_a1, p5_i, p5_ov, p5_id]
    rw [p4_l, p4_a1, p4_bp, p4_bi, p4_i, p4_ov]
    rw [p3_l, p3_a1, p3_bp, p3_bo, p3_bi]
    rw [p2_l, p2_a1, p2_o]
    rw [p1_a1, p1_t, p1_l, p1_d]
    rfl
  · rw [p12_a3]
    rw [p11_a3]
    rw [p10_a3]
    rw [p9_a3]
    rw [p8_a3]
    rw [p7_a3]
    rw [p6_a3]
    rw [p5_a3]
    rw [p4_a3]
    rw [p3_a3]
    rw [p2_a3]
    rw [p1_a3]
  · rw [p12_cf]
    rw [p11_cf]
    rw [p10_cf]
    rw [p9_cf]
    rw [p8_cf]
    rw [p7_cf]
    rw [p6_cf]
    rw [p5_l, p5_i, p5_ov, p5_id]
    rw [p4_l, p4_bp, p4_bi, p4_i, p4_ov]
    rw [p3_l, p3_bp, p3_bo, p3_bi]
    rw [p2_l, p2_o]
    rw [p1_t, p1_l, p1_d]
    rfl

/-- All the operations leave the loss. -/
theorem after_loss : StableHlo.after opsOf.1 s (Proc.devRef .tc main_v253) =
    lossA (s (Proc.devRef .tc main_arg0)) (s (Proc.devRef .tc main_arg1)) (s (Proc.devRef .tc main_arg3)) (s (Proc.devRef .tc main_arg4)) (s (Proc.devRef .tc main_arg5)) := by
  obtain ⟨s', e, h1, h2, h3⟩ := after_head s
  rw [e, after_tail, h1, h2, h3]
  unfold lossF pickF mineF lossA pickA hardA kA mineA crossA Cert.Ce.Ref.shiftA gotA
  rfl

end parts

/-- The reference leaves that composition of its arguments in its result. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v253) = lossA (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))) := by
  refine θ_run_mono (StableHlo.run_hlo _ _ opsOf.2 (by decide) (by decide) (by unfold opsOf; simp)
      (by unfold opsOf; intro _ h; (repeat (cases h with | head => rfl | tail _ h => ?_)); exact nomatch h) _ _) ?_
  intro r hr c
  exact (hr c main_v253).trans (after_loss _)

end Cert.Mined.Ref

end
-- ==== Proof.lean ====
module

public import proofs.«01_k».proof.Proof.Gen.KernelMined
public import proofs.«01_k».proof.Proof.Gen.KernelMined.Frame
public import proofs.«01_k».proof.Proof.Gen.KernelMinedIdeal
public import proofs.«01_k».proof.Proof.Gen.KernelMinedIdeal.Frame
public import proofs.«01_k».proof.Proof.Gen.ReferenceMinedIdeal
public import proofs.«01_k».proof.Proof.Gen.Pre_clear_cutoff
public import proofs.«01_k».proof.Proof.Gen.KernelCe
public import proofs.«01_k».proof.Proof.Gen.KernelCe.Frame
public import proofs.«01_k».proof.Proof.Gen.KernelCeIdeal
public import proofs.«01_k».proof.Proof.Gen.KernelCeIdeal.Frame
public import proofs.«01_k».proof.Proof.Gen.ReferenceCeIdeal
public import proofs.«01_k».proof.Proof.Gen.Pre_labels_in_range
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Final
public import proofs.«01_k».proof.Proof.CeFinal
public import proofs.«01_k».proof.Proof.MinEnd
public import proofs.«01_k».proof.Proof.MinRef
public import Idealize.ShloMosaic.Adequacy
public import Idealize.ShloMosaic.Lib.Claim
public import Idealize.ShloMosaic.Lib.Quiescent
public import Idealize.ShloMosaic.Init

@[expose] public section

noncomputable section

namespace Cert.Proof

open Idealize.ShloMosaic Idealize.SL.Sem Cert.Kernel

/-- The reference runs, leaves its arguments and ends with no signal outstanding. -/
theorem reference_frame : Cert.quiescent_ReferenceIdeal (hReferenceIdeal := Cert.ReferenceIdeal.Gen.facts) := by
  intro m g _
  hlo_run
  · exact fun _ => ⟨trivial, trivial, trivial, trivial, trivial, trivial⟩
  · exact sem_eq_zero_of_no_sems (sig := Cert.ReferenceIdeal.sig) (by decide) _

/-- The kernel and the reference end with the same loss. -/
theorem same_loss : Cert.algebraic_KernelIdeal_ReferenceIdeal (hKernelIdeal := Cert.KernelIdeal.Gen.facts) (hReferenceIdeal := Cert.ReferenceIdeal.Gen.facts) := by
  intro m g m' g' _ hagree
  refine ⟨fun c => Cert.Loss.Ref.lossA (m ((c.tc : Thread Cert.KernelIdeal.nD Cert.KernelIdeal.τ).loc Cert.KernelIdeal.main_arg0))
    (m ((c.tc : Thread Cert.KernelIdeal.nD Cert.KernelIdeal.τ).loc Cert.KernelIdeal.main_arg1)) (m ((c.tc : Thread Cert.KernelIdeal.nD Cert.KernelIdeal.τ).loc Cert.KernelIdeal.main_arg2))
    (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    θ_run_mono (θ_run_and (Cert.Loss.run m g) (Cert.KernelIdeal.Gen.frame m g)) ?_, θ_run_mono (θ_run_and (Cert.Loss.Ref.run m' g') (reference_frame m' g' trivial)) ?_⟩
  · rintro r ⟨h1, h2, _⟩ c
    refine ⟨?_, h2 c⟩
    obtain ⟨x, e, e0, e1⟩ := h1 c
    exact e.trans (Cert.Loss.loss_eq _ _ _ _ _ x e0 e1)
  · rintro r ⟨h1, h2, _⟩ c
    refine ⟨?_, h2 c⟩
    obtain ⟨a0, a1, a2, _, a4, a5⟩ := hagree c
    refine (h1 c).trans ?_
    rw [a0, a1, a2, a4, a5]

/-- The second reference runs, leaves its arguments and ends with no signal outstanding. -/
theorem reference_ce_frame : Cert.quiescent_ReferenceCeIdeal (hReferenceCeIdeal := Cert.ReferenceCeIdeal.Gen.facts) := by
  intro m g _
  hlo_run
  · exact fun _ => ⟨trivial, trivial, trivial, trivial, trivial, trivial⟩
  · exact sem_eq_zero_of_no_sems (sig := Cert.ReferenceCeIdeal.sig) (by decide) _

/-- An index of one axis, from its coordinate. -/
theorem one_index (i : Cert.KernelCeIdeal.S32.Idx) : ix1 (i 0) = i := by
  funext a
  match a with
  | 0 => rfl

/-- With every label below 81, the kernel and the reference end with the same cross entropy of every image's positive
    priors and the same number of hard negatives. -/
theorem same_cross : Cert.algebraic_KernelCeIdeal_ReferenceCeIdeal_pre_labels_in_range (hKernelCeIdeal := Cert.KernelCeIdeal.Gen.facts)
    (hReferenceCeIdeal := Cert.ReferenceCeIdeal.Gen.facts) (hPre_labels_in_range := Cert.Pre_labels_in_range.Gen.facts) := by
  intro m g m' g' hpre hagree
  refine ⟨fun c => Cert.Ce.Ref.totA (m ((c.tc : Thread Cert.KernelCeIdeal.nD Cert.KernelCeIdeal.τ).loc Cert.KernelCeIdeal.main_arg0)) (m ((c.tc : Thread Cert.KernelCeIdeal.nD Cert.KernelCeIdeal.τ).loc Cert.KernelCeIdeal.main_arg1)) (m ((c.tc : Thread Cert.KernelCeIdeal.nD Cert.KernelCeIdeal.τ).loc Cert.KernelCeIdeal.main_arg3)) (m ((c.tc : Thread Cert.KernelCeIdeal.nD Cert.KernelCeIdeal.τ).loc Cert.KernelCeIdeal.main_arg4)) (m ((c.tc : Thread Cert.KernelCeIdeal.nD Cert.KernelCeIdeal.τ).loc Cert.KernelCeIdeal.main_arg5)),
    fun c => Cert.Ce.Ref.negA (m ((c.tc : Thread Cert.KernelCeIdeal.nD Cert.KernelCeIdeal.τ).loc Cert.KernelCeIdeal.main_arg0)) (m ((c.tc : Thread Cert.KernelCeIdeal.nD Cert.KernelCeIdeal.τ).loc Cert.KernelCeIdeal.main_arg1)) (m ((c.tc : Thread Cert.KernelCeIdeal.nD Cert.KernelCeIdeal.τ).loc Cert.KernelCeIdeal.main_arg4)) (m ((c.tc : Thread Cert.KernelCeIdeal.nD Cert.KernelCeIdeal.τ).loc Cert.KernelCeIdeal.main_arg5)),
    θ_run_mono (θ_run_and (Cert.Ce.run m g) (Cert.KernelCeIdeal.Gen.frame m g)) ?_, θ_run_mono (θ_run_and (Cert.Ce.Ref.run m' g') (reference_ce_frame m' g' trivial)) ?_⟩
  · rintro r ⟨h1, h2, _⟩ c
    refine ⟨(h1 c).1.trans (funext fun i => ?_), (h1 c).2.trans (funext fun i => ?_), h2 c⟩
    · rw [← one_index i]
      exact Cert.Ce.tot_eq _ _ _ _ _ _ fun n => Cert.Ce.label_below _ _ _ _ _ _ _ Cert.Pre_labels_in_range.Gen.facts (hpre c) n
    · rw [← one_index i]
      exact Cert.Ce.neg_eq _ _ _ _ _
  · rintro r ⟨h1, h2, _⟩ c
    refine ⟨?_, ?_, h2 c⟩
    · obtain ⟨a0, a1, _, a3, a4, a5⟩ := hagree c
      refine (h1 c).1.trans ?_
      rw [a0, a1, a3, a4, a5]
    · obtain ⟨a0, a1, _, _, a4, a5⟩ := hagree c
      refine (h1 c).2.trans ?_
      rw [a0, a1, a4, a5]

/-- The third reference runs, leaves its arguments and ends with no signal outstanding. -/
theorem reference_mined_frame : Cert.quiescent_ReferenceMinedIdeal (hReferenceMinedIdeal := Cert.ReferenceMinedIdeal.Gen.facts) := by
  intro m g _
  hlo_run
  · exact fun _ => ⟨trivial, trivial, trivial, trivial, trivial, trivial⟩
  · exact sem_eq_zero_of_no_sems (sig := Cert.ReferenceMinedIdeal.sig) (by decide) _

/-- With every label a class, every score finite and the losses clear of the cut, the kernel and the reference end with the
    same classification loss. -/
theorem same_mined : Cert.algebraic_KernelMinedIdeal_ReferenceMinedIdeal_pre_clear_cutoff (hKernelMinedIdeal := Cert.KernelMinedIdeal.Gen.facts)
    (hReferenceMinedIdeal := Cert.ReferenceMinedIdeal.Gen.facts) (hPre_clear_cutoff := Cert.Pre_clear_cutoff.Gen.facts) := by
  intro m g m' g' hpre hagree
  refine ⟨fun c => Cert.Mined.Ref.lossA (m ((c.tc : Thread Cert.KernelMinedIdeal.nD Cert.KernelMinedIdeal.τ).loc Cert.KernelMinedIdeal.main_arg0)) (m ((c.tc : Thread Cert.KernelMinedIdeal.nD Cert.KernelMinedIdeal.τ).loc Cert.KernelMinedIdeal.main_arg1)) (m ((c.tc : Thread Cert.KernelMinedIdeal.nD Cert.KernelMinedIdeal.τ).loc Cert.KernelMinedIdeal.main_arg3)) (m ((c.tc : Thread Cert.KernelMinedIdeal.nD Cert.KernelMinedIdeal.τ).loc Cert.KernelMinedIdeal.main_arg4)) (m ((c.tc : Thread Cert.KernelMinedIdeal.nD Cert.KernelMinedIdeal.τ).loc Cert.KernelMinedIdeal.main_arg5)),
    θ_run_mono (θ_run_and (Cert.Mined.run m g) (Cert.KernelMinedIdeal.Gen.frame m g)) ?_, θ_run_mono (θ_run_and (Cert.Mined.Ref.run m' g') (reference_mined_frame m' g' trivial)) ?_⟩
  · rintro r ⟨h1, h2, _⟩ c
    refine ⟨?_, h2 c⟩
    obtain ⟨x, e, h⟩ := h1 c
    exact e.trans (Cert.Mined.mined_eq _ _ _ _ _ (Cert.Mined.good_of _ _ _ _ _ _ Cert.Pre_clear_cutoff.Gen.facts (hpre c)) x h)
  · rintro r ⟨h1, h2, _⟩ c
    refine ⟨?_, h2 c⟩
    obtain ⟨a0, a1, _, a3, a4, a5⟩ := hagree c
    refine (h1 c).trans ?_
    rw [a0, a1, a3, a4, a5]

/-- All the claims: the three pairs' frames, the three idealised kernels equal to the kernels, and the three value claims. -/
theorem claim : Cert.Claim :=
  ⟨Cert.Kernel.Gen.facts, Cert.KernelIdeal.Gen.facts, Cert.ReferenceIdeal.Gen.facts,
    Cert.KernelCe.Gen.facts, Cert.KernelCeIdeal.Gen.facts, Cert.ReferenceCeIdeal.Gen.facts,
    Cert.KernelMined.Gen.facts, Cert.KernelMinedIdeal.Gen.facts, Cert.ReferenceMinedIdeal.Gen.facts,
    Cert.Pre_labels_in_range.Gen.facts, Cert.Pre_clear_cutoff.Gen.facts,
    fun m ρ _ => Cert.Kernel.Gen.frame m ρ, fun m ρ _ => Cert.KernelIdeal.Gen.frame m ρ, reference_frame,
    fun m ρ _ => Cert.KernelCe.Gen.frame m ρ, fun m ρ _ => Cert.KernelCeIdeal.Gen.frame m ρ, fun m ρ _ => Cert.KernelCeIdeal.Gen.frame m ρ,
    reference_ce_frame, fun m ρ _ => reference_ce_frame m ρ trivial,
    fun m ρ _ => Cert.KernelMined.Gen.frame m ρ, fun m ρ _ => Cert.KernelMinedIdeal.Gen.frame m ρ, fun m ρ _ => Cert.KernelMinedIdeal.Gen.frame m ρ,
    reference_mined_frame, fun m ρ _ => reference_mined_frame m ρ trivial,
    trivial, same_loss, trivial, same_cross, trivial, same_mined⟩

end Cert.Proof

end
